-- ==== Defs.lean ====
def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnIdeal_ffn_finite [hPre_ffn_finite : Cert.Pre_ffn_finite.Facts] (m : (ℓ : Loc Cert.FfnIdeal.nD Cert.FfnIdeal.τ Cert.FfnIdeal.sig) → Buf (Elt Ideal) ℓ) : Prop :=
  ∀ c : Dev Cert.FfnIdeal.nD,
    (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.1 = (fun _ => 1#1)
    ∧ (Cert.Pre_ffn_finite.fn (F := Ideal) (m ((c.tc : Thread Cert.FfnIdeal.nD Cert.FfnIdeal.τ).loc Cert.FfnIdeal.main_arg0)) (m ((c.tc : Thread Cert.FfnIdeal.nD Cert.FfnIdeal.τ).loc Cert.FfnIdeal.main_arg1)) (m ((c.tc : Thread Cert.FfnIdeal.nD Cert.FfnIdeal.τ).loc Cert.FfnIdeal.main_arg2)) (m ((c.tc : Thread Cert.FfnIdeal.nD Cert.FfnIdeal.τ).loc Cert.FfnIdeal.main_arg3)) (m ((c.tc : Thread Cert.FfnIdeal.nD Cert.FfnIdeal.τ).loc Cert.FfnIdeal.main_arg4)) (m ((c.tc : Thread Cert.FfnIdeal.nD Cert.FfnIdeal.τ).loc Cert.FfnIdeal.main_arg5))).2.2.2 = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.1 = (fun _ => 1#1)
    ∧ (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3)) (m ((c.tc : Thread Cert.FfnRefIdeal.nD Cert.FfnRefIdeal.τ).loc Cert.FfnRefIdeal.main_arg4)) (m ((c.tc : Thread Cert.FfnRefIdeal.nD Cert.FfnRefIdeal.τ).loc Cert.FfnRefIdeal.main_arg5))).2.2.2 = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_attn_finite [hPre_attn_finite : Cert.Pre_attn_finite.Facts] (m : (ℓ : Loc Cert.AttnIdeal.nD Cert.AttnIdeal.τ Cert.AttnIdeal.sig) → Buf (Elt Ideal) ℓ) : Prop :=
  ∀ c : Dev Cert.AttnIdeal.nD,
    (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.1 = (fun _ => 1#1)
    ∧ (Cert.Pre_attn_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_attn_finite [hPre_attn_finite : Cert.Pre_attn_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.1 = (fun _ => 1#1)
    ∧ (Cert.Pre_attn_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))).2.2.2 = (fun _ => 1#1)

def Pre_Delta (m : (ℓ : Loc Cert.Delta.nD Cert.Delta.τ Cert.Delta.sig) → Buf (Elt Bits) ℓ) : Prop :=
  True

def Pre_DeltaIdeal (m : (ℓ : Loc Cert.DeltaIdeal.nD Cert.DeltaIdeal.τ Cert.DeltaIdeal.sig) → Buf (Elt Ideal) ℓ) : Prop :=
  True

def Pre_DeltaIdeal_attn_finite [hPre_attn_finite : Cert.Pre_attn_finite.Facts] (m : (ℓ : Loc Cert.DeltaIdeal.nD Cert.DeltaIdeal.τ Cert.DeltaIdeal.sig) → Buf (Elt Ideal) ℓ) : Prop :=
  ∀ c : Dev Cert.DeltaIdeal.nD,
    (Cert.Pre_attn_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).1 = (fun _ => 1#1)
    ∧ (Cert.Pre_attn_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).2.1 = (fun _ => 1#1)
    ∧ (Cert.Pre_attn_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).2.2.1 = (fun _ => 1#1)
    ∧ (Cert.Pre_attn_finite.fn (F := Ideal) (m ((c.tc : Thread Cert.DeltaIdeal.nD Cert.DeltaIdeal.τ).loc Cert.DeltaIdeal.main_arg0)) (m ((c.tc : Thread Cert.DeltaIdeal.nD Cert.DeltaIdeal.τ).loc Cert.DeltaIdeal.main_arg1)) (m ((c.tc : Thread Cert.DeltaIdeal.nD Cert.DeltaIdeal.τ).loc Cert.DeltaIdeal.main_arg2)) (m ((c.tc : Thread Cert.DeltaIdeal.nD Cert.DeltaIdeal.τ).loc Cert.DeltaIdeal.main_arg3))).2.2.2 = (fun _ => 1#1)

def Pre_DeltaRefIdeal (m : (ℓ : Loc Cert.DeltaRefIdeal.nD Cert.DeltaRefIdeal.τ Cert.DeltaRefIdeal.sig) → Buf (Elt Ideal) ℓ) : Prop :=
  True

def Pre_DeltaRefIdeal_attn_finite [hPre_attn_finite : Cert.Pre_attn_finite.Facts] (m : (ℓ : Loc Cert.DeltaRefIdeal.nD Cert.DeltaRefIdeal.τ Cert.DeltaRefIdeal.sig) → Buf (Elt Ideal) ℓ) : Prop :=
  ∀ c : Dev Cert.DeltaRefIdeal.nD,
    (Cert.Pre_attn_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).1 = (fun _ => 1#1)
    ∧ (Cert.Pre_attn_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).2.1 = (fun _ => 1#1)
    ∧ (Cert.Pre_attn_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).2.2.1 = (fun _ => 1#1)
    ∧ (Cert.Pre_attn_finite.fn (F := Ideal) (m ((c.tc : Thread Cert.DeltaRefIdeal.nD Cert.DeltaRefIdeal.τ).loc Cert.DeltaRefIdeal.main_arg0)) (m ((c.tc : Thread Cert.DeltaRefIdeal.nD Cert.DeltaRefIdeal.τ).loc Cert.DeltaRefIdeal.main_arg1)) (m ((c.tc : Thread Cert.DeltaRefIdeal.nD Cert.DeltaRefIdeal.τ).loc Cert.DeltaRefIdeal.main_arg2)) (m ((c.tc : Thread Cert.DeltaRefIdeal.nD Cert.DeltaRefIdeal.τ).loc Cert.DeltaRefIdeal.main_arg3))).2.2.2 = (fun _ => 1#1)

def Pre_Conv (m : (ℓ : Loc Cert.Conv.nD Cert.Conv.τ Cert.Conv.sig) → Buf (Elt Bits) ℓ) : Prop :=
  True

def Pre_ConvIdeal (m : (ℓ : Loc Cert.ConvIdeal.nD Cert.ConvIdeal.τ Cert.ConvIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdRefIdeal (m : (ℓ : Loc Cert.ConvFwdRefIdeal.nD Cert.ConvFwdRefIdeal.τ Cert.ConvFwdRefIdeal.sig) → Buf (Elt Ideal) ℓ) : Prop :=
  True

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnIdeal_pre_ffn_finite [hFfnIdeal : Cert.FfnIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal_ffn_finite m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4)
      ∧ r.2.mem ((c.tc : Thread Cert.FfnRefIdeal.nD Cert.FfnRefIdeal.τ).loc Cert.FfnRefIdeal.main_arg5) = m ((c.tc : Thread Cert.FfnRefIdeal.nD Cert.FfnRefIdeal.τ).loc Cert.FfnRefIdeal.main_arg5))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_attn_finite [hAttnIdeal : Cert.AttnIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_attn_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_attn_finite [hAttnRefIdeal : Cert.AttnRefIdeal.Facts] [hPre_attn_finite : Cert.Pre_attn_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_attn_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_Delta [hDelta : Cert.Delta.Facts] : Prop :=
  ∀ (m : (ℓ : Loc Cert.Delta.nD Cert.Delta.τ Cert.Delta.sig) → Buf (Elt Bits) ℓ) (g : Dev Cert.Delta.nD → PrngReg), Pre_Delta m →
    θ_run (Cert.Delta.defs (F := Bits)) (onTc (τ := Cert.Delta.τ) (Cert.Delta.main (F := Bits))) ⟨m, fun _ => 0, g⟩ (fun r => (∀ c : Dev Cert.Delta.nD,
      r.2.mem ((c.tc : Thread Cert.Delta.nD Cert.Delta.τ).loc Cert.Delta.main_arg0) = m ((c.tc : Thread Cert.Delta.nD Cert.Delta.τ).loc Cert.Delta.main_arg0)
      ∧ r.2.mem ((c.tc : Thread Cert.Delta.nD Cert.Delta.τ).loc Cert.Delta.main_arg1) = m ((c.tc : Thread Cert.Delta.nD Cert.Delta.τ).loc Cert.Delta.main_arg1)
      ∧ r.2.mem ((c.tc : Thread Cert.Delta.nD Cert.Delta.τ).loc Cert.Delta.main_arg2) = m ((c.tc : Thread Cert.Delta.nD Cert.Delta.τ).loc Cert.Delta.main_arg2)
      ∧ r.2.mem ((c.tc : Thread Cert.Delta.nD Cert.Delta.τ).loc Cert.Delta.main_arg3) = m ((c.tc : Thread Cert.Delta.nD Cert.Delta.τ).loc Cert.Delta.main_arg3))
      ∧ r.2.sem = fun _ => 0)

def quiescent_DeltaIdeal [hDeltaIdeal : Cert.DeltaIdeal.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaIdeal_pre_attn_finite [hDeltaIdeal : Cert.DeltaIdeal.Facts] [hPre_attn_finite : Cert.Pre_attn_finite.Facts] : Prop :=
  ∀ (m : (ℓ : Loc Cert.DeltaIdeal.nD Cert.DeltaIdeal.τ Cert.DeltaIdeal.sig) → Buf (Elt Ideal) ℓ) (g : Dev Cert.DeltaIdeal.nD → PrngReg), Pre_DeltaIdeal_attn_finite m →
    θ_run (Cert.DeltaIdeal.defs (F := Ideal)) (onTc (τ := Cert.DeltaIdeal.τ) (Cert.DeltaIdeal.main (F := Ideal))) ⟨m, fun _ => 0, g⟩ (fun r => (∀ c : Dev Cert.DeltaIdeal.nD,
      r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
      ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
      ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
      ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ r.2.sem = fun _ => 0)

def quiescent_DeltaRefIdeal [hDeltaRefIdeal : Cert.DeltaRefIdeal.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def quiescent_DeltaRefIdeal_pre_attn_finite [hDeltaRefIdeal : Cert.DeltaRefIdeal.Facts] [hPre_attn_finite : Cert.Pre_attn_finite.Facts] : Prop :=
  ∀ (m : (ℓ : Loc Cert.DeltaRefIdeal.nD Cert.DeltaRefIdeal.τ Cert.DeltaRefIdeal.sig) → Buf (Elt Ideal) ℓ) (g : Dev Cert.DeltaRefIdeal.nD → PrngReg), Pre_DeltaRefIdeal_attn_finite m →
    θ_run (Cert.DeltaRefIdeal.defs (F := Ideal)) (onTc (τ := Cert.DeltaRefIdeal.τ) (Cert.DeltaRefIdeal.main (F := Ideal))) ⟨m, fun _ => 0, g⟩ (fun r => (∀ c : Dev Cert.DeltaRefIdeal.nD,
      r.2.mem ((c.tc : Thread Cert.DeltaRefIdeal.nD Cert.DeltaRefIdeal.τ).loc Cert.DeltaRefIdeal.main_arg0) = m ((c.tc : Thread Cert.DeltaRefIdeal.nD Cert.DeltaRefIdeal.τ).loc Cert.DeltaRefIdeal.main_arg0)
      ∧ r.2.mem ((c.tc : Thread Cert.DeltaRefIdeal.nD Cert.DeltaRefIdeal.τ).loc Cert.DeltaRefIdeal.main_arg1) = m ((c.tc : Thread Cert.DeltaRefIdeal.nD Cert.DeltaRefIdeal.τ).loc Cert.DeltaRefIdeal.main_arg1)
      ∧ r.2.mem ((c.tc : Thread Cert.DeltaRefIdeal.nD Cert.DeltaRefIdeal.τ).loc Cert.DeltaRefIdeal.main_arg2) = m ((c.tc : Thread Cert.DeltaRefIdeal.nD Cert.DeltaRefIdeal.τ).loc Cert.DeltaRefIdeal.main_arg2)
      ∧ r.2.mem ((c.tc : Thread Cert.DeltaRefIdeal.nD Cert.DeltaRefIdeal.τ).loc Cert.DeltaRefIdeal.main_arg3) = m ((c.tc : Thread Cert.DeltaRefIdeal.nD Cert.DeltaRefIdeal.τ).loc Cert.DeltaRefIdeal.main_arg3))
      ∧ r.2.sem = fun _ => 0)

def quiescent_Conv [hConv : Cert.Conv.Facts] : Prop :=
  ∀ (m : (ℓ : Loc Cert.Conv.nD Cert.Conv.τ Cert.Conv.sig) → Buf (Elt Bits) ℓ) (g : Dev Cert.Conv.nD → PrngReg), Pre_Conv m →
    θ_run (Cert.Conv.defs (F := Bits)) (onTc (τ := Cert.Conv.τ) (Cert.Conv.main (F := Bits))) ⟨m, fun _ => 0, g⟩ (fun r => (∀ c : Dev Cert.Conv.nD,
      r.2.mem ((c.tc : Thread Cert.Conv.nD Cert.Conv.τ).loc Cert.Conv.main_arg0) = m ((c.tc : Thread Cert.Conv.nD Cert.Conv.τ).loc Cert.Conv.main_arg0)
      ∧ r.2.mem ((c.tc : Thread Cert.Conv.nD Cert.Conv.τ).loc Cert.Conv.main_arg1) = m ((c.tc : Thread Cert.Conv.nD Cert.Conv.τ).loc Cert.Conv.main_arg1)
      ∧ r.2.mem ((c.tc : Thread Cert.Conv.nD Cert.Conv.τ).loc Cert.Conv.main_arg2) = m ((c.tc : Thread Cert.Conv.nD Cert.Conv.τ).loc Cert.Conv.main_arg2)
      ∧ r.2.mem ((c.tc : Thread Cert.Conv.nD Cert.Conv.τ).loc Cert.Conv.main_arg3) = m ((c.tc : Thread Cert.Conv.nD Cert.Conv.τ).loc Cert.Conv.main_arg3)
      ∧ r.2.mem ((c.tc : Thread Cert.Conv.nD Cert.Conv.τ).loc Cert.Conv.main_arg4) = m ((c.tc : Thread Cert.Conv.nD Cert.Conv.τ).loc Cert.Conv.main_arg4)
      ∧ r.2.mem ((c.tc : Thread Cert.Conv.nD Cert.Conv.τ).loc Cert.Conv.main_arg5) = m ((c.tc : Thread Cert.Conv.nD Cert.Conv.τ).loc Cert.Conv.main_arg5))
      ∧ r.2.sem = fun _ => 0)

def quiescent_ConvIdeal [hConvIdeal : Cert.ConvIdeal.Facts] : Prop :=
  ∀ (m : (ℓ : Loc Cert.ConvIdeal.nD Cert.ConvIdeal.τ Cert.ConvIdeal.sig) → Buf (Elt Ideal) ℓ) (g : Dev Cert.ConvIdeal.nD → PrngReg), Pre_ConvIdeal m →
    θ_run (Cert.ConvIdeal.defs (F := Ideal)) (onTc (τ := Cert.ConvIdeal.τ) (Cert.ConvIdeal.main (F := Ideal))) ⟨m, fun _ => 0, g⟩ (fun r => (∀ c : Dev Cert.ConvIdeal.nD,
      r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
      ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
      ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
      ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
      ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
      ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3)
      ∧ r.2.mem ((c.tc : Thread Cert.ConvRefIdeal.nD Cert.ConvRefIdeal.τ).loc Cert.ConvRefIdeal.main_arg4) = m ((c.tc : Thread Cert.ConvRefIdeal.nD Cert.ConvRefIdeal.τ).loc Cert.ConvRefIdeal.main_arg4)
      ∧ r.2.mem ((c.tc : Thread Cert.ConvRefIdeal.nD Cert.ConvRefIdeal.τ).loc Cert.ConvRefIdeal.main_arg5) = m ((c.tc : Thread Cert.ConvRefIdeal.nD Cert.ConvRefIdeal.τ).loc Cert.ConvRefIdeal.main_arg5))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1)
      ∧ r.2.mem ((c.tc : Thread Cert.ConvFwd.nD Cert.ConvFwd.τ).loc Cert.ConvFwd.main_arg2) = m ((c.tc : Thread Cert.ConvFwd.nD Cert.ConvFwd.τ).loc Cert.ConvFwd.main_arg2)
      ∧ r.2.mem ((c.tc : Thread Cert.ConvFwd.nD Cert.ConvFwd.τ).loc Cert.ConvFwd.main_arg3) = m ((c.tc : Thread Cert.ConvFwd.nD Cert.ConvFwd.τ).loc Cert.ConvFwd.main_arg3)
      ∧ r.2.mem ((c.tc : Thread Cert.ConvFwd.nD Cert.ConvFwd.τ).loc Cert.ConvFwd.main_arg4) = m ((c.tc : Thread Cert.ConvFwd.nD Cert.ConvFwd.τ).loc Cert.ConvFwd.main_arg4))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
      ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
      ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
      ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ r.2.sem = fun _ => 0)

def quiescent_ConvFwdRefIdeal [hConvFwdRefIdeal : Cert.ConvFwdRefIdeal.Facts] : Prop :=
  ∀ (m : (ℓ : Loc Cert.ConvFwdRefIdeal.nD Cert.ConvFwdRefIdeal.τ Cert.ConvFwdRefIdeal.sig) → Buf (Elt Ideal) ℓ) (g : Dev Cert.ConvFwdRefIdeal.nD → PrngReg), Pre_ConvFwdRefIdeal m →
    θ_run (Cert.ConvFwdRefIdeal.defs (F := Ideal)) (onTc (τ := Cert.ConvFwdRefIdeal.τ) (Cert.ConvFwdRefIdeal.main (F := Ideal))) ⟨m, fun _ => 0, g⟩ (fun r => (∀ c : Dev Cert.ConvFwdRefIdeal.nD,
      r.2.mem ((c.tc : Thread Cert.ConvFwdRefIdeal.nD Cert.ConvFwdRefIdeal.τ).loc Cert.ConvFwdRefIdeal.main_arg0) = m ((c.tc : Thread Cert.ConvFwdRefIdeal.nD Cert.ConvFwdRefIdeal.τ).loc Cert.ConvFwdRefIdeal.main_arg0)
      ∧ r.2.mem ((c.tc : Thread Cert.ConvFwdRefIdeal.nD Cert.ConvFwdRefIdeal.τ).loc Cert.ConvFwdRefIdeal.main_arg1) = m ((c.tc : Thread Cert.ConvFwdRefIdeal.nD Cert.ConvFwdRefIdeal.τ).loc Cert.ConvFwdRefIdeal.main_arg1)
      ∧ r.2.mem ((c.tc : Thread Cert.ConvFwdRefIdeal.nD Cert.ConvFwdRefIdeal.τ).loc Cert.ConvFwdRefIdeal.main_arg2) = m ((c.tc : Thread Cert.ConvFwdRefIdeal.nD Cert.ConvFwdRefIdeal.τ).loc Cert.ConvFwdRefIdeal.main_arg2)
      ∧ r.2.mem ((c.tc : Thread Cert.ConvFwdRefIdeal.nD Cert.ConvFwdRefIdeal.τ).loc Cert.ConvFwdRefIdeal.main_arg3) = m ((c.tc : Thread Cert.ConvFwdRefIdeal.nD Cert.ConvFwdRefIdeal.τ).loc Cert.ConvFwdRefIdeal.main_arg3)
      ∧ r.2.mem ((c.tc : Thread Cert.ConvFwdRefIdeal.nD Cert.ConvFwdRefIdeal.τ).loc Cert.ConvFwdRefIdeal.main_arg4) = m ((c.tc : Thread Cert.ConvFwdRefIdeal.nD Cert.ConvFwdRefIdeal.τ).loc Cert.ConvFwdRefIdeal.main_arg4))
      ∧ r.2.sem = fun _ => 0)

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v3)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v8) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Ffn_FfnIdeal : Prop :=
  True

def algebraic_FfnIdeal_FfnRefIdeal_pre_ffn_finite [hFfnIdeal : Cert.FfnIdeal.Facts] [hFfnRefIdeal : Cert.FfnRefIdeal.Facts] [hPre_ffn_finite : Cert.Pre_ffn_finite.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal_ffn_finite m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)
      ∧ m' ((c.tc : Thread Cert.FfnRefIdeal.nD Cert.FfnRefIdeal.τ).loc Cert.FfnRefIdeal.main_arg5) = m ((c.tc : Thread Cert.FfnIdeal.nD Cert.FfnIdeal.τ).loc Cert.FfnIdeal.main_arg5)) →
    ∃ (v0 : (c : Dev Cert.FfnIdeal.nD) → Buf (Elt Ideal) ((c.tc : Thread Cert.FfnIdeal.nD Cert.FfnIdeal.τ).loc Cert.FfnIdeal.main_v24_0)) (v1 : (c : Dev Cert.FfnIdeal.nD) → Buf (Elt Ideal) ((c.tc : Thread Cert.FfnIdeal.nD Cert.FfnIdeal.τ).loc Cert.FfnIdeal.main_v24_1)) (v2 : (c : Dev Cert.FfnIdeal.nD) → Buf (Elt Ideal) ((c.tc : Thread Cert.FfnIdeal.nD Cert.FfnIdeal.τ).loc Cert.FfnIdeal.main_v24_2)) (v3 : (c : Dev Cert.FfnIdeal.nD) → Buf (Elt Ideal) ((c.tc : Thread Cert.FfnIdeal.nD Cert.FfnIdeal.τ).loc Cert.FfnIdeal.main_v24_3)) (v4 : (c : Dev Cert.FfnIdeal.nD) → Buf (Elt Ideal) ((c.tc : Thread Cert.FfnIdeal.nD Cert.FfnIdeal.τ).loc Cert.FfnIdeal.main_v24_4)) (v5 : (c : Dev Cert.FfnIdeal.nD) → Buf (Elt Ideal) ((c.tc : Thread Cert.FfnIdeal.nD Cert.FfnIdeal.τ).loc Cert.FfnIdeal.main_v24_5)) (v6 : (c : Dev Cert.FfnIdeal.nD) → Buf (Elt Ideal) ((c.tc : Thread Cert.FfnIdeal.nD Cert.FfnIdeal.τ).loc Cert.FfnIdeal.main_v24_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v24_0) = v0 c
          ∧ r.2.mem ((c.tc : Thread Cert.FfnIdeal.nD Cert.FfnIdeal.τ).loc Cert.FfnIdeal.main_v24_1) = v1 c
          ∧ r.2.mem ((c.tc : Thread Cert.FfnIdeal.nD Cert.FfnIdeal.τ).loc Cert.FfnIdeal.main_v24_2) = v2 c
          ∧ r.2.mem ((c.tc : Thread Cert.FfnIdeal.nD Cert.FfnIdeal.τ).loc Cert.FfnIdeal.main_v24_3) = v3 c
          ∧ r.2.mem ((c.tc : Thread Cert.FfnIdeal.nD Cert.FfnIdeal.τ).loc Cert.FfnIdeal.main_v24_4) = v4 c
          ∧ r.2.mem ((c.tc : Thread Cert.FfnIdeal.nD Cert.FfnIdeal.τ).loc Cert.FfnIdeal.main_v24_5) = v5 c
          ∧ r.2.mem ((c.tc : Thread Cert.FfnIdeal.nD Cert.FfnIdeal.τ).loc Cert.FfnIdeal.main_v24_6) = v6 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v54) = v0 c
          ∧ r.2.mem ((c.tc : Thread Cert.FfnRefIdeal.nD Cert.FfnRefIdeal.τ).loc Cert.FfnRefIdeal.main_v81) = v1 c
          ∧ r.2.mem ((c.tc : Thread Cert.FfnRefIdeal.nD Cert.FfnRefIdeal.τ).loc Cert.FfnRefIdeal.main_v84) = v2 c
          ∧ r.2.mem ((c.tc : Thread Cert.FfnRefIdeal.nD Cert.FfnRefIdeal.τ).loc Cert.FfnRefIdeal.main_v87) = v3 c
          ∧ r.2.mem ((c.tc : Thread Cert.FfnRefIdeal.nD Cert.FfnRefIdeal.τ).loc Cert.FfnRefIdeal.main_v88) = v4 c
          ∧ r.2.mem ((c.tc : Thread Cert.FfnRefIdeal.nD Cert.FfnRefIdeal.τ).loc Cert.FfnRefIdeal.main_v89) = v5 c
          ∧ r.2.mem ((c.tc : Thread Cert.FfnRefIdeal.nD Cert.FfnRefIdeal.τ).loc Cert.FfnRefIdeal.main_v90) = v6 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4)
          ∧ r.2.mem ((c.tc : Thread Cert.FfnRefIdeal.nD Cert.FfnRefIdeal.τ).loc Cert.FfnRefIdeal.main_arg5) = m' ((c.tc : Thread Cert.FfnRefIdeal.nD Cert.FfnRefIdeal.τ).loc Cert.FfnRefIdeal.main_arg5))

def preserves_Attn_AttnIdeal : Prop :=
  IdealRules.named_const.Statement Cert.AttnIdeal.κ "ln_2" .f32 0x3F317218#32 ((Real.log 2 : ℝ) : EReal)

def algebraic_AttnIdeal_AttnRefIdeal_pre_attn_finite [hAttnIdeal : Cert.AttnIdeal.Facts] [hAttnRefIdeal : Cert.AttnRefIdeal.Facts] [hPre_attn_finite : Cert.Pre_attn_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_attn_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v85)) (v1 : (c : Dev Cert.AttnIdeal.nD) → Buf (Elt Ideal) ((c.tc : Thread Cert.AttnIdeal.nD Cert.AttnIdeal.τ).loc Cert.AttnIdeal.main_v89)) (v2 : (c : Dev Cert.AttnIdeal.nD) → Buf (Elt Ideal) ((c.tc : Thread Cert.AttnIdeal.nD Cert.AttnIdeal.τ).loc Cert.AttnIdeal.main_v93)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v85) = v0 c
          ∧ r.2.mem ((c.tc : Thread Cert.AttnIdeal.nD Cert.AttnIdeal.τ).loc Cert.AttnIdeal.main_v89) = v1 c
          ∧ r.2.mem ((c.tc : Thread Cert.AttnIdeal.nD Cert.AttnIdeal.τ).loc Cert.AttnIdeal.main_v93) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v62) = v0 c
          ∧ r.2.mem ((c.tc : Thread Cert.AttnRefIdeal.nD Cert.AttnRefIdeal.τ).loc Cert.AttnRefIdeal.main_v60) = v1 c
          ∧ r.2.mem ((c.tc : Thread Cert.AttnRefIdeal.nD Cert.AttnRefIdeal.τ).loc Cert.AttnRefIdeal.main_v43) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_Delta_DeltaIdeal : Prop :=
  True

def algebraic_DeltaIdeal_DeltaRefIdeal_pre_attn_finite [hDeltaIdeal : Cert.DeltaIdeal.Facts] [hDeltaRefIdeal : Cert.DeltaRefIdeal.Facts] [hPre_attn_finite : Cert.Pre_attn_finite.Facts] : Prop :=
  ∀ (m : (ℓ : Loc Cert.DeltaIdeal.nD Cert.DeltaIdeal.τ Cert.DeltaIdeal.sig) → Buf (Elt Ideal) ℓ) (g : Dev Cert.DeltaIdeal.nD → PrngReg)
    (m' : (ℓ : Loc Cert.DeltaRefIdeal.nD Cert.DeltaRefIdeal.τ Cert.DeltaRefIdeal.sig) → Buf (Elt Ideal) ℓ) (g' : Dev Cert.DeltaRefIdeal.nD → PrngReg), Pre_DeltaIdeal_attn_finite m →
    (∀ c : Dev Cert.DeltaIdeal.nD,
      m' ((c.tc : Thread Cert.DeltaRefIdeal.nD Cert.DeltaRefIdeal.τ).loc Cert.DeltaRefIdeal.main_arg0) = m ((c.tc : Thread Cert.DeltaIdeal.nD Cert.DeltaIdeal.τ).loc Cert.DeltaIdeal.main_arg0)
      ∧ m' ((c.tc : Thread Cert.DeltaRefIdeal.nD Cert.DeltaRefIdeal.τ).loc Cert.DeltaRefIdeal.main_arg1) = m ((c.tc : Thread Cert.DeltaIdeal.nD Cert.DeltaIdeal.τ).loc Cert.DeltaIdeal.main_arg1)
      ∧ m' ((c.tc : Thread Cert.DeltaRefIdeal.nD Cert.DeltaRefIdeal.τ).loc Cert.DeltaRefIdeal.main_arg2) = m ((c.tc : Thread Cert.DeltaIdeal.nD Cert.DeltaIdeal.τ).loc Cert.DeltaIdeal.main_arg2)
      ∧ m' ((c.tc : Thread Cert.DeltaRefIdeal.nD Cert.DeltaRefIdeal.τ).loc Cert.DeltaRefIdeal.main_arg3) = m ((c.tc : Thread Cert.DeltaIdeal.nD Cert.DeltaIdeal.τ).loc Cert.DeltaIdeal.main_arg3)) →
    ∃ (v0 : (c : Dev Cert.DeltaIdeal.nD) → Buf (Elt Ideal) ((c.tc : Thread Cert.DeltaIdeal.nD Cert.DeltaIdeal.τ).loc Cert.DeltaIdeal.main_v33)),
      θ_run (Cert.DeltaIdeal.defs (F := Ideal)) (onTc (τ := Cert.DeltaIdeal.τ) (Cert.DeltaIdeal.main (F := Ideal))) ⟨m, fun _ => 0, g⟩ (fun r => ∀ c : Dev Cert.DeltaIdeal.nD,
          r.2.mem ((c.tc : Thread Cert.DeltaIdeal.nD Cert.DeltaIdeal.τ).loc Cert.DeltaIdeal.main_v33) = v0 c
          ∧ r.2.mem ((c.tc : Thread Cert.DeltaIdeal.nD Cert.DeltaIdeal.τ).loc Cert.DeltaIdeal.main_arg0) = m ((c.tc : Thread Cert.DeltaIdeal.nD Cert.DeltaIdeal.τ).loc Cert.DeltaIdeal.main_arg0)
          ∧ r.2.mem ((c.tc : Thread Cert.DeltaIdeal.nD Cert.DeltaIdeal.τ).loc Cert.DeltaIdeal.main_arg1) = m ((c.tc : Thread Cert.DeltaIdeal.nD Cert.DeltaIdeal.τ).loc Cert.DeltaIdeal.main_arg1)
          ∧ r.2.mem ((c.tc : Thread Cert.DeltaIdeal.nD Cert.DeltaIdeal.τ).loc Cert.DeltaIdeal.main_arg2) = m ((c.tc : Thread Cert.DeltaIdeal.nD Cert.DeltaIdeal.τ).loc Cert.DeltaIdeal.main_arg2)
          ∧ r.2.mem ((c.tc : Thread Cert.DeltaIdeal.nD Cert.DeltaIdeal.τ).loc Cert.DeltaIdeal.main_arg3) = m ((c.tc : Thread Cert.DeltaIdeal.nD Cert.DeltaIdeal.τ).loc Cert.DeltaIdeal.main_arg3))
      ∧ θ_run (Cert.DeltaRefIdeal.defs (F := Ideal)) (onTc (τ := Cert.DeltaRefIdeal.τ) (Cert.DeltaRefIdeal.main (F := Ideal))) ⟨m', fun _ => 0, g'⟩ (fun r => ∀ c : Dev Cert.DeltaRefIdeal.nD,
          r.2.mem ((c.tc : Thread Cert.DeltaRefIdeal.nD Cert.DeltaRefIdeal.τ).loc Cert.DeltaRefIdeal.main_v27) = v0 c
          ∧ r.2.mem ((c.tc : Thread Cert.DeltaRefIdeal.nD Cert.DeltaRefIdeal.τ).loc Cert.DeltaRefIdeal.main_arg0) = m' ((c.tc : Thread Cert.DeltaRefIdeal.nD Cert.DeltaRefIdeal.τ).loc Cert.DeltaRefIdeal.main_arg0)
          ∧ r.2.mem ((c.tc : Thread Cert.DeltaRefIdeal.nD Cert.DeltaRefIdeal.τ).loc Cert.DeltaRefIdeal.main_arg1) = m' ((c.tc : Thread Cert.DeltaRefIdeal.nD Cert.DeltaRefIdeal.τ).loc Cert.DeltaRefIdeal.main_arg1)
          ∧ r.2.mem ((c.tc : Thread Cert.DeltaRefIdeal.nD Cert.DeltaRefIdeal.τ).loc Cert.DeltaRefIdeal.main_arg2) = m' ((c.tc : Thread Cert.DeltaRefIdeal.nD Cert.DeltaRefIdeal.τ).loc Cert.DeltaRefIdeal.main_arg2)
          ∧ r.2.mem ((c.tc : Thread Cert.DeltaRefIdeal.nD Cert.DeltaRefIdeal.τ).loc Cert.DeltaRefIdeal.main_arg3) = m' ((c.tc : Thread Cert.DeltaRefIdeal.nD Cert.DeltaRefIdeal.τ).loc Cert.DeltaRefIdeal.main_arg3))

def preserves_Conv_ConvIdeal : Prop :=
  True

def algebraic_ConvIdeal_ConvRefIdeal [hConvIdeal : Cert.ConvIdeal.Facts] [hConvRefIdeal : Cert.ConvRefIdeal.Facts] : Prop :=
  ∀ (m : (ℓ : Loc Cert.ConvIdeal.nD Cert.ConvIdeal.τ Cert.ConvIdeal.sig) → Buf (Elt Ideal) ℓ) (g : Dev Cert.ConvIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvIdeal m →
    (∀ c : Dev Cert.ConvIdeal.nD,
      m' ((c.tc : Thread Cert.ConvRefIdeal.nD Cert.ConvRefIdeal.τ).loc Cert.ConvRefIdeal.main_arg0) = m ((c.tc : Thread Cert.ConvIdeal.nD Cert.ConvIdeal.τ).loc Cert.ConvIdeal.main_arg0)
      ∧ m' ((c.tc : Thread Cert.ConvRefIdeal.nD Cert.ConvRefIdeal.τ).loc Cert.ConvRefIdeal.main_arg1) = m ((c.tc : Thread Cert.ConvIdeal.nD Cert.ConvIdeal.τ).loc Cert.ConvIdeal.main_arg1)
      ∧ m' ((c.tc : Thread Cert.ConvRefIdeal.nD Cert.ConvRefIdeal.τ).loc Cert.ConvRefIdeal.main_arg2) = m ((c.tc : Thread Cert.ConvIdeal.nD Cert.ConvIdeal.τ).loc Cert.ConvIdeal.main_arg2)
      ∧ m' ((c.tc : Thread Cert.ConvRefIdeal.nD Cert.ConvRefIdeal.τ).loc Cert.ConvRefIdeal.main_arg3) = m ((c.tc : Thread Cert.ConvIdeal.nD Cert.ConvIdeal.τ).loc Cert.ConvIdeal.main_arg3)
      ∧ m' ((c.tc : Thread Cert.ConvRefIdeal.nD Cert.ConvRefIdeal.τ).loc Cert.ConvRefIdeal.main_arg4) = m ((c.tc : Thread Cert.ConvIdeal.nD Cert.ConvIdeal.τ).loc Cert.ConvIdeal.main_arg4)
      ∧ m' ((c.tc : Thread Cert.ConvRefIdeal.nD Cert.ConvRefIdeal.τ).loc Cert.ConvRefIdeal.main_arg5) = m ((c.tc : Thread Cert.ConvIdeal.nD Cert.ConvIdeal.τ).loc Cert.ConvIdeal.main_arg5)) →
    ∃ (v0 : (c : Dev Cert.ConvIdeal.nD) → Buf (Elt Ideal) ((c.tc : Thread Cert.ConvIdeal.nD Cert.ConvIdeal.τ).loc Cert.ConvIdeal.main_v20_0)) (v1 : (c : Dev Cert.ConvIdeal.nD) → Buf (Elt Ideal) ((c.tc : Thread Cert.ConvIdeal.nD Cert.ConvIdeal.τ).loc Cert.ConvIdeal.main_v20_1)) (v2 : (c : Dev Cert.ConvIdeal.nD) → Buf (Elt Ideal) ((c.tc : Thread Cert.ConvIdeal.nD Cert.ConvIdeal.τ).loc Cert.ConvIdeal.main_v20_2)) (v3 : (c : Dev Cert.ConvIdeal.nD) → Buf (Elt Ideal) ((c.tc : Thread Cert.ConvIdeal.nD Cert.ConvIdeal.τ).loc Cert.ConvIdeal.main_v20_3)) (v4 : (c : Dev Cert.ConvIdeal.nD) → Buf (Elt Ideal) ((c.tc : Thread Cert.ConvIdeal.nD Cert.ConvIdeal.τ).loc Cert.ConvIdeal.main_v20_4)) (v5 : (c : Dev Cert.ConvIdeal.nD) → Buf (Elt Ideal) ((c.tc : Thread Cert.ConvIdeal.nD Cert.ConvIdeal.τ).loc Cert.ConvIdeal.main_v20_5)),
      θ_run (Cert.ConvIdeal.defs (F := Ideal)) (onTc (τ := Cert.ConvIdeal.τ) (Cert.ConvIdeal.main (F := Ideal))) ⟨m, fun _ => 0, g⟩ (fun r => ∀ c : Dev Cert.ConvIdeal.nD,
          r.2.mem ((c.tc : Thread Cert.ConvIdeal.nD Cert.ConvIdeal.τ).loc Cert.ConvIdeal.main_v20_0) = v0 c
          ∧ r.2.mem ((c.tc : Thread Cert.ConvIdeal.nD Cert.ConvIdeal.τ).loc Cert.ConvIdeal.main_v20_1) = v1 c
          ∧ r.2.mem ((c.tc : Thread Cert.ConvIdeal.nD Cert.ConvIdeal.τ).loc Cert.ConvIdeal.main_v20_2) = v2 c
          ∧ r.2.mem ((c.tc : Thread Cert.ConvIdeal.nD Cert.ConvIdeal.τ).loc Cert.ConvIdeal.main_v20_3) = v3 c
          ∧ r.2.mem ((c.tc : Thread Cert.ConvIdeal.nD Cert.ConvIdeal.τ).loc Cert.ConvIdeal.main_v20_4) = v4 c
          ∧ r.2.mem ((c.tc : Thread Cert.ConvIdeal.nD Cert.ConvIdeal.τ).loc Cert.ConvIdeal.main_v20_5) = v5 c
          ∧ r.2.mem ((c.tc : Thread Cert.ConvIdeal.nD Cert.ConvIdeal.τ).loc Cert.ConvIdeal.main_arg0) = m ((c.tc : Thread Cert.ConvIdeal.nD Cert.ConvIdeal.τ).loc Cert.ConvIdeal.main_arg0)
          ∧ r.2.mem ((c.tc : Thread Cert.ConvIdeal.nD Cert.ConvIdeal.τ).loc Cert.ConvIdeal.main_arg1) = m ((c.tc : Thread Cert.ConvIdeal.nD Cert.ConvIdeal.τ).loc Cert.ConvIdeal.main_arg1)
          ∧ r.2.mem ((c.tc : Thread Cert.ConvIdeal.nD Cert.ConvIdeal.τ).loc Cert.ConvIdeal.main_arg2) = m ((c.tc : Thread Cert.ConvIdeal.nD Cert.ConvIdeal.τ).loc Cert.ConvIdeal.main_arg2)
          ∧ r.2.mem ((c.tc : Thread Cert.ConvIdeal.nD Cert.ConvIdeal.τ).loc Cert.ConvIdeal.main_arg3) = m ((c.tc : Thread Cert.ConvIdeal.nD Cert.ConvIdeal.τ).loc Cert.ConvIdeal.main_arg3)
          ∧ r.2.mem ((c.tc : Thread Cert.ConvIdeal.nD Cert.ConvIdeal.τ).loc Cert.ConvIdeal.main_arg4) = m ((c.tc : Thread Cert.ConvIdeal.nD Cert.ConvIdeal.τ).loc Cert.ConvIdeal.main_arg4)
          ∧ r.2.mem ((c.tc : Thread Cert.ConvIdeal.nD Cert.ConvIdeal.τ).loc Cert.ConvIdeal.main_arg5) = m ((c.tc : Thread Cert.ConvIdeal.nD Cert.ConvIdeal.τ).loc Cert.ConvIdeal.main_arg5))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v108) = v0 c
          ∧ r.2.mem ((c.tc : Thread Cert.ConvRefIdeal.nD Cert.ConvRefIdeal.τ).loc Cert.ConvRefIdeal.main_v171) = v1 c
          ∧ r.2.mem ((c.tc : Thread Cert.ConvRefIdeal.nD Cert.ConvRefIdeal.τ).loc Cert.ConvRefIdeal.main_v172) = v2 c
          ∧ r.2.mem ((c.tc : Thread Cert.ConvRefIdeal.nD Cert.ConvRefIdeal.τ).loc Cert.ConvRefIdeal.main_v200) = v3 c
          ∧ r.2.mem ((c.tc : Thread Cert.ConvRefIdeal.nD Cert.ConvRefIdeal.τ).loc Cert.ConvRefIdeal.main_v81) = v4 c
          ∧ r.2.mem ((c.tc : Thread Cert.ConvRefIdeal.nD Cert.ConvRefIdeal.τ).loc Cert.ConvRefIdeal.main_v201) = v5 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3)
          ∧ r.2.mem ((c.tc : Thread Cert.ConvRefIdeal.nD Cert.ConvRefIdeal.τ).loc Cert.ConvRefIdeal.main_arg4) = m' ((c.tc : Thread Cert.ConvRefIdeal.nD Cert.ConvRefIdeal.τ).loc Cert.ConvRefIdeal.main_arg4)
          ∧ r.2.mem ((c.tc : Thread Cert.ConvRefIdeal.nD Cert.ConvRefIdeal.τ).loc Cert.ConvRefIdeal.main_arg5) = m' ((c.tc : Thread Cert.ConvRefIdeal.nD Cert.ConvRefIdeal.τ).loc Cert.ConvRefIdeal.main_arg5))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v33) = v0 c
          ∧ r.2.mem ((c.tc : Thread Cert.FfnFwdRefIdeal.nD Cert.FfnFwdRefIdeal.τ).loc Cert.FfnFwdRefIdeal.main_v35) = v1 c
          ∧ r.2.mem ((c.tc : Thread Cert.FfnFwdRefIdeal.nD Cert.FfnFwdRefIdeal.τ).loc Cert.FfnFwdRefIdeal.main_v37) = v2 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def preserves_ConvFwd_ConvFwdIdeal : Prop :=
  True

def algebraic_ConvFwdIdeal_ConvFwdRefIdeal [hConvFwdIdeal : Cert.ConvFwdIdeal.Facts] [hConvFwdRefIdeal : Cert.ConvFwdRefIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdRefIdeal.nD Cert.ConvFwdRefIdeal.τ Cert.ConvFwdRefIdeal.sig) → Buf (Elt Ideal) ℓ) (g' : Dev Cert.ConvFwdRefIdeal.nD → PrngReg), Pre_ConvFwdIdeal m →
    (∀ c : Dev Cert.ConvFwdIdeal.nD,
      m' ((c.tc : Thread Cert.ConvFwdRefIdeal.nD Cert.ConvFwdRefIdeal.τ).loc Cert.ConvFwdRefIdeal.main_arg0) = m ((c.tc : Thread Cert.ConvFwdIdeal.nD Cert.ConvFwdIdeal.τ).loc Cert.ConvFwdIdeal.main_arg0)
      ∧ m' ((c.tc : Thread Cert.ConvFwdRefIdeal.nD Cert.ConvFwdRefIdeal.τ).loc Cert.ConvFwdRefIdeal.main_arg1) = m ((c.tc : Thread Cert.ConvFwdIdeal.nD Cert.ConvFwdIdeal.τ).loc Cert.ConvFwdIdeal.main_arg1)
      ∧ m' ((c.tc : Thread Cert.ConvFwdRefIdeal.nD Cert.ConvFwdRefIdeal.τ).loc Cert.ConvFwdRefIdeal.main_arg2) = m ((c.tc : Thread Cert.ConvFwdIdeal.nD Cert.ConvFwdIdeal.τ).loc Cert.ConvFwdIdeal.main_arg2)
      ∧ m' ((c.tc : Thread Cert.ConvFwdRefIdeal.nD Cert.ConvFwdRefIdeal.τ).loc Cert.ConvFwdRefIdeal.main_arg3) = m ((c.tc : Thread Cert.ConvFwdIdeal.nD Cert.ConvFwdIdeal.τ).loc Cert.ConvFwdIdeal.main_arg3)
      ∧ m' ((c.tc : Thread Cert.ConvFwdRefIdeal.nD Cert.ConvFwdRefIdeal.τ).loc Cert.ConvFwdRefIdeal.main_arg4) = m ((c.tc : Thread Cert.ConvFwdIdeal.nD Cert.ConvFwdIdeal.τ).loc Cert.ConvFwdIdeal.main_arg4)) →
    ∃ (v0 : (c : Dev Cert.ConvFwdIdeal.nD) → Buf (Elt Ideal) ((c.tc : Thread Cert.ConvFwdIdeal.nD Cert.ConvFwdIdeal.τ).loc Cert.ConvFwdIdeal.main_v3_0)) (v1 : (c : Dev Cert.ConvFwdIdeal.nD) → Buf (Elt Ideal) ((c.tc : Thread Cert.ConvFwdIdeal.nD Cert.ConvFwdIdeal.τ).loc Cert.ConvFwdIdeal.main_v3_1)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v3_0) = v0 c
          ∧ r.2.mem ((c.tc : Thread Cert.ConvFwdIdeal.nD Cert.ConvFwdIdeal.τ).loc Cert.ConvFwdIdeal.main_v3_1) = v1 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1)
          ∧ r.2.mem ((c.tc : Thread Cert.ConvFwdIdeal.nD Cert.ConvFwdIdeal.τ).loc Cert.ConvFwdIdeal.main_arg2) = m ((c.tc : Thread Cert.ConvFwdIdeal.nD Cert.ConvFwdIdeal.τ).loc Cert.ConvFwdIdeal.main_arg2)
          ∧ r.2.mem ((c.tc : Thread Cert.ConvFwdIdeal.nD Cert.ConvFwdIdeal.τ).loc Cert.ConvFwdIdeal.main_arg3) = m ((c.tc : Thread Cert.ConvFwdIdeal.nD Cert.ConvFwdIdeal.τ).loc Cert.ConvFwdIdeal.main_arg3)
          ∧ r.2.mem ((c.tc : Thread Cert.ConvFwdIdeal.nD Cert.ConvFwdIdeal.τ).loc Cert.ConvFwdIdeal.main_arg4) = m ((c.tc : Thread Cert.ConvFwdIdeal.nD Cert.ConvFwdIdeal.τ).loc Cert.ConvFwdIdeal.main_arg4))
      ∧ θ_run (Cert.ConvFwdRefIdeal.defs (F := Ideal)) (onTc (τ := Cert.ConvFwdRefIdeal.τ) (Cert.ConvFwdRefIdeal.main (F := Ideal))) ⟨m', fun _ => 0, g'⟩ (fun r => ∀ c : Dev Cert.ConvFwdRefIdeal.nD,
          r.2.mem ((c.tc : Thread Cert.ConvFwdRefIdeal.nD Cert.ConvFwdRefIdeal.τ).loc Cert.ConvFwdRefIdeal.main_v42) = v0 c
          ∧ r.2.mem ((c.tc : Thread Cert.ConvFwdRefIdeal.nD Cert.ConvFwdRefIdeal.τ).loc Cert.ConvFwdRefIdeal.main_v57) = v1 c
          ∧ r.2.mem ((c.tc : Thread Cert.ConvFwdRefIdeal.nD Cert.ConvFwdRefIdeal.τ).loc Cert.ConvFwdRefIdeal.main_arg0) = m' ((c.tc : Thread Cert.ConvFwdRefIdeal.nD Cert.ConvFwdRefIdeal.τ).loc Cert.ConvFwdRefIdeal.main_arg0)
          ∧ r.2.mem ((c.tc : Thread Cert.ConvFwdRefIdeal.nD Cert.ConvFwdRefIdeal.τ).loc Cert.ConvFwdRefIdeal.main_arg1) = m' ((c.tc : Thread Cert.ConvFwdRefIdeal.nD Cert.ConvFwdRefIdeal.τ).loc Cert.ConvFwdRefIdeal.main_arg1)
          ∧ r.2.mem ((c.tc : Thread Cert.ConvFwdRefIdeal.nD Cert.ConvFwdRefIdeal.τ).loc Cert.ConvFwdRefIdeal.main_arg2) = m' ((c.tc : Thread Cert.ConvFwdRefIdeal.nD Cert.ConvFwdRefIdeal.τ).loc Cert.ConvFwdRefIdeal.main_arg2)
          ∧ r.2.mem ((c.tc : Thread Cert.ConvFwdRefIdeal.nD Cert.ConvFwdRefIdeal.τ).loc Cert.ConvFwdRefIdeal.main_arg3) = m' ((c.tc : Thread Cert.ConvFwdRefIdeal.nD Cert.ConvFwdRefIdeal.τ).loc Cert.ConvFwdRefIdeal.main_arg3)
          ∧ r.2.mem ((c.tc : Thread Cert.ConvFwdRefIdeal.nD Cert.ConvFwdRefIdeal.τ).loc Cert.ConvFwdRefIdeal.main_arg4) = m' ((c.tc : Thread Cert.ConvFwdRefIdeal.nD Cert.ConvFwdRefIdeal.τ).loc Cert.ConvFwdRefIdeal.main_arg4))

def Claim : Prop :=
  ∃ (hLoss : Cert.Loss.Facts) (hLossIdeal : Cert.LossIdeal.Facts) (hLossRefIdeal : Cert.LossRefIdeal.Facts) (hFfn : Cert.Ffn.Facts) (hFfnIdeal : Cert.FfnIdeal.Facts) (hFfnRefIdeal : Cert.FfnRefIdeal.Facts) (hAttn : Cert.Attn.Facts) (hAttnIdeal : Cert.AttnIdeal.Facts) (hAttnRefIdeal : Cert.AttnRefIdeal.Facts) (hDelta : Cert.Delta.Facts) (hDeltaIdeal : Cert.DeltaIdeal.Facts) (hDeltaRefIdeal : Cert.DeltaRefIdeal.Facts) (hConv : Cert.Conv.Facts) (hConvIdeal : Cert.ConvIdeal.Facts) (hConvRefIdeal : Cert.ConvRefIdeal.Facts) (hFfnFwd : Cert.FfnFwd.Facts) (hFfnFwdIdeal : Cert.FfnFwdIdeal.Facts) (hFfnFwdRefIdeal : Cert.FfnFwdRefIdeal.Facts) (hConvFwd : Cert.ConvFwd.Facts) (hConvFwdIdeal : Cert.ConvFwdIdeal.Facts) (hConvFwdRefIdeal : Cert.ConvFwdRefIdeal.Facts) (hPre_ffn_finite : Cert.Pre_ffn_finite.Facts) (hPre_attn_finite : Cert.Pre_attn_finite.Facts),
    quiescent_Loss (hLoss := hLoss)
    ∧ quiescent_LossIdeal (hLossIdeal := hLossIdeal)
    ∧ quiescent_LossRefIdeal (hLossRefIdeal := hLossRefIdeal)
    ∧ quiescent_Ffn (hFfn := hFfn)
    ∧ quiescent_FfnIdeal (hFfnIdeal := hFfnIdeal)
    ∧ quiescent_FfnIdeal_pre_ffn_finite (hFfnIdeal := hFfnIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Attn (hAttn := hAttn)
    ∧ quiescent_AttnIdeal (hAttnIdeal := hAttnIdeal)
    ∧ quiescent_AttnIdeal_pre_attn_finite (hAttnIdeal := hAttnIdeal) (hPre_attn_finite := hPre_attn_finite)
    ∧ quiescent_AttnRefIdeal (hAttnRefIdeal := hAttnRefIdeal)
    ∧ quiescent_AttnRefIdeal_pre_attn_finite (hAttnRefIdeal := hAttnRefIdeal) (hPre_attn_finite := hPre_attn_finite)
    ∧ quiescent_Delta (hDelta := hDelta)
    ∧ quiescent_DeltaIdeal (hDeltaIdeal := hDeltaIdeal)
    ∧ quiescent_DeltaIdeal_pre_attn_finite (hDeltaIdeal := hDeltaIdeal) (hPre_attn_finite := hPre_attn_finite)
    ∧ quiescent_DeltaRefIdeal (hDeltaRefIdeal := hDeltaRefIdeal)
    ∧ quiescent_DeltaRefIdeal_pre_attn_finite (hDeltaRefIdeal := hDeltaRefIdeal) (hPre_attn_finite := hPre_attn_finite)
    ∧ quiescent_Conv (hConv := hConv)
    ∧ quiescent_ConvIdeal (hConvIdeal := hConvIdeal)
    ∧ quiescent_ConvRefIdeal (hConvRefIdeal := hConvRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ quiescent_ConvFwd (hConvFwd := hConvFwd)
    ∧ quiescent_ConvFwdIdeal (hConvFwdIdeal := hConvFwdIdeal)
    ∧ quiescent_ConvFwdRefIdeal (hConvFwdRefIdeal := hConvFwdRefIdeal)
    ∧ preserves_Loss_LossIdeal
    ∧ algebraic_LossIdeal_LossRefIdeal (hLossIdeal := hLossIdeal) (hLossRefIdeal := hLossRefIdeal)
    ∧ preserves_Ffn_FfnIdeal
    ∧ algebraic_FfnIdeal_FfnRefIdeal_pre_ffn_finite (hFfnIdeal := hFfnIdeal) (hFfnRefIdeal := hFfnRefIdeal) (hPre_ffn_finite := hPre_ffn_finite)
    ∧ preserves_Attn_AttnIdeal
    ∧ algebraic_AttnIdeal_AttnRefIdeal_pre_attn_finite (hAttnIdeal := hAttnIdeal) (hAttnRefIdeal := hAttnRefIdeal) (hPre_attn_finite := hPre_attn_finite)
    ∧ preserves_Delta_DeltaIdeal
    ∧ algebraic_DeltaIdeal_DeltaRefIdeal_pre_attn_finite (hDeltaIdeal := hDeltaIdeal) (hDeltaRefIdeal := hDeltaRefIdeal) (hPre_attn_finite := hPre_attn_finite)
    ∧ preserves_Conv_ConvIdeal
    ∧ algebraic_ConvIdeal_ConvRefIdeal (hConvIdeal := hConvIdeal) (hConvRefIdeal := hConvRefIdeal)
    ∧ preserves_FfnFwd_FfnFwdIdeal
    ∧ algebraic_FfnFwdIdeal_FfnFwdRefIdeal (hFfnFwdIdeal := hFfnFwdIdeal) (hFfnFwdRefIdeal := hFfnFwdRefIdeal)
    ∧ preserves_ConvFwd_ConvFwdIdeal
    ∧ algebraic_ConvFwdIdeal_ConvFwdRefIdeal (hConvFwdIdeal := hConvFwdIdeal) (hConvFwdRefIdeal := hConvFwdRefIdeal)
-- ==== Pre_attn_finite.lean ====
abbrev S16384x8x96 : Shape := ⟨3, ![16384, 8, 96]⟩
abbrev S16384x8x64 : Shape := ⟨3, ![16384, 8, 64]⟩
abbrev S_ : Shape := ⟨0, ![]⟩

class Facts : Prop where
  bcast_S_S16384x8x96 : S_.BroadcastsInDim S16384x8x96 (![] : Fin 0 → Fin S16384x8x96.rank)
  bcast_S_S16384x8x64 : S_.BroadcastsInDim S16384x8x64 (![] : Fin 0 → Fin S16384x8x64.rank)

variable [Facts]

def fn {F : FTy → Type} [FloatOps F] (main_arg0 : FVec F S16384x8x96 .f32) (main_arg1 : FVec F S16384x8x96 .f32) (main_arg2 : FVec F S16384x8x64 .f32) (main_arg3 : FVec F S16384x8x64 .f32) : IVec S16384x8x96 1 × IVec S16384x8x96 1 × IVec S16384x8x64 1 × IVec S16384x8x64 1 :=
  let main_v0 : FVec F S16384x8x96 .f32 := Host.absf main_arg0
  let main_cst : FVec F S_ .f32 := constant S_ .f32 0x7F800000#32
  let main_v1 : FVec F S16384x8x96 .f32 := broadcastInDim S16384x8x96 ![] bcast_S_S16384x8x96 main_cst
  let main_v2 : IVec S16384x8x96 1 := cmpf .olt main_v0 main_v1
  let main_v3 : FVec F S16384x8x96 .f32 := Host.absf main_arg1
  let main_cst_0 : FVec F S_ .f32 := constant S_ .f32 0x7F800000#32
  let main_v4 : FVec F S16384x8x96 .f32 := broadcastInDim S16384x8x96 ![] bcast_S_S16384x8x96 main_cst_0
  let main_v5 : IVec S16384x8x96 1 := cmpf .olt main_v3 main_v4
  let main_v6 : FVec F S16384x8x64 .f32 := Host.absf main_arg2
  let main_cst_1 : FVec F S_ .f32 := constant S_ .f32 0x7F800000#32
  let main_v7 : FVec F S16384x8x64 .f32 := broadcastInDim S16384x8x64 ![] bcast_S_S16384x8x64 main_cst_1
  let main_v8 : IVec S16384x8x64 1 := cmpf .olt main_v6 main_v7
  let main_v9 : FVec F S16384x8x64 .f32 := Host.absf main_arg3
  let main_cst_2 : FVec F S_ .f32 := constant S_ .f32 0x7F800000#32
  let main_v10 : FVec F S16384x8x64 .f32 := broadcastInDim S16384x8x64 ![] bcast_S_S16384x8x64 main_cst_2
  let main_v11 : IVec S16384x8x64 1 := cmpf .olt main_v9 main_v10
  (main_v2, main_v5, main_v8, main_v11)
-- ==== Pre_ffn_finite.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S1024 : S_.BroadcastsInDim S1024 (![] : Fin 0 → Fin S1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S16384x1024 : S_.BroadcastsInDim S16384x1024 (![] : Fin 0 → Fin S16384x1024.rank)

variable [Facts]

def fn {F : FTy → Type} [FloatOps F] (main_arg0 : FVec F S16384x1024 .f32) (main_arg1 : FVec F S1024 .f32) (main_arg2 : FVec F S1024x2816 .f32) (main_arg3 : FVec F S1024x2816 .f32) (main_arg4 : FVec F S2816x1024 .f32) (main_arg5 : FVec F S16384x1024 .f32) : IVec S1024 1 × IVec S1024x2816 1 × IVec S2816x1024 1 × IVec S16384x1024 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_v3 : FVec F S1024x2816 .f32 := Host.absf main_arg3
  let main_cst_0 : FVec F S_ .f32 := constant S_ .f32 0x7F800000#32
  let main_v4 : FVec F S1024x2816 .f32 := broadcastInDim S1024x2816 ![] bcast_S_S1024x2816 main_cst_0
  let main_v5 : IVec S1024x2816 1 := cmpf .olt main_v3 main_v4
  let main_v6 : FVec F S2816x1024 .f32 := Host.absf main_arg4
  let main_cst_1 : FVec F S_ .f32 := constant S_ .f32 0x7F800000#32
  let main_v7 : FVec F S2816x1024 .f32 := broadcastInDim S2816x1024 ![] bcast_S_S2816x1024 main_cst_1
  let main_v8 : IVec S2816x1024 1 := cmpf .olt main_v6 main_v7
  let main_v9 : FVec F S16384x1024 .f32 := Host.absf main_arg5
  let main_cst_2 : FVec F S_ .f32 := constant S_ .f32 0x7F800000#32
  let main_v10 : FVec F S16384x1024 .f32 := broadcastInDim S16384x1024 ![] bcast_S_S16384x1024 main_cst_2
  let main_v11 : IVec S16384x1024 1 := cmpf .olt main_v9 main_v10
  (main_v2, main_v5, main_v8, main_v11)
-- ==== Loss.lean ====
abbrev S16384x1024 : Shape := ⟨2, ![16384, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S8x128, .f32⟩
  | .hbm, ⟨3, _⟩ => ⟨S16384x1024, .f32⟩
  | .hbm, ⟨4, _⟩ => ⟨S1x1, .f32⟩
  | .hbm, ⟨5, _⟩ => ⟨S_, .f32⟩
  | .hbm, ⟨6, _⟩ => ⟨S_, .f32⟩
  | .hbm, ⟨7, _⟩ => ⟨S_, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v13 : BitVec 1 := Scalar.cmpi .eq arg0 c0_i32
  let v16 : BitVec 32 := Scalar.extui v13
  let c0_i32_8 : BitVec 32 := 0#32
  let v17 : BitVec 1 := Scalar.cmpi .ne v16 c0_i32_8
  v17

def k0_cond2 (i : grid0.Coords) : BitVec 1 :=
  let arg0 : BitVec 32 := BitVec.ofNat 32 (i 0).val
  let c0_i32 : BitVec 32 := 0#32
  let v13 : BitVec 1 := Scalar.cmpi .eq arg0 c0_i32
  let v_true : BitVec 1 := 1#1
  let v18 : BitVec 1 := Scalar.xori v13 v_true
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S16384x1024 : Shape := ⟨2, ![16384, 1024]⟩
abbrev S_ : Shape := ⟨0, ![]⟩
abbrev S16384 : Shape := ⟨1, ![16384]⟩

abbrev nBuf : Space → Nat
  | .hbm => 25
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S16384x1024, .f32⟩
  | .hbm, ⟨3, _⟩ => ⟨S16384x1024, .f32⟩
  | .hbm, ⟨4, _⟩ => ⟨S_, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S_, .f32⟩
  | .hbm, ⟨10, _⟩ => ⟨S16384, .f32⟩
  | .hbm, ⟨11, _⟩ => ⟨S16384, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S16384, .f32⟩
  | .hbm, ⟨20, _⟩ => ⟨S_, .f32⟩
  | .hbm, ⟨21, _⟩ => ⟨S16384, .f32⟩
  | .hbm, ⟨22, _⟩ => ⟨S16384, .f32⟩
  | .hbm, ⟨23, _⟩ => ⟨S16384x1024, .f32⟩
  | .hbm, ⟨24, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Ffn.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩

abbrev nBuf : Space → Nat
  | .hbm => 40
  | .vmem => 25
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x2816, .f32⟩
  | .hbm, ⟨23, _⟩ => ⟨S16384x2816, .bf16⟩
  | .hbm, ⟨24, _⟩ => ⟨S16384x2816, .f32⟩
  | .hbm, ⟨25, _⟩ => ⟨S16384x2816, .bf16⟩
  | .hbm, ⟨26, _⟩ => ⟨S1024x2816, .bf16⟩
  | .hbm, ⟨27, _⟩ => ⟨S1024x2816, .bf16⟩
  | .hbm, ⟨28, _⟩ => ⟨S2816x1024, .bf16⟩
  | .hbm, ⟨29, _⟩ => ⟨S1x1024, .f32⟩
  | .hbm, ⟨30, _⟩ => ⟨S1024x2816, .bf16⟩
  | .hbm, ⟨31, _⟩ => ⟨S2816x1024, .bf16⟩
  | .hbm, ⟨32, _⟩ => ⟨S2816x1024, .bf16⟩
  | .hbm, ⟨33, _⟩ => ⟨S16384x1024, .f32⟩
  | .hbm, ⟨34, _⟩ => ⟨S16384x1024, .bf16⟩
  | .hbm, ⟨35, _⟩ => ⟨S16384x1024, .bf16⟩
  | .hbm, ⟨36, _⟩ => ⟨S16384x2816, .bf16⟩
  | .hbm, ⟨37, _⟩ => ⟨S16384x2816, .bf16⟩
  | .hbm, ⟨38, _⟩ => ⟨S16384x2816, .bf16⟩
  | .hbm, ⟨39, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x2816, .bf16⟩
  | .local _ .vmem, ⟨6, _⟩ => ⟨S256x2816, .bf16⟩
  | .local _ .vmem, ⟨7, _⟩ => ⟨S256x2816, .bf16⟩
  | .local _ .vmem, ⟨8, _⟩ => ⟨S256x2816, .bf16⟩
  | .local _ .vmem, ⟨9, _⟩ => ⟨S1024x2816, .bf16⟩
  | .local _ .vmem, ⟨10, _⟩ => ⟨S2816x1024, .bf16⟩
  | .local _ .vmem, ⟨11, _⟩ => ⟨S2816x1024, .bf16⟩
  | .local _ .vmem, ⟨12, _⟩ => ⟨S256x1024, .f32⟩
  | .local _ .vmem, ⟨13, _⟩ => ⟨S256x1024, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x1024, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24_0 : Ref sig .tc := ⟨.hbm, 33, rfl⟩
abbrev main_v24_1 : Ref sig .tc := ⟨.hbm, 34, rfl⟩
abbrev main_v24_2 : Ref sig .tc := ⟨.hbm, 35, rfl⟩
abbrev main_v24_3 : Ref sig .tc := ⟨.hbm, 36, rfl⟩
abbrev main_v24_4 : Ref sig .tc := ⟨.hbm, 37, rfl⟩
abbrev main_v24_5 : Ref sig .tc := ⟨.hbm, 38, rfl⟩
abbrev main_v24_6 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v346 : BitVec 1 := Scalar.cmpi .eq arg0 c0_i32
  let v350 : BitVec 32 := Scalar.extui v346
  let c0_i32_184 : BitVec 32 := 0#32
  let v351 : BitVec 1 := Scalar.cmpi .ne v350 c0_i32_184
  v351

def k0_cond2 (i : grid0.Coords) : BitVec 1 :=
  let arg0 : BitVec 32 := BitVec.ofNat 32 (i 0).val
  let c0_i32 : BitVec 32 := 0#32
  let v346 : BitVec 1 := Scalar.cmpi .eq arg0 c0_i32
  let v_true : BitVec 1 := 1#1
  let v352 : BitVec 1 := Scalar.xori v346 v_true
  let v353 : BitVec 32 := Scalar.extui v352
  let c0_i32_185 : BitVec 32 := 0#32
  let v354 : BitVec 1 := Scalar.cmpi .ne v353 c0_i32_185
  v354

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2816 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== FfnRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 152
  | .vmem => 0
  | .smem => 0
  | _ => 0

abbrev hbmTy0_0 (i : Nat) : BufTy := match i % 128 with
  | 0 => ⟨S16384x1024, .f32⟩
  | 1 => ⟨S1024, .f32⟩
  | 2 => ⟨S1024x2816, .f32⟩
  | 3 => ⟨S1024x2816, .f32⟩
  | 4 => ⟨S2816x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x2816, .f32⟩
  | 27 => ⟨S16384x2816, .f32⟩
  | 28 => ⟨S16384x2816, .f32⟩
  | 29 => ⟨S16384x2816, .f32⟩
  | 30 => ⟨S_, .f32⟩
  | 31 => ⟨S16384x2816, .f32⟩
  | 32 => ⟨S16384x2816, .f32⟩
  | 33 => ⟨S_, .f32⟩
  | 34 => ⟨S16384x2816, .f32⟩
  | 35 => ⟨S16384x2816, .f32⟩
  | 36 => ⟨S_, .f32⟩
  | 37 => ⟨S16384x2816, .f32⟩
  | 38 => ⟨S16384x2816, .f32⟩
  | 39 => ⟨S16384x2816, .f32⟩
  | 40 => ⟨S16384x2816, .f32⟩
  | 41 => ⟨S16384x2816, .f32⟩
  | 42 => ⟨S16384x1024, .f32⟩
  | 43 => ⟨S_, .f32⟩
  | 44 => ⟨S16384x1024, .f32⟩
  | 45 => ⟨S16384x1024, .f32⟩
  | 46 => ⟨S16384x1024, .f32⟩
  | 47 => ⟨S16384x1024, .f32⟩
  | 48 => ⟨S_, .f32⟩
  | 49 => ⟨S16384x1024, .f32⟩
  | 50 => ⟨S16384x1024, .f32⟩
  | 51 => ⟨S16384x2816, .f32⟩
  | 52 => ⟨S16384x2816, .f32⟩
  | 53 => ⟨S16384x2816, .f32⟩
  | 54 => ⟨S16384x2816, .f32⟩
  | 55 => ⟨S16384x2816, .f32⟩
  | 56 => ⟨S16384x2816, .f32⟩
  | 57 => ⟨S16384x2816, .f32⟩
  | 58 => ⟨S16384x1024, .f32⟩
  | 59 => ⟨S16384x1024, .f32⟩
  | 60 => ⟨S16384x1024, .f32⟩
  | 61 => ⟨S16384x1024, .f32⟩
  | 62 => ⟨S_, .f32⟩
  | 63 => ⟨S1024, .f32⟩
  | 64 => ⟨S1x1024, .f32⟩
  | 65 => ⟨S16384x1024, .f32⟩
  | 66 => ⟨S16384x1024, .f32⟩
  | 67 => ⟨S_, .f32⟩
  | 68 => ⟨S1024, .f32⟩
  | 69 => ⟨S16384x1024, .f32⟩
  | 70 => ⟨S_, .f32⟩
  | 71 => ⟨S16384, .f32⟩
  | 72 => ⟨S16384x1, .f32⟩
  | 73 => ⟨S16384x1024, .f32⟩
  | 74 => ⟨S16384x1024, .f32⟩
  | 75 => ⟨S16384x1024, .f32⟩
  | 76 => ⟨S16384x1, .f32⟩
  | 77 => ⟨S_, .f32⟩
  | 78 => ⟨S16384x1, .f32⟩
  | 79 => ⟨S16384x1, .f32⟩
  | 80 => ⟨S_, .f32⟩
  | 81 => ⟨S16384, .f32⟩
  | 82 => ⟨S16384x1024, .f32⟩
  | 83 => ⟨S16384x1024, .f32⟩
  | 84 => ⟨S16384x1024, .f32⟩
  | 85 => ⟨S16384x1024, .f32⟩
  | 86 => ⟨S16384x1024, .f32⟩
  | 87 => ⟨S16384x1024, .f32⟩
  | 88 => ⟨S_, .f32⟩
  | 89 => ⟨S16384, .f32⟩
  | 90 => ⟨S16384x1, .f32⟩
  | 91 => ⟨S_, .f32⟩
  | 92 => ⟨S16384x1, .f32⟩
  | 93 => ⟨S16384x1, .f32⟩
  | 94 => ⟨S_, .f32⟩
  | 95 => ⟨S16384x1, .f32⟩
  | 96 => ⟨S16384x1, .f32⟩
  | 97 => ⟨S16384x1, .f32⟩
  | 98 => ⟨S16384x1024, .f32⟩
  | 99 => ⟨S16384x1024, .f32⟩
  | 100 => ⟨S1x1024, .f32⟩
  | 101 => ⟨S16384x1024, .f32⟩
  | 102 => ⟨S16384x1024, .f32⟩
  | 103 => ⟨S16384x2816, .f32⟩
  | 104 => ⟨S16384x2816, .f32⟩
  | 105 => ⟨S16384x2816, .f32⟩
  | 106 => ⟨S16384x2816, .f32⟩
  | 107 => ⟨S_, .f32⟩
  | 108 => ⟨S16384x2816, .f32⟩
  | 109 => ⟨S16384x2816, .f32⟩
  | 110 => ⟨S_, .f32⟩
  | 111 => ⟨S16384x2816, .f32⟩
  | 112 => ⟨S16384x2816, .f32⟩
  | 113 => ⟨S_, .f32⟩
  | 114 => ⟨S16384x2816, .f32⟩
  | 115 => ⟨S16384x2816, .f32⟩
  | 116 => ⟨S16384x2816, .f32⟩
  | 117 => ⟨S16384x2816, .f32⟩
  | 118 => ⟨S16384x2816, .f32⟩
  | 119 => ⟨S16384x1024, .f32⟩
  | 120 => ⟨S_, .f32⟩
  | 121 => ⟨S16384x1024, .f32⟩
  | 122 => ⟨S16384x1024, .f32⟩
  | 123 => ⟨S_, .f32⟩
  | 124 => ⟨S16384x1024, .f32⟩
  | 125 => ⟨S16384x1024, .f32⟩
  | 126 => ⟨S16384x2816, .f32⟩
  | 127 => ⟨S16384x2816, .f32⟩
  | _ => ⟨S16384x1024, .f32⟩

abbrev hbmTy0_1 (i : Nat) : BufTy := match i % 128 with
  | 0 => ⟨S16384x2816, .f32⟩
  | 1 => ⟨S16384x2816, .f32⟩
  | 2 => ⟨S16384x2816, .f32⟩
  | 3 => ⟨S16384x2816, .f32⟩
  | 4 => ⟨S16384x2816, .f32⟩
  | 5 => ⟨S16384x1024, .bf16⟩
  | 6 => ⟨S_, .f32⟩
  | 7 => ⟨S16384x1024, .f32⟩
  | 8 => ⟨S16384x1024, .f32⟩
  | 9 => ⟨S16384x1024, .bf16⟩
  | 10 => ⟨S16384x2816, .f32⟩
  | 11 => ⟨S16384x2816, .f32⟩
  | 12 => ⟨S_, .f32⟩
  | 13 => ⟨S16384x2816, .f32⟩
  | 14 => ⟨S16384x2816, .f32⟩
  | 15 => ⟨S_, .f32⟩
  | 16 => ⟨S16384x2816, .f32⟩
  | 17 => ⟨S16384x2816, .f32⟩
  | 18 => ⟨S16384x2816, .f32⟩
  | 19 => ⟨S16384x2816, .f32⟩
  | 20 => ⟨S16384x2816, .bf16⟩
  | 21 => ⟨S16384x2816, .bf16⟩
  | 22 => ⟨S16384x2816, .bf16⟩
  | 23 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_v18_2 : Ref sig .tc := ⟨.hbm, 35, rfl⟩
abbrev main_call0_cst_1 : Ref sig .tc := ⟨.hbm, 36, rfl⟩
abbrev main_call0_v6 : Ref sig .tc := ⟨.hbm, 37, rfl⟩
abbrev main_call0_v7 : Ref sig .tc := ⟨.hbm, 38, rfl⟩
abbrev main_v18_1 : Ref sig .tc := ⟨.hbm, 39, rfl⟩
abbrev main_v18_0 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_5 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_6 : Ref sig .tc := ⟨.hbm, 67, rfl⟩
abbrev main_v39 : Ref sig .tc := ⟨.hbm, 68, rfl⟩
abbrev main_v40 : Ref sig .tc := ⟨.hbm, 69, rfl⟩
abbrev main_cst_7 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_cst_8 : Ref sig .tc := ⟨.hbm, 77, rfl⟩
abbrev main_v47 : Ref sig .tc := ⟨.hbm, 78, rfl⟩
abbrev main_v48 : Ref sig .tc := ⟨.hbm, 79, rfl⟩
abbrev main_cst_9 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_10 : Ref sig .tc := ⟨.hbm, 88, rfl⟩
abbrev main_v56 : Ref sig .tc := ⟨.hbm, 89, rfl⟩
abbrev main_v57 : Ref sig .tc := ⟨.hbm, 90, rfl⟩
abbrev main_cst_11 : Ref sig .tc := ⟨.hbm, 91, rfl⟩
abbrev main_v58 : Ref sig .tc := ⟨.hbm, 92, rfl⟩
abbrev main_v59 : Ref sig .tc := ⟨.hbm, 93, rfl⟩
abbrev main_cst_12 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_call2_v0 : Ref sig .tc := ⟨.hbm, 105, rfl⟩
abbrev main_call2_v1 : Ref sig .tc := ⟨.hbm, 106, rfl⟩
abbrev main_call2_cst : Ref sig .tc := ⟨.hbm, 107, rfl⟩
abbrev main_call2_v2 : Ref sig .tc := ⟨.hbm, 108, rfl⟩
abbrev main_call2_v3 : Ref sig .tc := ⟨.hbm, 109, rfl⟩
abbrev main_call2_cst_0 : Ref sig .tc := ⟨.hbm, 110, rfl⟩
abbrev main_call2_v4 : Ref sig .tc := ⟨.hbm, 111, rfl⟩
abbrev main_v70_2 : Ref sig .tc := ⟨.hbm, 112, rfl⟩
abbrev main_call2_cst_1 : Ref sig .tc := ⟨.hbm, 113, rfl⟩
abbrev main_call2_v6 : Ref sig .tc := ⟨.hbm, 114, rfl⟩
abbrev main_call2_v7 : Ref sig .tc := ⟨.hbm, 115, rfl⟩
abbrev main_v70_1 : Ref sig .tc := ⟨.hbm, 116, rfl⟩
abbrev main_v70_0 : Ref sig .tc := ⟨.hbm, 117, rfl⟩
abbrev main_v71 : Ref sig .tc := ⟨.hbm, 118, rfl⟩
abbrev main_v72 : Ref sig .tc := ⟨.hbm, 119, rfl⟩
abbrev main_cst_13 : Ref sig .tc := ⟨.hbm, 120, rfl⟩
abbrev main_v73 : Ref sig .tc := ⟨.hbm, 121, rfl⟩
abbrev main_v74 : Ref sig .tc := ⟨.hbm, 122, rfl⟩
abbrev main_cst_14 : Ref sig .tc := ⟨.hbm, 123, rfl⟩
abbrev main_v75 : Ref sig .tc := ⟨.hbm, 124, rfl⟩
abbrev main_v76 : Ref sig .tc := ⟨.hbm, 125, rfl⟩
abbrev main_v77 : Ref sig .tc := ⟨.hbm, 126, rfl⟩
abbrev main_v78 : Ref sig .tc := ⟨.hbm, 127, rfl⟩
abbrev main_v79 : Ref sig .tc := ⟨.hbm, 128, rfl⟩
abbrev main_call3_v0 : Ref sig .tc := ⟨.hbm, 129, rfl⟩
abbrev main_call3_v1 : Ref sig .tc := ⟨.hbm, 130, rfl⟩
abbrev main_call3_v2 : Ref sig .tc := ⟨.hbm, 131, rfl⟩
abbrev main_v80 : Ref sig .tc := ⟨.hbm, 132, rfl⟩
abbrev main_v81 : Ref sig .tc := ⟨.hbm, 133, rfl⟩
abbrev main_cst_15 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_call4_v0 : Ref sig .tc := ⟨.hbm, 138, rfl⟩
abbrev main_call4_v1 : Ref sig .tc := ⟨.hbm, 139, rfl⟩
abbrev main_call4_cst : Ref sig .tc := ⟨.hbm, 140, rfl⟩
abbrev main_call4_v2 : Ref sig .tc := ⟨.hbm, 141, rfl⟩
abbrev main_call4_v3 : Ref sig .tc := ⟨.hbm, 142, rfl⟩
abbrev main_call4_cst_0 : Ref sig .tc := ⟨.hbm, 143, rfl⟩
abbrev main_call4_v4 : Ref sig .tc := ⟨.hbm, 144, rfl⟩
abbrev main_call4_v5 : Ref sig .tc := ⟨.hbm, 145, rfl⟩
abbrev main_v85 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩

abbrev nD : Nat := 1
abbrev τ : Topo := Topo.v7x

variable {F : FTy → Type} [FloatOps F]
-- ==== Attn.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x8 : Shape := ⟨2, ![16384, 8]⟩
abbrev S16384x768 : Shape := ⟨2, ![16384, 768]⟩
abbrev S16384x8x128 : Shape := ⟨3, ![16384, 8, 128]⟩
abbrev S16384x1024 : Shape := ⟨2, ![16384, 1024]⟩
abbrev S1024x16384 : Shape := ⟨2, ![1024, 16384]⟩
abbrev S16384x512 : Shape := ⟨2, ![16384, 512]⟩
abbrev S8x32x512 : Shape := ⟨3, ![8, 32, 512]⟩
abbrev S8x32x128x512 : Shape := ⟨4, ![8, 32, 128, 512]⟩
abbrev S16384x128 : Shape := ⟨2, ![16384, 128]⟩
abbrev S512x128 : Shape := ⟨2, ![512, 128]⟩
abbrev S128x512 : Shape := ⟨2, ![128, 512]⟩
abbrev S1x32x512 : Shape := ⟨3, ![1, 32, 512]⟩
abbrev S1x32x128x512 : Shape := ⟨4, ![1, 32, 128, 512]⟩
abbrev S32x128x512 : Shape := ⟨3, ![32, 128, 512]⟩
abbrev S512x512 : Shape := ⟨2, ![512, 512]⟩
abbrev S1x1x512 : Shape := ⟨3, ![1, 1, 512]⟩
abbrev S1x512 : Shape := ⟨2, ![1, 512]⟩
abbrev S1x1x128x512 : Shape := ⟨4, ![1, 1, 128, 512]⟩
abbrev S32x512x8x128 : Shape := ⟨4, ![32, 512, 8, 128]⟩

abbrev nBuf : Space → Nat
  | .hbm => 128
  | .vmem => 20
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S8x16384x1, .f32⟩
  | .hbm, ⟨22, _⟩ => ⟨S8x16384x16384, .f32⟩
  | .hbm, ⟨23, _⟩ => ⟨S8x16384x16384, .f32⟩
  | .hbm, ⟨24, _⟩ => ⟨S8x16384x16384, .f32⟩
  | .hbm, ⟨25, _⟩ => ⟨S_, .f32⟩
  | .hbm, ⟨26, _⟩ => ⟨S8x16384, .f32⟩
  | .hbm, ⟨27, _⟩ => ⟨S8x16384, .f32⟩
  | .hbm, ⟨28, _⟩ => ⟨S8x16384, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8x16384, .f32⟩
  | .hbm, ⟨33, _⟩ => ⟨S8x16384, .f32⟩
  | .hbm, ⟨34, _⟩ => ⟨S8x16384x16384, .f32⟩
  | .hbm, ⟨35, _⟩ => ⟨S_, .f32⟩
  | .hbm, ⟨36, _⟩ => ⟨S8x16384x16384, .f32⟩
  | .hbm, ⟨37, _⟩ => ⟨S8x16384x16384, .f32⟩
  | .hbm, ⟨38, _⟩ => ⟨S16384, .i32⟩
  | .hbm, ⟨39, _⟩ => ⟨S1x1x16384, .i32⟩
  | .hbm, ⟨40, _⟩ => ⟨S1x16384x1, .i32⟩
  | .hbm, ⟨41, _⟩ => ⟨S1x16384x16384, .i32⟩
  | .hbm, ⟨42, _⟩ => ⟨S1x16384x16384, .i32⟩
  | .hbm, ⟨43, _⟩ => ⟨S1x16384x16384, .i1⟩
  | .hbm, ⟨44, _⟩ => ⟨S_, .f32⟩
  | .hbm, ⟨45, _⟩ => ⟨S_, .f32⟩
  | .hbm, ⟨46, _⟩ => ⟨S8x16384x16384, .i1⟩
  | .hbm, ⟨47, _⟩ => ⟨S8x16384x16384, .f32⟩
  | .hbm, ⟨48, _⟩ => ⟨S8x16384x16384, .f32⟩
  | .hbm, ⟨49, _⟩ => ⟨S_, .f32⟩
  | .hbm, ⟨50, _⟩ => ⟨S8x16384, .f32⟩
  | .hbm, ⟨51, _⟩ => ⟨S_, .f32⟩
  | .hbm, ⟨52, _⟩ => ⟨S8x16384, .f32⟩
  | .hbm, ⟨53, _⟩ => ⟨S8x16384, .f32⟩
  | .hbm, ⟨54, _⟩ => ⟨S8x16384x1, .f32⟩
  | .hbm, ⟨55, _⟩ => ⟨S8x16384x16384, .f32⟩
  | .hbm, ⟨56, _⟩ => ⟨S8x16384x16384, .f32⟩
  | .hbm, ⟨57, _⟩ => ⟨S8x16384x16384, .f32⟩
  | .hbm, ⟨58, _⟩ => ⟨S_, .f32⟩
  | .hbm, ⟨59, _⟩ => ⟨S8x16384, .f32⟩
  | .hbm, ⟨60, _⟩ => ⟨S8x16384x1, .f32⟩
  | .hbm, ⟨61, _⟩ => ⟨S8x16384x16384, .f32⟩
  | .hbm, ⟨62, _⟩ => ⟨S8x16384x16384, .f32⟩
  | .hbm, ⟨63, _⟩ => ⟨S8x64x16384, .f32⟩
  | .hbm, ⟨64, _⟩ => ⟨S16384x8x64, .f32⟩
  | .hbm, ⟨65, _⟩ => ⟨S16384x8x64, .f32⟩
  | .hbm, ⟨66, _⟩ => ⟨S_, .f32⟩
  | .hbm, ⟨67, _⟩ => ⟨S16384x8, .f32⟩
  | .hbm, ⟨68, _⟩ => ⟨S8x16384, .f32⟩
  | .hbm, ⟨69, _⟩ => ⟨S_, .f32⟩
  | .hbm, ⟨70, _⟩ => ⟨S16384x8x96, .f32⟩
  | .hbm, ⟨71, _⟩ => ⟨S16384x8x96, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S16384x8x96, .f32⟩
  | .hbm, ⟨76, _⟩ => ⟨S16384x8x96, .f32⟩
  | .hbm, ⟨77, _⟩ => ⟨S16384x768, .f32⟩
  | .hbm, ⟨78, _⟩ => ⟨S16384x768, .bf16⟩
  | .hbm, ⟨79, _⟩ => ⟨S16384x8x96, .bf16⟩
  | .hbm, ⟨80, _⟩ => ⟨S_, .i32⟩
  | .hbm, ⟨81, _⟩ => ⟨S_, .bf16⟩
  | .hbm, ⟨82, _⟩ => ⟨S16384x8x128, .bf16⟩
  | .hbm, ⟨83, _⟩ => ⟨S16384x1024, .bf16⟩
  | .hbm, ⟨84, _⟩ => ⟨S16384x768, .f32⟩
  | .hbm, ⟨85, _⟩ => ⟨S16384x768, .bf16⟩
  | .hbm, ⟨86, _⟩ => ⟨S16384x8x96, .bf16⟩
  | .hbm, ⟨87, _⟩ => ⟨S_, .i32⟩
  | .hbm, ⟨88, _⟩ => ⟨S_, .bf16⟩
  | .hbm, ⟨89, _⟩ => ⟨S16384x8x128, .bf16⟩
  | .hbm, ⟨90, _⟩ => ⟨S16384x1024, .bf16⟩
  | .hbm, ⟨91, _⟩ => ⟨S1024x16384, .bf16⟩
  | .hbm, ⟨92, _⟩ => ⟨S16384x512, .f32⟩
  | .hbm, ⟨93, _⟩ => ⟨S16384x512, .bf16⟩
  | .hbm, ⟨94, _⟩ => ⟨S16384x8x64, .bf16⟩
  | .hbm, ⟨95, _⟩ => ⟨S_, .i32⟩
  | .hbm, ⟨96, _⟩ => ⟨S_, .bf16⟩
  | .hbm, ⟨97, _⟩ => ⟨S16384x8x128, .bf16⟩
  | .hbm, ⟨98, _⟩ => ⟨S16384x1024, .bf16⟩
  | .hbm, ⟨99, _⟩ => ⟨S16384x512, .f32⟩
  | .hbm, ⟨100, _⟩ => ⟨S16384x512, .bf16⟩
  | .hbm, ⟨101, _⟩ => ⟨S16384x8x64, .bf16⟩
  | .hbm, ⟨102, _⟩ => ⟨S_, .i32⟩
  | .hbm, ⟨103, _⟩ => ⟨S_, .bf16⟩
  | .hbm, ⟨104, _⟩ => ⟨S16384x8x128, .bf16⟩
  | .hbm, ⟨105, _⟩ => ⟨S16384x1024, .bf16⟩
  | .hbm, ⟨106, _⟩ => ⟨S8x32x512, .f32⟩
  | .hbm, ⟨107, _⟩ => ⟨S8x32x512, .f32⟩
  | .hbm, ⟨108, _⟩ => ⟨S16384x1024, .f32⟩
  | .hbm, ⟨109, _⟩ => ⟨S16384x1024, .f32⟩
  | .hbm, ⟨110, _⟩ => ⟨S8x32x128x512, .f32⟩
  | .hbm, ⟨111, _⟩ => ⟨S32x512x8x128, .f32⟩
  | .hbm, ⟨112, _⟩ => ⟨S16384x1024, .f32⟩
  | .hbm, ⟨113, _⟩ => ⟨S16384x8x128, .f32⟩
  | .hbm, ⟨114, _⟩ => ⟨S16384x8x96, .f32⟩
  | .hbm, ⟨115, _⟩ => ⟨S16384x768, .f32⟩
  | .hbm, ⟨116, _⟩ => ⟨S16384x8x96, .f32⟩
  | .hbm, ⟨117, _⟩ => ⟨S_, .f32⟩
  | .hbm, ⟨118, _⟩ => ⟨S16384x8x96, .f32⟩
  | .hbm, ⟨119, _⟩ => ⟨S16384x8x96, .f32⟩
  | .hbm, ⟨120, _⟩ => ⟨S16384x8x128, .f32⟩
  | .hbm, ⟨121, _⟩ => ⟨S16384x8x96, .f32⟩
  | .hbm, ⟨122, _⟩ => ⟨S16384x768, .f32⟩
  | .hbm, ⟨123, _⟩ => ⟨S16384x8x96, .f32⟩
  | .hbm, ⟨124, _⟩ => ⟨S16384x8x128, .f32⟩
  | .hbm, ⟨125, _⟩ => ⟨S16384x8x64, .f32⟩
  | .hbm, ⟨126, _⟩ => ⟨S16384x512, .f32⟩
  | .hbm, ⟨127, _⟩ => ⟨S16384x8x64, .f32⟩
  | .local _ .vmem, ⟨0, _⟩ => ⟨S16384x128, .bf16⟩
  | .local _ .vmem, ⟨1, _⟩ => ⟨S16384x128, .bf16⟩
  | .local _ .vmem, ⟨2, _⟩ => ⟨S512x128, .bf16⟩
  | .local _ .vmem, ⟨3, _⟩ => ⟨S512x128, .bf16⟩
  | .local _ .vmem, ⟨4, _⟩ => ⟨S128x512, .bf16⟩
  | .local _ .vmem, ⟨5, _⟩ => ⟨S128x512, .bf16⟩
  | .local _ .vmem, ⟨6, _⟩ => ⟨S512x128, .bf16⟩
  | .local _ .vmem, ⟨7, _⟩ => ⟨S512x128, .bf16⟩
  | .local _ .vmem, ⟨8, _⟩ => ⟨S16384x128, .bf16⟩
  | .local _ .vmem, ⟨9, _⟩ => ⟨S16384x128, .bf16⟩
  | .local _ .vmem, ⟨10, _⟩ => ⟨S1x32x512, .f32⟩
  | .local _ .vmem, ⟨11, _⟩ => ⟨S1x32x512, .f32⟩
  | .local _ .vmem, ⟨12, _⟩ => ⟨S1x32x512, .f32⟩
  | .local _ .vmem, ⟨13, _⟩ => ⟨S1x32x512, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S1x32x128x512, .f32⟩
  | .local _ .vmem, ⟨19, _⟩ => ⟨S1x32x128x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_cst_7 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_8 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_cst_10 : Ref sig .tc := ⟨.hbm, 69, rfl⟩
abbrev main_v48 : Ref sig .tc := ⟨.hbm, 70, rfl⟩
abbrev main_v49 : Ref sig .tc := ⟨.hbm, 71, rfl⟩
abbrev main_cst_11 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c : Ref sig .tc := ⟨.hbm, 80, rfl⟩
abbrev main_call2_v0 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_c_12 : Ref sig .tc := ⟨.hbm, 87, rfl⟩
abbrev main_call3_v0 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_c_13 : Ref sig .tc := ⟨.hbm, 95, rfl⟩
abbrev main_call4_v0 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_c_14 : Ref sig .tc := ⟨.hbm, 102, rfl⟩
abbrev main_call5_v0 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77_0 : Ref sig .tc := ⟨.hbm, 108, rfl⟩
abbrev main_v77_1 : Ref sig .tc := ⟨.hbm, 109, rfl⟩
abbrev main_v77_2 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_15 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![8, 32], ![false, false]⟩

def k0_mult1 (i : grid0.Coords) : BitVec 32 :=
  let arg1 : BitVec 32 := BitVec.ofNat 32 (i 1).val
  let c512_i32 : BitVec 32 := 512#32
  let v10 : BitVec 32 := Scalar.muli arg1 c512_i32
  v10
def k0_off1 (i : grid0.Coords) : Fin 2 → Nat :=
  let arg1 : BitVec 32 := BitVec.ofNat 32 (i 1).val
  let c512_i32 : BitVec 32 := 512#32
  let v10 : BitVec 32 := Scalar.muli arg1 c512_i32
  let v11 : BitVec 32 := v10
  let v12 : Index := Scalar.indexCast v11
  let c0_6 : Index := 0#32
  ![v12.toNat, 0]
def k0_mult2 (i : grid0.Coords) : BitVec 32 :=
  let arg1 : BitVec 32 := BitVec.ofNat 32 (i 1).val
  let c512_i32_9 : BitVec 32 := 512#32
  let v21 : BitVec 32 := Scalar.muli arg1 c512_i32_9
  v21
def k0_mult3 (i : grid0.Coords) : BitVec 32 :=
  let arg1 : BitVec 32 := BitVec.ofNat 32 (i 1).val
  let c512_i32_11 : BitVec 32 := 512#32
  let v26 : BitVec 32 := Scalar.muli arg1 c512_i32_11
  v26
def k0_off2 (i : grid0.Coords) : Fin 3 → Nat :=
  let c0_13 : Index := 0#32
  let arg1 : BitVec 32 := BitVec.ofNat 32 (i 1).val
  let v31 : Index := Scalar.indexCast arg1
  let c0_14 : Index := 0#32
  ![0, v31.toNat, 0]
def k0_off3 (i : grid0.Coords) : Fin 4 → Nat :=
  let c0_18 : Index := 0#32
  let arg1 : BitVec 32 := BitVec.ofNat 32 (i 1).val
  let v45 : Index := Scalar.indexCast arg1
  let c0_19 : Index := 0#32
  let c0_20 : Index := 0#32
  ![0, v45.toNat, 0, 0]
@[reducible] def k0_t1_loop (i : grid0.Coords) : Scf.Loop 32 :=
  let c0_i32_32 : BitVec 32 := 0#32
  let c31_i32 : BitVec 32 := 31#32
  let arg1 : BitVec 32 := BitVec.ofNat 32 (i 1).val
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_34 : BitVec 32 := 1#32
  ⟨c0_i32_32, v81, c1_i32_34⟩
def k0_mult4 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_51 : BitVec 32 := 512#32
  let v105 : BitVec 32 := Scalar.muli v104 c512_i32_51
  v105
def k0_off4 (i : grid0.Coords) (k0_t1 : Fin (k0_t1_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_51 : BitVec 32 := 512#32
  let v105 : BitVec 32 := Scalar.muli v104 c512_i32_51
  let v106 : BitVec 32 := v105
  let v107 : Index := Scalar.indexCast v106
  let c0_52 : Index := 0#32
  ![v107.toNat, 0]
def k0_mult5 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  v112
def k0_off5 (i : grid0.Coords) (k0_t1 : Fin (k0_t1_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  let v113 : BitVec 32 := v112
  let v114 : Index := Scalar.indexCast v113
  let c0_56 : Index := 0#32
  ![v114.toNat, 0]
def k0_mult6 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_58 : BitVec 32 := 512#32
  let v118 : BitVec 32 := Scalar.muli v104 c512_i32_58
  v118
def k0_mult7 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c512_i32_60 : BitVec 32 := 512#32
  let v123 : BitVec 32 := Scalar.muli v104 c512_i32_60
  v123
def k0_off6 (i : grid0.Coords) (k0_t1 : Fin (k0_t1_loop i).trips) : Fin 3 → Nat :=
  let c0_62 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let v128 : Index := Scalar.indexCast v104
  let c0_63 : Index := 0#32
  ![0, v128.toNat, 0]
def k0_off7 (i : grid0.Coords) (k0_t1 : Fin (k0_t1_loop i).trips) : Fin 4 → Nat :=
  let c0_67 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let v142 : Index := Scalar.indexCast v104
  let c0_68 : Index := 0#32
  let c0_69 : Index := 0#32
  ![0, v142.toNat, 0, 0]
def k0_mult8 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_77 : BitVec 32 := 512#32
  let v157 : BitVec 32 := Scalar.muli v156 c512_i32_77
  v157
def k0_mult9 (i : grid0.Coords) (k0_t1 : Fin (k0_t1_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_79 : BitVec 32 := 512#32
  let v162 : BitVec 32 := Scalar.muli v156 c512_i32_79
  v162
def k0_off8 (i : grid0.Coords) (k0_t1 : Fin (k0_t1_loop i).trips) : Fin 3 → Nat :=
  let c0_81 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let v167 : Index := Scalar.indexCast v156
  let c0_82 : Index := 0#32
  ![0, v167.toNat, 0]
def k0_off9 (i : grid0.Coords) (k0_t1 : Fin (k0_t1_loop i).trips) : Fin 4 → Nat :=
  let c0_86 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c1_i32_34 : BitVec 32 := 1#32
  let arg12 : BitVec 32 := Scf.iv c0_i32_32 c1_i32_34 k0_t1
  let v103 : BitVec 32 := Scalar.muli c2_i32_50 arg12
  let v104 : BitVec 32 := Scalar.addi v102 v103
  let c1_i32_76 : BitVec 32 := 1#32
  let v156 : BitVec 32 := Scalar.addi v104 c1_i32_76
  let v181 : Index := Scalar.indexCast v156
  let c0_87 : Index := 0#32
  let c0_88 : Index := 0#32
  ![0, v181.toNat, 0, 0]
@[reducible] def k0_t2_loop (i : grid0.Coords) : Scf.Loop 32 :=
  let c0_i32_32 : BitVec 32 := 0#32
  let c31_i32 : BitVec 32 := 31#32
  let arg1 : BitVec 32 := BitVec.ofNat 32 (i 1).val
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let v78 : BitVec 32 := Scalar.addi c0_i32_32 v77
  let c1_i32_35 : BitVec 32 := 1#32
  ⟨v81, v78, c1_i32_35⟩
def k0_mult10 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_51 : BitVec 32 := 512#32
  let v105 : BitVec 32 := Scalar.muli v104 c512_i32_51
  v105
def k0_off10 (i : grid0.Coords) (k0_t2 : Fin (k0_t2_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_51 : BitVec 32 := 512#32
  let v105 : BitVec 32 := Scalar.muli v104 c512_i32_51
  let v106 : BitVec 32 := v105
  let v107 : Index := Scalar.indexCast v106
  let c0_52 : Index := 0#32
  ![v107.toNat, 0]
def k0_mult11 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  v112
def k0_off11 (i : grid0.Coords) (k0_t2 : Fin (k0_t2_loop i).trips) : Fin 2 → Nat :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_54 : BitVec 32 := 1#32
  let v111 : BitVec 32 := Scalar.addi v104 c1_i32_54
  let c512_i32_55 : BitVec 32 := 512#32
  let v112 : BitVec 32 := Scalar.muli v111 c512_i32_55
  let v113 : BitVec 32 := v112
  let v114 : Index := Scalar.indexCast v113
  let c0_56 : Index := 0#32
  ![v114.toNat, 0]
def k0_mult12 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_58 : BitVec 32 := 512#32
  let v118 : BitVec 32 := Scalar.muli v104 c512_i32_58
  v118
def k0_mult13 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c512_i32_60 : BitVec 32 := 512#32
  let v123 : BitVec 32 := Scalar.muli v104 c512_i32_60
  v123
def k0_off12 (i : grid0.Coords) (k0_t2 : Fin (k0_t2_loop i).trips) : Fin 3 → Nat :=
  let c0_62 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let v128 : Index := Scalar.indexCast v104
  let c0_63 : Index := 0#32
  ![0, v128.toNat, 0]
def k0_off13 (i : grid0.Coords) (k0_t2 : Fin (k0_t2_loop i).trips) : Fin 4 → Nat :=
  let c0_67 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let v142 : Index := Scalar.indexCast v104
  let c0_68 : Index := 0#32
  let c0_69 : Index := 0#32
  ![0, v142.toNat, 0, 0]
def k0_mult14 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_77 : BitVec 32 := 512#32
  let v157 : BitVec 32 := Scalar.muli v156 c512_i32_77
  v157
def k0_mult15 (i : grid0.Coords) (k0_t2 : Fin (k0_t2_loop i).trips) : BitVec 32 :=
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let c512_i32_79 : BitVec 32 := 512#32
  let v162 : BitVec 32 := Scalar.muli v156 c512_i32_79
  v162
def k0_off14 (i : grid0.Coords) (k0_t2 : Fin (k0_t2_loop i).trips) : Fin 3 → Nat :=
  let c0_81 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let v167 : Index := Scalar.indexCast v156
  let c0_82 : Index := 0#32
  ![0, v167.toNat, 0]
def k0_off15 (i : grid0.Coords) (k0_t2 : Fin (k0_t2_loop i).trips) : Fin 4 → Nat :=
  let c0_86 : Index := 0#32
  let arg1 : BitVec 32 := BitVec.ofNat 32 (i 1).val
  let c1_i32_49 : BitVec 32 := 1#32
  let v102 : BitVec 32 := Scalar.addi arg1 c1_i32_49
  let c2_i32_50 : BitVec 32 := 2#32
  let c0_i32_32 : BitVec 32 := 0#32
  let c31_i32 : BitVec 32 := 31#32
  let v59 : BitVec 32 := Scalar.subi c31_i32 arg1
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c2_i32 : BitVec 32 := 2#32
  let c0_i32_29 : BitVec 32 := 0#32
  let v66 : BitVec 1 := Scalar.cmpi .sgt c2_i32 c0_i32_29
  let v67 : BitVec 32 := Scalar.extui v66
  let c0_i32_30 : BitVec 32 := 0#32
  let v68 : BitVec 1 := Scalar.cmpi .slt c2_i32 c0_i32_30
  let v69 : BitVec 32 := Scalar.extui v68
  let v70 : BitVec 32 := Scalar.subi v67 v69
  let v71 : BitVec 1 := Scalar.cmpi .ne v65 v70
  let v72 : BitVec 32 := Scalar.remsi v59 c2_i32
  let c0_i32_31 : BitVec 32 := 0#32
  let v73 : BitVec 1 := Scalar.cmpi .ne v72 c0_i32_31
  let v74 : BitVec 1 := Scalar.andi v71 v73
  let v60 : BitVec 32 := Scalar.divsi v59 c2_i32
  let c1_i32 : BitVec 32 := 1#32
  let v75 : BitVec 32 := Scalar.subi v60 c1_i32
  let v76 : BitVec 32 := Scalar.select v74 v75 v60
  let v77 : BitVec 32 := Scalar.subi v76 c0_i32_32
  let c1_i32_33 : BitVec 32 := 1#32
  let v79 : BitVec 32 := Scalar.divsi v77 c1_i32_33
  let v80 : BitVec 32 := Scalar.muli v79 c1_i32_33
  let v81 : BitVec 32 := Scalar.addi c0_i32_32 v80
  let c1_i32_35 : BitVec 32 := 1#32
  let arg12 : BitVec 32 := Scf.iv v81 c1_i32_35 k0_t2
  let v103 : BitVec 32 := Scalar.muli c2_i32_50 arg12
  let v104 : BitVec 32 := Scalar.addi v102 v103
  let c1_i32_76 : BitVec 32 := 1#32
  let v156 : BitVec 32 := Scalar.addi v104 c1_i32_76
  let v181 : Index := Scalar.indexCast v156
  let c0_87 : Index := 0#32
  let c0_88 : Index := 0#32
  ![0, v181.toNat, 0, 0]
def k0_cond2 (i : grid0.Coords) : BitVec 1 :=
  let c31_i32 : BitVec 32 := 31#32
  let arg1 : BitVec 32 := BitVec.ofNat 32 (i 1).val
  let v59 : BitVec 32 := Scalar.subi c31_i32 arg1
  let c2_i32_36 : BitVec 32 := 2#32
  let c0_i32_37 : BitVec 32 := 0#32
  let v84 : BitVec 1 := Scalar.cmpi .eq c2_i32_36 c0_i32_37
  let c1_i32_38 : BitVec 32 := 1#32
  let v85 : BitVec 32 := Scalar.select v84 c1_i32_38 c2_i32_36
  let v86 : BitVec 32 := Scalar.remsi v59 v85
  let c0_i32_40 : BitVec 32 := 0#32
  let v88 : BitVec 1 := Scalar.cmpi .slt v86 c0_i32_40
  let c0_i32_41 : BitVec 32 := 0#32
  let v89 : BitVec 1 := Scalar.cmpi .slt v85 c0_i32_41
  let v90 : BitVec 1 := Scalar.xori v88 v89
  let c0_i32_39 : BitVec 32 := 0#32
  let v87 : BitVec 1 := Scalar.cmpi .ne v86 c0_i32_39
  let v91 : BitVec 1 := Scalar.andi v90 v87
  let v92 : BitVec 32 := Scalar.addi v86 v85
  let v93 : BitVec 32 := Scalar.select v91 v92 v86
  let c1_i32_42 : BitVec 32 := 1#32
  let v94 : BitVec 1 := Scalar.cmpi .eq v93 c1_i32_42
  let v95 : BitVec 32 := Scalar.extui v94
  let c0_i32_43 : BitVec 32 := 0#32
  let v96 : BitVec 1 := Scalar.cmpi .ne v95 c0_i32_43
  v96

def k0_mult16 : BitVec 32 :=
  let c15872_i32 : BitVec 32 := 15872#32
  c15872_i32
def k0_mult17 : BitVec 32 :=
  let c15872_i32_51 : BitVec 32 := 15872#32
  c15872_i32_51
def k0_mult18 : BitVec 32 :=
  let c15872_i32_53 : BitVec 32 := 15872#32
  c15872_i32_53
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x32x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x32x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x32x128x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== AttnIdeal.lean ====
variable {F : FTy → Type} [FloatOps F] [Named F]
def κ : String → Option EReal := fun
  | "ln_2" => some ((Real.log 2 : ℝ) : EReal)
  | _ => none
-- ==== AttnRefIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x16384x96 : Shape := ⟨3, ![8, 16384, 96]⟩

abbrev nBuf : Space → Nat
  | .hbm => 89
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384x16384, .f32⟩
  | .hbm, ⟨21, _⟩ => ⟨S_, .f32⟩
  | .hbm, ⟨22, _⟩ => ⟨S8x16384, .f32⟩
  | .hbm, ⟨23, _⟩ => ⟨S8x16384x1, .f32⟩
  | .hbm, ⟨24, _⟩ => ⟨S8x16384x16384, .f32⟩
  | .hbm, ⟨25, _⟩ => ⟨S8x16384x16384, .i1⟩
  | .hbm, ⟨26, _⟩ => ⟨S8x16384x16384, .f32⟩
  | .hbm, ⟨27, _⟩ => ⟨S_, .f32⟩
  | .hbm, ⟨28, _⟩ => ⟨S8x16384, .f32⟩
  | .hbm, ⟨29, _⟩ => ⟨S_, .f32⟩
  | .hbm, ⟨30, _⟩ => ⟨S8x16384, .f32⟩
  | .hbm, ⟨31, _⟩ => ⟨S8x16384, .f32⟩
  | .hbm, ⟨32, _⟩ => ⟨S_, .f32⟩
  | .hbm, ⟨33, _⟩ => ⟨S8x16384, .f32⟩
  | .hbm, ⟨34, _⟩ => ⟨S8x16384, .i1⟩
  | .hbm, ⟨35, _⟩ => ⟨S_, .f32⟩
  | .hbm, ⟨36, _⟩ => ⟨S8x16384, .f32⟩
  | .hbm, ⟨37, _⟩ => ⟨S8x16384, .i1⟩
  | .hbm, ⟨38, _⟩ => ⟨S_, .f32⟩
  | .hbm, ⟨39, _⟩ => ⟨S8x16384, .f32⟩
  | .hbm, ⟨40, _⟩ => ⟨S_, .f32⟩
  | .hbm, ⟨41, _⟩ => ⟨S8x16384, .f32⟩
  | .hbm, ⟨42, _⟩ => ⟨S_, .f32⟩
  | .hbm, ⟨43, _⟩ => ⟨S8x16384, .f32⟩
  | .hbm, ⟨44, _⟩ => ⟨S8x16384, .f32⟩
  | .hbm, ⟨45, _⟩ => ⟨S8x16384, .f32⟩
  | .hbm, ⟨46, _⟩ => ⟨S8x16384x1, .f32⟩
  | .hbm, ⟨47, _⟩ => ⟨S8x16384x16384, .f32⟩
  | .hbm, ⟨48, _⟩ => ⟨S8x16384x16384, .f32⟩
  | .hbm, ⟨49, _⟩ => ⟨S8x16384x16384, .f32⟩
  | .hbm, ⟨50, _⟩ => ⟨S_, .f32⟩
  | .hbm, ⟨51, _⟩ => ⟨S8x16384, .f32⟩
  | .hbm, ⟨52, _⟩ => ⟨S8x16384x1, .f32⟩
  | .hbm, ⟨53, _⟩ => ⟨S8x16384x16384, .f32⟩
  | .hbm, ⟨54, _⟩ => ⟨S8x16384x16384, .f32⟩
  | .hbm, ⟨55, _⟩ => ⟨S8x16384x1, .f32⟩
  | .hbm, ⟨56, _⟩ => ⟨S_, .f32⟩
  | .hbm, ⟨57, _⟩ => ⟨S8x16384x1, .f32⟩
  | .hbm, ⟨58, _⟩ => ⟨S8x16384x1, .f32⟩
  | .hbm, ⟨59, _⟩ => ⟨S8x64x16384, .f32⟩
  | .hbm, ⟨60, _⟩ => ⟨S16384x8x64, .f32⟩
  | .hbm, ⟨61, _⟩ => ⟨S8x64x16384, .f32⟩
  | .hbm, ⟨62, _⟩ => ⟨S8x16384x16384, .f32⟩
  | .hbm, ⟨63, _⟩ => ⟨S8x64x16384, .f32⟩
  | .hbm, ⟨64, _⟩ => ⟨S16384x8x64, .f32⟩
  | .hbm, ⟨65, _⟩ => ⟨S8x16384x16384, .f32⟩
  | .hbm, ⟨66, _⟩ => ⟨S8x16384x16384, .f32⟩
  | .hbm, ⟨67, _⟩ => ⟨S8x16384x16384, .f32⟩
  | .hbm, ⟨68, _⟩ => ⟨S_, .f32⟩
  | .hbm, ⟨69, _⟩ => ⟨S8x16384, .f32⟩
  | .hbm, ⟨70, _⟩ => ⟨S8x16384x1, .f32⟩
  | .hbm, ⟨71, _⟩ => ⟨S8x16384x1, .f32⟩
  | .hbm, ⟨72, _⟩ => ⟨S8x16384x16384, .f32⟩
  | .hbm, ⟨73, _⟩ => ⟨S8x16384x16384, .f32⟩
  | .hbm, ⟨74, _⟩ => ⟨S_, .f32⟩
  | .hbm, ⟨75, _⟩ => ⟨S8x16384, .f32⟩
  | .hbm, ⟨76, _⟩ => ⟨S8x16384x16384, .f32⟩
  | .hbm, ⟨77, _⟩ => ⟨S8x16384x16384, .f32⟩
  | .hbm, ⟨78, _⟩ => ⟨S8x16384x16384, .f32⟩
  | .hbm, ⟨79, _⟩ => ⟨S_, .f32⟩
  | .hbm, ⟨80, _⟩ => ⟨S8x16384x16384, .f32⟩
  | .hbm, ⟨81, _⟩ => ⟨S8x16384x16384, .f32⟩
  | .hbm, ⟨82, _⟩ => ⟨S_, .f32⟩
  | .hbm, ⟨83, _⟩ => ⟨S8x16384x16384, .f32⟩
  | .hbm, ⟨84, _⟩ => ⟨S8x16384x16384, .f32⟩
  | .hbm, ⟨85, _⟩ => ⟨S8x16384x96, .f32⟩
  | .hbm, ⟨86, _⟩ => ⟨S16384x8x96, .f32⟩
  | .hbm, ⟨87, _⟩ => ⟨S8x16384x96, .f32⟩
  | .hbm, ⟨88, _⟩ => ⟨S16384x8x96, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_v9_1 : Ref sig .tc := ⟨.hbm, 16, rfl⟩
abbrev main_call0_v2 : Ref sig .tc := ⟨.hbm, 17, rfl⟩
abbrev main_v9_0 : Ref sig .tc := ⟨.hbm, 18, rfl⟩
abbrev main_call0_cst : Ref sig .tc := ⟨.hbm, 19, rfl⟩
abbrev main_v9_2 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_cst_6 : Ref sig .tc := ⟨.hbm, 38, rfl⟩
abbrev main_v22 : Ref sig .tc := ⟨.hbm, 39, rfl⟩
abbrev main_cst_7 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_10 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_11 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call1_cst : Ref sig .tc := ⟨.hbm, 79, rfl⟩
abbrev main_call1_v0 : Ref sig .tc := ⟨.hbm, 80, rfl⟩
abbrev main_v56 : Ref sig .tc := ⟨.hbm, 81, rfl⟩
abbrev main_cst_13 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩

abbrev nD : Nat := 1
abbrev τ : Topo := Topo.v7x

variable {F : FTy → Type} [FloatOps F]
-- ==== Delta.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S16384x512 : Shape := ⟨2, ![16384, 512]⟩
abbrev S16384x8x128 : Shape := ⟨3, ![16384, 8, 128]⟩
abbrev S16384x1024 : Shape := ⟨2, ![16384, 1024]⟩
abbrev S8x32x1x512 : Shape := ⟨4, ![8, 32, 1, 512]⟩
abbrev S512x1024 : Shape := ⟨2, ![512, 1024]⟩
abbrev S8x1x1x512 : Shape := ⟨4, ![8, 1, 1, 512]⟩
abbrev S512x128 : Shape := ⟨2, ![512, 128]⟩
abbrev S128x512 : Shape := ⟨2, ![128, 512]⟩
abbrev S512 : Shape := ⟨1, ![512]⟩
abbrev S1x512 : Shape := ⟨2, ![1, 512]⟩
abbrev S1x1x1x512 : Shape := ⟨4, ![1, 1, 1, 512]⟩

abbrev nBuf : Space → Nat
  | .hbm => 50
  | .vmem => 6
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .f32⟩
  | .hbm, ⟨33, _⟩ => ⟨S8x64x16384, .f32⟩
  | .hbm, ⟨34, _⟩ => ⟨S16384x8x64, .f32⟩
  | .hbm, ⟨35, _⟩ => ⟨S16384x512, .f32⟩
  | .hbm, ⟨36, _⟩ => ⟨S16384x512, .bf16⟩
  | .hbm, ⟨37, _⟩ => ⟨S16384x8x64, .bf16⟩
  | .hbm, ⟨38, _⟩ => ⟨S_, .i32⟩
  | .hbm, ⟨39, _⟩ => ⟨S_, .bf16⟩
  | .hbm, ⟨40, _⟩ => ⟨S16384x8x128, .bf16⟩
  | .hbm, ⟨41, _⟩ => ⟨S16384x1024, .bf16⟩
  | .hbm, ⟨42, _⟩ => ⟨S16384x512, .f32⟩
  | .hbm, ⟨43, _⟩ => ⟨S16384x512, .bf16⟩
  | .hbm, ⟨44, _⟩ => ⟨S16384x8x64, .bf16⟩
  | .hbm, ⟨45, _⟩ => ⟨S_, .i32⟩
  | .hbm, ⟨46, _⟩ => ⟨S_, .bf16⟩
  | .hbm, ⟨47, _⟩ => ⟨S16384x8x128, .bf16⟩
  | .hbm, ⟨48, _⟩ => ⟨S16384x1024, .bf16⟩
  | .hbm, ⟨49, _⟩ => ⟨S8x32x1x512, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S8x1x1x512, .f32⟩
  | .local _ .vmem, ⟨5, _⟩ => ⟨S8x1x1x512, .f32⟩
  | _, _ => ⟨S16384x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c : Ref sig .tc := ⟨.hbm, 38, rfl⟩
abbrev main_call1_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_call2_v0 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DeltaRefIdeal.lean ====
abbrev S16384x8x96 : Shape := ⟨3, ![16384, 8, 96]⟩
abbrev S16384x8x64 : Shape := ⟨3, ![16384, 8, 64]⟩
abbrev S8x16384x16384 : Shape := ⟨3, ![8, 16384, 16384]⟩
abbrev S_ : Shape := ⟨0, ![]⟩
abbrev S16384 : Shape := ⟨1, ![16384]⟩
abbrev S1x1x16384 : Shape := ⟨3, ![1, 1, 16384]⟩
abbrev S1x16384x1 : Shape := ⟨3, ![1, 16384, 1]⟩
abbrev S1x16384x16384 : Shape := ⟨3, ![1, 16384, 16384]⟩
abbrev S8x16384 : Shape := ⟨2, ![8, 16384]⟩
abbrev S8x16384x1 : Shape := ⟨3, ![8, 16384, 1]⟩
abbrev S8x64x16384 : Shape := ⟨3, ![8, 64, 16384]⟩
abbrev S8x32x1x512 : Shape := ⟨4, ![8, 32, 1, 512]⟩

abbrev nBuf : Space → Nat
  | .hbm => 41
  | .vmem => 0
  | .smem => 0
  | _ => 0

abbrev bufTy : (tb : Table) → Fin (tcTables nBuf tb) → BufTy
  | .hbm, ⟨0, _⟩ => ⟨S16384x8x96, .f32⟩
  | .hbm, ⟨1, _⟩ => ⟨S16384x8x96, .f32⟩
  | .hbm, ⟨2, _⟩ => ⟨S16384x8x64, .f32⟩
  | .hbm, ⟨3, _⟩ => ⟨S16384x8x64, .f32⟩
  | .hbm, ⟨4, _⟩ => ⟨S8x16384x16384, .f32⟩
  | .hbm, ⟨5, _⟩ => ⟨S_, .f32⟩
  | .hbm, ⟨6, _⟩ => ⟨S8x16384x16384, .f32⟩
  | .hbm, ⟨7, _⟩ => ⟨S8x16384x16384, .f32⟩
  | .hbm, ⟨8, _⟩ => ⟨S16384, .i32⟩
  | .hbm, ⟨9, _⟩ => ⟨S1x1x16384, .i32⟩
  | .hbm, ⟨10, _⟩ => ⟨S1x16384x1, .i32⟩
  | .hbm, ⟨11, _⟩ => ⟨S1x16384x16384, .i32⟩
  | .hbm, ⟨12, _⟩ => ⟨S1x16384x16384, .i32⟩
  | .hbm, ⟨13, _⟩ => ⟨S1x16384x16384, .i1⟩
  | .hbm, ⟨14, _⟩ => ⟨S_, .f32⟩
  | .hbm, ⟨15, _⟩ => ⟨S_, .f32⟩
  | .hbm, ⟨16, _⟩ => ⟨S8x16384x16384, .i1⟩
  | .hbm, ⟨17, _⟩ => ⟨S8x16384x16384, .f32⟩
  | .hbm, ⟨18, _⟩ => ⟨S8x16384x16384, .f32⟩
  | .hbm, ⟨19, _⟩ => ⟨S_, .f32⟩
  | .hbm, ⟨20, _⟩ => ⟨S8x16384, .f32⟩
  | .hbm, ⟨21, _⟩ => ⟨S_, .f32⟩
  | .hbm, ⟨22, _⟩ => ⟨S8x16384, .f32⟩
  | .hbm, ⟨23, _⟩ => ⟨S8x16384, .f32⟩
  | .hbm, ⟨24, _⟩ => ⟨S8x16384x1, .f32⟩
  | .hbm, ⟨25, _⟩ => ⟨S8x16384x16384, .f32⟩
  | .hbm, ⟨26, _⟩ => ⟨S8x16384x16384, .f32⟩
  | .hbm, ⟨27, _⟩ => ⟨S8x16384x16384, .f32⟩
  | .hbm, ⟨28, _⟩ => ⟨S_, .f32⟩
  | .hbm, ⟨29, _⟩ => ⟨S8x16384, .f32⟩
  | .hbm, ⟨30, _⟩ => ⟨S8x16384x1, .f32⟩
  | .hbm, ⟨31, _⟩ => ⟨S8x16384x16384, .f32⟩
  | .hbm, ⟨32, _⟩ => ⟨S8x16384x16384, .f32⟩
  | .hbm, ⟨33, _⟩ => ⟨S8x64x16384, .f32⟩
  | .hbm, ⟨34, _⟩ => ⟨S16384x8x64, .f32⟩
  | .hbm, ⟨35, _⟩ => ⟨S8x64x16384, .f32⟩
  | .hbm, ⟨36, _⟩ => ⟨S8x16384x16384, .f32⟩
  | .hbm, ⟨37, _⟩ => ⟨S8x16384x16384, .f32⟩
  | .hbm, ⟨38, _⟩ => ⟨S_, .f32⟩
  | .hbm, ⟨39, _⟩ => ⟨S8x16384, .f32⟩
  | .hbm, ⟨40, _⟩ => ⟨S8x32x1x512, .f32⟩
  | _, _ => ⟨S16384x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Conv.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S3072x1024 : Shape := ⟨2, ![3072, 1024]⟩
abbrev S256x1024 : Shape := ⟨2, ![256, 1024]⟩
abbrev S16x1024 : Shape := ⟨2, ![16, 1024]⟩
abbrev S256x3072 : Shape := ⟨2, ![256, 3072]⟩
abbrev S16x3072 : Shape := ⟨2, ![16, 3072]⟩
abbrev S256 : Shape := ⟨1, ![256]⟩
abbrev S256x1 : Shape := ⟨2, ![256, 1]⟩
abbrev S272x1024 : Shape := ⟨2, ![272, 1024]⟩

abbrev nBuf : Space → Nat
  | .hbm => 35
  | .vmem => 26
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S16384x1024, .f32⟩
  | .hbm, ⟨6, _⟩ => ⟨S16384x1024, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x1024, .f32⟩
  | .hbm, ⟨18, _⟩ => ⟨S16384x1024, .f32⟩
  | .hbm, ⟨19, _⟩ => ⟨S1x1024, .f32⟩
  | .hbm, ⟨20, _⟩ => ⟨S16384x1024, .f32⟩
  | .hbm, ⟨21, _⟩ => ⟨S16384x1024, .f32⟩
  | .hbm, ⟨22, _⟩ => ⟨S16384x3072, .f32⟩
  | .hbm, ⟨23, _⟩ => ⟨S16384x3072, .bf16⟩
  | .hbm, ⟨24, _⟩ => ⟨S1x1024, .f32⟩
  | .hbm, ⟨25, _⟩ => ⟨S1024x3072, .bf16⟩
  | .hbm, ⟨26, _⟩ => ⟨S3072x1024, .bf16⟩
  | .hbm, ⟨27, _⟩ => ⟨S1024x1024, .bf16⟩
  | .hbm, ⟨28, _⟩ => ⟨S1024x1024, .bf16⟩
  | .hbm, ⟨29, _⟩ => ⟨S16384x1024, .f32⟩
  | .hbm, ⟨30, _⟩ => ⟨S16384x1024, .bf16⟩
  | .hbm, ⟨31, _⟩ => ⟨S16384x3072, .bf16⟩
  | .hbm, ⟨32, _⟩ => ⟨S16384x1024, .bf16⟩
  | .hbm, ⟨33, _⟩ => ⟨S3x1024, .f32⟩
  | .hbm, ⟨34, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S16x1024, .f32⟩
  | .local _ .vmem, ⟨5, _⟩ => ⟨S16x1024, .f32⟩
  | .local _ .vmem, ⟨6, _⟩ => ⟨S256x3072, .bf16⟩
  | .local _ .vmem, ⟨7, _⟩ => ⟨S256x3072, .bf16⟩
  | .local _ .vmem, ⟨8, _⟩ => ⟨S16x3072, .bf16⟩
  | .local _ .vmem, ⟨9, _⟩ => ⟨S16x3072, .bf16⟩
  | .local _ .vmem, ⟨10, _⟩ => ⟨S16x3072, .bf16⟩
  | .local _ .vmem, ⟨11, _⟩ => ⟨S16x3072, .bf16⟩
  | .local _ .vmem, ⟨12, _⟩ => ⟨S1x1024, .f32⟩
  | .local _ .vmem, ⟨13, _⟩ => ⟨S3072x1024, .bf16⟩
  | .local _ .vmem, ⟨14, _⟩ => ⟨S3x1024, .f32⟩
  | .local _ .vmem, ⟨15, _⟩ => ⟨S1024x1024, .bf16⟩
  | .local _ .vmem, ⟨16, _⟩ => ⟨S256x1024, .f32⟩
  | .local _ .vmem, ⟨17, _⟩ => ⟨S256x1024, .f32⟩
  | .local _ .vmem, ⟨18, _⟩ => ⟨S256x1024, .bf16⟩
  | .local _ .vmem, ⟨19, _⟩ => ⟨S256x1024, .bf16⟩
  | .local _ .vmem, ⟨20, _⟩ => ⟨S256x3072, .bf16⟩
  | .local _ .vmem, ⟨21, _⟩ => ⟨S256x3072, .bf16⟩
  | .local _ .vmem, ⟨22, _⟩ => ⟨S256x1024, .bf16⟩
  | .local _ .vmem, ⟨23, _⟩ => ⟨S256x1024, .bf16⟩
  | .local _ .vmem, ⟨24, _⟩ => ⟨S3x1024, .f32⟩
  | .local _ .vmem, ⟨25, _⟩ => ⟨S1x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg15_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem15_0 : DmaSem sig := 25

abbrev nD : Nat := 1
abbrev τ : Topo := Topo.v7x

variable {F : FTy → Type} [FloatOps F]

abbrev grid0 : Pipeline.Grid := ⟨1, ![64], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v91 : BitVec 32 := Scalar.extui v0
  let c0_i32_40 : BitVec 32 := 0#32
  let v92 : BitVec 1 := Scalar.cmpi .ne v91 c0_i32_40
  v92

def k0_cond2 (i : grid0.Coords) : BitVec 1 :=
  let arg0 : BitVec 32 := BitVec.ofNat 32 (i 0).val
  let c0_i32 : BitVec 32 := 0#32
  let v0 : BitVec 1 := Scalar.cmpi .eq arg0 c0_i32
  let v_true : BitVec 1 := 1#1
  let v93 : BitVec 1 := Scalar.xori v0 v_true
  let v94 : BitVec 32 := Scalar.extui v93
  let c0_i32_41 : BitVec 32 := 0#32
  let v95 : BitVec 1 := Scalar.cmpi .ne v94 c0_i32_41
  v95

def k0_cond3 (i : grid0.Coords) : BitVec 1 :=
  let arg0 : BitVec 32 := BitVec.ofNat 32 (i 0).val
  let c0_i32 : BitVec 32 := 0#32
  let v0 : BitVec 1 := Scalar.cmpi .eq arg0 c0_i32
  let v99 : BitVec 32 := Scalar.extui v0
  let c0_i32_43 : BitVec 32 := 0#32
  let v100 : BitVec 1 := Scalar.cmpi .ne v99 c0_i32_43
  v100

def k0_cond4 (i : grid0.Coords) : BitVec 1 :=
  let arg0 : BitVec 32 := BitVec.ofNat 32 (i 0).val
  let c0_i32 : BitVec 32 := 0#32
  let v0 : BitVec 1 := Scalar.cmpi .eq arg0 c0_i32
  let true_44 : BitVec 1 := 1#1
  let v101 : BitVec 1 := Scalar.xori v0 true_44
  let v102 : BitVec 32 := Scalar.extui v101
  let c0_i32_45 : BitVec 32 := 0#32
  let v103 : BitVec 1 := Scalar.cmpi .ne v102 c0_i32_45
  v103

def k0_cond5 (i : grid0.Coords) : BitVec 1 :=
  let arg0 : BitVec 32 := BitVec.ofNat 32 (i 0).val
  let c0_i32 : BitVec 32 := 0#32
  let v0 : BitVec 1 := Scalar.cmpi .eq arg0 c0_i32
  let v107 : BitVec 32 := Scalar.extui v0
  let c0_i32_47 : BitVec 32 := 0#32
  let v108 : BitVec 1 := Scalar.cmpi .ne v107 c0_i32_47
  v108

def k0_cond6 (i : grid0.Coords) : BitVec 1 :=
  let arg0 : BitVec 32 := BitVec.ofNat 32 (i 0).val
  let c0_i32 : BitVec 32 := 0#32
  let v0 : BitVec 1 := Scalar.cmpi .eq arg0 c0_i32
  let true_48 : BitVec 1 := 1#1
  let v109 : BitVec 1 := Scalar.xori v0 true_48
  let v110 : BitVec 32 := Scalar.extui v109
  let c0_i32_49 : BitVec 32 := 0#32
  let v111 : BitVec 1 := Scalar.cmpi .ne v110 c0_i32_49
  v111

def k0_cond7 (i : grid0.Coords) : BitVec 1 :=
  let arg0 : BitVec 32 := BitVec.ofNat 32 (i 0).val
  let c0_i32 : BitVec 32 := 0#32
  let v0 : BitVec 1 := Scalar.cmpi .eq arg0 c0_i32
  let v124 : BitVec 32 := Scalar.extui v0
  let c0_i32_56 : BitVec 32 := 0#32
  let v125 : BitVec 1 := Scalar.cmpi .ne v124 c0_i32_56
  v125

def k0_cond8 (i : grid0.Coords) : BitVec 1 :=
  let arg0 : BitVec 32 := BitVec.ofNat 32 (i 0).val
  let c0_i32 : BitVec 32 := 0#32
  let v0 : BitVec 1 := Scalar.cmpi .eq arg0 c0_i32
  let true_57 : BitVec 1 := 1#1
  let v126 : BitVec 1 := Scalar.xori v0 true_57
  let v127 : BitVec 32 := Scalar.extui v126
  let c0_i32_58 : BitVec 32 := 0#32
  let v128 : BitVec 1 := Scalar.cmpi .ne v127 c0_i32_58
  v128

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c16_i32 : BitVec 32 := 16#32
  let v1 : BitVec 32 := Scalar.muli v0 c16_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x3072 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3072x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x3072 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S3x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== ConvRefIdeal.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S2x1024 : Shape := ⟨2, ![2, 1024]⟩
abbrev S16386x1024 : Shape := ⟨2, ![16386, 1024]⟩

abbrev nBuf : Space → Nat
  | .hbm => 240
  | .vmem => 0
  | .smem => 0
  | _ => 0

abbrev hbmTy0_0 (i : Nat) : BufTy := match i % 128 with
  | 0 => ⟨S16384x1024, .f32⟩
  | 1 => ⟨S1024, .f32⟩
  | 2 => ⟨S1024x3072, .f32⟩
  | 3 => ⟨S3x1024, .f32⟩
  | 4 => ⟨S1024x1024, .f32⟩
  | 5 => ⟨S16384x1024, .f32⟩
  | 6 => ⟨S16384x1024, .f32⟩
  | 7 => ⟨S_, .f32⟩
  | 8 => ⟨S16384, .f32⟩
  | 9 => ⟨S16384x1, .f32⟩
  | 10 => ⟨S_, .f32⟩
  | 11 => ⟨S16384x1, .f32⟩
  | 12 => ⟨S16384x1, .f32⟩
  | 13 => ⟨S_, .f32⟩
  | 14 => ⟨S16384x1, .f32⟩
  | 15 => ⟨S16384x1, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x3072, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S2x1024, .f32⟩
  | 33 => ⟨S16386x1024, .f32⟩
  | 34 => ⟨S_, .f32⟩
  | 35 => ⟨S2x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S1x1024, .f32⟩
  | 43 => ⟨S1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S16384x1024, .f32⟩
  | 64 => ⟨S16384x1024, .f32⟩
  | 65 => ⟨S16384x1024, .f32⟩
  | 66 => ⟨S_, .f32⟩
  | 67 => ⟨S1024, .f32⟩
  | 68 => ⟨S1x1024, .f32⟩
  | 69 => ⟨S_, .f32⟩
  | 70 => ⟨S1024, .f32⟩
  | 71 => ⟨S_, .f32⟩
  | 72 => ⟨S16386x1024, .f32⟩
  | 73 => ⟨S1x1024, .f32⟩
  | 74 => ⟨S_, .f32⟩
  | 75 => ⟨S3x1024, .f32⟩
  | 76 => ⟨S16384x1024, .f32⟩
  | 77 => ⟨S16384x1024, .f32⟩
  | 78 => ⟨S16384x1024, .f32⟩
  | 79 => ⟨S_, .f32⟩
  | 80 => ⟨S1024, .f32⟩
  | 81 => ⟨S1x1024, .f32⟩
  | 82 => ⟨S_, .f32⟩
  | 83 => ⟨S1024, .f32⟩
  | 84 => ⟨S_, .f32⟩
  | 85 => ⟨S16386x1024, .f32⟩
  | 86 => ⟨S16386x1024, .f32⟩
  | 87 => ⟨S1x1024, .f32⟩
  | 88 => ⟨S_, .f32⟩
  | 89 => ⟨S3x1024, .f32⟩
  | 90 => ⟨S3x1024, .f32⟩
  | 91 => ⟨S16384x1024, .f32⟩
  | 92 => ⟨S16384x1024, .f32⟩
  | 93 => ⟨S16384x1024, .f32⟩
  | 94 => ⟨S_, .f32⟩
  | 95 => ⟨S1024, .f32⟩
  | 96 => ⟨S1x1024, .f32⟩
  | 97 => ⟨S_, .f32⟩
  | 98 => ⟨S1024, .f32⟩
  | 99 => ⟨S_, .f32⟩
  | 100 => ⟨S16386x1024, .f32⟩
  | 101 => ⟨S16386x1024, .f32⟩
  | 102 => ⟨S1x1024, .f32⟩
  | 103 => ⟨S_, .f32⟩
  | 104 => ⟨S3x1024, .f32⟩
  | 105 => ⟨S3x1024, .f32⟩
  | 106 => ⟨S2x1024, .f32⟩
  | 107 => ⟨S16384x1024, .f32⟩
  | 108 => ⟨S16384x1024, .f32⟩
  | 109 => ⟨S16384x1024, .f32⟩
  | 110 => ⟨S16384x3072, .f32⟩
  | 111 => ⟨S16384x1024, .f32⟩
  | 112 => ⟨S16384x1024, .f32⟩
  | 113 => ⟨S_, .f32⟩
  | 114 => ⟨S1024, .f32⟩
  | 115 => ⟨S1x1024, .f32⟩
  | 116 => ⟨S16384x1024, .f32⟩
  | 117 => ⟨S16384x1024, .f32⟩
  | 118 => ⟨S_, .f32⟩
  | 119 => ⟨S1024, .f32⟩
  | 120 => ⟨S16384x1024, .f32⟩
  | 121 => ⟨S_, .f32⟩
  | 122 => ⟨S16384, .f32⟩
  | 123 => ⟨S16384x1, .f32⟩
  | 124 => ⟨S16384x1024, .f32⟩
  | 125 => ⟨S16384x1024, .f32⟩
  | 126 => ⟨S16384x1024, .f32⟩
  | 127 => ⟨S16384x1, .f32⟩
  | _ => ⟨S16384x1024, .f32⟩

abbrev hbmTy0_1 (i : Nat) : BufTy := match i % 128 with
  | 0 => ⟨S_, .f32⟩
  | 1 => ⟨S16384x1, .f32⟩
  | 2 => ⟨S16384x1, .f32⟩
  | 3 => ⟨S_, .f32⟩
  | 4 => ⟨S16384, .f32⟩
  | 5 => ⟨S16384x1024, .f32⟩
  | 6 => ⟨S16384x1024, .f32⟩
  | 7 => ⟨S16384x1024, .f32⟩
  | 8 => ⟨S16384x1024, .f32⟩
  | 9 => ⟨S16384x1024, .f32⟩
  | 10 => ⟨S16384x1024, .f32⟩
  | 11 => ⟨S_, .f32⟩
  | 12 => ⟨S16384, .f32⟩
  | 13 => ⟨S16384x1, .f32⟩
  | 14 => ⟨S_, .f32⟩
  | 15 => ⟨S16384x1, .f32⟩
  | 16 => ⟨S16384x1, .f32⟩
  | 17 => ⟨S_, .f32⟩
  | 18 => ⟨S16384x1, .f32⟩
  | 19 => ⟨S16384x1, .f32⟩
  | 20 => ⟨S16384x1, .f32⟩
  | 21 => ⟨S16384x1024, .f32⟩
  | 22 => ⟨S16384x1024, .f32⟩
  | 23 => ⟨S1x1024, .f32⟩
  | 24 => ⟨S16384x1024, .f32⟩
  | 25 => ⟨S16384x1024, .f32⟩
  | 26 => ⟨S16384x3072, .f32⟩
  | 27 => ⟨S16384x1024, .f32⟩
  | 28 => ⟨S16384x1024, .f32⟩
  | 29 => ⟨S16384x1024, .f32⟩
  | 30 => ⟨S16384x1024, .f32⟩
  | 31 => ⟨S_, .f32⟩
  | 32 => ⟨S2x1024, .f32⟩
  | 33 => ⟨S16386x1024, .f32⟩
  | 34 => ⟨S_, .f32⟩
  | 35 => ⟨S2x1024, .f32⟩
  | 36 => ⟨S1x1024, .f32⟩
  | 37 => ⟨S1024, .f32⟩
  | 38 => ⟨S16384x1024, .f32⟩
  | 39 => ⟨S1x1024, .f32⟩
  | 40 => ⟨S16384x1024, .f32⟩
  | 41 => ⟨S16384x1024, .f32⟩
  | 42 => ⟨S1x1024, .f32⟩
  | 43 => ⟨S1024, .f32⟩
  | 44 => ⟨S16384x1024, .f32⟩
  | 45 => ⟨S1x1024, .f32⟩
  | 46 => ⟨S16384x1024, .f32⟩
  | 47 => ⟨S16384x1024, .f32⟩
  | 48 => ⟨S16384x1024, .f32⟩
  | 49 => ⟨S1x1024, .f32⟩
  | 50 => ⟨S1024, .f32⟩
  | 51 => ⟨S16384x1024, .f32⟩
  | 52 => ⟨S1x1024, .f32⟩
  | 53 => ⟨S16384x1024, .f32⟩
  | 54 => ⟨S16384x1024, .f32⟩
  | 55 => ⟨S16384x1024, .f32⟩
  | 56 => ⟨S16384x1024, .f32⟩
  | 57 => ⟨S16384x1024, .f32⟩
  | 58 => ⟨S16384x1024, .f32⟩
  | 59 => ⟨S16384x1024, .f32⟩
  | 60 => ⟨S16384x1024, .f32⟩
  | 61 => ⟨S16384x1024, .f32⟩
  | 62 => ⟨S16384x1024, .f32⟩
  | 63 => ⟨S_, .f32⟩
  | 64 => ⟨S16386x1024, .f32⟩
  | 65 => ⟨S16384x1024, .f32⟩
  | 66 => ⟨S16384x1024, .f32⟩
  | 67 => ⟨S_, .f32⟩
  | 68 => ⟨S16386x1024, .f32⟩
  | 69 => ⟨S16386x1024, .f32⟩
  | 70 => ⟨S16384x1024, .f32⟩
  | 71 => ⟨S16384x1024, .f32⟩
  | 72 => ⟨S_, .f32⟩
  | 73 => ⟨S16386x1024, .f32⟩
  | 74 => ⟨S16386x1024, .f32⟩
  | 75 => ⟨S2x1024, .f32⟩
  | 76 => ⟨S16384x1024, .f32⟩
  | 77 => ⟨S16384x1024, .f32⟩
  | 78 => ⟨S16384x1024, .f32⟩
  | 79 => ⟨S16384x3072, .f32⟩
  | 80 => ⟨S16384x1024, .bf16⟩
  | 81 => ⟨S16384x3072, .bf16⟩
  | 82 => ⟨S16384x1024, .f32⟩
  | 83 => ⟨S16384x1024, .f32⟩
  | 84 => ⟨S16384x1024, .f32⟩
  | 85 => ⟨S16384x1024, .f32⟩
  | 86 => ⟨S_, .f32⟩
  | 87 => ⟨S2x1024, .f32⟩
  | 88 => ⟨S16386x1024, .f32⟩
  | 89 => ⟨S1x1024, .f32⟩
  | 90 => ⟨S1024, .f32⟩
  | 91 => ⟨S16384x1024, .f32⟩
  | 92 => ⟨S1x1024, .f32⟩
  | 93 => ⟨S16384x1024, .f32⟩
  | 94 => ⟨S16384x1024, .f32⟩
  | 95 => ⟨S1x1024, .f32⟩
  | 96 => ⟨S1024, .f32⟩
  | 97 => ⟨S16384x1024, .f32⟩
  | 98 => ⟨S1x1024, .f32⟩
  | 99 => ⟨S16384x1024, .f32⟩
  | 100 => ⟨S16384x1024, .f32⟩
  | 101 => ⟨S16384x1024, .f32⟩
  | 102 => ⟨S1x1024, .f32⟩
  | 103 => ⟨S1024, .f32⟩
  | 104 => ⟨S16384x1024, .f32⟩
  | 105 => ⟨S1x1024, .f32⟩
  | 106 => ⟨S16384x1024, .f32⟩
  | 107 => ⟨S16384x1024, .f32⟩
  | 108 => ⟨S16384x1024, .f32⟩
  | 109 => ⟨S16384x1024, .f32⟩
  | 110 => ⟨S16384x1024, .bf16⟩
  | 111 => ⟨S1x1024, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_3 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_cst_5 : Ref sig .tc := ⟨.hbm, 66, rfl⟩
abbrev main_v54 : Ref sig .tc := ⟨.hbm, 67, rfl⟩
abbrev main_v55 : Ref sig .tc := ⟨.hbm, 68, rfl⟩
abbrev main_cst_6 : Ref sig .tc := ⟨.hbm, 69, rfl⟩
abbrev main_v56 : Ref sig .tc := ⟨.hbm, 70, rfl⟩
abbrev main_cst_7 : Ref sig .tc := ⟨.hbm, 71, rfl⟩
abbrev main_v57 : Ref sig .tc := ⟨.hbm, 72, rfl⟩
abbrev main_v58 : Ref sig .tc := ⟨.hbm, 73, rfl⟩
abbrev main_cst_8 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_cst_9 : Ref sig .tc := ⟨.hbm, 79, rfl⟩
abbrev main_v63 : Ref sig .tc := ⟨.hbm, 80, rfl⟩
abbrev main_v64 : Ref sig .tc := ⟨.hbm, 81, rfl⟩
abbrev main_cst_10 : Ref sig .tc := ⟨.hbm, 82, rfl⟩
abbrev main_v65 : Ref sig .tc := ⟨.hbm, 83, rfl⟩
abbrev main_cst_11 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_cst_13 : Ref sig .tc := ⟨.hbm, 94, rfl⟩
abbrev main_v74 : Ref sig .tc := ⟨.hbm, 95, rfl⟩
abbrev main_v75 : Ref sig .tc := ⟨.hbm, 96, rfl⟩
abbrev main_cst_14 : Ref sig .tc := ⟨.hbm, 97, rfl⟩
abbrev main_v76 : Ref sig .tc := ⟨.hbm, 98, rfl⟩
abbrev main_cst_15 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_cst_17 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_18 : Ref sig .tc := ⟨.hbm, 118, rfl⟩
abbrev main_v93 : Ref sig .tc := ⟨.hbm, 119, rfl⟩
abbrev main_v94 : Ref sig .tc := ⟨.hbm, 120, rfl⟩
abbrev main_cst_19 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_cst_20 : Ref sig .tc := ⟨.hbm, 128, rfl⟩
abbrev main_v101 : Ref sig .tc := ⟨.hbm, 129, rfl⟩
abbrev main_v102 : Ref sig .tc := ⟨.hbm, 130, rfl⟩
abbrev main_cst_21 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_cst_22 : Ref sig .tc := ⟨.hbm, 139, rfl⟩
abbrev main_v110 : Ref sig .tc := ⟨.hbm, 140, rfl⟩
abbrev main_v111 : Ref sig .tc := ⟨.hbm, 141, rfl⟩
abbrev main_cst_23 : Ref sig .tc := ⟨.hbm, 142, rfl⟩
abbrev main_v112 : Ref sig .tc := ⟨.hbm, 143, rfl⟩
abbrev main_v113 : Ref sig .tc := ⟨.hbm, 144, rfl⟩
abbrev main_cst_24 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_v124 : Ref sig .tc := ⟨.hbm, 156, rfl⟩
abbrev main_v125 : Ref sig .tc := ⟨.hbm, 157, rfl⟩
abbrev main_v126 : Ref sig .tc := ⟨.hbm, 158, rfl⟩
abbrev main_cst_25 : Ref sig .tc := ⟨.hbm, 159, rfl⟩
abbrev main_v127 : Ref sig .tc := ⟨.hbm, 160, rfl⟩
abbrev main_v128 : Ref sig .tc := ⟨.hbm, 161, rfl⟩
abbrev main_cst_26 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_cst_27 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_cst_28 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_cst_29 : Ref sig .tc := ⟨.hbm, 200, rfl⟩
abbrev main_v164 : Ref sig .tc := ⟨.hbm, 201, rfl⟩
abbrev main_v165 : Ref sig .tc := ⟨.hbm, 202, rfl⟩
abbrev main_v166 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_cst_30 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_v193 : Ref sig .tc := ⟨.hbm, 231, rfl⟩
abbrev main_v194 : Ref sig .tc := ⟨.hbm, 232, rfl⟩
abbrev main_v195 : Ref sig .tc := ⟨.hbm, 233, rfl⟩
abbrev main_v196 : Ref sig .tc := ⟨.hbm, 234, rfl⟩
abbrev main_v197 : Ref sig .tc := ⟨.hbm, 235, rfl⟩
abbrev main_v198 : Ref sig .tc := ⟨.hbm, 236, rfl⟩
abbrev main_v199 : Ref sig .tc := ⟨.hbm, 237, rfl⟩
abbrev main_v200 : Ref sig .tc := ⟨.hbm, 238, rfl⟩
abbrev main_v201 : Ref sig .tc := ⟨.hbm, 239, rfl⟩

abbrev nD : Nat := 1
abbrev τ : Topo := Topo.v7x

variable {F : FTy → Type} [FloatOps F]
-- ==== FfnFwd.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S16384x2816 : Shape := ⟨2, ![16384, 2816]⟩
abbrev S512x1024 : Shape := ⟨2, ![512, 1024]⟩
abbrev S512x2816 : Shape := ⟨2, ![512, 2816]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩

abbrev nBuf : Space → Nat
  | .hbm => 12
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S1x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S16384x1024, .f32⟩
  | .hbm, ⟨10, _⟩ => ⟨S16384x2816, .bf16⟩
  | .hbm, ⟨11, _⟩ => ⟨S16384x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2816, .bf16⟩
  | .local _ .vmem, ⟨4, _⟩ => ⟨S1024x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | .local _ .vmem, ⟨11, _⟩ => ⟨S512x2816, .bf16⟩
  | .local _ .vmem, ⟨12, _⟩ => ⟨S512x2816, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S16384x1024 : Shape := ⟨2, ![16384, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x2816 : Shape := ⟨2, ![16384, 2816]⟩

abbrev nBuf : Space → Nat
  | .hbm => 58
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S16384x2816, .f32⟩
  | .hbm, ⟨38, _⟩ => ⟨S16384x2816, .f32⟩
  | .hbm, ⟨39, _⟩ => ⟨S16384x2816, .f32⟩
  | .hbm, ⟨40, _⟩ => ⟨S16384x2816, .f32⟩
  | .hbm, ⟨41, _⟩ => ⟨S_, .f32⟩
  | .hbm, ⟨42, _⟩ => ⟨S16384x2816, .f32⟩
  | .hbm, ⟨43, _⟩ => ⟨S16384x2816, .f32⟩
  | .hbm, ⟨44, _⟩ => ⟨S_, .f32⟩
  | .hbm, ⟨45, _⟩ => ⟨S16384x2816, .f32⟩
  | .hbm, ⟨46, _⟩ => ⟨S16384x2816, .f32⟩
  | .hbm, ⟨47, _⟩ => ⟨S16384x2816, .f32⟩
  | .hbm, ⟨48, _⟩ => ⟨S16384x2816, .f32⟩
  | .hbm, ⟨49, _⟩ => ⟨S16384x1024, .f32⟩
  | .hbm, ⟨50, _⟩ => ⟨S_, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x2816, .f32⟩
  | .hbm, ⟨55, _⟩ => ⟨S16384x2816, .bf16⟩
  | .hbm, ⟨56, _⟩ => ⟨S16384x2816, .f32⟩
  | .hbm, ⟨57, _⟩ => ⟨S16384x2816, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_5 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== ConvFwd.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1x1024 : Shape := ⟨2, ![1, 1024]⟩
abbrev S16384x3072 : Shape := ⟨2, ![16384, 3072]⟩
abbrev S256x1024 : Shape := ⟨2, ![256, 1024]⟩
abbrev S16x1024 : Shape := ⟨2, ![16, 1024]⟩
abbrev S256x3072 : Shape := ⟨2, ![256, 3072]⟩
abbrev S256 : Shape := ⟨1, ![256]⟩
abbrev S256x1 : Shape := ⟨2, ![256, 1]⟩
abbrev S16 : Shape := ⟨1, ![16]⟩
abbrev S16x1 : Shape := ⟨2, ![16, 1]⟩
abbrev S1024x2048 : Shape := ⟨2, ![1024, 2048]⟩
abbrev S16x2048 : Shape := ⟨2, ![16, 2048]⟩
abbrev S272x1024 : Shape := ⟨2, ![272, 1024]⟩

abbrev nBuf : Space → Nat
  | .hbm => 10
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S1x1024, .f32⟩
  | .hbm, ⟨6, _⟩ => ⟨S1024x3072, .bf16⟩
  | .hbm, ⟨7, _⟩ => ⟨S1024x1024, .bf16⟩
  | .hbm, ⟨8, _⟩ => ⟨S16384x1024, .f32⟩
  | .hbm, ⟨9, _⟩ => ⟨S16384x3072, .bf16⟩
  | .local _ .vmem, ⟨0, _⟩ => ⟨S256x1024, .f32⟩
  | .local _ .vmem, ⟨1, _⟩ => ⟨S256x1024, .f32⟩
  | .local _ .vmem, ⟨2, _⟩ => ⟨S16x1024, .f32⟩
  | .local _ .vmem, ⟨3, _⟩ => ⟨S16x1024, .f32⟩
  | .local _ .vmem, ⟨4, _⟩ => ⟨S1x1024, .f32⟩
  | .local _ .vmem, ⟨5, _⟩ => ⟨S1024x3072, .bf16⟩
  | .local _ .vmem, ⟨6, _⟩ => ⟨S3x1024, .f32⟩
  | .local _ .vmem, ⟨7, _⟩ => ⟨S1024x1024, .bf16⟩
  | .local _ .vmem, ⟨8, _⟩ => ⟨S256x1024, .f32⟩
  | .local _ .vmem, ⟨9, _⟩ => ⟨S256x1024, .f32⟩
  | .local _ .vmem, ⟨10, _⟩ => ⟨S256x3072, .bf16⟩
  | .local _ .vmem, ⟨11, _⟩ => ⟨S256x3072, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.muli arg0 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x3072 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ConvFwdRefIdeal.lean ====
abbrev S16384x1024 : Shape := ⟨2, ![16384, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x3072 : Shape := ⟨2, ![16384, 3072]⟩
abbrev S2x1024 : Shape := ⟨2, ![2, 1024]⟩
abbrev S16386x1024 : Shape := ⟨2, ![16386, 1024]⟩

abbrev nBuf : Space → Nat
  | .hbm => 70
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S3x1024, .f32⟩
  | .hbm, ⟨4, _⟩ => ⟨S1024x1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x3072, .f32⟩
  | .hbm, ⟨22, _⟩ => ⟨S16384x1024, .f32⟩
  | .hbm, ⟨23, _⟩ => ⟨S16384x1024, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S2x1024, .f32⟩
  | .hbm, ⟨28, _⟩ => ⟨S16386x1024, .f32⟩
  | .hbm, ⟨29, _⟩ => ⟨S1x1024, .f32⟩
  | .hbm, ⟨30, _⟩ => ⟨S1024, .f32⟩
  | .hbm, ⟨31, _⟩ => ⟨S16384x1024, .f32⟩
  | .hbm, ⟨32, _⟩ => ⟨S1x1024, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S1x1024, .f32⟩
  | .hbm, ⟨43, _⟩ => ⟨S1024, .f32⟩
  | .hbm, ⟨44, _⟩ => ⟨S16384x1024, .f32⟩
  | .hbm, ⟨45, _⟩ => ⟨S1x1024, .f32⟩
  | .hbm, ⟨46, _⟩ => ⟨S16384x1024, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x1024, .f32⟩
  | .hbm, ⟨53, _⟩ => ⟨S_, .f32⟩
  | .hbm, ⟨54, _⟩ => ⟨S16384, .f32⟩
  | .hbm, ⟨55, _⟩ => ⟨S16384x1, .f32⟩
  | .hbm, ⟨56, _⟩ => ⟨S_, .f32⟩
  | .hbm, ⟨57, _⟩ => ⟨S16384x1, .f32⟩
  | .hbm, ⟨58, _⟩ => ⟨S16384x1, .f32⟩
  | .hbm, ⟨59, _⟩ => ⟨S_, .f32⟩
  | .hbm, ⟨60, _⟩ => ⟨S16384x1, .f32⟩
  | .hbm, ⟨61, _⟩ => ⟨S16384x1, .f32⟩
  | .hbm, ⟨62, _⟩ => ⟨S16384x1, .f32⟩
  | .hbm, ⟨63, _⟩ => ⟨S16384x1024, .f32⟩
  | .hbm, ⟨64, _⟩ => ⟨S16384x1024, .f32⟩
  | .hbm, ⟨65, _⟩ => ⟨S1x1024, .f32⟩
  | .hbm, ⟨66, _⟩ => ⟨S16384x1024, .f32⟩
  | .hbm, ⟨67, _⟩ => ⟨S16384x1024, .f32⟩
  | .hbm, ⟨68, _⟩ => ⟨S16384x3072, .f32⟩
  | .hbm, ⟨69, _⟩ => ⟨S16384x3072, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_cst_3 : Ref sig .tc := ⟨.hbm, 53, rfl⟩
abbrev main_v44 : Ref sig .tc := ⟨.hbm, 54, rfl⟩
abbrev main_v45 : Ref sig .tc := ⟨.hbm, 55, rfl⟩
abbrev main_cst_4 : Ref sig .tc := ⟨.hbm, 56, rfl⟩
abbrev main_v46 : Ref sig .tc := ⟨.hbm, 57, rfl⟩
abbrev main_v47 : Ref sig .tc := ⟨.hbm, 58, rfl⟩
abbrev main_cst_5 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Proof.Consts.lean ====
/- The binary words the programs' literals are, as the rationals they denote. -/
module

public import Idealize.ShloMosaic.Lib.Pointwise
public import Idealize.ShloMosaic.Lib.IdealHost

@[expose] public section

noncomputable section

open Idealize.ShloMosaic

namespace Cert.Words

/-- The word of `2⁻¹⁰`. -/
theorem inv1024 : Ideal.ofBits .f32 0x3A800000#32 = ((1 / 1024 : ℝ) : EReal) := by
  simp [Ideal.ofBits, Ideal.ieee, -EReal.coe_mul]; norm_num

/-- The word of `1024`. -/
theorem n1024 : Ideal.ofBits .f32 0x44800000#32 = ((1024 : ℝ) : EReal) := by
  simp [Ideal.ofBits, Ideal.ieee, -EReal.coe_mul]; norm_num

/-- The word of `1/2`. -/
theorem half : Ideal.ofBits .f32 0x3F000000#32 = ((1 / 2 : ℝ) : EReal) := by
  simp [Ideal.ofBits, Ideal.ieee, -EReal.coe_mul]; norm_num

/-- The word of `2`. -/
theorem two : Ideal.ofBits .f32 0x40000000#32 = ((2 : ℝ) : EReal) := by
  simp [Ideal.ofBits, Ideal.ieee, -EReal.coe_mul]; norm_num

/-- The word of `1`. -/
theorem one : Ideal.ofBits .f32 0x3F800000#32 = 1 := by
  have : Ideal.ofBits .f32 0x3F800000#32 = ((1 : ℝ) : EReal) := by
    simp [Ideal.ofBits, Ideal.ieee, -EReal.coe_mul]; norm_num
  rw [this, EReal.coe_one]

/-- The word of `-∞`. -/
theorem neg_inf : Ideal.ofBits .f32 0xFF800000#32 = ⊥ := by
  simp [Ideal.ofBits, Ideal.ieee]

end Cert.Words

end
-- ==== Proof.LossKernel.lean ====
/- What the loss head computes, read off its run: the sum over rows of the mean squared differences, gathered
   block by block, and the gradient's block at every grid point. -/
module

public import proofs.«01_k».proof.Proof.Consts
public import proofs.«01_k».proof.Proof.Gen.LossIdeal.Frame

@[expose] public section

set_option maxRecDepth 16384

noncomputable section

namespace Cert.LossIdeal.Value

open Cert.LossIdeal Cert.LossIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- The offsets of a load or store of a whole block. -/
theorem origin : (![0, 0] : Fin 2 → Nat) = fun _ => 0 := funext fun a => by fin_cases a <;> rfl

/-! ## What each case stores -/

theorem sum_first (c : Dev nD) (i : grid0.Coords) (a1 a2 : Memref sig .tc .vmem S512x1024 .f32) (h1 : a1.IsWhole) (h2 : a2.IsWhole)
    (a3 : Memref sig .tc .vmem S8x128 .f32) (h3 : a3.IsWhole) (a4 : Memref sig .tc .vmem S512x1024 .f32) (h4 : a4.IsWhole)
    (hc0 : cond0_0 i) (hc1 : ¬cond0_1 i) (x0 x1 : Vec Ideal S512x1024 .f32) :
    out0_A_2 c i a1 h1 a2 h2 a3 h3 a4 h4 hc0 hc1 x0 x1 = k0_pay3 x0 x1 := by
  unfold out0_A_2
  rw [View.read_writes_eq_canon _ _ _ (cover0_A_2 c i a1 h1 a2 h2 a3 h3 a4 h4 hc0 hc1 x0 x1)]
  unfold kernelRun0_A
  dsimp only
  rw [View.canon_unit_zero origin]
  simp only [View.readAt_eq_ld, h1.read_unread, h2.read_unread, View.ld_unit_zero (S := S512x1024) origin]

theorem grad_first (c : Dev nD) (i : grid0.Coords) (a1 a2 : Memref sig .tc .vmem S512x1024 .f32) (h1 : a1.IsWhole) (h2 : a2.IsWhole)
    (a3 : Memref sig .tc .vmem S8x128 .f32) (h3 : a3.IsWhole) (a4 : Memref sig .tc .vmem S512x1024 .f32) (h4 : a4.IsWhole)
    (hc0 : cond0_0 i) (hc1 : ¬cond0_1 i) (x0 x1 : Vec Ideal S512x1024 .f32) :
    out0_A_3 c i a1 h1 a2 h2 a3 h3 a4 h4 hc0 hc1 x0 x1 = k0_pay2 x0 x1 := by
  unfold out0_A_3
  rw [View.read_writes_eq_canon _ _ _ (cover0_A_3 c i a1 h1 a2 h2 a3 h3 a4 h4 hc0 hc1 x0 x1)]
  unfold kernelRun0_A
  dsimp only
  rw [View.canon_unit_zero origin]
  simp only [View.readAt_eq_ld, h1.read_unread, h2.read_unread, View.ld_unit_zero (S := S512x1024) origin]

theorem sum_later (c : Dev nD) (i : grid0.Coords) (a1 a2 : Memref sig .tc .vmem S512x1024 .f32) (h1 : a1.IsWhole) (h2 : a2.IsWhole)
    (a3 : Memref sig .tc .vmem S8x128 .f32) (h3 : a3.IsWhole) (a4 : Memref sig .tc .vmem S512x1024 .f32) (h4 : a4.IsWhole)
    (hc0 : ¬cond0_0 i) (hc1 : cond0_1 i) (x0 x1 : Vec Ideal S512x1024 .f32) (acc : Vec Ideal S8x128 .f32) :
    out0_B_2 c i a1 h1 a2 h2 a3 h3 a4 h4 hc0 hc1 x0 x1 acc = k0_pay4 x0 x1 acc := by
  unfold out0_B_2
  rw [View.read_writes_eq_canon _ _ _ (cover0_B_2 c i a1 h1 a2 h2 a3 h3 a4 h4 hc0 hc1 x0 x1 acc)]
  unfold kernelRun0_B
  dsimp only
  rw [View.canon_unit_zero origin]
  simp only [View.readAt_eq_ld, h1.read_unread, h2.read_unread, h3.read_unread, View.ld_unit_zero (S := S512x1024) origin,
    View.ld_unit_zero (S := S8x128) origin]

theorem grad_later (c : Dev nD) (i : grid0.Coords) (a1 a2 : Memref sig .tc .vmem S512x1024 .f32) (h1 : a1.IsWhole) (h2 : a2.IsWhole)
    (a3 : Memref sig .tc .vmem S8x128 .f32) (h3 : a3.IsWhole) (a4 : Memref sig .tc .vmem S512x1024 .f32) (h4 : a4.IsWhole)
    (hc0 : ¬cond0_0 i) (hc1 : cond0_1 i) (x0 x1 : Vec Ideal S512x1024 .f32) (acc : Vec Ideal S8x128 .f32) :
    out0_B_3 c i a1 h1 a2 h2 a3 h3 a4 h4 hc0 hc1 x0 x1 acc = k0_pay2 x0 x1 := by
  unfold out0_B_3
  rw [View.read_writes_eq_canon _ _ _ (cover0_B_3 c i a1 h1 a2 h2 a3 h3 a4 h4 hc0 hc1 x0 x1 acc)]
  unfold kernelRun0_B
  dsimp only
  rw [View.canon_unit_zero origin]
  simp only [View.readAt_eq_ld, h1.read_unread, h2.read_unread, View.ld_unit_zero (S := S512x1024) origin]

/-! ## Point by point -/

/-- The block of the gradient the body leaves at every point. -/
theorem grad_at (c : Dev nD) (t : Fin cfg0.N) :
    (outsAt0 m c t.val t.isLt).2 = k0_pay2 (iblk m c 0 t) (iblk m c 1 t) := by
  have hN : t.val < 32 := lt_of_lt_of_eq t.isLt (show cfg0.N = 32 from N_0)
  by_cases h : t.val % 32 = 0
  · rw [outsAt0_A m c t h (by omega)]; dsimp only; exact grad_first ..
  · rw [outsAt0_B m c t h (by omega)]; dsimp only; exact grad_later ..

/-- The arguments. -/
abbrev yArr (c : Dev nD) : S16384x1024.Idx → EReal := m ((c : Thread nD τ).loc main_arg0)
abbrev tArr (c : Dev nD) : S16384x1024.Idx → EReal := m ((c : Thread nD τ).loc main_arg1)

/-- A row's mean squared difference. -/
def rowLoss (y t : S16384x1024.Idx → EReal) (r : Fin 16384) : EReal :=
  (∑ k : Fin 1024, (y (ix2 r k) - t (ix2 r k)) * (y (ix2 r k) - t (ix2 r k))) * ((1 / 1024 : ℝ) : EReal)

/-- Row `p` of block `n`, as a row of the array. -/
abbrev rowOf (n : Fin 32) (p : Fin 512) : Fin 16384 := ⟨512 * n.val + p.val, by have := n.isLt; have := p.isLt; omega⟩

theorem index_0 (t : Fin cfg0.N) : win0_0.index t 0 = t.val ∧ win0_0.index t 1 = 0 := by
  revert t; decide +kernel
theorem index_1 (t : Fin cfg0.N) : win0_1.index t 0 = t.val ∧ win0_1.index t 1 = 0 := by
  revert t; decide +kernel
theorem index_3 (t : Fin cfg0.N) : win0_3.index t 0 = t.val ∧ win0_3.index t 1 = 0 := by
  revert t; decide +kernel

theorem y_block (c : Dev nD) (t : Fin cfg0.N) (p : Fin 512) (l : Fin 1024) :
    (iblk m c 0 t : S512x1024.Idx → EReal) (ix2 p l) = yArr m c (ix2 (rowOf ⟨t.val, lt_of_lt_of_eq t.isLt N_0⟩ p) l) := by
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * p.val = 512 * t.val + p.val; rw [(index_0 t).1]; omega
  | ⟨1, _⟩ => show win0_0.index t 1 * 1024 + 1 * l.val = l.val; rw [(index_0 t).2]; omega

theorem t_block (c : Dev nD) (t : Fin cfg0.N) (p : Fin 512) (l : Fin 1024) :
    (iblk m c 1 t : S512x1024.Idx → EReal) (ix2 p l) = tArr m c (ix2 (rowOf ⟨t.val, lt_of_lt_of_eq t.isLt N_0⟩ p) l) := by
  unfold iblk
  rw [View.read_apply]
  show V m c main_arg1 _ = m (c.tc.loc main_arg1) _
  rw [V_main_arg1]
  congr 1
  funext a
  apply Fin.ext
  match a with
  | ⟨0, _⟩ => show win0_1.index t 0 * 512 + 1 * p.val = 512 * t.val + p.val; rw [(index_1 t).1]; omega
  | ⟨1, _⟩ => show win0_1.index t 1 * 1024 + 1 * l.val = l.val; rw [(index_1 t).2]; omega

/-- The block's share of the loss, at every element of the accumulator. -/
theorem blockLoss_apply (c : Dev nD) (t : Fin cfg0.N) (j : S8x128.Idx) :
    k0_pay3 (F := Ideal) (iblk m c 0 t) (iblk m c 1 t) j
      = ∑ p : Fin 512, rowLoss (yArr m c) (tArr m c) (rowOf ⟨t.val, lt_of_lt_of_eq t.isLt N_0⟩ p) := by
  pointwise [k0_pay3, k0_pay1]
  simp only [rowLoss, y_block, t_block, Words.inv1024]

theorem sum_zero (c : Dev nD) (h : 0 < cfg0.N) :
    (outsAt0 m c 0 h).1 = k0_pay3 (iblk m c 0 ⟨0, h⟩) (iblk m c 1 ⟨0, h⟩) := by
  rw [show outsAt0 m c 0 h = _ from outsAt0_A m c ⟨0, h⟩ rfl (by simp)]
  dsimp only
  exact sum_first ..

theorem sum_succ (c : Dev nD) (n : ℕ) (h : n + 1 < cfg0.N) :
    (outsAt0 m c (n + 1) h).1
      = k0_pay4 (iblk m c 0 ⟨n + 1, h⟩) (iblk m c 1 ⟨n + 1, h⟩) (outsAt0 m c n (Nat.lt_of_succ_lt h)).1 := by
  have hN : n + 1 < 32 := lt_of_lt_of_eq h N_0
  rw [show outsAt0 m c (n + 1) h = _ from
    outsAt0_B m c ⟨n + 1, h⟩ (by dsimp only; omega) (Nat.succ_le_succ (Nat.zero_le n))]
  dsimp only
  exact sum_later ..

/-- The accumulator after a point: the losses of the blocks so far. -/
theorem sum_at (c : Dev nD) : ∀ (n : ℕ) (h : n < cfg0.N) (j : S8x128.Idx), (outsAt0 m c n h).1 j
    = ∑ s : Fin (n + 1), ∑ p : Fin 512, rowLoss (yArr m c) (tArr m c)
        (rowOf ⟨s.val, by have := s.isLt; have : n < 32 := lt_of_lt_of_eq h N_0; omega⟩ p)
  | 0, h, j => by
    rw [sum_zero, blockLoss_apply, Fin.sum_univ_one]; rfl
  | n + 1, h, j => by
    rw [sum_succ, Fin.sum_univ_castSucc]
    have e := sum_at c n (Nat.lt_of_succ_lt h) j
    unfold k0_pay4
    rw [shapeCast_self, addf_apply, Ideal.addf_def, e, blockLoss_apply]
    rfl

/-! ## The arrays after the run -/

/-- The gradient array. -/
def gradArr (c : Dev nD) : S16384x1024.Idx → EReal := fun i => (yArr m c i - tArr m c i) * ((1 / 1024 : ℝ) : EReal)

theorem grad_flushed (c : Dev nD) (t : Fin cfg0.N) :
    (dats m 0 c).flushed 3 t = ((cfg0.win 3).blk t).view.read (Elt Ideal) (gradArr m c) := by
  show (cfg0.win 3).cut (grid0.coords t) ((dats m 0 c).after 3 t) = _
  rw [after0_3, grad_at]
  funext j
  show k0_pay2 (F := Ideal) (iblk m c 0 t) (iblk m c 1 t) j = _
  obtain ⟨p, l, rfl⟩ : ∃ (p : Fin 512) (l : Fin 1024), j = ix2 p l := ⟨j 0, j 1, by funext a; fin_cases a <;> rfl⟩
  rw [View.read_apply]
  pointwise [k0_pay2, k0_pay1]
  rw [y_block, t_block, Words.inv1024]
  have e : ((cfg0.win 3).blk t).view.emb (ix2 p l) = (ix2 (rowOf ⟨t.val, lt_of_lt_of_eq t.isLt N_0⟩ p) l : S16384x1024.Idx) := by
    funext a
    apply Fin.ext
    match a with
    | ⟨0, _⟩ => show win0_3.index t 0 * 512 + 1 * p.val = 512 * t.val + p.val; rw [(index_3 t).1]; omega
    | ⟨1, _⟩ => show win0_3.index t 1 * 1024 + 1 * l.val = l.val; rw [(index_3 t).2]; omega
  exact (congrArg (gradArr m c) e).symm

/-- The grid point whose block holds an element. -/
abbrev blockOf (i : S16384x1024.Idx) : Fin cfg0.N :=
  ⟨(i 0).val / 512, by have h : (i 0).val < 16384 := (i 0).isLt; rw [show cfg0.N = 32 from N_0]; omega⟩

theorem grad_final (c : Dev nD) : (dats m 0 c).arrAt 3 cfg0.N = gradArr m c :=
  (dats m 0 c).arrAt_eq_of_cover 3 (gradArr m c) (fun t _ => grad_flushed m c t) fun (i : S16384x1024.Idx) =>
    ⟨blockOf i, flush0_3 _, by
      show i ∈ ((View.whole main_v0_1).slice (win0_3.rect (blockOf i))).set
      rw [View.set_slice_whole, Rect.mem_set_unit]
      intro a
      have h0 : (i 0 : Nat) < 16384 := (i 0).isLt
      have h1 : (i 1 : Nat) < 1024 := (i 1).isLt
      match a with
      | ⟨0, _⟩ => show win0_3.index _ 0 * 512 ≤ (i 0 : Nat) ∧ (i 0 : Nat) < win0_3.index _ 0 * 512 + 512
                  rw [(index_3 _).1]; dsimp only [blockOf]; omega
      | ⟨1, _⟩ => show win0_3.index _ 1 * 1024 ≤ (i 1 : Nat) ∧ (i 1 : Nat) < win0_3.index _ 1 * 1024 + 1024
                  rw [(index_3 _).2]; omega⟩

/-- The accumulator's array. -/
def sumArr (c : Dev nD) : S8x128.Idx → EReal := fun _ =>
  ∑ s : Fin 32, ∑ p : Fin 512, rowLoss (yArr m c) (tArr m c) (rowOf s p)

/-- The last point of the grid. -/
abbrev last : Fin cfg0.N := ⟨31, by rw [show cfg0.N = 32 from N_0]; decide⟩

theorem index_2 (t : Fin cfg0.N) (a : Fin 2) : win0_2.index t a = 0 := by
  revert t a; decide +kernel

theorem sum_final (c : Dev nD) : (dats m 0 c).arrAt 2 cfg0.N = sumArr m c :=
  (dats m 0 c).arrAt_eq_of_cover 2 (sumArr m c) (fun t hf => by
    have hN : t.val < 32 := lt_of_lt_of_eq t.isLt N_0
    obtain rfl : t = last := Fin.ext (by have := (flush0_2 t).mp hf; dsimp only; omega)
    show (cfg0.win 2).cut (grid0.coords last) ((dats m 0 c).after 2 last) = _
    rw [after0_2]
    funext j
    rw [View.read_apply]
    exact sum_at m c 31 _ j) fun (i : S8x128.Idx) =>
    ⟨last, (flush0_2 _).mpr rfl, by
      show i ∈ ((View.whole main_v0_0).slice (win0_2.rect last)).set
      rw [View.set_slice_whole, Rect.mem_set_unit]
      intro a
      have h0 : (i 0 : Nat) < 8 := (i 0).isLt
      have h1 : (i 1 : Nat) < 128 := (i 1).isLt
      match a with
      | ⟨0, _⟩ => show win0_2.index _ 0 * 8 ≤ (i 0 : Nat) ∧ (i 0 : Nat) < win0_2.index _ 0 * 8 + 8
                  rw [index_2]; omega
      | ⟨1, _⟩ => show win0_2.index _ 1 * 128 ≤ (i 1 : Nat) ∧ (i 1 : Nat) < win0_2.index _ 1 * 128 + 128
                  rw [index_2]; omega⟩

/-- The host's lines after the call: half of the accumulator's first element. -/
theorem loss_final (c : Dev nD) :
    Pipeline.afterTail₀ cfgs (dats m) 0 (V0 m) [hostOps1] c main_v3
      = (mulf (F := Ideal) (constant S_ .f32 0x3F000000#32) (shapeCast S_ (extractStridedSlice S1x1 ![0, 0] (sumArr m c) slices_S8x128_S1x1_0_0) shapeCasts_S1x1_S_) : Vec Ideal S_ .f32) := by
  have e := (Pipeline.withArrays_arr spec0 launch0.win.arr_inj c (V0 m c) (fun w => (dats m 0 c).arrAt w cfg0.N) 2).trans (sum_final m c)
  unfold Pipeline.afterTail₀
  simp only [List.flatten_cons, List.flatten_nil, List.append_nil]
  after_results
  rw [show Pipeline.withArrays (cfgs 0).spec c (V0 m c) (fun w => (dats m 0 c).arrAt w (cfgs 0).N)
    (Proc.tc.devRef main_v0_0) = sumArr m c from e]
  rfl

/-- The run, read: both results and the arguments. -/
theorem run : θ_run defs (onTc (τ := τ) (main (F := Ideal))) ⟨m, fun _ => 0, ρ⟩ fun r => ∀ c : Dev nD,
      r.2.mem ((c : Thread nD τ).loc main_v3)
        = (mulf (F := Ideal) (constant S_ .f32 0x3F000000#32) (shapeCast S_ (extractStridedSlice S1x1 ![0, 0] (sumArr m c) slices_S8x128_S1x1_0_0) shapeCasts_S1x1_S_) : Vec Ideal S_ .f32)
      ∧ r.2.mem ((c : Thread nD τ).loc main_v0_1) = gradArr m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨((h c).2 main_v3 (by decide)).trans (loss_final m c), ((h c).1 3).trans (grad_final m c),
      ((h c).1 0).trans ((dats m 0 c).arrAt_in 0 rfl _), ((h c).1 1).trans ((dats m 0 c).arrAt_in 1 rfl _)⟩)
    (run_main m ρ)

end Cert.LossIdeal.Value

end
-- ==== Proof.LossClaim.lean ====
/- The loss head against the loss and its gradient as the reference writes them. -/
module

public import proofs.«01_k».proof.Defs
public import proofs.«01_k».proof.Proof.LossKernel
public import proofs.«01_k».proof.Proof.Gen.LossRefIdeal
public import proofs.«01_k».proof.Proof.Gen.LossRefIdeal.Run

@[expose] public section

set_option maxRecDepth 16384

noncomputable section

namespace Cert.LossClaim

open Idealize.ShloMosaic Idealize.ShloMosaic.TcCoe Idealize.SL.Sem
open Cert.LossIdeal.Value (rowLoss rowOf)

/-- The loss, from the rows' losses added up block by block, is the mean-squared loss the reference adds up row by
    row. -/
theorem loss_eq (y t : FVec Ideal LossRefIdeal.S16384x1024 .f32) (j : LossRefIdeal.S_.Idx) :
    mulf (F := Ideal) (φ := .f32) (constant LossIdeal.S_ .f32 0x3F000000#32)
        (shapeCast LossIdeal.S_ (extractStridedSlice LossIdeal.S1x1 ![0, 0]
          ((fun _ => ∑ s : Fin 32, ∑ p : Fin 512, rowLoss y t (rowOf s p)) : LossIdeal.S8x128.Idx → EReal)
          LossIdeal.Facts₀.slices_S8x128_S1x1_0_0) LossIdeal.Facts₀.shapeCasts_S1x1_S_) j
      = mulf (F := Ideal) (constant LossRefIdeal.S_ .f32 0x3F000000#32)
          (Host.reduceAdd (Host.divf (Host.reduceAdd (mulf (subf y t) (subf y t)) (constant LossRefIdeal.S_ .f32 0x00000000#32)
            LossRefIdeal.Facts₀.reducesTo_S16384x1024_S16384_d1 LossRefIdeal.Facts₀.h_S_)
            (broadcastInDim LossRefIdeal.S16384 ![] LossRefIdeal.Facts₀.bcast_S_S16384 (constant LossRefIdeal.S_ .f32 0x44800000#32)))
            (constant LossRefIdeal.S_ .f32 0x00000000#32) LossRefIdeal.Facts₀.reducesTo_S16384_S_d0 LossRefIdeal.Facts₀.h_S_) j := by
  pointwise
  refine congrArg (Ideal.ofBits FTy.f32 1056964608#32 * ·) ?_
  rw [Words.n1024]
  simp only [Ideal.div_coe (show (1024 : ℝ) ≠ 0 by norm_num)]
  rw [Fin.sum_univ_tiles 32 512 rfl]
  refine Finset.sum_congr rfl fun s _ => Finset.sum_congr rfl fun p _ => ?_
  have e : rowOf s p = ⟨s.val * 512 + p.val, by omega⟩ := Fin.ext (by simp [rowOf]; omega)
  rw [e]
  rfl

theorem grad_eq (y t : FVec Ideal LossRefIdeal.S16384x1024 .f32) (j : LossRefIdeal.S16384x1024.Idx) :
    ((y j - t j) * ((1 / 1024 : ℝ) : EReal) : EReal)
      = mulf (F := Ideal) (broadcastInDim LossRefIdeal.S16384x1024 ![0] LossRefIdeal.Facts₀.bcast_S16384_S16384x1024_0
          (Host.divf (broadcastInDim LossRefIdeal.S16384 ![] LossRefIdeal.Facts₀.bcast_S_S16384
            (mulf (constant LossRefIdeal.S_ .f32 0x3F000000#32) (constant LossRefIdeal.S_ .f32 0x3F800000#32)))
            (broadcastInDim LossRefIdeal.S16384 ![] LossRefIdeal.Facts₀.bcast_S_S16384 (constant LossRefIdeal.S_ .f32 0x44800000#32))))
          (mulf (broadcastInDim LossRefIdeal.S16384x1024 ![] LossRefIdeal.Facts₀.bcast_S_S16384x1024 (constant LossRefIdeal.S_ .f32 0x40000000#32)) (subf y t)) j := by
  pointwise
  rw [Words.n1024, Words.half, Words.two, Ideal.div_coe (show (1024 : ℝ) ≠ 0 by norm_num), ← mul_assoc, mul_comm]
  congr 1
  norm_cast
  norm_num

/-- The claim of the loss pair. -/
theorem algebraic : Cert.algebraic_LossIdeal_LossRefIdeal := by
  intro m g m' g' _ hm
  refine ⟨_, _, Cert.LossIdeal.Value.run m g, (θ_run _ _ _).mono (fun r h => ?_) (Cert.LossRefIdeal.Value.run m' g')⟩
  intro c
  obtain ⟨h0, h1, h2, h3⟩ := h c
  refine ⟨h0.trans ?_, h1.trans ?_, h2, h3⟩
  · rw [(hm c).1, (hm c).2]
    exact (funext fun j => (loss_eq _ _ j).symm)
  · rw [(hm c).1, (hm c).2]
    exact (funext fun j => (grad_eq _ _ j).symm)

end Cert.LossClaim

end
-- ==== Proof.FfnRows.lean ====
/- The feed-forward block's gradient, one token's row at a time: the functions both the kernel's blocks and the
   reference's arrays are read as. -/
module

public import proofs.«01_k».proof.Proof.Consts

@[expose] public section

noncomputable section

namespace Cert.FfnRows

open Idealize.ShloMosaic

/-- The reciprocal root mean square of a row, as `x · x` summed, scaled by `1/1024` and shifted by the norm's epsilon. -/
def rinv (x : Fin 1024 → EReal) : EReal :=
  Ideal.rsqrt ((∑ k, x k * x k) * ((1 / 1024 : ℝ) : EReal) + Ideal.ofBits .f32 0x358637BD#32)

/-- The normalised row. -/
def xhat (x : Fin 1024 → EReal) (l : Fin 1024) : EReal := x l * rinv x

/-- The gate's logistic. -/
def sigm (a : EReal) : EReal := Ideal.logistic a

/-- The hidden row: the gate's `silu` times the other projection. -/
def hid (gg uu : Fin 2816 → EReal) (f : Fin 2816) : EReal := gg f * sigm (gg f) * uu f

/-- The gradient of the hidden row. -/
def dhid (dy : Fin 1024 → EReal) (wdt : Fin 1024 → Fin 2816 → EReal) (f : Fin 2816) : EReal :=
  ∑ k, ((1 / 2 : ℝ) : EReal) * dy k * wdt k f

/-- The gradient of the second projection's row. -/
def dup (dy : Fin 1024 → EReal) (gg : Fin 2816 → EReal) (wdt : Fin 1024 → Fin 2816 → EReal) (f : Fin 2816) : EReal :=
  dhid dy wdt f * (gg f * sigm (gg f))

/-- The gradient of the gate's row. -/
def dgate (dy : Fin 1024 → EReal) (gg uu : Fin 2816 → EReal) (wdt : Fin 1024 → Fin 2816 → EReal) (f : Fin 2816) : EReal :=
  dhid dy wdt f * uu f * (sigm (gg f) * (1 + gg f * (1 - sigm (gg f))))

/-- The gradient of the normalised, scaled row. -/
def dnorm (dg du : Fin 2816 → EReal) (wgt wut : Fin 2816 → Fin 1024 → EReal) (l : Fin 1024) : EReal :=
  ∑ f, dg f * wgt f l + ∑ f, du f * wut f l

/-- The gradient of the input row, the residual's cotangent included. -/
def dinput (x dy g dn : Fin 1024 → EReal) (l : Fin 1024) : EReal :=
  dy l + rinv x * (dn l * g l - xhat x l * ((∑ k, dn k * g k * xhat x k) * ((1 / 1024 : ℝ) : EReal)))

end Cert.FfnRows

end
-- ==== Proof.FfnKernel.lean ====
/- What the feed-forward block's backward call stores at a grid point, read at an index. -/
module

public import proofs.«01_k».proof.Proof.FfnRows
public import proofs.«01_k».proof.Proof.Gen.FfnIdeal.Value
public import Idealize.ShloMosaic.Lib.Pipeline.ValueKit

@[expose] public section

set_option maxRecDepth 16384

noncomputable section

namespace Cert.FfnIdeal.Value

open Cert.FfnIdeal Cert.FfnIdeal.Gen Cert.FfnRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Row `p` of a block or array. -/
abbrev row {a b : ℕ} (x : (⟨2, ![a, b]⟩ : Shape).Idx → EReal) (p : Fin a) (l : Fin b) : EReal := x (ix2 p l)

/-- Every grid point is in one of the two cases. -/
theorem point_cases (t : Fin cfg0.N) : (t.val % 64 = 0 ∧ ¬1 ≤ t.val) ∨ (¬t.val % 64 = 0 ∧ 1 ≤ t.val) := by
  have h : t.val < 64 := t.isLt
  omega

theorem h_at (c : Dev nD) (t : Fin cfg0.N) (y : S256x2816.Idx) :
    (outsAt0 m c t.val t.isLt).2.2.2.1 y = hid (row (iblk m c 3 t) (y 0)) (row (iblk m c 4 t) (y 0)) (y 1) := by
  idx_vars y
  rcases point_cases t with ⟨h, h'⟩ | ⟨h, h'⟩
  · rw [outsAt0_A m c t h h']
    frame_out
    canon_tiles x h
    all_goals (open_payloads; pointwise; obtain rfl := Fin.ext h0; obtain ⟨b, hb⟩ := y1; obtain rfl : b = _ := h1; rfl)
  · rw [outsAt0_B m c t h h']
    frame_out
    canon_tiles x h
    all_goals (open_payloads; pointwise; obtain rfl := Fin.ext h0; obtain ⟨b, hb⟩ := y1; obtain rfl : b = _ := h1; rfl)

theorem du_at (c : Dev nD) (t : Fin cfg0.N) (y : S256x2816.Idx) :
    (outsAt0 m c t.val t.isLt).2.2.2.2.2.1 y = dup (row (iblk m c 1 t) (y 0)) (row (iblk m c 3 t) (y 0)) (row (iblk m c 5 t)) (y 1) := by
  idx_vars y
  rcases point_cases t with ⟨h, h'⟩ | ⟨h, h'⟩
  · rw [outsAt0_A m c t h h']
    frame_out
    canon_tiles x h
    all_goals (open_payloads; pointwise; simp only [Words.half]; obtain rfl := Fin.ext h0; obtain ⟨b, hb⟩ := y1; obtain rfl : b = _ := h1; rfl)
  · rw [outsAt0_B m c t h h']
    frame_out
    canon_tiles x h
    all_goals (open_payloads; pointwise; simp only [Words.half]; obtain rfl := Fin.ext h0; obtain ⟨b, hb⟩ := y1; obtain rfl : b = _ := h1; rfl)

theorem dg_at (c : Dev nD) (t : Fin cfg0.N) (y : S256x2816.Idx) :
    (outsAt0 m c t.val t.isLt).2.2.2.2.1 y = dgate (row (iblk m c 1 t) (y 0)) (row (iblk m c 3 t) (y 0)) (row (iblk m c 4 t) (y 0)) (row (iblk m c 5 t)) (y 1) := by
  idx_vars y
  rcases point_cases t with ⟨h, h'⟩ | ⟨h, h'⟩
  · rw [outsAt0_A m c t h h']
    frame_out
    canon_tiles x h
    all_goals (open_payloads; pointwise; simp only [Words.half, Words.one]; obtain rfl := Fin.ext h0; obtain ⟨b, hb⟩ := y1; obtain rfl : b = _ := h1; rfl)
  · rw [outsAt0_B m c t h h']
    frame_out
    canon_tiles x h
    all_goals (open_payloads; pointwise; simp only [Words.half, Words.one]; obtain rfl := Fin.ext h0; obtain ⟨b, hb⟩ := y1; obtain rfl : b = _ := h1; rfl)

theorem n_at (c : Dev nD) (t : Fin cfg0.N) (y : S256x1024.Idx) :
    (outsAt0 m c t.val t.isLt).2.1 y = xhat (row (iblk m c 0 t) (y 0)) (y 1) * row (iblk m c 2 t) 0 (y 1) := by
  idx_vars y
  rcases point_cases t with ⟨h, h'⟩ | ⟨h, h'⟩
  · rw [outsAt0_A m c t h h']
    frame_out
    open_payloads; pointwise; simp only [Words.inv1024]; rfl
  · rw [outsAt0_B m c t h h']
    frame_out
    open_payloads; pointwise; simp only [Words.inv1024]; rfl

theorem dyh_at (c : Dev nD) (t : Fin cfg0.N) (y : S256x1024.Idx) :
    (outsAt0 m c t.val t.isLt).2.2.1 y = ((1 / 2 : ℝ) : EReal) * row (iblk m c 1 t) (y 0) (y 1) := by
  idx_vars y
  rcases point_cases t with ⟨h, h'⟩ | ⟨h, h'⟩
  · rw [outsAt0_A m c t h h']
    frame_out
    open_payloads; pointwise; simp only [Words.half]
  · rw [outsAt0_B m c t h h']
    frame_out
    open_payloads; pointwise; simp only [Words.half]

/-- The cotangent of the normalised row, of the rows a grid point holds. -/
def dnAt (c : Dev nD) (t : Fin cfg0.N) (p : Fin 256) (l : Fin 1024) : EReal :=
  dnorm (dgate (row (iblk m c 1 t) p) (row (iblk m c 3 t) p) (row (iblk m c 4 t) p) (row (iblk m c 5 t)))
    (dup (row (iblk m c 1 t) p) (row (iblk m c 3 t) p) (row (iblk m c 5 t)))
    (row (iblk m c 6 t)) (row (iblk m c 7 t)) l

/-- A load of a whole buffer after the stores of `L` reads what the stores left. -/
theorem readCov_whole {κ : Kind} {sp : Space} (v : View sig κ sp S256x2816 .bf16)
    (L : List (View.Piece (Elt Ideal) S256x2816 .bf16)) (inb) :
    v.readCov L (Rect.unit (s := S256x2816) ![0, 0] ![256, 2816] inb).toLoadRect = View.canon L := by
  rw [View.readCov_eq_canon']
  funext j
  refine congrArg _ (funext fun d => Fin.ext ?_)
  refine (Rect.idx_unit_val _ _ _ _ _).trans ?_
  fin_cases d <;> exact Nat.zero_add _

theorem dx_pay (x dy : Vec Ideal S256x1024 .f32) (dg du : Vec Ideal S256x2816 .bf16)
    (wg wu : Vec Ideal S2816x1024 .bf16) (g : Vec Ideal S1x1024 .f32) (p : Fin 256) (l : Fin 1024) :
    k0_pay99 (k0_pay2 x) (k0_pay3 x) dy (k0_pay97 dg) wg du wu g (ix2 p l)
      = dinput (row x p) (row dy p) (row g 0) (dnorm (row dg p) (row du p) (row wg) (row wu)) l := by
  open_payloads
  pointwise
  simp only [Words.inv1024]
  rfl

theorem dgn_pay (x : Vec Ideal S256x1024 .f32) (dg du : Vec Ideal S256x2816 .bf16)
    (wg wu : Vec Ideal S2816x1024 .bf16) (l : Fin 1024) :
    k0_pay100 (k0_pay3 x) (k0_pay97 dg) wg du wu (ix2 0 l)
      = ∑ p : Fin 256, dnorm (row dg p) (row du p) (row wg) (row wu) l * xhat (row x p) l := by
  open_payloads
  pointwise
  simp only [Words.inv1024]
  rfl

theorem acc_pay (a : FVec Ideal S1x1024 .f32) (b : Vec Ideal S1x1024 .f32) (l : Fin 1024) :
    k0_pay1 a b (ix2 0 l) = b (ix2 0 l) + a (ix2 0 l) := by
  open_payloads
  pointwise

set_option maxHeartbeats 2000000 in
theorem dx_at (c : Dev nD) (t : Fin cfg0.N) (y : S256x1024.Idx) :
    (outsAt0 m c t.val t.isLt).1 y = dinput (row (iblk m c 0 t) (y 0)) (row (iblk m c 1 t) (y 0)) (row (iblk m c 2 t) 0)
      (dnAt m c t (y 0)) (y 1) := by
  idx_vars y
  have eg := funext (dg_at m c t)
  have eu := funext (du_at m c t)
  rcases point_cases t with ⟨h, h'⟩ | ⟨h, h'⟩
  · rw [outsAt0_A m c t h h'] at eg eu ⊢
    frame_out at eg
    frame_out at eu
    frame_out
    rw [readCov_whole, readCov_whole]
    rw [eg, eu]
    clear eg eu
    exact dx_pay _ _ _ _ _ _ _ _ _
  · rw [outsAt0_B m c t h h'] at eg eu ⊢
    frame_out at eg
    frame_out at eu
    frame_out
    rw [readCov_whole, readCov_whole]
    rw [eg, eu]
    clear eg eu
    exact dx_pay _ _ _ _ _ _ _ _ _

/-- What a grid point adds to the scale's gradient. -/
def dgnTerm (c : Dev nD) (t : Fin cfg0.N) (l : Fin 1024) : EReal :=
  ∑ p : Fin 256, dnAt m c t p l * xhat (row (iblk m c 0 t) p) l

set_option maxHeartbeats 2000000 in
theorem dgn_first (c : Dev nD) (t : Fin cfg0.N) (h : t.val % 64 = 0) (y : S1x1024.Idx) :
    (outsAt0 m c t.val t.isLt).2.2.2.2.2.2 y = dgnTerm m c t (y 1) := by
  idx_vars y
  have eg := funext (dg_at m c t)
  have eu := funext (du_at m c t)
  have h' : ¬1 ≤ t.val := by have : t.val < 64 := t.isLt; omega
  rw [outsAt0_A m c t h h'] at eg eu ⊢
  frame_out at eg
  frame_out at eu
  frame_out
  rw [readCov_whole, readCov_whole]
  rw [eg, eu]
  obtain rfl : y0 = 0 := Subsingleton.elim _ _
  clear eg eu
  exact dgn_pay _ _ _ _ _ _

set_option maxHeartbeats 2000000 in
theorem dgn_next (c : Dev nD) (t : Fin cfg0.N) (h : ¬t.val % 64 = 0) (y : S1x1024.Idx) :
    (outsAt0 m c t.val t.isLt).2.2.2.2.2.2 y
      = (outsAt0 m c (t.val - 1) (Nat.lt_of_le_of_lt (Nat.sub_le _ _) t.isLt)).2.2.2.2.2.2 y + dgnTerm m c t (y 1) := by
  idx_vars y
  have eg := funext (dg_at m c t)
  have eu := funext (du_at m c t)
  have h' : 1 ≤ t.val := by have : t.val < 64 := t.isLt; omega
  rw [outsAt0_B m c t h h'] at eg eu ⊢
  frame_out at eg
  frame_out at eu
  frame_out
  rw [readCov_whole, readCov_whole]
  rw [eg, eu]
  obtain rfl : y0 = 0 := Subsingleton.elim _ _
  clear eg eu
  rw [acc_pay]
  exact congrArg (_ + ·) (dgn_pay _ _ _ _ _ _)

end Cert.FfnIdeal.Value

end
-- ==== Proof.FfnBlocks.lean ====
/- The blocks of the feed-forward block's backward call, read from the argument arrays. -/
module

public import proofs.«01_k».proof.Proof.FfnKernel
public import Idealize.ShloMosaic.Lib.Pipeline.ValueKit

@[expose] public section

set_option maxRecDepth 16384

noncomputable section

namespace Cert.FfnIdeal.Value

open Cert.FfnIdeal Cert.FfnIdeal.Gen Cert.FfnRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- The arguments: the activation, the scale, the three weights, the cotangent. -/
abbrev xA (c : Dev nD) : S16384x1024.Idx → EReal := m ((c : Thread nD τ).loc main_arg0)
abbrev gA (c : Dev nD) : S1024.Idx → EReal := m ((c : Thread nD τ).loc main_arg1)
abbrev wgA (c : Dev nD) : S1024x2816.Idx → EReal := m ((c : Thread nD τ).loc main_arg2)
abbrev wuA (c : Dev nD) : S1024x2816.Idx → EReal := m ((c : Thread nD τ).loc main_arg3)
abbrev wdA (c : Dev nD) : S2816x1024.Idx → EReal := m ((c : Thread nD τ).loc main_arg4)
abbrev dyA (c : Dev nD) : S16384x1024.Idx → EReal := m ((c : Thread nD τ).loc main_arg5)

/-- The token at row `p` of grid point `t`. -/
def tok (t : Fin cfg0.N) (p : Fin 256) : Fin 16384 := ⟨256 * t.val + p.val, by have : t.val < 64 := t.isLt; omega⟩

theorem idx (t : Fin cfg0.N) : win0_0.index t = ![t.val, 0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ win0_7.index t = ![0, 0] ∧ win0_8.index t = ![t.val, 0] ∧ win0_9.index t = ![t.val, 0] ∧ win0_10.index t = ![t.val, 0]
    ∧ win0_11.index t = ![t.val, 0] ∧ win0_12.index t = ![t.val, 0] ∧ win0_13.index t = ![t.val, 0] ∧ win0_14.index t = ![0, 0] := by
  revert t; decide +kernel

theorem block_x (c : Dev nD) (t : Fin cfg0.N) (p : Fin 256) (l : Fin 1024) :
    iblk m c 0 t (ix2 p l) = xA m c (ix2 (tok t p) l) := by
  blk_ext! [iblk, V, idx t, tok]

theorem block_dy (c : Dev nD) (t : Fin cfg0.N) (p : Fin 256) (l : Fin 1024) :
    iblk m c 1 t (ix2 p l) = dyA m c (ix2 (tok t p) l) := by
  blk_ext! [iblk, V, idx t, tok]

theorem block_g (c : Dev nD) (t : Fin cfg0.N) (l : Fin 1024) :
    iblk m c 2 t (ix2 0 l) = gA m c (ix1 l) := by
  blk_ext! [iblk, V, idx t, tok]

theorem block_wdT (c : Dev nD) (t : Fin cfg0.N) (k : Fin 1024) (f : Fin 2816) :
    iblk m c 5 t (ix2 k f) = wdA m c (ix2 f k) := by
  blk_ext! [iblk, V, idx t, tok]

theorem block_wgT (c : Dev nD) (t : Fin cfg0.N) (f : Fin 2816) (l : Fin 1024) :
    iblk m c 6 t (ix2 f l) = wgA m c (ix2 l f) := by
  blk_ext! [iblk, V, idx t, tok]

theorem block_wuT (c : Dev nD) (t : Fin cfg0.N) (f : Fin 2816) (l : Fin 1024) :
    iblk m c 7 t (ix2 f l) = wuA m c (ix2 l f) := by
  blk_ext! [iblk, V, idx t, tok]

theorem emb_gate (t : Fin cfg0.N) (p : Fin 256) (f : Fin 2816) :
    ((View.whole main_v14).slice (win0_3.rect t)).emb (ix2 p f) = ix2 (tok t p) f := by
  blk_ext [idx t, tok]

theorem emb_up (t : Fin cfg0.N) (p : Fin 256) (f : Fin 2816) :
    ((View.whole main_v16).slice (win0_4.rect t)).emb (ix2 p f) = ix2 (tok t p) f := by
  blk_ext [idx t, tok]

/-- The normalised and scaled row times a weight matrix. -/
def proj (x g : Fin 1024 → EReal) (w : Fin 1024 → Fin 2816 → EReal) (f : Fin 2816) : EReal :=
  ∑ k : Fin 1024, xhat x k * g k * w k f

theorem block_gate (c : Dev nD) (t : Fin cfg0.N) (p : Fin 256) (f : Fin 2816) :
    iblk m c 3 t (ix2 p f) = proj (row (xA m c) (tok t p)) (fun k => gA m c (ix1 k)) (row (wgA m c)) f := by
  blk_simp [iblk, V]
  entry_read
  rw [emb_gate]
  pointwise
  simp only [Words.n1024, Ideal.div_coe (show (1024 : ℝ) ≠ 0 by norm_num)]
  rfl

theorem block_up (c : Dev nD) (t : Fin cfg0.N) (p : Fin 256) (f : Fin 2816) :
    iblk m c 4 t (ix2 p f) = proj (row (xA m c) (tok t p)) (fun k => gA m c (ix1 k)) (row (wuA m c)) f := by
  blk_simp [iblk, V]
  entry_read
  rw [emb_up]
  pointwise
  simp only [Words.n1024, Ideal.div_coe (show (1024 : ℝ) ≠ 0 by norm_num)]
  rfl

/-- Per token: the two projections and the gradients of their outputs. -/
def gateT (c : Dev nD) (r : Fin 16384) : Fin 2816 → EReal := proj (row (xA m c) r) (fun k => gA m c (ix1 k)) (row (wgA m c))
def upT (c : Dev nD) (r : Fin 16384) : Fin 2816 → EReal := proj (row (xA m c) r) (fun k => gA m c (ix1 k)) (row (wuA m c))
def dgT (c : Dev nD) (r : Fin 16384) : Fin 2816 → EReal :=
  dgate (row (dyA m c) r) (gateT m c r) (upT m c r) fun k f => wdA m c (ix2 f k)
def duT (c : Dev nD) (r : Fin 16384) : Fin 2816 → EReal :=
  dup (row (dyA m c) r) (gateT m c r) fun k f => wdA m c (ix2 f k)
def dnT (c : Dev nD) (r : Fin 16384) : Fin 1024 → EReal :=
  dnorm (dgT m c r) (duT m c r) (fun f l => wgA m c (ix2 l f)) fun f l => wuA m c (ix2 l f)

theorem dgate_block (c : Dev nD) (t : Fin cfg0.N) (p : Fin 256) :
    dgate (row (iblk m c 1 t) p) (row (iblk m c 3 t) p) (row (iblk m c 4 t) p) (row (iblk m c 5 t)) = dgT m c (tok t p) := by
  unfold dgT gateT upT row
  simp only [block_dy, block_gate, block_up, block_wdT]

theorem dup_block (c : Dev nD) (t : Fin cfg0.N) (p : Fin 256) :
    dup (row (iblk m c 1 t) p) (row (iblk m c 3 t) p) (row (iblk m c 5 t)) = duT m c (tok t p) := by
  unfold duT gateT row
  simp only [block_dy, block_gate, block_wdT]

theorem hid_block (c : Dev nD) (t : Fin cfg0.N) (p : Fin 256) :
    hid (row (iblk m c 3 t) p) (row (iblk m c 4 t) p) = hid (gateT m c (tok t p)) (upT m c (tok t p)) := by
  unfold gateT upT row
  simp only [block_gate, block_up]

theorem dn_block (c : Dev nD) (t : Fin cfg0.N) (p : Fin 256) : dnAt m c t p = dnT m c (tok t p) := by
  funext l
  unfold dnAt dnT
  rw [dgate_block, dup_block]
  unfold row
  simp only [block_wgT, block_wuT]

theorem row_x (c : Dev nD) (t : Fin cfg0.N) (p : Fin 256) : row (iblk m c 0 t) p = row (xA m c) (tok t p) :=
  funext fun l => block_x m c t p l
theorem row_dy (c : Dev nD) (t : Fin cfg0.N) (p : Fin 256) : row (iblk m c 1 t) p = row (dyA m c) (tok t p) :=
  funext fun l => block_dy m c t p l
theorem row_g (c : Dev nD) (t : Fin cfg0.N) : row (iblk m c 2 t) 0 = fun l => gA m c (ix1 l) :=
  funext fun l => block_g m c t l

end Cert.FfnIdeal.Value

end
-- ==== Proof.FfnArrays.lean ====
/- The arrays the feed-forward block's backward call leaves, as functions of its arguments. -/
module

public import proofs.«01_k».proof.Proof.FfnBlocks
public import Idealize.ShloMosaic.Lib.Pipeline.ValueKit

@[expose] public section

set_option maxRecDepth 16384

noncomputable section

namespace Cert.FfnIdeal.Value

open Cert.FfnIdeal Cert.FfnIdeal.Gen Cert.FfnRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-! ### The result arrays -/

def dxOut (c : Dev nD) (i : S16384x1024.Idx) : EReal := dinput (row (xA m c) (i 0)) (row (dyA m c) (i 0)) (fun l => gA m c (ix1 l)) (dnT m c (i 0)) (i 1)

theorem dx_tok (c : Dev nD) (t : Fin cfg0.N) (y : S256x1024.Idx) :
    (outsAt0 m c t.val t.isLt).1 y = dxOut m c (ix2 (tok t (y 0)) (y 1)) := by
  rw [dx_at m c t y, row_x m c t (y 0), row_dy m c t (y 0), row_g m c t, dn_block m c t (y 0)]
  rfl

theorem emb_8 (t : Fin cfg0.N) (y : S256x1024.Idx) : (win0_8.blk t).view.emb y = ix2 (tok t (y 0)) (y 1) := by
  blk_ext [idx t, tok]

theorem dx_final (c : Dev nD) : (dats m 0 c).arrAt 8 cfg0.N = dxOut m c := by
  refine (dats m 0 c).arrAt_eq_of_covers 8 _ (by decide +kernel) fun t hf y => ?_
  blk_simp
  exact (congrFun (after0_8 m c t) y).trans ((dx_tok m c t y).trans (congrArg (dxOut m c) (emb_8 t y).symm))

def nOut (c : Dev nD) (i : S16384x1024.Idx) : EReal := xhat (row (xA m c) (i 0)) (i 1) * gA m c (ix1 (i 1))

theorem n_tok (c : Dev nD) (t : Fin cfg0.N) (y : S256x1024.Idx) :
    (outsAt0 m c t.val t.isLt).2.1 y = nOut m c (ix2 (tok t (y 0)) (y 1)) := by
  rw [n_at m c t y, row_x m c t (y 0), row_g m c t]
  rfl

theorem emb_9 (t : Fin cfg0.N) (y : S256x1024.Idx) : (win0_9.blk t).view.emb y = ix2 (tok t (y 0)) (y 1) := by
  blk_ext [idx t, tok]

theorem n_final (c : Dev nD) : (dats m 0 c).arrAt 9 cfg0.N = nOut m c := by
  refine (dats m 0 c).arrAt_eq_of_covers 9 _ (by decide +kernel) fun t hf y => ?_
  blk_simp
  exact (congrFun (after0_9 m c t) y).trans ((n_tok m c t y).trans (congrArg (nOut m c) (emb_9 t y).symm))

def dyhOut (c : Dev nD) (i : S16384x1024.Idx) : EReal := ((1 / 2 : ℝ) : EReal) * row (dyA m c) (i 0) (i 1)

theorem dyh_tok (c : Dev nD) (t : Fin cfg0.N) (y : S256x1024.Idx) :
    (outsAt0 m c t.val t.isLt).2.2.1 y = dyhOut m c (ix2 (tok t (y 0)) (y 1)) := by
  rw [dyh_at m c t y, row_dy m c t (y 0)]
  rfl

theorem emb_10 (t : Fin cfg0.N) (y : S256x1024.Idx) : (win0_10.blk t).view.emb y = ix2 (tok t (y 0)) (y 1) := by
  blk_ext [idx t, tok]

theorem dyh_final (c : Dev nD) : (dats m 0 c).arrAt 10 cfg0.N = dyhOut m c := by
  refine (dats m 0 c).arrAt_eq_of_covers 10 _ (by decide +kernel) fun t hf y => ?_
  blk_simp
  exact (congrFun (after0_10 m c t) y).trans ((dyh_tok m c t y).trans (congrArg (dyhOut m c) (emb_10 t y).symm))

def hOut (c : Dev nD) (i : S16384x2816.Idx) : EReal := hid (gateT m c (i 0)) (upT m c (i 0)) (i 1)

theorem h_tok (c : Dev nD) (t : Fin cfg0.N) (y : S256x2816.Idx) :
    (outsAt0 m c t.val t.isLt).2.2.2.1 y = hOut m c (ix2 (tok t (y 0)) (y 1)) := by
  rw [h_at m c t y, hid_block m c t (y 0)]
  rfl

theorem emb_11 (t : Fin cfg0.N) (y : S256x2816.Idx) : (win0_11.blk t).view.emb y = ix2 (tok t (y 0)) (y 1) := by
  blk_ext [idx t, tok]

theorem h_final (c : Dev nD) : (dats m 0 c).arrAt 11 cfg0.N = hOut m c := by
  refine (dats m 0 c).arrAt_eq_of_covers 11 _ (by decide +kernel) fun t hf y => ?_
  blk_simp
  exact (congrFun (after0_11 m c t) y).trans ((h_tok m c t y).trans (congrArg (hOut m c) (emb_11 t y).symm))

def dgOut (c : Dev nD) (i : S16384x2816.Idx) : EReal := dgT m c (i 0) (i 1)

theorem dg_tok (c : Dev nD) (t : Fin cfg0.N) (y : S256x2816.Idx) :
    (outsAt0 m c t.val t.isLt).2.2.2.2.1 y = dgOut m c (ix2 (tok t (y 0)) (y 1)) := by
  rw [dg_at m c t y, dgate_block m c t (y 0)]
  rfl

theorem emb_12 (t : Fin cfg0.N) (y : S256x2816.Idx) : (win0_12.blk t).view.emb y = ix2 (tok t (y 0)) (y 1) := by
  blk_ext [idx t, tok]

theorem dg_final (c : Dev nD) : (dats m 0 c).arrAt 12 cfg0.N = dgOut m c := by
  refine (dats m 0 c).arrAt_eq_of_covers 12 _ (by decide +kernel) fun t hf y => ?_
  blk_simp
  exact (congrFun (after0_12 m c t) y).trans ((dg_tok m c t y).trans (congrArg (dgOut m c) (emb_12 t y).symm))

def duOut (c : Dev nD) (i : S16384x2816.Idx) : EReal := duT m c (i 0) (i 1)

theorem du_tok (c : Dev nD) (t : Fin cfg0.N) (y : S256x2816.Idx) :
    (outsAt0 m c t.val t.isLt).2.2.2.2.2.1 y = duOut m c (ix2 (tok t (y 0)) (y 1)) := by
  rw [du_at m c t y, dup_block m c t (y 0)]
  rfl

theorem emb_13 (t : Fin cfg0.N) (y : S256x2816.Idx) : (win0_13.blk t).view.emb y = ix2 (tok t (y 0)) (y 1) := by
  blk_ext [idx t, tok]

theorem du_final (c : Dev nD) : (dats m 0 c).arrAt 13 cfg0.N = duOut m c := by
  refine (dats m 0 c).arrAt_eq_of_covers 13 _ (by decide +kernel) fun t hf y => ?_
  blk_simp
  exact (congrFun (after0_13 m c t) y).trans ((du_tok m c t y).trans (congrArg (duOut m c) (emb_13 t y).symm))

def dgnOut (c : Dev nD) (i : S1x1024.Idx) : EReal := ∑ r : Fin 16384, dnT m c r (i 1) * xhat (row (xA m c) r) (i 1)

theorem dgnTerm_tok (c : Dev nD) (t : Fin cfg0.N) (l : Fin 1024) :
    dgnTerm m c t l = ∑ p : Fin 256, dnT m c (tok t p) l * xhat (row (xA m c) (tok t p)) l := by
  unfold dgnTerm
  simp only [dn_block, row_x]

theorem dgnTerm_sum (c : Dev nD) (l : Fin 1024) :
    ∑ t : Fin cfg0.N, dgnTerm m c t l = ∑ r : Fin 16384, dnT m c r l * xhat (row (xA m c) r) l := by
  simp only [dgnTerm_tok]
  refine Eq.trans ?_ (Fin.sum_mul_add_fin 64 256 (fun r : Fin 16384 => dnT m c r l * xhat (row (xA m c) r) l))
  refine Finset.sum_congr rfl fun t _ => Finset.sum_congr rfl fun p _ => ?_
  have e : tok t p = ⟨t.val * 256 + p.val, Fin.mul_add_lt_of_eq_mul (by rfl) t p⟩ :=
    Fin.ext (show 256 * t.val + p.val = t.val * 256 + p.val by omega)
  rw [e]

theorem dgn_tok (c : Dev nD) (t : Fin cfg0.N) (ht : t.val + 1 = cfg0.N) (y : S1x1024.Idx) :
    (outsAt0 m c t.val t.isLt).2.2.2.2.2.2 y = dgnOut m c y :=
  (Pipeline.eq_sum_fin_of_reset_step_last (fun n h => (outsAt0 m c n h).2.2.2.2.2.2 y) 64 0
    (fun t => dgnTerm m c t (y 1)) (fun t h => (dgn_first m c t h y).trans (zero_add _).symm)
    (fun t h => dgn_next m c t h y) (le_refl _) t ht).trans ((zero_add _).trans (dgnTerm_sum m c (y 1)))

/-- The last grid point. -/
def tLast : Fin cfg0.N := ⟨63, by decide⟩
theorem tLast_val : tLast.val + 1 = cfg0.N := rfl

theorem dgn_final (c : Dev nD) : (dats m 0 c).arrAt 14 cfg0.N = dgnOut m c := by
  refine (dats m 0 c).arrAt_eq_of_after_last 14 tLast (by decide +kernel) _ fun j => ?_
  blk_simp
  exact (congrFun (after0_14 m c tLast) j).trans (dgn_tok m c tLast tLast_val j)

/-- The run, read: the seven results and the arguments. -/
theorem run_read : θ_run defs (onTc (τ := τ) (main (F := Ideal))) ⟨m, fun _ => 0, ρ⟩ fun r => ∀ c : Dev nD,
      r.2.mem ((c : Thread nD τ).loc main_v24_0) = dxOut m c
      ∧ r.2.mem ((c : Thread nD τ).loc main_v24_1) = nOut m c
      ∧ r.2.mem ((c : Thread nD τ).loc main_v24_2) = dyhOut m c
      ∧ r.2.mem ((c : Thread nD τ).loc main_v24_3) = hOut m c
      ∧ r.2.mem ((c : Thread nD τ).loc main_v24_4) = dgOut m c
      ∧ r.2.mem ((c : Thread nD τ).loc main_v24_5) = duOut m c
      ∧ r.2.mem ((c : Thread nD τ).loc main_v24_6) = dgnOut m c
      ∧ r.2.mem ((c : Thread nD τ).loc main_arg0) = xA m c
      ∧ r.2.mem ((c : Thread nD τ).loc main_arg1) = gA m c
      ∧ r.2.mem ((c : Thread nD τ).loc main_arg2) = wgA m c
      ∧ r.2.mem ((c : Thread nD τ).loc main_arg3) = wuA m c
      ∧ r.2.mem ((c : Thread nD τ).loc main_arg4) = wdA m c
      ∧ r.2.mem ((c : Thread nD τ).loc main_arg5) = dyA m c :=
  (θ_run defs _ _).mono (fun r h c => by
    obtain ⟨h0, h1, h2, h3, h4, h5, h6, hk⟩ := h c
    exact ⟨h0.trans (dx_final m c), h1.trans (n_final m c), h2.trans (dyh_final m c), h3.trans (h_final m c),
      h4.trans (dg_final m c), h5.trans (du_final m c), h6.trans (dgn_final m c), hk⟩)
    (run_blocks m ρ)

end Cert.FfnIdeal.Value

end
-- ==== Proof.FfnRefRead.lean ====
/- The reference derivative of the feed-forward block, read at an index. -/
module

public import proofs.«01_k».proof.Proof.FfnRows
public import proofs.«01_k».proof.Proof.Consts
public import proofs.«01_k».proof.Proof.Gen.FfnRefIdeal.Read
public import Idealize.ShloMosaic.Lib.Pipeline.ValueKit

@[expose] public section

set_option maxRecDepth 16384

noncomputable section

namespace Cert.FfnRefIdeal.Read

open Cert.FfnRefIdeal Cert.FfnRefIdeal.Gen Cert.FfnRows
open Idealize.ShloMosaic Idealize.ShloMosaic.TcCoe Idealize.ShloMosaic.Tactic Idealize.SL.Sem

variable (x0 : S16384x1024.Idx → EReal) (x1 : S1024.Idx → EReal) (x2 x3 : S1024x2816.Idx → EReal)
  (x4 : S2816x1024.Idx → EReal) (x5 : S16384x1024.Idx → EReal)

/-- Row `p` of an array. -/
abbrev row {a b : ℕ} (x : (⟨2, ![a, b]⟩ : Shape).Idx → EReal) (p : Fin a) (l : Fin b) : EReal := x (ix2 p l)

/-- The normalised and scaled row times a weight matrix. -/
def proj (x g : Fin 1024 → EReal) (w : Fin 1024 → Fin 2816 → EReal) (f : Fin 2816) : EReal :=
  ∑ k : Fin 1024, xhat x k * g k * w k f

theorem n1024_div (a : EReal) : Ideal.div a (Ideal.ofBits .f32 0x44800000#32) = a * ((1 / 1024 : ℝ) : EReal) := by
  rw [Words.n1024, Ideal.div_coe (by norm_num)]

theorem rinv_at (r : Fin 16384) : val_main_v7 (F := Ideal) x0 (ix2 r 0) = rinv (row x0 r) := by
  unfold val_main_v7 val_main_v6 val_main_v5 val_main_v4 val_main_v3 val_main_v2 val_main_v1 val_main_v0 val_main_cst val_main_cst_0 val_main_cst_1
  pointwise
  simp only [n1024_div]
  rfl

theorem rinv_at' (r : Fin 16384) : val_main_v62 (F := Ideal) x0 (ix2 r 0) = rinv (row x0 r) := by
  unfold val_main_v62 val_main_v61 val_main_v60 val_main_v59 val_main_v58 val_main_v57 val_main_v56 val_main_v55 val_main_cst_10 val_main_cst_11 val_main_cst_12
  pointwise
  simp only [n1024_div]
  rfl

theorem xhat_at (r : Fin 16384) (l : Fin 1024) : val_main_v12 (F := Ideal) x0 (ix2 r l) = xhat (row x0 r) l := by
  unfold val_main_v12 val_main_v11
  pointwise
  rw [rinv_at]
  rfl

theorem n_at (r : Fin 16384) (l : Fin 1024) : val_main_v15 (F := Ideal) x0 x1 (ix2 r l) = xhat (row x0 r) l * x1 (ix1 l) := by
  unfold val_main_v15 val_main_v14 val_main_v13
  pointwise
  rw [xhat_at]

theorem n_at' (r : Fin 16384) (l : Fin 1024) : val_main_v67 (F := Ideal) x0 x1 (ix2 r l) = xhat (row x0 r) l * x1 (ix1 l) := by
  unfold val_main_v67 val_main_v66 val_main_v65 val_main_v64 val_main_v63
  pointwise
  rw [rinv_at']
  rfl

theorem gate_at (r : Fin 16384) (f : Fin 2816) :
    val_main_v16 (F := Ideal) x0 x1 x2 (ix2 r f) = proj (row x0 r) (fun k => x1 (ix1 k)) (row x2) f := by
  unfold val_main_v16
  pointwise
  simp only [n_at]
  rfl

theorem up_at (r : Fin 16384) (f : Fin 2816) :
    val_main_v17 (F := Ideal) x0 x1 x3 (ix2 r f) = proj (row x0 r) (fun k => x1 (ix1 k)) (row x3) f := by
  unfold val_main_v17
  pointwise
  simp only [n_at]
  rfl

theorem gate_at' (r : Fin 16384) (f : Fin 2816) :
    val_main_v68 (F := Ideal) x0 x1 x2 (ix2 r f) = proj (row x0 r) (fun k => x1 (ix1 k)) (row x2) f := by
  unfold val_main_v68
  pointwise
  simp only [n_at']
  rfl

theorem up_at' (r : Fin 16384) (f : Fin 2816) :
    val_main_v69 (F := Ideal) x0 x1 x3 (ix2 r f) = proj (row x0 r) (fun k => x1 (ix1 k)) (row x3) f := by
  unfold val_main_v69
  pointwise
  simp only [n_at']
  rfl

/-- Per token: the two projections and the cotangent of their product. -/
def gateT (r : Fin 16384) : Fin 2816 → EReal := proj (row x0 r) (fun k => x1 (ix1 k)) (row x2)
def dhT (r : Fin 16384) (f : Fin 2816) : EReal := ∑ k : Fin 1024, ((1 / 2 : ℝ) : EReal) * x5 (ix2 r k) * x4 (ix2 f k)

theorem dh_at (r : Fin 16384) (f : Fin 2816) : val_main_v27 (F := Ideal) x4 x5 (ix2 r f) = dhT x4 x5 r f := by
  unfold val_main_v27 val_main_v26 val_main_v25 val_main_v24 val_main_cst_4
  pointwise
  simp only [Words.half]
  rfl

theorem dh_at' (r : Fin 16384) (f : Fin 2816) : val_main_v77 (F := Ideal) x4 x5 (ix2 r f) = dhT x4 x5 r f := by
  unfold val_main_v77 val_main_v76 val_main_v75 val_main_cst_14
  pointwise
  simp only [Words.half]
  rfl

theorem sig_at (r : Fin 16384) (f : Fin 2816) :
    val_main_v18_2 (F := Ideal) x0 x1 x2 (ix2 r f) = sigm (gateT x0 x1 x2 r f) := by
  unfold val_main_v18_2 val_main_call0_v4 val_main_call0_v3 val_main_call0_v2 val_main_call0_v1 val_main_call0_v0 val_main_call0_cst val_main_call0_cst_0
  pointwise
  rw [gate_at]
  rfl

theorem sig_at' (r : Fin 16384) (f : Fin 2816) :
    val_main_v70_2 (F := Ideal) x0 x1 x2 (ix2 r f) = sigm (gateT x0 x1 x2 r f) := by
  unfold val_main_v70_2 val_main_call2_v4 val_main_call2_v3 val_main_call2_v2 val_main_call2_v1 val_main_call2_v0 val_main_call2_cst val_main_call2_cst_0
  pointwise
  rw [gate_at']
  rfl

theorem sig_at'' (r : Fin 16384) (f : Fin 2816) :
    val_main_call4_v5 (F := Ideal) x0 x1 x2 (ix2 r f) = sigm (gateT x0 x1 x2 r f) := by
  unfold val_main_call4_v5 val_main_call4_v4 val_main_call4_v3 val_main_call4_v2 val_main_call4_v1 val_main_call4_v0 val_main_call4_cst val_main_call4_cst_0
  pointwise
  rw [gate_at']
  rfl

/-- The gradients as the derivative writes them. -/
def duT (r : Fin 16384) (f : Fin 2816) : EReal :=
  gateT x0 x1 x2 r f * sigm (gateT x0 x1 x2 r f) * dhT x4 x5 r f
def dgT (r : Fin 16384) (f : Fin 2816) : EReal :=
  dhT x4 x5 r f * gateT x0 x1 x3 r f * sigm (gateT x0 x1 x2 r f)
    + gateT x0 x1 x2 r f * (dhT x4 x5 r f * gateT x0 x1 x3 r f) * (sigm (gateT x0 x1 x2 r f) * (1 - sigm (gateT x0 x1 x2 r f)))

theorem du_at (r : Fin 16384) (f : Fin 2816) : val_main_v28 (F := Ideal) x0 x1 x2 x4 x5 (ix2 r f) = duT x0 x1 x2 x4 x5 r f := by
  unfold val_main_v28 val_main_v18_0
  pointwise
  rw [gate_at, sig_at, dh_at]
  rfl

theorem du_at' (r : Fin 16384) (f : Fin 2816) : val_main_v89 (F := Ideal) x0 x1 x2 x4 x5 (ix2 r f) = duT x0 x1 x2 x4 x5 r f := by
  unfold val_main_v89 val_main_v78 val_main_v70_0
  pointwise
  rw [gate_at', sig_at', dh_at']
  rfl

theorem dg_at (r : Fin 16384) (f : Fin 2816) : val_main_v30 (F := Ideal) x0 x1 x2 x3 x4 x5 (ix2 r f) = dgT x0 x1 x2 x3 x4 x5 r f := by
  unfold val_main_v30 val_main_call1_v2 val_main_call1_v1 val_main_call1_v0 val_main_v29 val_main_v18_1 val_main_call0_v7 val_main_call0_v6 val_main_call0_cst_1
  pointwise
  rw [gate_at, sig_at, dh_at, up_at]
  rfl

theorem dg_at' (r : Fin 16384) (f : Fin 2816) : val_main_v88 (F := Ideal) x0 x1 x2 x3 x4 x5 (ix2 r f) = dgT x0 x1 x2 x3 x4 x5 r f := by
  unfold val_main_v88 val_main_v80 val_main_call3_v2 val_main_call3_v1 val_main_call3_v0 val_main_v79 val_main_v70_1 val_main_call2_v7 val_main_call2_v6 val_main_call2_cst_1
  pointwise
  rw [gate_at', sig_at', dh_at', up_at']
  rfl

theorem h_at (r : Fin 16384) (f : Fin 2816) :
    val_main_v87 (F := Ideal) x0 x1 x2 x3 (ix2 r f) = hid (gateT x0 x1 x2 r) (gateT x0 x1 x3 r) f := by
  unfold val_main_v87 val_main_v86 val_main_v85
  pointwise
  rw [gate_at', sig_at'', up_at']
  rfl

theorem nb_at (r : Fin 16384) (l : Fin 1024) : val_main_v81 (F := Ideal) x0 x1 (ix2 r l) = xhat (row x0 r) l * x1 (ix1 l) := by
  unfold val_main_v81
  pointwise
  rw [n_at']

theorem dyh_at (r : Fin 16384) (l : Fin 1024) : val_main_v84 (F := Ideal) x5 (ix2 r l) = ((1 / 2 : ℝ) : EReal) * x5 (ix2 r l) := by
  unfold val_main_v84 val_main_v83 val_main_v82 val_main_cst_15
  pointwise
  rw [Words.half]

def dnT (r : Fin 16384) (l : Fin 1024) : EReal :=
  ∑ f : Fin 2816, duT x0 x1 x2 x4 x5 r f * x3 (ix2 l f) + ∑ f : Fin 2816, dgT x0 x1 x2 x3 x4 x5 r f * x2 (ix2 l f)

theorem dn_at (r : Fin 16384) (l : Fin 1024) : val_main_v33 (F := Ideal) x0 x1 x2 x3 x4 x5 (ix2 r l) = dnT x0 x1 x2 x3 x4 x5 r l := by
  unfold val_main_v33 val_main_v31 val_main_v32
  pointwise
  simp only [du_at, dg_at]
  rfl

theorem dgn_at (l : Fin 1024) : val_main_v90 (F := Ideal) x0 x1 x2 x3 x4 x5 (ix2 0 l)
    = ∑ r : Fin 16384, xhat (row x0 r) l * dnT x0 x1 x2 x3 x4 x5 r l := by
  unfold val_main_v90 val_main_v39 val_main_v36 val_main_v35 val_main_v34 val_main_cst_5 val_main_cst_6
  pointwise
  simp only [xhat_at, dn_at, Finset.univ_unique, Finset.sum_singleton]

/-- The mean square plus the offset. -/
def vplus (x : Fin 1024 → EReal) : EReal := (∑ k, x k * x k) * ((1 / 1024 : ℝ) : EReal) + Ideal.ofBits .f32 0x358637BD#32

theorem vplus_at (r : Fin 16384) : val_main_v6 (F := Ideal) x0 (ix2 r 0) = vplus (row x0 r) := by
  unfold val_main_v6 val_main_v5 val_main_v4 val_main_v3 val_main_v2 val_main_v1 val_main_v0 val_main_cst val_main_cst_0 val_main_cst_1
  pointwise
  simp only [n1024_div]
  rfl

/-- What reaches a row through its mean square, over twice the row. -/
def through (x dn g : Fin 1024 → EReal) : EReal :=
  ((∑ k, x k * (dn k * g k)) * (Ideal.ofBits .f32 0xBF000000#32 * Ideal.div (rinv x) (vplus x))) * ((1 / 1024 : ℝ) : EReal)

theorem dx_at (r : Fin 16384) (l : Fin 1024) : val_main_v54 (F := Ideal) x0 x1 x2 x3 x4 x5 (ix2 r l)
    = x5 (ix2 r l) + dnT x0 x1 x2 x3 x4 x5 r l * x1 (ix1 l) * rinv (row x0 r)
      + x0 (ix2 r l) * through (row x0 r) (dnT x0 x1 x2 x3 x4 x5 r) (fun k => x1 (ix1 k))
      + through (row x0 r) (dnT x0 x1 x2 x3 x4 x5 r) (fun k => x1 (ix1 k)) * x0 (ix2 r l) := by
  unfold val_main_v54 val_main_v53 val_main_v52 val_main_v51 val_main_v50 val_main_v49 val_main_v48 val_main_v47 val_main_v46 val_main_v45 val_main_v44 val_main_v43 val_main_v42 val_main_v41 val_main_v40 val_main_v38 val_main_v37 val_main_v13 val_main_v10 val_main_v9 val_main_v8 val_main_cst_2 val_main_cst_7 val_main_cst_8 val_main_cst_9
  pointwise
  simp only [dn_at, rinv_at, n1024_div, Finset.univ_unique, Finset.sum_singleton, Fin.default_eq_zero, vplus_at]
  rfl

end Cert.FfnRefIdeal.Read

end
-- ==== Proof.Reals.lean ====
/- Extended reals that are real numbers, and the finiteness test as a precondition prints it. -/
module

public import Idealize.ShloMosaic.Lib.StableHlo
public import Idealize.ShloMosaic.PureOps.Ideal.Laws

@[expose] public section

set_option maxRecDepth 16384

noncomputable section

namespace Cert.Reals

open Idealize.ShloMosaic

/-- A value that is a real number. -/
def IsReal (a : EReal) : Prop := ∃ r : ℝ, a = (r : EReal)

theorem IsReal.coe (r : ℝ) : IsReal (r : EReal) := ⟨r, rfl⟩
theorem IsReal.mul {a b : EReal} : IsReal a → IsReal b → IsReal (a * b) := by
  rintro ⟨r, rfl⟩ ⟨s, rfl⟩; exact ⟨r * s, by push_cast; rfl⟩
theorem IsReal.add {a b : EReal} : IsReal a → IsReal b → IsReal (a + b) := by
  rintro ⟨r, rfl⟩ ⟨s, rfl⟩; exact ⟨r + s, by push_cast; rfl⟩
theorem IsReal.sum {ι : Type} (s : Finset ι) {f : ι → EReal} (h : ∀ i, IsReal (f i)) : IsReal (∑ i ∈ s, f i) := by
  classical
  induction s using Finset.induction_on with
  | empty => exact ⟨0, by simp⟩
  | insert a s ha ih => rw [Finset.sum_insert ha]; exact (h a).add ih

/-- A positive real factor goes through a sum of extended reals. -/
theorem sum_mul_coe {ι : Type} (s : Finset ι) (f : ι → EReal) {ρ : ℝ} (h : 0 ≤ ρ) :
    (∑ i ∈ s, f i) * (ρ : EReal) = ∑ i ∈ s, f i * (ρ : EReal) := by
  classical
  induction s using Finset.induction_on with
  | empty => simp
  | insert a s ha ih =>
    rw [Finset.sum_insert ha, Finset.sum_insert ha, ← ih]
    rw [mul_comm, EReal.left_distrib_of_nonneg_of_ne_top (by exact_mod_cast h) (EReal.coe_ne_top _), mul_comm _ (f a), mul_comm _ (∑ i ∈ s, f i)]

theorem sq_nonneg' (a : EReal) : 0 ≤ a * a := by
  induction a using EReal.rec with
  | bot => exact le_top
  | top => exact le_top
  | coe a => exact_mod_cast mul_self_nonneg a

/-- The test `|x| < ∞`, passed. -/
theorem IsReal.of_test (x : EReal) (h : Ideal.cmp .olt (max x (-x)) (Ideal.ofBits .f32 0x7F800000#32) = 1#1) : IsReal x := by
  have htop : Ideal.ofBits .f32 0x7F800000#32 = ⊤ := by simp [Ideal.ofBits, Ideal.ieee]
  rw [htop] at h
  have h' : max x (-x) < ⊤ := by
    by_contra hn
    simp [Ideal.cmp, hn] at h
  induction x using EReal.rec with
  | bot => simp at h'
  | top => simp at h'
  | coe r => exact ⟨r, rfl⟩

end Cert.Reals

end
-- ==== Proof.FfnMath.lean ====
/- The hand-written gradient of the feed-forward block and the derivative, row by row, over the extended reals. -/
module

public import proofs.«01_k».proof.Proof.FfnRows
public import proofs.«01_k».proof.Proof.Consts
public import proofs.«01_k».proof.Proof.Reals

@[expose] public section

set_option maxRecDepth 16384

noncomputable section

namespace Cert.FfnMath

open Cert.FfnRows Cert.Reals Idealize.ShloMosaic

/-- The offset is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  norm_num

/-- The mean square plus the offset. -/
def vplus (x : Fin 1024 → EReal) : EReal := (∑ k, x k * x k) * ((1 / 1024 : ℝ) : EReal) + Ideal.ofBits .f32 0x358637BD#32

/-- Either the row is real, and its scale is the inverse root of a positive number; or an entry is infinite, and the scale is zero. -/
theorem rinv_cases (x : Fin 1024 → EReal) :
    (∃ (X : Fin 1024 → ℝ) (ρ : ℝ), x = (fun k => (X k : EReal)) ∧ 0 < ρ ∧ rinv x = (ρ : EReal) ∧ Ideal.div (rinv x) (vplus x) = ((ρ * (ρ * ρ) : ℝ) : EReal))
      ∨ (rinv x = 0 ∧ Ideal.div (rinv x) (vplus x) = 0) := by
  obtain ⟨e, he, hew⟩ := eps_pos
  by_cases h : ∀ k, IsReal (x k)
  · left
    choose X hX using h
    obtain rfl : x = fun k => (X k : EReal) := funext hX
    have hs : vplus (fun k => (X k : EReal)) = (((∑ k, X k * X k) * (1 / 1024) + e : ℝ) : EReal) := by
      unfold vplus
      rw [hew]
      push_cast
      rfl
    have hpos : 0 < (∑ k, X k * X k) * (1 / 1024 : ℝ) + e := by
      have : 0 ≤ ∑ k, X k * X k := Finset.sum_nonneg fun k _ => mul_self_nonneg _
      positivity
    have hr : rinv (fun k => (X k : EReal)) = (((Real.sqrt ((∑ k, X k * X k) * (1 / 1024) + e))⁻¹ : ℝ) : EReal) := by
      show Ideal.rsqrt (vplus _) = _
      rw [hs, Ideal.rsqrt_coe, if_neg (not_lt.mpr hpos.le), if_neg hpos.ne']
    refine ⟨X, _, rfl, inv_pos.mpr (Real.sqrt_pos.mpr hpos), hr, ?_⟩
    rw [hr, hs, Ideal.div_coe hpos.ne', ← EReal.coe_mul]
    congr 2
    rw [← mul_inv, Real.mul_self_sqrt hpos.le, one_div]
  · right
    have hv : vplus x = ⊤ := by
      obtain ⟨k, hk⟩ := not_forall.mp h
      have hx : x k * x k = ⊤ := by
        generalize x k = a at hk
        induction a using EReal.rec with
        | bot => rfl
        | top => rfl
        | coe a => exact absurd ⟨a, rfl⟩ hk
      have hs : (∑ k, x k * x k) = ⊤ := top_le_iff.mp (hx ▸ Finset.single_le_sum (f := fun k => x k * x k) (fun i _ => sq_nonneg' (x i)) (Finset.mem_univ k))
      unfold vplus
      rw [hs, hew, EReal.top_mul_coe_of_pos (by norm_num), EReal.top_add_coe]
    have hr : rinv x = 0 := by
      show Ideal.rsqrt (vplus x) = 0
      rw [hv]; rfl
    refine ⟨hr, ?_⟩
    rw [hr, hv]
    simp [Ideal.div]

theorem xhat_real (x : Fin 1024 → EReal) (l : Fin 1024) : IsReal (xhat x l) := by
  unfold xhat
  rcases rinv_cases x with ⟨X, ρ, rfl, hρ, hr, hd⟩ | ⟨hr, hd⟩
  · rw [hr]; exact (IsReal.coe _).mul (IsReal.coe _)
  · rw [hr, mul_zero]; exact ⟨0, rfl⟩

/-- The gate's gradient: the hand-written factor and the derivative's two terms agree, whatever the gate. -/
theorem gate_grad {a : EReal} (ha : IsReal a) (g : EReal) :
    a * (sigm g * (1 + g * (1 - sigm g))) = a * sigm g + g * a * (sigm g * (1 - sigm g)) := by
  obtain ⟨a, rfl⟩ := ha
  unfold sigm
  induction g using EReal.rec with
  | bot => simp
  | top =>
    have h : (1 : EReal) - 1 = 0 := by rw [← EReal.coe_one, ← EReal.coe_sub, sub_self, EReal.coe_zero]
    simp [h]
  | coe g =>
    rw [Ideal.logistic_coe]
    generalize (1 + Real.exp (-g))⁻¹ = s
    norm_cast
    ring

/-- What reaches a row through its mean square, over twice the row. -/
def through (x a : Fin 1024 → EReal) : EReal :=
  ((∑ k, x k * a k) * (Ideal.ofBits .f32 0xBF000000#32 * Ideal.div (rinv x) (vplus x))) * ((1 / 1024 : ℝ) : EReal)

theorem neg_half : Ideal.ofBits .f32 0xBF000000#32 = ((-(1 / 2) : ℝ) : EReal) := by
  simp [Ideal.ofBits, Ideal.ieee, -EReal.coe_mul]; norm_num

theorem two_halves (t : EReal) : ((1 / 2 : ℝ) : EReal) * t + ((1 / 2 : ℝ) : EReal) * t = t := by
  induction t using EReal.rec with
  | bot => rw [EReal.coe_mul_bot_of_pos (by norm_num)]; rfl
  | top => rw [EReal.coe_mul_top_of_pos (by norm_num)]; rfl
  | coe t => norm_cast; ring

theorem norm_grad (x dy g dn : Fin 1024 → EReal) (l : Fin 1024) :
    dinput x dy g dn l = dy l + dn l * g l * rinv x + x l * through x (fun k => dn k * g k) + through x (fun k => dn k * g k) * x l := by
  unfold dinput through xhat
  rcases rinv_cases x with ⟨X, ρ, hX, hρ, hr, hd⟩ | ⟨hr, hd⟩
  · subst hX
    rw [hd, hr, neg_half]
    generalize hA : dn l * g l = A
    have hP : (∑ k, dn k * g k * ((X k : EReal) * (ρ : EReal))) = (∑ k, (X k : EReal) * (dn k * g k)) * (ρ : EReal) := by
      rw [sum_mul_coe _ _ hρ.le]
      exact Finset.sum_congr rfl fun k _ => by rw [← mul_assoc, mul_comm (dn k * g k)]
    rw [hP]
    generalize (∑ k, (X k : EReal) * (dn k * g k)) = P
    rw [sub_eq_add_neg, EReal.left_distrib_of_nonneg_of_ne_top (by exact_mod_cast hρ.le) (EReal.coe_ne_top _)]
    have e1 : (X l : EReal) * (P * (((-(1 / 2) : ℝ) : EReal) * ((ρ * (ρ * ρ) : ℝ) : EReal)) * ((1 / 1024 : ℝ) : EReal))
        = ((1 / 2 : ℝ) : EReal) * ((ρ : EReal) * -((X l : EReal) * (ρ : EReal) * (P * (ρ : EReal) * ((1 / 1024 : ℝ) : EReal)))) := by
      push_cast
      simp only [neg_mul, mul_neg]
      congr 1
      ac_rfl
    rw [mul_comm (P * _ * _) (X l : EReal), e1, add_assoc (dy l + _), two_halves, mul_comm A, add_assoc]
  · rw [hd, hr]
    simp

end Cert.FfnMath

end
-- ==== Proof.FfnClaim.lean ====
/- The feed-forward block's gradient: the hand-written kernel against the derivative. -/
module

public import proofs.«01_k».proof.Defs
public import proofs.«01_k».proof.Proof.FfnArrays
public import proofs.«01_k».proof.Proof.FfnRefRead
public import proofs.«01_k».proof.Proof.FfnMath
public import proofs.«01_k».proof.Proof.Gen.FfnRefIdeal.Run
public import proofs.«01_k».proof.Proof.Gen.Pre_ffn_finite

@[expose] public section

set_option maxRecDepth 16384

noncomputable section

namespace Cert.FfnClaim

open Idealize.ShloMosaic Idealize.ShloMosaic.TcCoe Idealize.SL.Sem
open Cert.FfnRows Cert.Reals Cert.FfnIdeal Cert.FfnIdeal.Value

variable (m : (ℓ : Loc nD τ sig) → Buf (Elt Ideal) ℓ)

section Finite
variable (hp : Cert.Pre_FfnIdeal_ffn_finite m) (c : Dev nD)
include hp

theorem g_real (i : S1024.Idx) : IsReal (gA m c i) := .of_test _ (congrFun (hp c).1 i)
theorem wu_real (i : S1024x2816.Idx) : IsReal (wuA m c i) := .of_test _ (congrFun (hp c).2.1 i)
theorem wd_real (i : S2816x1024.Idx) : IsReal (wdA m c i) := .of_test _ (congrFun (hp c).2.2.1 i)
theorem dy_real (i : S16384x1024.Idx) : IsReal (dyA m c i) := .of_test _ (congrFun (hp c).2.2.2 i)

/-- The cotangent of the product, times the second projection, is real. -/
theorem dhup_real (r : Fin 16384) (f : Fin 2816) :
    IsReal (FfnRefIdeal.Read.dhT (wdA m c) (dyA m c) r f * FfnRefIdeal.Read.gateT (xA m c) (gA m c) (wuA m c) r f) :=
  .mul (.sum _ fun k => ((IsReal.coe _).mul (dy_real m hp c _)).mul (wd_real m hp c _))
    (by unfold FfnRefIdeal.Read.gateT FfnRefIdeal.Read.proj
        exact .sum _ fun k => ((FfnMath.xhat_real _ _).mul (g_real m hp c _)).mul (wu_real m hp c _))

theorem dg_eq (r : Fin 16384) (f : Fin 2816) :
    dgT m c r f = FfnRefIdeal.Read.dgT (xA m c) (gA m c) (wgA m c) (wuA m c) (wdA m c) (dyA m c) r f :=
  FfnMath.gate_grad (dhup_real m hp c r f) _

omit hp in
theorem du_eq (r : Fin 16384) (f : Fin 2816) :
    duT m c r f = FfnRefIdeal.Read.duT (xA m c) (gA m c) (wgA m c) (wdA m c) (dyA m c) r f := mul_comm _ _

theorem dn_eq (r : Fin 16384) (l : Fin 1024) :
    dnT m c r l = FfnRefIdeal.Read.dnT (xA m c) (gA m c) (wgA m c) (wuA m c) (wdA m c) (dyA m c) r l := by
  unfold dnT dnorm FfnRefIdeal.Read.dnT
  simp only [dg_eq m hp, du_eq]
  exact add_comm _ _

theorem dx_eq (i : S16384x1024.Idx) :
    dxOut m c i = FfnRefIdeal.Read.val_main_v54 (F := Ideal) (xA m c) (gA m c) (wgA m c) (wuA m c) (wdA m c) (dyA m c) i := by
  obtain ⟨r, l, rfl⟩ : ∃ r l, i = ix2 r l := ⟨i 0, i 1, eq_ix2 i⟩
  rw [FfnRefIdeal.Read.dx_at]
  have e : dnT m c r = FfnRefIdeal.Read.dnT (xA m c) (gA m c) (wgA m c) (wuA m c) (wdA m c) (dyA m c) r :=
    funext fun l => dn_eq m hp c r l
  refine (FfnMath.norm_grad (row (xA m c) r) (row (dyA m c) r) (fun l => gA m c (ix1 l)) (dnT m c r) l).trans ?_
  rw [e]
  rfl

theorem dgn_eq (i : S1x1024.Idx) :
    dgnOut m c i = FfnRefIdeal.Read.val_main_v90 (F := Ideal) (xA m c) (gA m c) (wgA m c) (wuA m c) (wdA m c) (dyA m c) i := by
  obtain ⟨l, rfl⟩ : ∃ l, i = ix2 0 l := ⟨i 1, (eq_ix2 i).trans (by rw [show i 0 = (0 : Fin 1) from Fin.fin_one_eq_zero _])⟩
  rw [FfnRefIdeal.Read.dgn_at]
  refine Finset.sum_congr rfl fun r _ => ?_
  exact (mul_comm _ _).trans (congrArg _ (dn_eq m hp c r l))

theorem dgate_eq (i : S16384x2816.Idx) :
    dgOut m c i = FfnRefIdeal.Read.val_main_v88 (F := Ideal) (xA m c) (gA m c) (wgA m c) (wuA m c) (wdA m c) (dyA m c) i := by
  obtain ⟨r, f, rfl⟩ : ∃ r f, i = ix2 r f := ⟨i 0, i 1, eq_ix2 i⟩
  rw [FfnRefIdeal.Read.dg_at']
  exact dg_eq m hp c r f

end Finite

variable (c : Dev nD)

theorem dup_eq (i : S16384x2816.Idx) :
    duOut m c i = FfnRefIdeal.Read.val_main_v89 (F := Ideal) (xA m c) (gA m c) (wgA m c) (wdA m c) (dyA m c) i := by
  obtain ⟨r, f, rfl⟩ : ∃ r f, i = ix2 r f := ⟨i 0, i 1, eq_ix2 i⟩
  rw [FfnRefIdeal.Read.du_at']
  exact du_eq m c r f

theorem h_eq (i : S16384x2816.Idx) :
    hOut m c i = FfnRefIdeal.Read.val_main_v87 (F := Ideal) (xA m c) (gA m c) (wgA m c) (wuA m c) i := by
  obtain ⟨r, f, rfl⟩ : ∃ r f, i = ix2 r f := ⟨i 0, i 1, eq_ix2 i⟩
  rw [FfnRefIdeal.Read.h_at]
  rfl

theorem n_eq (i : S16384x1024.Idx) :
    nOut m c i = FfnRefIdeal.Read.val_main_v81 (F := Ideal) (xA m c) (gA m c) i := by
  obtain ⟨r, l, rfl⟩ : ∃ r l, i = ix2 r l := ⟨i 0, i 1, eq_ix2 i⟩
  rw [FfnRefIdeal.Read.nb_at]
  rfl

theorem dyh_eq (i : S16384x1024.Idx) :
    dyhOut m c i = FfnRefIdeal.Read.val_main_v84 (F := Ideal) (dyA m c) i := by
  obtain ⟨r, l, rfl⟩ : ∃ r l, i = ix2 r l := ⟨i 0, i 1, eq_ix2 i⟩
  rw [FfnRefIdeal.Read.dyh_at]
  rfl

/-- The claim of the feed-forward pair. -/
theorem algebraic : Cert.algebraic_FfnIdeal_FfnRefIdeal_pre_ffn_finite := by
  intro m g m' g' hp hm
  refine ⟨_, _, _, _, _, _, _, run_read m g, (θ_run _ _ _).mono (fun r h => ?_) (Cert.FfnRefIdeal.Value.run m' g')⟩
  intro c
  obtain ⟨h0, h1, h2, h3, h4, h5, h6, hk⟩ := h c
  obtain ⟨e0, e1, e2, e3, e4, e5⟩ := hm c
  refine ⟨h0.trans ?_, h1.trans ?_, h2.trans ?_, h3.trans ?_, h4.trans ?_, h5.trans ?_, h6.trans ?_, hk⟩
  · rw [FfnRefIdeal.Read.val_main_v54_eq, e0, e1, e2, e3, e4, e5]
    exact funext fun i => (dx_eq m hp c i).symm
  · refine (FfnRefIdeal.Read.val_main_v81_eq _ _).trans ?_
    rw [e0, e1]
    exact funext fun i => (n_eq m c i).symm
  · refine (FfnRefIdeal.Read.val_main_v84_eq _).trans ?_
    rw [e5]
    exact funext fun i => (dyh_eq m c i).symm
  · refine (FfnRefIdeal.Read.val_main_v87_eq _ _ _ _).trans ?_
    rw [e0, e1, e2, e3]
    exact funext fun i => (h_eq m c i).symm
  · rw [FfnRefIdeal.Read.val_main_v88_eq, e0, e1, e2, e3, e4, e5]
    exact funext fun i => (dgate_eq m hp c i).symm
  · refine (FfnRefIdeal.Read.val_main_v89_eq _ _ _ _ _).trans ?_
    rw [e0, e1, e2, e4, e5]
    exact funext fun i => (dup_eq m c i).symm
  · rw [FfnRefIdeal.Read.val_main_v90_eq, e0, e1, e2, e3, e4, e5]
    exact funext fun i => (dgn_eq m hp c i).symm

end Cert.FfnClaim

end
-- ==== Proof.AttnOffsets.lean ====
module

public import proofs.«01_k».proof.Proof.Gen.AttnIdeal.Loops
public import Idealize.ShloMosaic.Lib.Exec
public import Idealize.ShloMosaic.Lib.LoopRemainder

/-!
Where the attention backward call reads and writes.

At grid point `(head, block)` the call handles one block of 512 keys. It takes the block of queries on the diagonal,
then, two at a time in a counted loop, the blocks of queries below it. The lemmas give the offsets of those blocks in
closed form.
-/

@[expose] public section

set_option maxRecDepth 16384

noncomputable section

namespace Cert.AttnIdeal.Gen

open Idealize.ShloMosaic Idealize.ShloMosaic.TcCoe Idealize.ShloMosaic.Tactic

theorem k0_off4_eq : ∀ (i : grid0.Coords) (k : Fin (k0_t1_loop i).trips),
    k0_off4 i k = ![512 * ((i 1).val + 1 + 2 * k.val), 0] := by decide +kernel
theorem k0_off5_eq : ∀ (i : grid0.Coords) (k : Fin (k0_t1_loop i).trips),
    k0_off5 i k = ![512 * ((i 1).val + 1 + 2 * k.val + 1), 0] := by decide +kernel
theorem k0_off6_eq : ∀ (i : grid0.Coords) (k : Fin (k0_t1_loop i).trips),
    k0_off6 i k = ![0, (i 1).val + 1 + 2 * k.val, 0] := by decide +kernel
theorem k0_off7_eq : ∀ (i : grid0.Coords) (k : Fin (k0_t1_loop i).trips),
    k0_off7 i k = ![0, (i 1).val + 1 + 2 * k.val, 0, 0] := by decide +kernel
theorem k0_off8_eq : ∀ (i : grid0.Coords) (k : Fin (k0_t1_loop i).trips),
    k0_off8 i k = ![0, (i 1).val + 1 + 2 * k.val + 1, 0] := by decide +kernel
theorem k0_off9_eq : ∀ (i : grid0.Coords) (k : Fin (k0_t1_loop i).trips),
    k0_off9 i k = ![0, (i 1).val + 1 + 2 * k.val + 1, 0, 0] := by decide +kernel

instance (i : grid0.Coords) (k : Fin (k0_t1_loop i).trips) : ClosedOff (k0_off7 i k) := ⟨_, k0_off7_eq i k⟩
instance (i : grid0.Coords) (k : Fin (k0_t1_loop i).trips) : ClosedOff (k0_off9 i k) := ⟨_, k0_off9_eq i k⟩

/-- The counted loop takes the blocks below the diagonal in pairs; -/
theorem k0_trips_eq : ∀ i : grid0.Coords, (k0_t1_loop i).trips = (31 - (i 1).val) / 2 := by decide +kernel
/-- a last odd block is left where their number is odd; -/
theorem k0_cond2_iff : ∀ i : grid0.Coords, k0_cond2 i = 1#1 ↔ (31 - (i 1).val) % 2 = 1 := by decide +kernel

end Cert.AttnIdeal.Gen

end
-- ==== Proof.AttnStep.lean ====
module

public import proofs.«01_k».proof.Proof.AttnOffsets
public import proofs.«01_k».proof.Proof.Gen.AttnIdeal.Frame
public import Idealize.ShloMosaic.Lib.VecWindow

/-!
What one grid point of the attention backward call computes, as a function of arrays.

The state of a point is the pair of running key and value gradients and the whole head's query gradients (kept
transposed). `rowStep` is one block of queries below the diagonal; `diagStep` the block on it; `pairs` the counted loop;
`lastStep` the odd block left; `pointState` the whole point.
-/

@[expose] public section

set_option maxRecDepth 16384

noncomputable section

namespace Cert.AttnIdeal.Gen

open Idealize.ShloMosaic Idealize.ShloMosaic.TcCoe

variable {F : FTy → Type} [FloatOps F] [Named F]

/-- The running gradients of one block of keys, and of its values. -/
abbrev Acc (F : FTy → Type) := FVec F S512x128 .f32 × FVec F S512x128 .f32
/-- These, with the head's query gradients. -/
abbrev St (F : FTy → Type) := Acc F × Vec F S1x32x128x512 .f32

/-- A number below 32 as a block of queries. -/
def blk (n : ℕ) : Fin 32 := ⟨n % 32, Nat.mod_lt _ (by decide)⟩
theorem blk_val {n : ℕ} (h : n < 32) : (blk n).val = n := Nat.mod_eq_of_lt h

theorem rows_inb (r : Fin 32) : ∀ a, (![512 * r.val, 0] : Fin 2 → ℕ) a + S512x128.size a ≤ S16384x128.size a := by
  intro a; have := r.isLt; fin_cases a
  · show 512 * r.val + 512 ≤ 16384; omega
  · exact Nat.le_refl 128
theorem line_inb (r : Fin 32) : ∀ a, (![0, r.val, 0] : Fin 3 → ℕ) a + S1x1x512.size a ≤ S1x32x512.size a := by
  intro a; have := r.isLt; fin_cases a
  · exact Nat.le_refl 1
  · show r.val + 1 ≤ 32; omega
  · exact Nat.le_refl 512
theorem slab_inb (r : Fin 32) : ∀ a, (![0, r.val, 0, 0] : Fin 4 → ℕ) a + S1x1x128x512.size a ≤ S1x32x128x512.size a := by
  intro a; have := r.isLt; fin_cases a
  · exact Nat.le_refl 1
  · show r.val + 1 ≤ 32; omega
  · exact Nat.le_refl 128
  · exact Nat.le_refl 512

/-- Block `r` of 512 rows; -/
def rows (x : Vec F S16384x128 .bf16) (r : Fin 32) : Vec F S512x128 .bf16 :=
  VecWindow.window x ![512 * r.val, 0] S512x128.size (rows_inb r)
/-- of 512 numbers; -/
def line (x : Vec F S1x32x512 .f32) (r : Fin 32) : Vec F S1x1x512 .f32 :=
  VecWindow.window x ![0, r.val, 0] S1x1x512.size (line_inb r)
/-- of the query gradients; -/
def slab (x : Vec F S1x32x128x512 .f32) (r : Fin 32) : Vec F S1x1x128x512 .f32 :=
  VecWindow.window x ![0, r.val, 0, 0] S1x1x128x512.size (slab_inb r)
/-- and the query gradients with block `r` replaced. -/
def putSlab (x : Vec F S1x32x128x512 .f32) (r : Fin 32) (w : Vec F S1x1x128x512 .f32) : Vec F S1x32x128x512 .f32 :=
  VecWindow.put x ![0, r.val, 0, 0] S1x1x128x512.size w

/-- Another block is as it was. -/
theorem slab_putSlab_ne (x : Vec F S1x32x128x512 .f32) {r r' : Fin 32} (h : r ≠ r') (w : Vec F S1x1x128x512 .f32) :
    slab (putSlab x r w) r' = slab x r' := by
  refine VecWindow.window_put_of_disjoint x _ _ _ _ (slab_inb r') w 1 ?_
  show r'.val + 1 ≤ r.val ∨ r.val + 1 ≤ r'.val
  have : r.val ≠ r'.val := fun e => h (Fin.ext e)
  omega

section Steps

variable (v1 v3 : FVec F S512x128 .bf16) (v5 : FVec F S128x512 .bf16)
variable (x2 x6 : Vec F S16384x128 .bf16) (x7 x8 : Vec F S1x32x512 .f32)

/-- The score gradients of block `r`. -/
def scoreGrad (r : Fin 32) : FVec F S512x512 .bf16 :=
  k0_pay13 v1 v3 (rows x2 r) (rows x6 r) (line x7 r) (line x8 r)

/-- One block of queries below the diagonal. -/
def rowStep (r : Fin 32) (s : St F) : St F :=
  ((k0_pay15 s.1.1 (k0_pay10 (rows x2 r)) (scoreGrad v1 v3 x2 x6 x7 x8 r),
    k0_pay16 s.1.2 (k0_pay11 (rows x6 r)) (k0_pay12 v1 (rows x2 r) (line x7 r))),
   putSlab s.2 r (k0_pay14 v5 (scoreGrad v1 v3 x2 x6 x7 x8 r) (slab s.2 r)))

/-- The counted loop from block `j + 1` on: `n` pairs of blocks. -/
def pairs (j : ℕ) : ℕ → St F → St F
  | 0, s => s
  | n + 1, s => rowStep v1 v3 v5 x2 x6 x7 x8 (blk (j + 1 + 2 * n + 1))
      (rowStep v1 v3 v5 x2 x6 x7 x8 (blk (j + 1 + 2 * n)) (pairs j n s))

end Steps

section Point

variable (x2 : Vec F S16384x128 .bf16) (x3 : Vec F S512x128 .bf16) (x4 : Vec F S128x512 .bf16) (x5 : Vec F S512x128 .bf16)
  (x6 : Vec F S16384x128 .bf16) (x7 x8 : Vec F S1x32x512 .f32)

/-- The head's query gradients as the point starts: zero at the head's first block of keys. -/
def startDq (j : ℕ) (x : Vec F S1x32x128x512 .f32) : Vec F S1x32x128x512 .f32 := if j = 0 then k0_pay42 (F := F) else x

/-- The block on the diagonal. -/
def diagStep (j : Fin 32) (x : Vec F S1x32x128x512 .f32) : St F :=
  ((k0_pay49 (k0_pay40 x5) (k0_pay43 (F := F)) (k0_pay44 (rows x2 j)) (k0_pay45 (rows x6 j)) (k0_pay46 x3 (rows x2 j) (line x7 j)) (constant S512x512 .f32 0x00000000#32) (line x8 j),
    k0_pay50 (k0_pay43 (F := F)) (k0_pay45 (rows x6 j)) (k0_pay46 x3 (rows x2 j) (line x7 j))),
   putSlab x j (k0_pay48 (k0_pay40 x5) (k0_pay41 x4) (k0_pay45 (rows x6 j)) (k0_pay46 x3 (rows x2 j) (line x7 j)) (constant S512x512 .f32 0x00000000#32) (line x8 j) (slab x j)))

/-- The odd block left below the diagonal, the last one, where there is one. -/
def lastStep (j : ℕ) (s : St F) : St F :=
  if (31 - j) % 2 = 1 then rowStep (k0_pay39 x3) (k0_pay40 x5) (k0_pay41 x4) x2 x6 x7 x8 (blk 31) s else s

/-- The point. -/
def pointState (j : Fin 32) (x : Vec F S1x32x128x512 .f32) : St F :=
  lastStep x2 x3 x4 x5 x6 x7 x8 j.val
    (pairs (k0_pay39 x3) (k0_pay40 x5) (k0_pay41 x4) x2 x6 x7 x8 j.val ((31 - j.val) / 2)
      (diagStep x2 x3 x4 x5 x6 x7 x8 j (startDq j.val x)))

end Point

end Cert.AttnIdeal.Gen

end
-- ==== Proof.AttnTrip.lean ====
module

public import proofs.«01_k».proof.Proof.AttnStep

/-!
One trip of the attention backward call's counted loop leaves what two `rowStep`s compute, and the loop what `pairs`
computes.
-/

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Loads

variable {r : Fin 32}

/-- A load of block `r` of a whole array reads `rows`; -/
theorem load_rows {a : Memref sig .tc .vmem S16384x128 .bf16} (h : a.IsWhole) (x : Vec F S16384x128 .bf16) {off : Fin 2 → ℕ}
    (inb : ∀ d, off d + S512x128.size d ≤ S16384x128.size d) (e : off = ![512 * r.val, 0]) :
    a.view.readAt (Elt F) (Rect.unit (s := S16384x128) off S512x128.size inb).toLoadRect (h.unread x) = rows x r :=
  (View.readAt_unit a.view _ inb e (rows_inb r)).trans (by rw [h.read_unread]; rfl)
/-- `line`; -/
theorem load_line {a : Memref sig .tc .vmem S1x32x512 .f32} (h : a.IsWhole) (x : Vec F S1x32x512 .f32) {off : Fin 3 → ℕ}
    (inb : ∀ d, off d + S1x1x512.size d ≤ S1x32x512.size d) (e : off = ![0, r.val, 0]) :
    a.view.readAt (Elt F) (Rect.unit (s := S1x32x512) off S1x1x512.size inb).toLoadRect (h.unread x) = line x r :=
  (View.readAt_unit a.view _ inb e (line_inb r)).trans (by rw [h.read_unread]; rfl)
/-- `slab`. -/
theorem load_slab {a : Memref sig .tc .vmem S1x32x128x512 .f32} (f : a.view.ty.Contents (Elt F)) {off : Fin 4 → ℕ}
    (inb : ∀ d, off d + S1x1x128x512.size d ≤ S1x32x128x512.size d) (e : off = ![0, r.val, 0, 0]) :
    a.view.readAt (Elt F) (Rect.unit (s := S1x32x128x512) off S1x1x128x512.size inb).toLoadRect f = slab (a.view.read (Elt F) f) r :=
  View.readAt_unit a.view _ inb e (slab_inb r)
/-- A store of block `r` leaves `putSlab`. -/
theorem store_slab {a : Memref sig .tc .vmem S1x32x128x512 .f32} (f : a.view.ty.Contents (Elt F)) {off : Fin 4 → ℕ}
    (inb : ∀ d, off d + S1x1x128x512.size d ≤ S1x32x128x512.size d) (w : Vec F S1x1x128x512 .f32) (L : List (View.Piece (Elt F) S1x32x128x512 .f32))
    (e : off = ![0, r.val, 0, 0]) :
    a.view.read (Elt F) (a.view.writes (Elt F) f (⟨Rect.unit (s := S1x32x128x512) off S1x1x128x512.size inb, w⟩ :: L))
      = putSlab (a.view.read (Elt F) (a.view.writes (Elt F) f L)) r w :=
  View.read_writes_cons_put a.view f inb w L e

end Loads

/-! The second block of a trip is handled by the same expressions as the first. -/

theorem pay1_eq : k0_pay1 (F := F) = k0_pay14 := rfl
theorem pay2_eq : k0_pay2 (F := F) = k0_pay15 := rfl
theorem pay3_eq : k0_pay3 (F := F) = k0_pay16 := rfl
theorem pay17_eq : k0_pay17 (F := F) = k0_pay10 := rfl
theorem pay18_eq : k0_pay18 (F := F) = k0_pay11 := rfl
theorem pay19_eq (v1 : FVec F S512x128 .bf16) (q : Vec F S512x128 .bf16) (l : Vec F S1x1x512 .f32) :
    k0_pay19 (k0_pay9 v1 q) l = k0_pay12 v1 q l := rfl
theorem pay20_eq (v1 v3 : FVec F S512x128 .bf16) (q d : Vec F S512x128 .bf16) (l e : Vec F S1x1x512 .f32) :
    k0_pay20 v3 (k0_pay9 v1 q) d l e = k0_pay13 v1 v3 q d l e := rfl

variable (c : Dev nD) (i : grid0.Coords)
variable (arg2 : Memref sig .tc .vmem S16384x128 .bf16) (harg2 : arg2.IsWhole)
  (arg3 : Memref sig .tc .vmem S512x128 .bf16) (harg3 : arg3.IsWhole)
  (arg4 : Memref sig .tc .vmem S128x512 .bf16) (harg4 : arg4.IsWhole)
  (arg5 : Memref sig .tc .vmem S512x128 .bf16) (harg5 : arg5.IsWhole)
  (arg6 : Memref sig .tc .vmem S16384x128 .bf16) (harg6 : arg6.IsWhole)
  (arg7 : Memref sig .tc .vmem S1x32x512 .f32) (harg7 : arg7.IsWhole)
  (arg8 : Memref sig .tc .vmem S1x32x512 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S1x32x128x512 .f32) (harg11 : arg11.IsWhole)
variable (x2 : Vec F S16384x128 .bf16) (x6 : Vec F S16384x128 .bf16) (x7 x8 : Vec F S1x32x512 .f32)
variable (arg1 : BitVec 32) (v1 v3 : FVec F S512x128 .bf16) (v5 : FVec F S128x512 .bf16)

/-- What one trip holds: the queries, the cotangents and their two rows of numbers as they are, the query gradients at `f`. -/
abbrev Held (f : Buf (Elt F) (arg11.view.loc (c : Thread nD τ))) : sProp 𝕄 :=
  iprop((arg2.view.loc (c : Thread nD τ) ↦[arg2.view.set]{fullShare} harg2.unread x2)
    ∗ (arg6.view.loc (c : Thread nD τ) ↦[arg6.view.set]{fullShare} harg6.unread x6)
    ∗ (arg7.view.loc (c : Thread nD τ) ↦[arg7.view.set]{fullShare} harg7.unread x7)
    ∗ (arg8.view.loc (c : Thread nD τ) ↦[arg8.view.set]{fullShare} harg8.unread x8)
    ∗ (arg11.view.loc (c : Thread nD τ) ↦[arg11.view.set]{fullShare} f))

/-- Two blocks of queries. -/
def twoSteps (n : ℕ) (s : St F) : St F :=
  rowStep v1 v3 v5 x2 x6 x7 x8 (blk (n + 1)) (rowStep v1 v3 v5 x2 x6 x7 x8 (blk n) s)

set_option maxHeartbeats 400000 in
theorem trip (k : Fin (k0_t1_loop i).trips) (acc : Acc F) (f : Buf (Elt F) (arg11.view.loc (c : Thread nD τ))) :
    Held c arg2 harg2 arg6 harg6 arg7 harg7 arg8 harg8 arg11 x2 x6 x7 x8 f
      ⊢ wp frame (wpE (defs₀ (F := F)) Variants.none (c : Thread nD τ) none) Set.univ
          (k0_t1_body i arg2 harg2 arg3 harg3 arg4 harg4 arg5 harg5 arg6 harg6 arg7 harg7 arg8 harg8 arg9 harg9 arg10 harg10 arg11 harg11 arg1 v1 v3 v5 k acc)
          (fun r => iprop(Held c arg2 harg2 arg6 harg6 arg7 harg7 arg8 harg8 arg11 x2 x6 x7 x8
              (harg11.unread (twoSteps x2 x6 x7 x8 v1 v3 v5 ((i 1).val + 1 + 2 * k.val) (acc, arg11.view.read (Elt F) f)).2)
            ∗ ⌜r = (twoSteps x2 x6 x7 x8 v1 v3 v5 ((i 1).val + 1 + 2 * k.val) (acc, arg11.view.read (Elt F) f)).1⌝)) := by
  obtain ⟨a13, a14⟩ := acc
  have hb : (i 1).val + 1 + 2 * k.val + 1 < 32 := by
    have h1 : k.val < (31 - (i 1).val) / 2 := lt_of_lt_of_eq k.isLt (k0_trips_eq i)
    omega
  have e1 : (blk ((i 1).val + 1 + 2 * k.val)).val = (i 1).val + 1 + 2 * k.val := blk_val (by omega)
  have e2 : (blk ((i 1).val + 1 + 2 * k.val + 1)).val = (i 1).val + 1 + 2 * k.val + 1 := blk_val hb
  have q1 := load_rows (r := blk ((i 1).val + 1 + 2 * k.val)) harg2 x2 (k0_off4_inb i k) (by rw [e1]; exact k0_off4_eq i k)
  have q2 := load_rows (r := blk ((i 1).val + 1 + 2 * k.val + 1)) harg2 x2 (k0_off5_inb i k) (by rw [e2]; exact k0_off5_eq i k)
  have d1 := load_rows (r := blk ((i 1).val + 1 + 2 * k.val)) harg6 x6 (k0_off4_inb i k) (by rw [e1]; exact k0_off4_eq i k)
  have d2 := load_rows (r := blk ((i 1).val + 1 + 2 * k.val + 1)) harg6 x6 (k0_off5_inb i k) (by rw [e2]; exact k0_off5_eq i k)
  have l1 := load_line (r := blk ((i 1).val + 1 + 2 * k.val)) harg7 x7 (k0_off6_inb i k) (by rw [e1]; exact k0_off6_eq i k)
  have l2 := load_line (r := blk ((i 1).val + 1 + 2 * k.val + 1)) harg7 x7 (k0_off8_inb i k) (by rw [e2]; exact k0_off8_eq i k)
  have n1 := load_line (r := blk ((i 1).val + 1 + 2 * k.val)) harg8 x8 (k0_off6_inb i k) (by rw [e1]; exact k0_off6_eq i k)
  have n2 := load_line (r := blk ((i 1).val + 1 + 2 * k.val + 1)) harg8 x8 (k0_off8_inb i k) (by rw [e2]; exact k0_off8_eq i k)
  have o1 := load_slab (r := blk ((i 1).val + 1 + 2 * k.val)) (a := arg11) f (k0_off7_inb i k) (by rw [e1]; exact k0_off7_eq i k)
  have o2 := load_slab (r := blk ((i 1).val + 1 + 2 * k.val + 1)) (a := arg11) f (k0_off9_inb i k) (by rw [e2]; exact k0_off9_eq i k)
  have hne : blk ((i 1).val + 1 + 2 * k.val) ≠ blk ((i 1).val + 1 + 2 * k.val + 1) := fun h => by
    have := congrArg Fin.val h; rw [e1, e2] at this; omega
  have key := harg11.eq_unread (f := arg11.view.writes (Elt F) f
      [⟨Rect.unit (k0_off9 i k) S1x1x128x512.size (k0_off9_inb i k),
          k0_pay1 v5 (k0_pay20 v3 (k0_pay9 v1 (rows x2 (blk ((i 1).val + 1 + 2 * k.val + 1)))) (rows x6 (blk ((i 1).val + 1 + 2 * k.val + 1)))
              (line x7 (blk ((i 1).val + 1 + 2 * k.val + 1))) (line x8 (blk ((i 1).val + 1 + 2 * k.val + 1))))
            (slab (arg11.view.read (Elt F) f) (blk ((i 1).val + 1 + 2 * k.val + 1)))⟩,
        ⟨Rect.unit (k0_off7 i k) S1x1x128x512.size (k0_off7_inb i k),
          k0_pay14 v5 (scoreGrad v1 v3 x2 x6 x7 x8 (blk ((i 1).val + 1 + 2 * k.val)))
            (slab (arg11.view.read (Elt F) f) (blk ((i 1).val + 1 + 2 * k.val)))⟩])
      (X := (twoSteps x2 x6 x7 x8 v1 v3 v5 ((i 1).val + 1 + 2 * k.val) ((a13, a14), arg11.view.read (Elt F) f)).2) (by
    rw [store_slab (r := blk ((i 1).val + 1 + 2 * k.val + 1)) f (k0_off9_inb i k) _ _ (by rw [e2]; exact k0_off9_eq i k),
      store_slab (r := blk ((i 1).val + 1 + 2 * k.val)) f (k0_off7_inb i k) _ _ (by rw [e1]; exact k0_off7_eq i k),
      pay1_eq, pay20_eq]
    unfold twoSteps rowStep scoreGrad
    dsimp only
    rw [slab_putSlab_ne _ hne]
    rfl)
  unfold k0_t1_body Held
  simp only [k0_part1_eq_skeleton, k0_part2_eq_skeleton]
  iintro ⟨H2, H6, H7, H8, H11⟩
  sl_exec
  sl_step
  rw [← key]
  isplitl [H2 H6 H7 H8 H11]
  · isplitl [H2]; · iexact H2
    isplitl [H6]; · iexact H6
    isplitl [H7]; · iexact H7
    isplitl [H8]; · iexact H8
    iexact H11
  · ipureintro
    unfold twoSteps rowStep scoreGrad
    dsimp only
    rw [← pay2_eq, ← pay3_eq, ← pay17_eq, ← pay18_eq, ← pay19_eq, ← pay20_eq]
    rfl

/-- The query gradients' buffer before trip `k`: what the loop found, then what `pairs` holds. -/
def loopBuf (init : Acc F) (f : Buf (Elt F) (arg11.view.loc (c : Thread nD τ))) : ℕ → Buf (Elt F) (arg11.view.loc (c : Thread nD τ))
  | 0 => f
  | k + 1 => harg11.unread (pairs v1 v3 v5 x2 x6 x7 x8 (i 1).val (k + 1) (init, arg11.view.read (Elt F) f)).2

theorem read_loopBuf (init : Acc F) (f : Buf (Elt F) (arg11.view.loc (c : Thread nD τ))) (k : ℕ) :
    arg11.view.read (Elt F) (loopBuf c i arg11 harg11 x2 x6 x7 x8 v1 v3 v5 init f k)
      = (pairs v1 v3 v5 x2 x6 x7 x8 (i 1).val k (init, arg11.view.read (Elt F) f)).2 := by
  cases k with
  | zero => rfl
  | succ k => exact harg11.read_unread _

set_option warn.classDefReducibility false in
/-- The loop's invariant. -/
@[sl_loop] def loopInv_t1 (init : Acc F) (f : Buf (Elt F) (arg11.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg1 v1 v3 v5 init where
  inv k acc := iprop(Held c arg2 harg2 arg6 harg6 arg7 harg7 arg8 harg8 arg11 x2 x6 x7 x8 (loopBuf c i arg11 harg11 x2 x6 x7 x8 v1 v3 v5 init f k)
    ∗ ⌜acc = (pairs v1 v3 v5 x2 x6 x7 x8 (i 1).val k (init, arg11.view.read (Elt F) f)).1⌝)
  step k acc := by
    iintro ⟨H, %h⟩
    have e := read_loopBuf c i arg11 harg11 x2 x6 x7 x8 v1 v3 v5 init f k
    have e' : twoSteps x2 x6 x7 x8 v1 v3 v5 ((i 1).val + 1 + 2 * k.val)
        (acc, arg11.view.read (Elt F) (loopBuf c i arg11 harg11 x2 x6 x7 x8 v1 v3 v5 init f k))
          = pairs v1 v3 v5 x2 x6 x7 x8 (i 1).val (k.val + 1) (init, arg11.view.read (Elt F) f) := by
      rw [e, h]; rfl
    have t := trip c i arg2 harg2 arg3 harg3 arg4 harg4 arg5 harg5 arg6 harg6 arg7 harg7 arg8 harg8 arg9 harg9 arg10 harg10 arg11 harg11 x2 x6 x7 x8 arg1 v1 v3 v5 k acc (loopBuf c i arg11 harg11 x2 x6 x7 x8 v1 v3 v5 init f k)
    rw [e'] at t
    iapply t
    iexact H

end Cert.AttnIdeal.Gen

end
-- ==== Proof.AttnBody.lean ====
module

public import proofs.«01_k».proof.Proof.AttnTrip

/-!
The attention backward call's body at one grid point leaves what `pointState` computes.
-/

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The point is the head's first block of keys, as the body asks it. -/
abbrev firstKeys (i : grid0.Coords) : Prop :=
  Scalar.cmpi .ne (Scalar.extui (Scalar.cmpi .eq (BitVec.ofNat 32 (i 1).val) 0#32) : BitVec 32) 0#32 = 1#1
theorem firstKeys_iff : ∀ i : grid0.Coords, firstKeys i ↔ (i 1).val = 0 := by decide +kernel

variable (c : Dev nD) (i : grid0.Coords)
variable (arg2 : Memref sig .tc .vmem S16384x128 .bf16) (harg2 : arg2.IsWhole)
  (arg3 : Memref sig .tc .vmem S512x128 .bf16) (harg3 : arg3.IsWhole)
  (arg4 : Memref sig .tc .vmem S128x512 .bf16) (harg4 : arg4.IsWhole)
  (arg5 : Memref sig .tc .vmem S512x128 .bf16) (harg5 : arg5.IsWhole)
  (arg6 : Memref sig .tc .vmem S16384x128 .bf16) (harg6 : arg6.IsWhole)
  (arg7 : Memref sig .tc .vmem S1x32x512 .f32) (harg7 : arg7.IsWhole)
  (arg8 : Memref sig .tc .vmem S1x32x512 .f32) (harg8 : arg8.IsWhole)
  (arg9 : Memref sig .tc .vmem S512x128 .f32) (harg9 : arg9.IsWhole)
  (arg10 : Memref sig .tc .vmem S512x128 .f32) (harg10 : arg10.IsWhole)
  (arg11 : Memref sig .tc .vmem S1x32x128x512 .f32) (harg11 : arg11.IsWhole)

variable (x2 : Vec F S16384x128 .bf16) (x3 : Vec F S512x128 .bf16) (x4 : Vec F S128x512 .bf16) (x5 : Vec F S512x128 .bf16)
  (x6 : Vec F S16384x128 .bf16) (x7 x8 : Vec F S1x32x512 .f32) (x11 : Vec F S1x32x128x512 .f32)

/-- The point's state when its body ends. -/
abbrev endState : St F := pointState x2 x3 x4 x5 x6 x7 x8 (i 1) x11

theorem pay36_eq (v1 v3 : FVec F S512x128 .bf16) (v5 : FVec F S128x512 .bf16) (q d : Vec F S512x128 .bf16) (l e : Vec F S1x1x512 .f32) (o : Vec F S1x1x128x512 .f32) :
    k0_pay36 v1 v3 v5 q d l e o = k0_pay14 v5 (k0_pay13 v1 v3 q d l e) o := rfl
theorem pay37_eq (v1 v3 : FVec F S512x128 .bf16) (a : FVec F S512x128 .f32) (q d : Vec F S512x128 .bf16) (l e : Vec F S1x1x512 .f32) :
    k0_pay37 v1 v3 a q q d l e = k0_pay15 a (k0_pay10 q) (k0_pay13 v1 v3 q d l e) := rfl
theorem pay7_eq (v1 : FVec F S512x128 .bf16) (a : FVec F S512x128 .f32) (q d : Vec F S512x128 .bf16) (l : Vec F S1x1x512 .f32) :
    k0_pay7 a (k0_pay33 d) (k0_pay38 v1 q l) = k0_pay16 a (k0_pay11 d) (k0_pay12 v1 q l) := rfl

/-- The query gradients' buffer once the block on the diagonal is stored over `f`. -/
abbrev diagBuf (f : Buf (Elt F) (arg11.view.loc (c : Thread nD τ))) : Buf (Elt F) (arg11.view.loc (c : Thread nD τ)) :=
  (arg11.view.slice (Rect.unit (s := S1x32x128x512) (k0_off3 i) S1x1x128x512.size (k0_off3_inb i))).write (Elt F) f
    (k0_pay48 (k0_pay40 x5) (k0_pay41 x4) (k0_pay45 (rows x6 (i 1))) (k0_pay46 x3 (rows x2 (i 1)) (line x7 (i 1)))
        (constant S512x512 .f32 0x00000000#32) (line x8 (i 1))
        (arg11.view.readAt (Elt F) (Rect.unit (s := S1x32x128x512) (k0_off3 i) S1x1x128x512.size (k0_off3_inb i)).toLoadRect f)) Finset.univ

/-- The two gradients of the keys after the block on the diagonal. -/
abbrev diagAcc : Acc F :=
  (k0_pay49 (k0_pay40 x5) (k0_pay43 (F := F)) (k0_pay44 (rows x2 (i 1))) (k0_pay45 (rows x6 (i 1))) (k0_pay46 x3 (rows x2 (i 1)) (line x7 (i 1)))
      (constant S512x512 .f32 0x00000000#32) (line x8 (i 1)),
    k0_pay50 (k0_pay43 (F := F)) (k0_pay45 (rows x6 (i 1))) (k0_pay46 x3 (rows x2 (i 1)) (line x7 (i 1))))

/-- The state at the counted loop's end, from the buffer `f` the point started the diagonal block at. -/
abbrev loopEnd (f : Buf (Elt F) (arg11.view.loc (c : Thread nD τ))) : St F :=
  pairs (k0_pay39 x3) (k0_pay40 x5) (k0_pay41 x4) x2 x6 x7 x8 (i 1).val (k0_t1_loop i).trips
    (diagAcc i x2 x3 x5 x6 x7 x8, arg11.view.read (Elt F) (diagBuf c i arg11 x2 x3 x4 x5 x6 x7 x8 f))

/-- The query gradients' buffer at the counted loop's end. -/
abbrev endBuf (f : Buf (Elt F) (arg11.view.loc (c : Thread nD τ))) : Buf (Elt F) (arg11.view.loc (c : Thread nD τ)) :=
  loopBuf c i arg11 harg11 x2 x6 x7 x8 (k0_pay39 x3) (k0_pay40 x5) (k0_pay41 x4) (diagAcc i x2 x3 x5 x6 x7 x8)
    (diagBuf c i arg11 x2 x3 x4 x5 x6 x7 x8 f) (k0_t1_loop i).trips

section Ends

variable (f : Buf (Elt F) (arg11.view.loc (c : Thread nD τ))) (hf : arg11.view.read (Elt F) f = startDq (i 1).val x11)
include hf

theorem loopEnd_eq : loopEnd c i arg11 x2 x3 x4 x5 x6 x7 x8 f
    = pairs (k0_pay39 x3) (k0_pay40 x5) (k0_pay41 x4) x2 x6 x7 x8 (i 1).val ((31 - (i 1).val) / 2)
        (diagStep x2 x3 x4 x5 x6 x7 x8 (i 1) (startDq (i 1).val x11)) := by
  unfold loopEnd diagBuf
  rw [show ∀ w, arg11.view.read (Elt F) ((arg11.view.slice (Rect.unit (s := S1x32x128x512) (k0_off3 i) S1x1x128x512.size (k0_off3_inb i))).write (Elt F) f w Finset.univ)
      = putSlab (arg11.view.read (Elt F) f) (i 1) w from fun w => store_slab (r := i 1) f (k0_off3_inb i) w [] (k0_off3_eq i),
    load_slab (r := i 1) f (k0_off3_inb i) (k0_off3_eq i), hf, k0_trips_eq]
  rfl

theorem even_eq (h2 : ¬ k0_cond2 i = 1#1) : loopEnd c i arg11 x2 x3 x4 x5 x6 x7 x8 f = endState i x2 x3 x4 x5 x6 x7 x8 x11 := by
  rw [loopEnd_eq c i arg11 x2 x3 x4 x5 x6 x7 x8 x11 f hf]
  exact (if_neg fun h => h2 ((k0_cond2_iff i).mpr h)).symm

theorem odd_eq (h2 : k0_cond2 i = 1#1) :
    rowStep (k0_pay39 x3) (k0_pay40 x5) (k0_pay41 x4) x2 x6 x7 x8 (blk 31) (loopEnd c i arg11 x2 x3 x4 x5 x6 x7 x8 f)
      = endState i x2 x3 x4 x5 x6 x7 x8 x11 := by
  rw [loopEnd_eq c i arg11 x2 x3 x4 x5 x6 x7 x8 x11 f hf]
  exact (if_pos ((k0_cond2_iff i).mp h2)).symm

theorem even_dq (h2 : ¬ k0_cond2 i = 1#1) :
    arg11.view.read (Elt F) (endBuf c i arg11 harg11 x2 x3 x4 x5 x6 x7 x8 f) = (endState i x2 x3 x4 x5 x6 x7 x8 x11).2 := by
  rw [← even_eq c i arg11 x2 x3 x4 x5 x6 x7 x8 x11 f hf h2]; exact read_loopBuf ..

theorem odd_dk (h2 : k0_cond2 i = 1#1) :
    k0_pay37 (k0_pay39 x3) (k0_pay40 x5) (loopEnd c i arg11 x2 x3 x4 x5 x6 x7 x8 f).1.1 (rows x2 (blk 31)) (rows x2 (blk 31)) (rows x6 (blk 31))
      (line x7 (blk 31)) (line x8 (blk 31)) = (endState i x2 x3 x4 x5 x6 x7 x8 x11).1.1 := by
  rw [← odd_eq c i arg11 x2 x3 x4 x5 x6 x7 x8 x11 f hf h2, pay37_eq]; rfl

theorem odd_dv (h2 : k0_cond2 i = 1#1) :
    k0_pay7 (loopEnd c i arg11 x2 x3 x4 x5 x6 x7 x8 f).1.2 (k0_pay33 (rows x6 (blk 31))) (k0_pay38 (k0_pay39 x3) (rows x2 (blk 31)) (line x7 (blk 31)))
      = (endState i x2 x3 x4 x5 x6 x7 x8 x11).1.2 := by
  rw [← odd_eq c i arg11 x2 x3 x4 x5 x6 x7 x8 x11 f hf h2, pay7_eq]; rfl

theorem odd_dq (h2 : k0_cond2 i = 1#1) :
    arg11.view.read (Elt F) (arg11.view.writes (Elt F) (endBuf c i arg11 harg11 x2 x3 x4 x5 x6 x7 x8 f)
      [⟨Rect.unit (s := S1x32x128x512) ![0, 31, 0, 0] S1x1x128x512.size inb_S1x32x128x512_S1x1x128x512_0_31_0_0,
        k0_pay36 (k0_pay39 x3) (k0_pay40 x5) (k0_pay41 x4) (rows x2 (blk 31)) (rows x6 (blk 31)) (line x7 (blk 31)) (line x8 (blk 31))
          (arg11.view.readAt (Elt F) (Rect.unit (s := S1x32x128x512) ![0, 31, 0, 0] S1x1x128x512.size inb_S1x32x128x512_S1x1x128x512_0_31_0_0).toLoadRect
            (endBuf c i arg11 harg11 x2 x3 x4 x5 x6 x7 x8 f))⟩])
      = (endState i x2 x3 x4 x5 x6 x7 x8 x11).2 := by
  rw [store_slab (r := blk 31) _ inb_S1x32x128x512_S1x1x128x512_0_31_0_0 _ _ rfl,
    load_slab (r := blk 31) _ inb_S1x32x128x512_S1x1x128x512_0_31_0_0 rfl, View.writes_nil, read_loopBuf, pay36_eq,
    ← odd_eq c i arg11 x2 x3 x4 x5 x6 x7 x8 x11 f hf h2]
  rfl

end Ends

/-- The body's ten buffers given back. -/
theorem give_back (f9 : Buf (Elt F) (arg9.view.loc (c : Thread nD τ))) (f10 : Buf (Elt F) (arg10.view.loc (c : Thread nD τ)))
    (f11 : Buf (Elt F) (arg11.view.loc (c : Thread nD τ)))
    (e9 : arg9.view.read (Elt F) f9 = k0_pay8 (endState i x2 x3 x4 x5 x6 x7 x8 x11).1.1)
    (e10 : arg10.view.read (Elt F) f10 = (endState i x2 x3 x4 x5 x6 x7 x8 x11).1.2)
    (e11 : arg11.view.read (Elt F) f11 = (endState i x2 x3 x4 x5 x6 x7 x8 x11).2) :
    iprop((arg2.view.loc (c : Thread nD τ) ↦[arg2.view.set]{fullShare} (harg2.unread x2)) ∗ (arg3.view.loc (c : Thread nD τ) ↦[arg3.view.set]{fullShare} (harg3.unread x3)) ∗ (arg4.view.loc (c : Thread nD τ) ↦[arg4.view.set]{fullShare} (harg4.unread x4))
        ∗ (arg5.view.loc (c : Thread nD τ) ↦[arg5.view.set]{fullShare} (harg5.unread x5)) ∗ (arg6.view.loc (c : Thread nD τ) ↦[arg6.view.set]{fullShare} (harg6.unread x6)) ∗ (arg7.view.loc (c : Thread nD τ) ↦[arg7.view.set]{fullShare} (harg7.unread x7))
        ∗ (arg8.view.loc (c : Thread nD τ) ↦[arg8.view.set]{fullShare} (harg8.unread x8)) ∗ (arg9.view.loc (c : Thread nD τ) ↦[arg9.view.set]{fullShare} f9)
        ∗ (arg10.view.loc (c : Thread nD τ) ↦[arg10.view.set]{fullShare} f10) ∗ (arg11.view.loc (c : Thread nD τ) ↦[arg11.view.set]{fullShare} f11))
      ⊢ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8
          ∗ owns (c : Thread nD τ) arg9 fullShare (k0_pay8 (endState i x2 x3 x4 x5 x6 x7 x8 x11).1.1)
          ∗ owns (c : Thread nD τ) arg10 fullShare (endState i x2 x3 x4 x5 x6 x7 x8 x11).1.2
          ∗ owns (c : Thread nD τ) arg11 fullShare (endState i x2 x3 x4 x5 x6 x7 x8 x11).2) : sProp 𝕄) := by
  unfold owns
  iintro ⟨H2, H3, H4, H5, H6, H7, H8, H9, H10, H11⟩
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]; · iexists _; isplitr; · ipureintro; exact harg8.read_unread _
                  iexact H8
  isplitl [H9]; · iexists _; isplitr; · ipureintro; exact e9
                  iexact H9
  isplitl [H10]; · iexists _; isplitr; · ipureintro; exact e10
                   iexact H10
  iexists _; isplitr; · ipureintro; exact e11
  iexact H11

set_option maxHeartbeats 1000000 in
theorem body_run (K : PUnit → sProp 𝕄) :
    iprop(owns (c : Thread nD τ) arg2 fullShare x2 ∗ owns (c : Thread nD τ) arg3 fullShare x3 ∗ owns (c : Thread nD τ) arg4 fullShare x4
      ∗ owns (c : Thread nD τ) arg5 fullShare x5 ∗ owns (c : Thread nD τ) arg6 fullShare x6 ∗ owns (c : Thread nD τ) arg7 fullShare x7
      ∗ owns (c : Thread nD τ) arg8 fullShare x8 ∗ (∃ d, owns (c : Thread nD τ) arg9 fullShare d) ∗ (∃ d, owns (c : Thread nD τ) arg10 fullShare d)
      ∗ owns (c : Thread nD τ) arg11 fullShare x11
      ∗ (iprop(owns (c : Thread nD τ) arg2 fullShare x2 ∗ owns (c : Thread nD τ) arg3 fullShare x3 ∗ owns (c : Thread nD τ) arg4 fullShare x4
          ∗ owns (c : Thread nD τ) arg5 fullShare x5 ∗ owns (c : Thread nD τ) arg6 fullShare x6 ∗ owns (c : Thread nD τ) arg7 fullShare x7
          ∗ owns (c : Thread nD τ) arg8 fullShare x8
          ∗ owns (c : Thread nD τ) arg9 fullShare (k0_pay8 (endState i x2 x3 x4 x5 x6 x7 x8 x11).1.1)
          ∗ owns (c : Thread nD τ) arg10 fullShare (endState i x2 x3 x4 x5 x6 x7 x8 x11).1.2
          ∗ owns (c : Thread nD τ) arg11 fullShare (endState i x2 x3 x4 x5 x6 x7 x8 x11).2) -∗ K ⟨⟩))
      ⊢ wp frame (wpE (defs₀ (F := F)) Variants.none (c : Thread nD τ) none) Set.univ (cc0_attn_bwd i arg2 harg2 arg3 harg3 arg4 harg4 arg5 harg5 arg6 harg6 arg7 harg7 arg8 harg8 arg9 harg9 arg10 harg10 arg11 harg11) K := by
  have q := load_rows (r := i 1) harg2 x2 (k0_off1_inb i) (k0_off1_eq i)
  have d := load_rows (r := i 1) harg6 x6 (k0_off1_inb i) (k0_off1_eq i)
  have l := load_line (r := i 1) harg7 x7 (k0_off2_inb i) (k0_off2_eq i)
  have n := load_line (r := i 1) harg8 x8 (k0_off2_inb i) (k0_off2_eq i)
  have q' := load_rows (r := blk 31) harg2 x2 inb_S16384x128_S512x128_15872_0 rfl
  have d' := load_rows (r := blk 31) harg6 x6 inb_S16384x128_S512x128_15872_0 rfl
  have l' := load_line (r := blk 31) harg7 x7 inb_S1x32x512_S1x1x512_0_31_0 rfl
  have n' := load_line (r := blk 31) harg8 x8 inb_S1x32x512_S1x1x512_0_31_0 rfl
  have w3 : arg3.view.readAt (Elt F) (Rect.unit (s := S512x128) ![0, 0] S512x128.size inb_S512x128_S512x128_0_0).toLoadRect (harg3.unread x3) = x3 :=
    (View.readAt_full ..).trans (harg3.read_unread x3)
  have w4 : arg4.view.readAt (Elt F) (Rect.unit (s := S128x512) ![0, 0] S128x512.size inb_S128x512_S128x512_0_0).toLoadRect (harg4.unread x4) = x4 :=
    (View.readAt_full ..).trans (harg4.read_unread x4)
  have w5 : arg5.view.readAt (Elt F) (Rect.unit (s := S512x128) ![0, 0] S512x128.size inb_S512x128_S512x128_0_0).toLoadRect (harg5.unread x5) = x5 :=
    (View.readAt_full ..).trans (harg5.read_unread x5)
  simp only [cc0_attn_bwd_eq_skeleton]; unfold cc0_attn_bwd_skel
  simp only [k0_part5_eq_skeleton, k0_part6_eq_skeleton, k0_part7_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%f11, %hf11, H11⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg11.eq_unread hf11
  clear hf2 hf3 hf4 hf5 hf6 hf7 hf8 hf11
  by_cases h0 : firstKeys i
  · by_cases h2 : k0_cond2 i = 1#1
    · have hf : arg11.view.read (Elt F) (arg11.view.writes (Elt F) arg11.view.junk [⟨Rect.unit (s := S1x32x128x512) ![0, 0, 0, 0] S1x32x128x512.size inb_S1x32x128x512_S1x32x128x512_0_0_0_0, k0_pay42 (F := F)⟩]) = startDq (i 1).val x11 :=
        (View.read_writes_full ..).trans (if_pos ((firstKeys_iff i).mp h0)).symm
      sl_exec (disch := first | sl_exact h0 | sl_exact h2)
      sl_step
      iapply Hk
      iapply (give_back c i arg2 harg2 arg3 harg3 arg4 harg4 arg5 harg5 arg6 harg6 arg7 harg7 arg8 harg8 arg9 arg10 arg11 x2 x3 x4 x5 x6 x7 x8 x11 _ _ _ ?e9 ?e10 ?e11) $$ [$H2 $H3 $H4 $H5 $H6 $H7 $H8 $H9 $H10 $H11]
      case e9 => refine (View.read_writes_full ..).trans ?_; exact congrArg k0_pay8 (odd_dk c i arg11 x2 x3 x4 x5 x6 x7 x8 x11 _ hf h2)
      case e10 => refine (View.read_writes_full ..).trans ?_; exact odd_dv c i arg11 x2 x3 x4 x5 x6 x7 x8 x11 _ hf h2
      case e11 => exact odd_dq c i arg11 harg11 x2 x3 x4 x5 x6 x7 x8 x11 _ hf h2
    · have hf : arg11.view.read (Elt F) (arg11.view.writes (Elt F) arg11.view.junk [⟨Rect.unit (s := S1x32x128x512) ![0, 0, 0, 0] S1x32x128x512.size inb_S1x32x128x512_S1x32x128x512_0_0_0_0, k0_pay42 (F := F)⟩]) = startDq (i 1).val x11 :=
        (View.read_writes_full ..).trans (if_pos ((firstKeys_iff i).mp h0)).symm
      sl_exec (disch := first | sl_exact h0 | sl_exact h2)
      sl_step
      iapply Hk
      iapply (give_back c i arg2 harg2 arg3 harg3 arg4 harg4 arg5 harg5 arg6 harg6 arg7 harg7 arg8 harg8 arg9 arg10 arg11 x2 x3 x4 x5 x6 x7 x8 x11 _ _ _ ?e9 ?e10 ?e11) $$ [$H2 $H3 $H4 $H5 $H6 $H7 $H8 $H9 $H10 $H11]
      case e9 => refine (View.read_writes_full ..).trans ?_; exact congrArg (fun s : St F => k0_pay8 s.1.1) (even_eq c i arg11 x2 x3 x4 x5 x6 x7 x8 x11 _ hf h2)
      case e10 => refine (View.read_writes_full ..).trans ?_; exact congrArg (fun s : St F => s.1.2) (even_eq c i arg11 x2 x3 x4 x5 x6 x7 x8 x11 _ hf h2)
      case e11 => exact even_dq c i arg11 harg11 x2 x3 x4 x5 x6 x7 x8 x11 _ hf h2
  · by_cases h2 : k0_cond2 i = 1#1
    · have hf : arg11.view.read (Elt F) (harg11.unread x11) = startDq (i 1).val x11 :=
        (harg11.read_unread x11).trans (if_neg fun h => h0 ((firstKeys_iff i).mpr h)).symm
      sl_exec (disch := first | sl_exact h0 | sl_exact h2)
      sl_step
      iapply Hk
      iapply (give_back c i arg2 harg2 arg3 harg3 arg4 harg4 arg5 harg5 arg6 harg6 arg7 harg7 arg8 harg8 arg9 arg10 arg11 x2 x3 x4 x5 x6 x7 x8 x11 _ _ _ ?e9 ?e10 ?e11) $$ [$H2 $H3 $H4 $H5 $H6 $H7 $H8 $H9 $H10 $H11]
      case e9 => refine (View.read_writes_full ..).trans ?_; exact congrArg k0_pay8 (odd_dk c i arg11 x2 x3 x4 x5 x6 x7 x8 x11 _ hf h2)
      case e10 => refine (View.read_writes_full ..).trans ?_; exact odd_dv c i arg11 x2 x3 x4 x5 x6 x7 x8 x11 _ hf h2
      case e11 => exact odd_dq c i arg11 harg11 x2 x3 x4 x5 x6 x7 x8 x11 _ hf h2
    · have hf : arg11.view.read (Elt F) (harg11.unread x11) = startDq (i 1).val x11 :=
        (harg11.read_unread x11).trans (if_neg fun h => h0 ((firstKeys_iff i).mpr h)).symm
      sl_exec (disch := first | sl_exact h0 | sl_exact h2)
      sl_step
      iapply Hk
      iapply (give_back c i arg2 harg2 arg3 harg3 arg4 harg4 arg5 harg5 arg6 harg6 arg7 harg7 arg8 harg8 arg9 arg10 arg11 x2 x3 x4 x5 x6 x7 x8 x11 _ _ _ ?e9 ?e10 ?e11) $$ [$H2 $H3 $H4 $H5 $H6 $H7 $H8 $H9 $H10 $H11]
      case e9 => refine (View.read_writes_full ..).trans ?_; exact congrArg (fun s : St F => k0_pay8 s.1.1) (even_eq c i arg11 x2 x3 x4 x5 x6 x7 x8 x11 _ hf h2)
      case e10 => refine (View.read_writes_full ..).trans ?_; exact congrArg (fun s : St F => s.1.2) (even_eq c i arg11 x2 x3 x4 x5 x6 x7 x8 x11 _ hf h2)
      case e11 => exact even_dq c i arg11 harg11 x2 x3 x4 x5 x6 x7 x8 x11 _ hf h2

end Cert.AttnIdeal.Gen

end
-- ==== Proof.AttnFrame.lean ====
module

public import proofs.«01_k».proof.Defs
public import proofs.«01_k».proof.Proof.AttnBody
public import proofs.«01_k».proof.Proof.Gen.AttnIdeal.Frame
public import proofs.«01_k».proof.Proof.Gen.Attn.Frame
public import Idealize.ShloMosaic.Lib.Pipeline.TableIdle
public import Idealize.ShloMosaic.Lib.Pipeline.FrameBody
public import Idealize.ShloMosaic.Lib.Claim

/-!
The run of the attention backward call, and the frames of its two programs. The query gradients' buffer carries over a
head's 32 points: `stAt` is the state point by point, each from the one before; a head's first point starts anew.
-/

@[expose] public section

set_option maxRecDepth 16384

noncomputable section

namespace Cert.AttnIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F] [Named F]
local notation "𝕄" => MT nD τ sig Unit (Elt F) ℕ (UR sig nD τ) ℕ
variable (m : (ℓ : Loc nD τ sig) → Buf (Elt F) ℓ) (ρ : Dev nD → PrngReg)

/-- A point's block of keys. -/
theorem coord_eq : ∀ t : Fin cfg0.N, (grid0.coords t 1).val = t.val % 32 := by decide +kernel

/-- The state a point leaves, from the query gradients it starts at. -/
def stepAt (c : Dev nD) (t : Fin cfg0.N) (x : Vec F S1x32x128x512 .f32) : St F :=
  endState (grid0.coords t) (iblk m c 0 t) (iblk m c 1 t) (iblk m c 2 t) (iblk m c 3 t) (iblk m c 4 t) (iblk m c 5 t) (iblk m c 6 t) x

/-- The state after each point. -/
def stAt (c : Dev nD) : (n : ℕ) → n < cfg0.N → St F
  | 0, hn => stepAt m c ⟨0, hn⟩ (k0_pay42 (F := F))
  | n + 1, hn => stepAt m c ⟨n + 1, hn⟩ (stAt c n (Nat.lt_of_succ_lt hn)).2

/-- At a head's first point the state does not depend on what the buffer held. -/
theorem stepAt_first (c : Dev nD) (t : Fin cfg0.N) (h : t.val % 32 = 0) (x y : Vec F S1x32x128x512 .f32) :
    stepAt m c t x = stepAt m c t y := by
  unfold stepAt endState pointState startDq
  rw [if_pos ((coord_eq t).trans h), if_pos ((coord_eq t).trans h)]

theorem stAt_first (c : Dev nD) (t : Fin cfg0.N) (h : t.val % 32 = 0) (x : Vec F S1x32x128x512 .f32) :
    stAt m c t.val t.isLt = stepAt m c t x := by
  obtain ⟨n, hn⟩ := t
  cases n with
  | zero => exact stepAt_first m c _ h _ _
  | succ n => exact stepAt_first m c _ h _ _

theorem stAt_next (c : Dev nD) (t : Fin cfg0.N) (h : ¬ t.val % 32 = 0) :
    stAt m c t.val t.isLt = stepAt m c t (stAt m c (t.val - 1) (Nat.lt_of_le_of_lt (Nat.sub_le _ _) t.isLt)).2 := by
  obtain ⟨n, hn⟩ := t
  cases n with
  | zero => exact absurd (Nat.zero_mod _) h
  | succ n => rfl

/-- The pipeline's proof data: the inputs' buffers at their blocks, the outputs' at the state's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => k0_pay8 (stAt m c t.val t.isLt).1.1
    | ⟨8, _⟩ => (stAt m c t.val t.isLt).1.2
    | ⟨9, _⟩ => (stAt m c t.val t.isLt).2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = k0_pay8 (stAt m c t.val t.isLt).1.1 := by dsimp only [dats]
theorem after0_8 (c : Dev nD) (t : Fin cfg0.N) : (dats m 0 c).after 8 t = (stAt m c t.val t.isLt).1.2 := by dsimp only [dats]
theorem after0_9 (c : Dev nD) (t : Fin cfg0.N) : (dats m 0 c).after 9 t = (stAt m c t.val t.isLt).2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-- Past a head's first point the query gradients' buffer holds what the point before left. -/
theorem before0_9 (c : Dev nD) (t : Fin cfg0.N) (h : ¬ t.val % 32 = 0) (d) :
    (dats m 0 c).before 9 t d = (stAt m c (t.val - 1) (Nat.lt_of_le_of_lt (Nat.sub_le _ _) t.isLt)).2 := by
  have hfresh : cfg0.fresh 9 t.val = false := by
    obtain ⟨n, hn⟩ := t
    cases n with
    | zero => exact absurd (Nat.zero_mod _) h
    | succ n =>
      have hf : ¬ (cfg0.win 9).flush ⟨n, Nat.lt_of_succ_lt hn⟩ = true := fun e => h (by
        have := (flush0_9 ⟨n, Nat.lt_of_succ_lt hn⟩).mp e
        dsimp only at this ⊢
        omega)
      unfold Pipeline.Cfg.fresh
      rw [dif_pos (Nat.lt_of_succ_lt hn), Bool.eq_false_iff.mpr hf]
      rfl
  rw [Dat.before_out_traj _ 9 rfl (fun _ _ => rfl) (fun _ _ hi _ => absurd hi Bool.false_ne_true) t.val t rfl d, hfresh,
    if_neg Bool.false_ne_true, after0_9]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t)

theorem leaves0_0 (c : Dev nD) (t : Fin cfg0.N) : (dats m 0 c).leavesExact 0 t = owns (c : Thread nD τ) (st0_0 t) fullShare (iblk m c 0 t) := by
  unfold Dat.leavesExact; rw [show cfg0.idle 0 (grid0.coords t) = false from rfl, after0_0]
theorem leaves0_1 (c : Dev nD) (t : Fin cfg0.N) : (dats m 0 c).leavesExact 1 t = owns (c : Thread nD τ) (st0_1 t) fullShare (iblk m c 1 t) := by
  unfold Dat.leavesExact; rw [show cfg0.idle 1 (grid0.coords t) = false from rfl, after0_1]
theorem leaves0_2 (c : Dev nD) (t : Fin cfg0.N) : (dats m 0 c).leavesExact 2 t = owns (c : Thread nD τ) (st0_2 t) fullShare (iblk m c 2 t) := by
  unfold Dat.leavesExact; rw [show cfg0.idle 2 (grid0.coords t) = false from rfl, after0_2]
theorem leaves0_3 (c : Dev nD) (t : Fin cfg0.N) : (dats m 0 c).leavesExact 3 t = owns (c : Thread nD τ) (st0_3 t) fullShare (iblk m c 3 t) := by
  unfold Dat.leavesExact; rw [show cfg0.idle 3 (grid0.coords t) = false from rfl, after0_3]
theorem leaves0_4 (c : Dev nD) (t : Fin cfg0.N) : (dats m 0 c).leavesExact 4 t = owns (c : Thread nD τ) (st0_4 t) fullShare (iblk m c 4 t) := by
  unfold Dat.leavesExact; rw [show cfg0.idle 4 (grid0.coords t) = false from rfl, after0_4]
theorem leaves0_5 (c : Dev nD) (t : Fin cfg0.N) : (dats m 0 c).leavesExact 5 t = owns (c : Thread nD τ) (st0_5 t) fullShare (iblk m c 5 t) := by
  unfold Dat.leavesExact; rw [show cfg0.idle 5 (grid0.coords t) = false from rfl, after0_5]
theorem leaves0_6 (c : Dev nD) (t : Fin cfg0.N) : (dats m 0 c).leavesExact 6 t = owns (c : Thread nD τ) (st0_6 t) fullShare (iblk m c 6 t) := by
  unfold Dat.leavesExact; rw [show cfg0.idle 6 (grid0.coords t) = false from rfl, after0_6]
theorem leaves0_7 (c : Dev nD) (t : Fin cfg0.N) : (dats m 0 c).leavesExact 7 t = owns (c : Thread nD τ) (st0_7 t) fullShare (k0_pay8 (stAt m c t.val t.isLt).1.1) := by
  unfold Dat.leavesExact; rw [show cfg0.idle 7 (grid0.coords t) = false from rfl, after0_7]
theorem leaves0_8 (c : Dev nD) (t : Fin cfg0.N) : (dats m 0 c).leavesExact 8 t = owns (c : Thread nD τ) (st0_8 t) fullShare ((stAt m c t.val t.isLt).1.2) := by
  unfold Dat.leavesExact; rw [show cfg0.idle 8 (grid0.coords t) = false from rfl, after0_8]
theorem leaves0_9 (c : Dev nD) (t : Fin cfg0.N) : (dats m 0 c).leavesExact 9 t = owns (c : Thread nD τ) (st0_9 t) fullShare ((stAt m c t.val t.isLt).2) := by
  unfold Dat.leavesExact; rw [show cfg0.idle 9 (grid0.coords t) = false from rfl, after0_9]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl,
    leaves0_0, leaves0_1, leaves0_2, leaves0_3, leaves0_4, leaves0_5, leaves0_6, leaves0_7, leaves0_8, leaves0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  have e : stAt m c t.val t.isLt = stepAt m c t ((dats m 0 c).before 9 t d9) := by
    by_cases h : t.val % 32 = 0
    · exact stAt_first m c t h _
    · rw [before0_9 m c t h, stAt_next m c t h]
  rw [e]
  iapply (body_run c (grid0.coords t) _ _ _ _ _ _ _ _ _ _ _ _ _ _ _ _ _ _ _ _ (iblk m c 0 t) (iblk m c 1 t) (iblk m c 2 t) (iblk m c 3 t) (iblk m c 4 t) (iblk m c 5 t) (iblk m c 6 t) ((dats m 0 c).before 9 t d9) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  iintro H
  isplitl [HΦ]; · iexact HΦ
  isplitl [Ho]; · iexact Ho
  iexact H

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch: the arrays at what the proof data computes, the other buffers as the later lines leave them, no counter left. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame, at any values. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_quiescent m ρ)))
    ((θ_run defs _ _).mono (fun _ h => h.2) (run_quiescent m ρ))

end Cert.AttnIdeal.Gen

namespace Cert.AttnFrame

open Idealize.ShloMosaic Idealize.ShloMosaic.Tactic Idealize.SL.Sem

theorem frame_ideal : Cert.quiescent_AttnIdeal := fun m ρ _ => Cert.AttnIdeal.Gen.run_frame m ρ

/-- A named constant read at bits: its word. -/
abbrev words : Named Bits := ⟨fun _ _ {φ} bits => Scalar.ofBits φ bits⟩
attribute [local instance] words

/-- The programs of the two frames, read at bits, are the same: their frames are. -/
theorem frames_eq (m : (ℓ : Loc Cert.Attn.nD Cert.Attn.τ Cert.Attn.sig) → Buf (Elt Bits) ℓ) (ρ : Dev Cert.Attn.nD → PrngReg) :
    θ_run (Cert.AttnIdeal.defs (F := Bits)) (onTc (τ := Cert.AttnIdeal.τ) (Cert.AttnIdeal.main (F := Bits))) ⟨m, fun _ => 0, ρ⟩
      = θ_run (Cert.Attn.defs (F := Bits)) (onTc (τ := Cert.Attn.τ) (Cert.Attn.main (F := Bits))) ⟨m, fun _ => 0, ρ⟩ := by
  sl_kernel_rfl

theorem frame_kernel : Cert.quiescent_Attn := fun m ρ _ => by
  have h := Cert.AttnIdeal.Gen.run_frame (F := Bits) m ρ
  have e := frames_eq m ρ
  exact e ▸ h

end Cert.AttnFrame

end
-- ==== Proof.AttnPays.lean ====
/- The attention backward's grid point, read at an index: its probabilities and score gradients, and what it adds to the
   three gradients, as sums over every block of queries. -/
module

public import proofs.«01_k».proof.Proof.AttnStep
public import proofs.«01_k».proof.Proof.Consts
public import Idealize.ShloMosaic.Lib.Pipeline.ValueKit
public import Idealize.ShloMosaic.Lib.WordCmp

@[expose] public section

set_option maxRecDepth 16384

noncomputable section

namespace Cert.AttnIdeal.Value

open Cert.AttnIdeal Cert.AttnIdeal.Gen
open Idealize.ShloMosaic Idealize.ShloMosaic.TcCoe Idealize.ShloMosaic.Tactic Idealize.SL.Sem

/-- Query (or key) `b` of block `r`. -/
def tok (r : Fin 32) (b : Fin 512) : Fin 16384 := ⟨512 * r.val + b.val, by have := r.isLt; have := b.isLt; omega⟩

theorem rows_apply (x : Vec Ideal S16384x128 .bf16) (r : Fin 32) (b : Fin 512) (i : Fin 128) :
    rows x r (ix2 b i) = x (ix2 (tok r b) i) := by
  unfold rows VecWindow.window
  refine congrArg x (funext fun a => Fin.ext ?_)
  match a with
  | ⟨0, _⟩ => show 512 * r.val + 1 * b.val = 512 * r.val + b.val; omega
  | ⟨1, _⟩ => show 0 + 1 * i.val = i.val; omega

theorem line_apply (x : Vec Ideal S1x32x512 .f32) (r : Fin 32) (b : Fin 512) :
    line x r (ix3 0 0 b) = x (ix3 0 r b) := by
  unfold line VecWindow.window
  refine congrArg x (funext fun a => Fin.ext ?_)
  match a with
  | ⟨0, _⟩ => exact rfl
  | ⟨1, _⟩ => exact rfl
  | ⟨2, _⟩ => show 0 + 1 * b.val = b.val; omega

theorem slab_apply (x : Vec Ideal S1x32x128x512 .f32) (r : Fin 32) (i : Fin 128) (b : Fin 512) :
    slab x r (ix4 0 0 i b) = x (ix4 0 r i b) := by
  unfold slab VecWindow.window
  refine congrArg x (funext fun a => Fin.ext ?_)
  match a with
  | ⟨0, _⟩ => exact rfl
  | ⟨1, _⟩ => exact rfl
  | ⟨2, _⟩ => show 0 + 1 * i.val = i.val; omega
  | ⟨3, _⟩ => show 0 + 1 * b.val = b.val; omega

theorem slab_putSlab (x : Vec Ideal S1x32x128x512 .f32) (r : Fin 32) (w : Vec Ideal S1x1x128x512 .f32) :
    slab (putSlab x r w) r = w := VecWindow.window_put_same x _ _ (slab_inb r) w

/-! ## The values the body computes -/

section Payloads

variable (v w q d : Vec Ideal S512x128 .bf16) (l e : Vec Ideal S1x1x512 .f32) (a b : Fin 512) (i : Fin 128)

theorem prob_pay : k0_pay12 v q l (ix2 a b) = Ideal.exp2 ((∑ i : Fin 128, v (ix2 a i) * q (ix2 b i)) - l (ix3 0 0 b)) := by
  open_payloads; pointwise; rfl

theorem grad_pay : k0_pay13 v w q d l e (ix2 a b)
    = k0_pay12 v q l (ix2 a b) * ((∑ i : Fin 128, w (ix2 a i) * d (ix2 b i)) - e (ix3 0 0 b)) := by
  open_payloads; pointwise

theorem dq_pay (k : FVec Ideal S128x512 .bf16) (g : FVec Ideal S512x512 .bf16) (o : Vec Ideal S1x1x128x512 .f32) :
    k0_pay14 k g o (ix4 0 0 i b) = o (ix4 0 0 i b) + ∑ a : Fin 512, k (ix2 i a) * g (ix2 a b) := by
  open_payloads; pointwise

theorem dk_pay (s : FVec Ideal S512x128 .f32) (g : FVec Ideal S512x512 .bf16) :
    k0_pay15 s q g (ix2 a i) = s (ix2 a i) + ∑ b : Fin 512, g (ix2 a b) * q (ix2 b i) := by
  open_payloads; pointwise

theorem dv_pay (s : FVec Ideal S512x128 .f32) (p : FVec Ideal S512x512 .f32) :
    k0_pay16 s d p (ix2 a i) = s (ix2 a i) + ∑ b : Fin 512, p (ix2 a b) * d (ix2 b i) := by
  open_payloads; pointwise

theorem diag_prob_pay : k0_pay46 v q l (ix2 a b) = if a.val ≤ b.val then k0_pay12 v q l (ix2 a b) else 0 := by
  have hc : IntOp.cmpi .sle (BitVec.ofNat 32 a.val) (BitVec.ofNat 32 b.val) = 1#1 ↔ a.val ≤ b.val :=
    WordCmp.cmpi_sle_ofNat_eq_one_iff (by have := a.isLt; omega) (by have := b.isLt; omega)
  open_payloads; pointwise
  by_cases h : a.val ≤ b.val
  · rw [if_pos h, hc.mpr h]
    exact (prob_pay v q l a b).symm
  · rw [if_neg h, ValueIdx.eq_zero_of_ne_one fun e => h (hc.mp e), Words.neg_inf]
    exact congrArg Ideal.exp2 (EReal.bot_sub _)

theorem diag_dq_pay (k : FVec Ideal S128x512 .bf16) (p : FVec Ideal S512x512 .f32) (o : Vec Ideal S1x1x128x512 .f32) :
    k0_pay48 w k d p (constant S512x512 .f32 0x00000000#32) e o (ix4 0 0 i b)
      = o (ix4 0 0 i b) + ∑ a : Fin 512, k (ix2 i a) * (p (ix2 a b) * ((∑ i : Fin 128, w (ix2 a i) * d (ix2 b i)) - e (ix3 0 0 b))) := by
  open_payloads; pointwise

theorem diag_dk_pay (p : FVec Ideal S512x512 .f32) :
    k0_pay49 w (k0_pay43 (F := Ideal)) q d p (constant S512x512 .f32 0x00000000#32) e (ix2 a i)
      = ∑ b : Fin 512, (p (ix2 a b) * ((∑ i : Fin 128, w (ix2 a i) * d (ix2 b i)) - e (ix3 0 0 b))) * q (ix2 b i) := by
  open_payloads; pointwise

theorem diag_dv_pay (p : FVec Ideal S512x512 .f32) :
    k0_pay50 (k0_pay43 (F := Ideal)) d p (ix2 a i) = ∑ b : Fin 512, p (ix2 a b) * d (ix2 b i) := by
  open_payloads; pointwise

end Payloads

end Cert.AttnIdeal.Value

end
-- ==== Proof.AttnPoint.lean ====
/- What a grid point of the attention backward leaves: the gradients of its block of keys and of its values as sums over the
   blocks of queries, and the query gradients with the block's share added. -/
module

public import proofs.«01_k».proof.Proof.AttnPays

@[expose] public section

set_option maxRecDepth 16384

noncomputable section

namespace Cert.AttnIdeal.Value

open Cert.AttnIdeal Cert.AttnIdeal.Gen
open Idealize.ShloMosaic Idealize.ShloMosaic.TcCoe Idealize.ShloMosaic.Tactic Idealize.SL.Sem

variable (x2 : Vec Ideal S16384x128 .bf16) (x3 : Vec Ideal S512x128 .bf16) (x4 : Vec Ideal S128x512 .bf16) (x5 : Vec Ideal S512x128 .bf16)
  (x6 : Vec Ideal S16384x128 .bf16) (x7 x8 : Vec Ideal S1x32x512 .f32) (j : Fin 32)

/-- The probability of key `a` of block `j` at query `b` of block `r`: zero before the key. -/
def prob (r : Fin 32) (a b : Fin 512) : EReal :=
  if (tok j a).val ≤ (tok r b).val then Ideal.exp2 ((∑ i : Fin 128, x3 (ix2 a i) * x2 (ix2 (tok r b) i)) - x7 (ix3 0 r b)) else 0

/-- Its score's gradient. -/
def grad (r : Fin 32) (a b : Fin 512) : EReal :=
  prob x2 x3 x7 j r a b * ((∑ i : Fin 128, x5 (ix2 a i) * x6 (ix2 (tok r b) i)) - x8 (ix3 0 r b))

/-- The three sums' terms. -/
def dkT (a : Fin 512) (i : Fin 128) (r : Fin 32) : EReal := ∑ b : Fin 512, grad x2 x3 x5 x6 x7 x8 j r a b * x2 (ix2 (tok r b) i)
def dvT (a : Fin 512) (i : Fin 128) (r : Fin 32) : EReal := ∑ b : Fin 512, prob x2 x3 x7 j r a b * x6 (ix2 (tok r b) i)
def dqT (i : Fin 128) (b : Fin 512) (r : Fin 32) : EReal := ∑ a : Fin 512, x4 (ix2 i a) * grad x2 x3 x5 x6 x7 x8 j r a b

theorem prob_of_lt {r : Fin 32} (h : r.val < j.val) (a b : Fin 512) : prob x2 x3 x7 j r a b = 0 :=
  if_neg (by show ¬ 512 * j.val + a.val ≤ 512 * r.val + b.val; have := b.isLt; omega)

theorem grad_of_lt {r : Fin 32} (h : r.val < j.val) (a b : Fin 512) : grad x2 x3 x5 x6 x7 x8 j r a b = 0 := by
  unfold grad; rw [prob_of_lt x2 x3 x7 j h, zero_mul]

theorem dkT_of_lt {r : Fin 32} (h : r.val < j.val) (a : Fin 512) (i : Fin 128) : dkT x2 x3 x5 x6 x7 x8 j a i r = 0 :=
  Finset.sum_eq_zero fun b _ => by rw [grad_of_lt x2 x3 x5 x6 x7 x8 j h, zero_mul]
theorem dvT_of_lt {r : Fin 32} (h : r.val < j.val) (a : Fin 512) (i : Fin 128) : dvT x2 x3 x6 x7 j a i r = 0 :=
  Finset.sum_eq_zero fun b _ => by rw [prob_of_lt x2 x3 x7 j h, zero_mul]
theorem dqT_of_lt {r : Fin 32} (h : r.val < j.val) (i : Fin 128) (b : Fin 512) : dqT x2 x3 x4 x5 x6 x7 x8 j i b r = 0 :=
  Finset.sum_eq_zero fun a _ => by rw [grad_of_lt x2 x3 x5 x6 x7 x8 j h, mul_zero]

/-- The state after the blocks `j … n - 1`, from query gradients `x`. -/
structure Upto (x : Vec Ideal S1x32x128x512 .f32) (n : ℕ) (s : St Ideal) : Prop where
  dk : ∀ a i, s.1.1 (ix2 a i) = ∑ r ∈ Finset.Ico j.val n, dkT x2 x3 x5 x6 x7 x8 j a i (blk r)
  dv : ∀ a i, s.1.2 (ix2 a i) = ∑ r ∈ Finset.Ico j.val n, dvT x2 x3 x6 x7 j a i (blk r)
  dq : ∀ r i b, s.2 (ix4 0 r i b) = x (ix4 0 r i b) + if r.val < n then dqT x2 x3 x4 x5 x6 x7 x8 j i b r else 0

theorem pay39_eq (x : Vec Ideal S512x128 .bf16) : k0_pay39 x = x := by funext y; idx_vars y; open_payloads; pointwise
theorem pay40_eq (x : Vec Ideal S512x128 .bf16) : k0_pay40 x = x := by funext y; idx_vars y; open_payloads; pointwise
theorem pay41_eq (x : Vec Ideal S128x512 .bf16) : k0_pay41 x = x := by funext y; idx_vars y; open_payloads; pointwise
theorem pay10_eq (x : Vec Ideal S512x128 .bf16) : k0_pay10 x = x := by funext y; idx_vars y; open_payloads; pointwise
theorem pay11_eq (x : Vec Ideal S512x128 .bf16) : k0_pay11 x = x := by funext y; idx_vars y; open_payloads; pointwise
theorem pay44_eq (x : Vec Ideal S512x128 .bf16) : k0_pay44 x = x := by funext y; idx_vars y; open_payloads; pointwise
theorem pay45_eq (x : Vec Ideal S512x128 .bf16) : k0_pay45 x = x := by funext y; idx_vars y; open_payloads; pointwise

/-- Below the diagonal nothing is masked. -/
theorem prob_below {r : Fin 32} (h : j.val < r.val) (a b : Fin 512) :
    k0_pay12 x3 (rows x2 r) (line x7 r) (ix2 a b) = prob x2 x3 x7 j r a b := by
  rw [prob_pay, prob, if_pos (by show 512 * j.val + a.val ≤ 512 * r.val + b.val; have := a.isLt; omega), line_apply]
  simp only [rows_apply]

theorem grad_below {r : Fin 32} (h : j.val < r.val) (a b : Fin 512) :
    scoreGrad x3 x5 x2 x6 x7 x8 r (ix2 a b) = grad x2 x3 x5 x6 x7 x8 j r a b := by
  unfold scoreGrad grad
  rw [grad_pay, prob_below x2 x3 x7 j h, line_apply]
  simp only [rows_apply]

theorem step_upto {x : Vec Ideal S1x32x128x512 .f32} {n : ℕ} {s : St Ideal} (hj : j.val < n) (hn : n < 32)
    (h : Upto x2 x3 x4 x5 x6 x7 x8 j x n s) : Upto x2 x3 x4 x5 x6 x7 x8 j x (n + 1) (rowStep x3 x5 x4 x2 x6 x7 x8 (blk n) s) := by
  have hb : (blk n).val = n := blk_val hn
  have hjb : j.val < (blk n).val := by omega
  refine ⟨fun a i => ?_, fun a i => ?_, fun r i b => ?_⟩
  · rw [Finset.sum_Ico_succ_top hj.le, ← h.dk a i]
    unfold rowStep dkT
    dsimp only
    rw [pay10_eq, dk_pay]
    simp only [grad_below x2 x3 x5 x6 x7 x8 j hjb, rows_apply]
  · rw [Finset.sum_Ico_succ_top hj.le, ← h.dv a i]
    unfold rowStep dvT
    dsimp only
    rw [pay11_eq, dv_pay]
    simp only [prob_below x2 x3 x7 j hjb, rows_apply]
  · unfold rowStep
    dsimp only
    refine (slab_apply _ r i b).symm.trans ?_
    by_cases e : blk n = r
    · subst e
      rw [slab_putSlab, dq_pay, slab_apply, h.dq, if_neg (by omega), if_pos (by omega), add_zero]
      simp only [grad_below x2 x3 x5 x6 x7 x8 j hjb]
      rfl
    · have hr : r.val ≠ n := fun q => e (Fin.ext (hb.trans q.symm))
      rw [slab_putSlab_ne _ e, slab_apply, h.dq]
      exact congrArg _ (if_congr (by omega) rfl rfl)

theorem pairs_upto {x : Vec Ideal S1x32x128x512 .f32} {s : St Ideal}
    (h : Upto x2 x3 x4 x5 x6 x7 x8 j x (j.val + 1) s) (n : ℕ) (hn : j.val + 1 + 2 * n ≤ 32) :
    Upto x2 x3 x4 x5 x6 x7 x8 j x (j.val + 1 + 2 * n) (pairs x3 x5 x4 x2 x6 x7 x8 j.val n s) := by
  induction n with
  | zero => exact h
  | succ n ih =>
    show Upto x2 x3 x4 x5 x6 x7 x8 j x (j.val + 1 + 2 * n + 1 + 1) _
    exact step_upto x2 x3 x4 x5 x6 x7 x8 j (by omega) (by omega)
      (step_upto x2 x3 x4 x5 x6 x7 x8 j (by omega) (by omega) (ih (by omega)))

/-- On the diagonal the queries before the key are masked. -/
theorem prob_diag (a b : Fin 512) : k0_pay46 x3 (rows x2 j) (line x7 j) (ix2 a b) = prob x2 x3 x7 j j a b := by
  rw [diag_prob_pay, prob_pay, prob, line_apply]
  simp only [rows_apply]
  exact if_congr (by show _ ↔ 512 * j.val + a.val ≤ 512 * j.val + b.val; omega) rfl rfl

theorem diag_upto (x : Vec Ideal S1x32x128x512 .f32) :
    Upto x2 x3 x4 x5 x6 x7 x8 j x (j.val + 1) (diagStep x2 x3 x4 x5 x6 x7 x8 j x) := by
  have hb : blk j.val = j := Fin.ext (blk_val j.isLt)
  refine ⟨fun a i => ?_, fun a i => ?_, fun r i b => ?_⟩
  · rw [Nat.Ico_succ_singleton, Finset.sum_singleton, hb]
    unfold diagStep dkT grad
    dsimp only
    rw [pay40_eq, pay44_eq, pay45_eq, diag_dk_pay]
    simp only [prob_diag, rows_apply, line_apply]
  · rw [Nat.Ico_succ_singleton, Finset.sum_singleton, hb]
    unfold diagStep dvT
    dsimp only
    rw [pay45_eq, diag_dv_pay]
    simp only [prob_diag, rows_apply]
  · unfold diagStep
    dsimp only
    refine (slab_apply _ r i b).symm.trans ?_
    by_cases e : j = r
    · subst e
      rw [slab_putSlab, pay40_eq, pay41_eq, pay45_eq, diag_dq_pay, slab_apply, if_pos (by omega)]
      simp only [prob_diag, rows_apply, line_apply]
      rfl
    · have hr : r.val ≠ j.val := fun q => e (Fin.ext q.symm)
      rw [slab_putSlab_ne _ e, slab_apply]
      by_cases hl : r.val < j.val + 1
      · rw [if_pos hl, dqT_of_lt x2 x3 x4 x5 x6 x7 x8 j (by omega), add_zero]
      · rw [if_neg hl, add_zero]

/-- A whole point. -/
theorem point_upto (x : Vec Ideal S1x32x128x512 .f32) :
    Upto x2 x3 x4 x5 x6 x7 x8 j (startDq j.val x) 32 (pointState x2 x3 x4 x5 x6 x7 x8 j x) := by
  have hj := j.isLt
  have h := pairs_upto x2 x3 x4 x5 x6 x7 x8 j (diag_upto x2 x3 x4 x5 x6 x7 x8 j (startDq j.val x)) ((31 - j.val) / 2) (by omega)
  unfold pointState lastStep
  rw [pay39_eq, pay40_eq, pay41_eq]
  by_cases e : (31 - j.val) % 2 = 1
  · rw [if_pos e]
    have e31 : j.val + 1 + 2 * ((31 - j.val) / 2) = 31 := by omega
    rw [e31] at h
    exact step_upto x2 x3 x4 x5 x6 x7 x8 j (by omega) (by omega) h
  · rw [if_neg e]
    have e32 : j.val + 1 + 2 * ((31 - j.val) / 2) = 32 := by omega
    rw [e32] at h
    exact h

/-- A sum over the blocks from `j` on, of what is zero before, is over all blocks. -/
theorem sum_blocks (f : Fin 32 → EReal) (h : ∀ r : Fin 32, r.val < j.val → f r = 0) :
    ∑ r ∈ Finset.Ico j.val 32, f (blk r) = ∑ r : Fin 32, f r := by
  rw [Finset.sum_subset (s₂ := Finset.range 32) (fun r hr => Finset.mem_range.mpr (Finset.mem_Ico.mp hr).2), Finset.sum_range]
  · exact Finset.sum_congr rfl fun r _ => congrArg f (Fin.ext (blk_val r.isLt))
  · intro r hr hr'
    have h32 := Finset.mem_range.mp hr
    refine h _ ?_
    rw [blk_val h32]
    by_contra hc
    exact hr' (Finset.mem_Ico.mpr ⟨by omega, h32⟩)

theorem point_dk (x : Vec Ideal S1x32x128x512 .f32) (a : Fin 512) (i : Fin 128) :
    (pointState x2 x3 x4 x5 x6 x7 x8 j x).1.1 (ix2 a i) = ∑ r : Fin 32, dkT x2 x3 x5 x6 x7 x8 j a i r :=
  ((point_upto x2 x3 x4 x5 x6 x7 x8 j x).dk a i).trans (sum_blocks j _ fun r h => dkT_of_lt x2 x3 x5 x6 x7 x8 j h a i)

theorem point_dv (x : Vec Ideal S1x32x128x512 .f32) (a : Fin 512) (i : Fin 128) :
    (pointState x2 x3 x4 x5 x6 x7 x8 j x).1.2 (ix2 a i) = ∑ r : Fin 32, dvT x2 x3 x6 x7 j a i r :=
  ((point_upto x2 x3 x4 x5 x6 x7 x8 j x).dv a i).trans (sum_blocks j _ fun r h => dvT_of_lt x2 x3 x6 x7 j h a i)

theorem point_dq (x : Vec Ideal S1x32x128x512 .f32) (r : Fin 32) (i : Fin 128) (b : Fin 512) :
    (pointState x2 x3 x4 x5 x6 x7 x8 j x).2 (ix4 0 r i b) = startDq j.val x (ix4 0 r i b) + dqT x2 x3 x4 x5 x6 x7 x8 j i b r := by
  rw [(point_upto x2 x3 x4 x5 x6 x7 x8 j x).dq r i b, if_pos r.isLt]

/-- The query gradients start at zero. -/
theorem start_zero (r : Fin 32) (i : Fin 128) (b : Fin 512) : (k0_pay42 (F := Ideal)) (ix4 0 r i b) = 0 := by
  open_payloads; pointwise

end Cert.AttnIdeal.Value

end
-- ==== Proof.AttnHost.lean ====
/- What the attention backward's host code computes before its call: the padded heads' slots, the logarithms of the
   softmax's sums, and the products of each output with its cotangent, as values of the program's arguments. -/
module

public import proofs.«01_k».proof.Proof.AttnFrame
public import Idealize.ShloMosaic.Lib.Pipeline.ValueKit
public import Idealize.ShloMosaic.Lib.WordCmp
public import proofs.«01_k».proof.Proof.Consts
public import Idealize.ShloMosaic.Lib.StableHlo.RunRead

@[expose] public section

set_option maxRecDepth 16384

noncomputable section

namespace Cert.AttnIdeal.Value

open Cert.AttnIdeal Cert.AttnIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- The arguments: queries, keys, values, the output's cotangent. -/
abbrev qA (c : Dev nD) : S16384x8x96.Idx → EReal := m ((c : Thread nD τ).loc main_arg0)
abbrev kA (c : Dev nD) : S16384x8x96.Idx → EReal := m ((c : Thread nD τ).loc main_arg1)
abbrev vA (c : Dev nD) : S16384x8x64.Idx → EReal := m ((c : Thread nD τ).loc main_arg2)
abbrev oA (c : Dev nD) : S16384x8x64.Idx → EReal := m ((c : Thread nD τ).loc main_arg3)

/-- The scaled scores, minus infinity where the key comes after the query. -/
def scoreV (q k : FVec Ideal S16384x8x96 .f32) : FVec Ideal S8x16384x16384 .f32 :=
  select (broadcastInDim S8x16384x16384 ![0, 1, 2] bcast_S1x16384x16384_S8x16384x16384_0_1_2
      (cmpi .sle
        (broadcastInDim S1x16384x16384 ![0, 1, 2] bcast_S1x1x16384_S1x16384x16384_0_1_2
          (broadcastInDim S1x1x16384 ![2] bcast_S16384_S1x1x16384_2 (iotaInDim S16384 32 0)))
        (broadcastInDim S1x16384x16384 ![0, 1, 2] bcast_S1x16384x1_S1x16384x16384_0_1_2
          (broadcastInDim S1x16384x1 ![1] bcast_S16384_S1x16384x1_1 (iotaInDim S16384 32 0)))))
    (mulf (Host.dotGeneral dot_S16384x8x96_S16384x8x96_S8x16384x16384_2_2_0_0_1_1 none q k)
      (broadcastInDim S8x16384x16384 ![] bcast_S_S8x16384x16384 (constant S_ .f32 0x3DD105EC#32)))
    (broadcastInDim S8x16384x16384 ![] bcast_S_S8x16384x16384 (id (constant S_ .f32 0xFF800000#32)))

/-- Each query's largest score. -/
def maxV (s : FVec Ideal S8x16384x16384 .f32) : FVec Ideal S8x16384 .f32 :=
  Host.reduce FloatOps.maximumf s (constant S_ .f32 0xFF800000#32) reducesTo_S8x16384x16384_S8x16384_d2 h_S_

/-- A query's value, at each of its keys. -/
def overKeys (x : FVec Ideal S8x16384 .f32) : FVec Ideal S8x16384x16384 .f32 :=
  broadcastInDim S8x16384x16384 ![0, 1, 2] bcast_S8x16384x1_S8x16384x16384_0_1_2
    (broadcastInDim S8x16384x1 ![0, 1] bcast_S8x16384_S8x16384x1_0_1 x)

/-- The exponentials of the scores, shifted. -/
def expV (s : FVec Ideal S8x16384x16384 .f32) (x : FVec Ideal S8x16384 .f32) : FVec Ideal S8x16384x16384 .f32 :=
  Host.exp (subf s (overKeys x))

def sumV (e : FVec Ideal S8x16384x16384 .f32) : FVec Ideal S8x16384 .f32 :=
  Host.reduceAdd e (constant S_ .f32 0x00000000#32) reducesTo_S8x16384x16384_S8x16384_d2 h_S_

/-- The logarithm to base two of the softmax's sums, from the largest scores and the shifted sums. -/
def lseOf (x l : FVec Ideal S8x16384 .f32) : FVec Ideal S8x16384 .f32 :=
  Host.divf (addf x (Host.log l)) (broadcastInDim S8x16384 ![] bcast_S_S8x16384 (id (Host.log (constant S_ .f32 0x40000000#32))))
def lseV (s : FVec Ideal S8x16384x16384 .f32) : FVec Ideal S8x16384 .f32 := lseOf (maxV s) (sumV (expV s (maxV s)))

/-- The softmax, and the attention's output. -/
def fromBot (x : FVec Ideal S8x16384 .f32) : FVec Ideal S8x16384 .f32 :=
  maximumf (broadcastInDim S8x16384 ![] bcast_S_S8x16384 (constant S_ .f32 0xFF800000#32)) x
def normV (e : FVec Ideal S8x16384x16384 .f32) (l : FVec Ideal S8x16384 .f32) : FVec Ideal S8x16384x16384 .f32 :=
  Host.divf e (overKeys l)
def softV (s : FVec Ideal S8x16384x16384 .f32) : FVec Ideal S8x16384x16384 .f32 :=
  normV (expV s (fromBot (maxV s))) (sumV (expV s (fromBot (maxV s))))
def outOf (p : FVec Ideal S8x16384x16384 .f32) (v : FVec Ideal S16384x8x64 .f32) : FVec Ideal S16384x8x64 .f32 :=
  transpose S16384x8x64 [2, 0, 1]
    (Host.dotGeneral dot_S16384x8x64_S8x16384x16384_S8x64x16384_0_2_2_1_1_0 none v p) transposes_S8x64x16384_S16384x8x64_2_0_1

/-- Each query's product of output and cotangent. -/
def deltaOf (o d : FVec Ideal S16384x8x64 .f32) : FVec Ideal S8x16384 .f32 :=
  transpose S8x16384 [1, 0]
    (Host.reduceAdd (mulf d o) (constant S_ .f32 0x00000000#32) reducesTo_S16384x8x64_S16384x8_d2 h_S_)
    transposes_S16384x8_S8x16384_1_0
def deltaV (s : FVec Ideal S8x16384x16384 .f32) (v d : FVec Ideal S16384x8x64 .f32) : FVec Ideal S8x16384 .f32 :=
  deltaOf (outOf (softV s) v) d

/-- The queries, scaled for powers of two. -/
def scaledV (q : FVec Ideal S16384x8x96 .f32) : FVec Ideal S16384x8x96 .f32 :=
  Host.divf (mulf q (broadcastInDim S16384x8x96 ![] bcast_S_S16384x8x96 (constant S_ .f32 0x3DD105EC#32)))
    (broadcastInDim S16384x8x96 ![] bcast_S_S16384x8x96 (id (Host.log (constant S_ .f32 0x40000000#32))))

/-- Heads of 96 and of 64 columns, each put in a slot of 128. -/
def slots96 (x : FVec Ideal S16384x8x96 .f32) : FVec Ideal S16384x1024 .bf16 :=
  shapeCast S16384x1024 (pad S16384x8x128 ![0, 0, 0] ![0, 0, 32] ![0, 0, 0]
    (shapeCast S16384x8x96 (truncf .bf16 (shapeCast S16384x768 x shapeCasts_S16384x8x96_S16384x768) bitsLt_bf16_f32) shapeCasts_S16384x768_S16384x8x96 : FVec Ideal S16384x8x96 .bf16)
    (sitofp .bf16 (constantI S_ 32 0x0#32) : FVec Ideal S_ .bf16) pads_S16384x8x96_S16384x8x128_000_000_0320 h_S_) shapeCasts_S16384x8x128_S16384x1024
def slots64 (x : FVec Ideal S16384x8x64 .f32) : FVec Ideal S16384x1024 .bf16 :=
  shapeCast S16384x1024 (pad S16384x8x128 ![0, 0, 0] ![0, 0, 64] ![0, 0, 0]
    (shapeCast S16384x8x64 (truncf .bf16 (shapeCast S16384x512 x shapeCasts_S16384x8x64_S16384x512) bitsLt_bf16_f32) shapeCasts_S16384x512_S16384x8x64 : FVec Ideal S16384x8x64 .bf16)
    (sitofp .bf16 (constantI S_ 32 0x0#32) : FVec Ideal S_ .bf16) pads_S16384x8x64_S16384x8x128_000_000_0640 h_S_) shapeCasts_S16384x8x128_S16384x1024

/-- Slot `i` of head `h`, as a column of the packed heads. -/
def col (h : Fin 8) (i : Fin 128) : Fin 1024 := ⟨128 * h.val + i.val, by omega⟩

theorem zero_bf16 : (FloatOps.sitofp (F := Ideal) .bf16 (0#32 : BitVec 32) : EReal) = 0 := by
  show (((0#32 : BitVec 32).toInt : ℝ) : EReal) = 0
  simp

theorem slots96_at (x : FVec Ideal S16384x8x96 .f32) (Q : Fin 16384) (h : Fin 8) (i : Fin 128) :
    slots96 x (ix2 Q (col h i)) = if hi : i.val < 96 then x (ix3 Q h ⟨i.val, hi⟩) else 0 := by
  unfold slots96 col
  pointwise
  split
  · rename_i hi
    exact congrArg x (congrArg₂ (ix3 Q) (Fin.ext (by show (h.val * 96 + i.val) / 96 = h.val; omega)) (Fin.ext (by show (h.val * 96 + i.val) % 96 = i.val; omega)))
  · exact zero_bf16

theorem slots64_at (x : FVec Ideal S16384x8x64 .f32) (Q : Fin 16384) (h : Fin 8) (i : Fin 128) :
    slots64 x (ix2 Q (col h i)) = if hi : i.val < 64 then x (ix3 Q h ⟨i.val, hi⟩) else 0 := by
  unfold slots64 col
  pointwise
  split
  · rename_i hi
    exact congrArg x (congrArg₂ (ix3 Q) (Fin.ext (by show (h.val * 64 + i.val) / 64 = h.val; omega)) (Fin.ext (by show (h.val * 64 + i.val) % 64 = i.val; omega)))
  · exact zero_bf16

/-- The causal comparison of two positions' words. -/
theorem causal (K Q : Fin 16384) (a b : EReal) :
    Scalar.select (IntOp.cmpi CmpIPredicate.sle (BitVec.ofNat 32 K.val) (BitVec.ofNat 32 Q.val)) a b = if K.val ≤ Q.val then a else b := by
  have hK := K.isLt
  have hQ := Q.isLt
  by_cases h : K.val ≤ Q.val
  · rw [if_pos h, (WordCmp.cmpi_sle_ofNat_eq_one_iff (by omega) (by omega)).mpr h]; rfl
  · rw [if_neg h, ValueIdx.eq_zero_of_ne_one fun hc => h ((WordCmp.cmpi_sle_ofNat_eq_one_iff (by omega) (by omega)).mp hc)]; rfl

theorem scoreV_at (q k : FVec Ideal S16384x8x96 .f32) (h : Fin 8) (Q K : Fin 16384) :
    scoreV q k (ix3 h Q K) = if K.val ≤ Q.val then (∑ i : Fin 96, q (ix3 Q h i) * k (ix3 K h i)) * Ideal.ofBits .f32 0x3DD105EC#32 else ⊥ := by
  unfold scoreV
  pointwise
  refine (causal K Q _ _).trans ?_
  rw [show (id (constant (F := Ideal) S_ FTy.f32 4286578688#32) ix0 : EReal) = ⊥ from Words.neg_inf]

theorem maxV_at (s : FVec Ideal S8x16384x16384 .f32) (h : Fin 8) (Q : Fin 16384) :
    maxV s (ix2 h Q) = Finset.univ.fold max ⊥ fun K : Fin 16384 => s (ix3 h Q K) := by
  unfold maxV
  pointwise
  rw [Words.neg_inf]

theorem expV_at (s : FVec Ideal S8x16384x16384 .f32) (x : FVec Ideal S8x16384 .f32) (h : Fin 8) (Q K : Fin 16384) :
    expV s x (ix3 h Q K) = Ideal.exp (s (ix3 h Q K) - x (ix2 h Q)) := by
  unfold expV overKeys
  pointwise

theorem sumV_at (e : FVec Ideal S8x16384x16384 .f32) (h : Fin 8) (Q : Fin 16384) :
    sumV e (ix2 h Q) = ∑ K : Fin 16384, e (ix3 h Q K) := by
  unfold sumV
  pointwise

theorem log_two : (id (Host.log (constant (F := Ideal) S_ FTy.f32 1073741824#32)) ix0 : EReal) = ((Real.log 2 : ℝ) : EReal) := by
  show Ideal.log (Ideal.ofBits .f32 0x40000000#32) = _
  rw [Words.two]
  exact if_neg (by norm_num)

theorem lseOf_at (x l : FVec Ideal S8x16384 .f32) (h : Fin 8) (Q : Fin 16384) :
    lseOf x l (ix2 h Q) = Ideal.div (x (ix2 h Q) + Ideal.log (l (ix2 h Q))) ((Real.log 2 : ℝ) : EReal) := by
  unfold lseOf
  pointwise
  rw [log_two]

theorem fromBot_eq (x : FVec Ideal S8x16384 .f32) : fromBot x = x := by
  funext y
  idx_vars y
  unfold fromBot
  pointwise
  rw [Words.neg_inf]
  exact max_eq_right bot_le

theorem normV_at (e : FVec Ideal S8x16384x16384 .f32) (l : FVec Ideal S8x16384 .f32) (h : Fin 8) (Q K : Fin 16384) :
    normV e l (ix3 h Q K) = Ideal.div (e (ix3 h Q K)) (l (ix2 h Q)) := by
  unfold normV overKeys
  pointwise

theorem outOf_at (p : FVec Ideal S8x16384x16384 .f32) (v : FVec Ideal S16384x8x64 .f32) (Q : Fin 16384) (h : Fin 8) (d : Fin 64) :
    outOf p v (ix3 Q h d) = ∑ K : Fin 16384, v (ix3 K h d) * p (ix3 h Q K) := by
  unfold outOf
  pointwise

theorem deltaOf_at (o d : FVec Ideal S16384x8x64 .f32) (h : Fin 8) (Q : Fin 16384) :
    deltaOf o d (ix2 h Q) = ∑ e : Fin 64, d (ix3 Q h e) * o (ix3 Q h e) := by
  unfold deltaOf
  pointwise

theorem scaledV_at (q : FVec Ideal S16384x8x96 .f32) (Q : Fin 16384) (h : Fin 8) (i : Fin 96) :
    scaledV q (ix3 Q h i) = Ideal.div (q (ix3 Q h i) * Ideal.ofBits .f32 0x3DD105EC#32) ((Real.log 2 : ℝ) : EReal) := by
  unfold scaledV
  pointwise
  rw [log_two]

variable (m : (ℓ : Loc nD τ sig) → Buf (Elt Ideal) ℓ) (c : Dev nD)

theorem V_q : (V m c main_v58 : S16384x1024.Idx → EReal) = slots96 (scaledV (qA m c)) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

theorem V_k : (V m c main_v63 : S16384x1024.Idx → EReal) = slots96 (kA m c) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

theorem V_kT : (V m c main_v64 : S1024x16384.Idx → EReal) = transpose S1024x16384 [1, 0] (slots96 (kA m c)) transposes_S16384x1024_S1024x16384_1_0 := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

theorem V_v : (V m c main_v69 : S16384x1024.Idx → EReal) = slots64 (vA m c) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

theorem V_o : (V m c main_v74 : S16384x1024.Idx → EReal) = slots64 (oA m c) := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

theorem V_lse : (V m c main_v75 : S8x32x512.Idx → EReal) = shapeCast S8x32x512 (lseV (scoreV (qA m c) (kA m c))) shapeCasts_S8x16384_S8x32x512 := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

theorem V_delta : (V m c main_v76 : S8x32x512.Idx → EReal) = shapeCast S8x32x512 (deltaV (scoreV (qA m c) (kA m c)) (vA m c) (oA m c)) shapeCasts_S8x16384_S8x32x512 := by
  unfold V V0
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil,
    List.append_nil, List.cons_append, List.nil_append]
  after_reads_simp
  rfl

end Cert.AttnIdeal.Value

end
-- ==== Proof.AttnBlocks.lean ====
/- The attention backward's operands at a grid point, read from the program's arguments. -/
module

public import proofs.«01_k».proof.Proof.AttnPoint
public import proofs.«01_k».proof.Proof.AttnHost

@[expose] public section

set_option maxRecDepth 16384

noncomputable section

namespace Cert.AttnIdeal.Value

open Cert.AttnIdeal Cert.AttnIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ)

/-- A grid point's head, and its block of keys. -/
def hd (t : Fin cfg0.N) : Fin 8 := ⟨t.val / 32, by have : t.val < 256 := t.isLt; omega⟩
def kb (t : Fin cfg0.N) : Fin 32 := ⟨t.val % 32, Nat.mod_lt _ (by decide)⟩

theorem idx (t : Fin cfg0.N) : win0_0.index t = ![0, t.val / 32] ∧ win0_1.index t = ![t.val % 32, t.val / 32]
    ∧ win0_2.index t = ![t.val / 32, t.val % 32] ∧ win0_3.index t = ![t.val % 32, t.val / 32] ∧ win0_4.index t = ![0, t.val / 32]
    ∧ win0_5.index t = ![t.val / 32, 0, 0] ∧ win0_6.index t = ![t.val / 32, 0, 0] ∧ win0_7.index t = ![t.val % 32, t.val / 32]
    ∧ win0_8.index t = ![t.val % 32, t.val / 32] ∧ win0_9.index t = ![t.val / 32, 0, 0, 0] := by
  revert t; decide +kernel

variable (c : Dev nD) (t : Fin cfg0.N)

theorem block_q (Q : Fin 16384) (i : Fin 128) : iblk m c 0 t (ix2 Q i) = slots96 (scaledV (qA m c)) (ix2 Q (col (hd t) i)) := by
  rw [← V_q]
  blk_ext! [iblk, idx t, tok, col, kb, hd]

theorem block_k (a : Fin 512) (i : Fin 128) : iblk m c 1 t (ix2 a i) = slots96 (kA m c) (ix2 (tok (kb t) a) (col (hd t) i)) := by
  rw [← V_k]
  blk_ext! [iblk, idx t, tok, col, kb, hd]

theorem block_kT (i : Fin 128) (a : Fin 512) : iblk m c 2 t (ix2 i a) = slots96 (kA m c) (ix2 (tok (kb t) a) (col (hd t) i)) := by
  have e : (V m c main_v64 : S1024x16384.Idx → EReal) (ix2 (col (hd t) i) (tok (kb t) a)) = slots96 (kA m c) (ix2 (tok (kb t) a) (col (hd t) i)) := by
    rw [V_kT]; pointwise
  rw [← e]
  blk_ext! [iblk, idx t, tok, col, kb, hd]

theorem block_v (a : Fin 512) (i : Fin 128) : iblk m c 3 t (ix2 a i) = slots64 (vA m c) (ix2 (tok (kb t) a) (col (hd t) i)) := by
  rw [← V_v]
  blk_ext! [iblk, idx t, tok, col, kb, hd]

theorem block_o (Q : Fin 16384) (i : Fin 128) : iblk m c 4 t (ix2 Q i) = slots64 (oA m c) (ix2 Q (col (hd t) i)) := by
  rw [← V_o]
  blk_ext! [iblk, idx t, tok, col, kb, hd]

theorem block_lse (r : Fin 32) (b : Fin 512) : iblk m c 5 t (ix3 0 r b) = lseV (scoreV (qA m c) (kA m c)) (ix2 (hd t) (tok r b)) := by
  have e : (V m c main_v75 : S8x32x512.Idx → EReal) (ix3 (hd t) r b) = lseV (scoreV (qA m c) (kA m c)) (ix2 (hd t) (tok r b)) := by
    rw [V_lse]; generalize lseV _ = x; pointwise
    exact congrArg x (congrArg (ix2 (hd t)) (Fin.ext (by show r.val * 512 + b.val = 512 * r.val + b.val; omega)))
  rw [← e]
  blk_ext! [iblk, idx t, tok, col, kb, hd]

theorem block_delta (r : Fin 32) (b : Fin 512) :
    iblk m c 6 t (ix3 0 r b) = deltaV (scoreV (qA m c) (kA m c)) (vA m c) (oA m c) (ix2 (hd t) (tok r b)) := by
  have e : (V m c main_v76 : S8x32x512.Idx → EReal) (ix3 (hd t) r b) = deltaV (scoreV (qA m c) (kA m c)) (vA m c) (oA m c) (ix2 (hd t) (tok r b)) := by
    rw [V_delta]; generalize deltaV _ _ _ = x; pointwise
    exact congrArg x (congrArg (ix2 (hd t)) (Fin.ext (by show r.val * 512 + b.val = 512 * r.val + b.val; omega)))
  have h : (win0_6.blk t).view.emb (ix3 0 r b) = ix3 (hd t) r b := by blk_ext [idx t, hd]
  blk_simp [iblk]
  exact (congrArg (V m c main_v76 : S8x32x512.Idx → EReal) h).trans e

end Cert.AttnIdeal.Value

end
-- ==== Proof.AttnArrays.lean ====
/- The attention backward's result arrays: each head's three gradients, summed over every query or key, and the host's lines
   after the call. -/
module

public import proofs.«01_k».proof.Proof.AttnBlocks
public import proofs.«01_k».proof.Proof.AttnFrame

@[expose] public section

set_option maxRecDepth 16384

noncomputable section

namespace Cert.AttnIdeal.Value

open Cert.AttnIdeal Cert.AttnIdeal.Gen
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg) (c : Dev nD)

/-! ### One head's gradients -/

/-- The operands' slots. -/
def qS (h : Fin 8) (Q : Fin 16384) (i : Fin 128) : EReal := slots96 (scaledV (qA m c)) (ix2 Q (col h i))
def kS (h : Fin 8) (K : Fin 16384) (i : Fin 128) : EReal := slots96 (kA m c) (ix2 K (col h i))
def vS (h : Fin 8) (K : Fin 16384) (i : Fin 128) : EReal := slots64 (vA m c) (ix2 K (col h i))
def oS (h : Fin 8) (Q : Fin 16384) (i : Fin 128) : EReal := slots64 (oA m c) (ix2 Q (col h i))

def probA (h : Fin 8) (Q K : Fin 16384) : EReal :=
  if K.val ≤ Q.val then Ideal.exp2 ((∑ i : Fin 128, kS m c h K i * qS m c h Q i) - lseV (scoreV (qA m c) (kA m c)) (ix2 h Q)) else 0
def gradA (h : Fin 8) (Q K : Fin 16384) : EReal :=
  probA m c h Q K * ((∑ i : Fin 128, vS m c h K i * oS m c h Q i) - deltaV (scoreV (qA m c) (kA m c)) (vA m c) (oA m c) (ix2 h Q))
def dkA (h : Fin 8) (K : Fin 16384) (i : Fin 128) : EReal := (∑ Q, gradA m c h Q K * qS m c h Q i) * ((Real.log 2 : ℝ) : EReal)
def dvA (h : Fin 8) (K : Fin 16384) (i : Fin 128) : EReal := ∑ Q, probA m c h Q K * oS m c h Q i
def dqA (h : Fin 8) (Q : Fin 16384) (i : Fin 128) : EReal := ∑ K, kS m c h K i * gradA m c h Q K

/-- A sum over blocks of 512. -/
theorem sum_tok (f : Fin 16384 → EReal) : (∑ r : Fin 32, ∑ b : Fin 512, f (tok r b)) = ∑ Q, f Q := by
  refine Eq.trans ?_ (Fin.sum_mul_add_fin 32 512 f)
  exact Finset.sum_congr rfl fun r _ => Finset.sum_congr rfl fun b _ =>
    congrArg f (Fin.ext (by show 512 * r.val + b.val = r.val * 512 + b.val; omega))

section Blocks

variable (t : Fin cfg0.N)

theorem prob_block (r : Fin 32) (a b : Fin 512) :
    prob (iblk m c 0 t) (iblk m c 1 t) (iblk m c 5 t) (kb t) r a b = probA m c (hd t) (tok r b) (tok (kb t) a) := by
  unfold prob probA kS qS
  simp only [block_q, block_k, block_lse]

theorem grad_block (r : Fin 32) (a b : Fin 512) :
    grad (iblk m c 0 t) (iblk m c 1 t) (iblk m c 3 t) (iblk m c 4 t) (iblk m c 5 t) (iblk m c 6 t) (kb t) r a b
      = gradA m c (hd t) (tok r b) (tok (kb t) a) := by
  unfold grad gradA vS oS
  simp only [prob_block, block_v, block_o, block_delta]

set_option maxHeartbeats 2000000 in
/-- A point is a head's block of keys. -/
theorem stepAt_eq (x : Vec Ideal S1x32x128x512 .f32) :
    stepAt m c t x = pointState (iblk m c 0 t) (iblk m c 1 t) (iblk m c 2 t) (iblk m c 3 t) (iblk m c 4 t) (iblk m c 5 t) (iblk m c 6 t) (kb t) x := by
  unfold stepAt endState
  exact congrArg (pointState _ _ _ _ _ _ _ · x) (show (grid0.coords t 1 : Fin 32) = kb t from Fin.ext (coord_eq t))

theorem stAt_eq : ∃ x : Vec Ideal S1x32x128x512 .f32, stAt m c t.val t.isLt = stepAt m c t x := by
  by_cases h : t.val % 32 = 0
  · exact ⟨k0_pay42 (F := Ideal), stAt_first m c t h _⟩
  · exact ⟨(stAt m c (t.val - 1) (Nat.lt_of_le_of_lt (Nat.sub_le _ _) t.isLt)).2, stAt_next m c t h⟩

theorem dk_block (a : Fin 512) (i : Fin 128) :
    k0_pay8 (stAt m c t.val t.isLt).1.1 (ix2 a i) = dkA m c (hd t) (tok (kb t) a) i := by
  obtain ⟨x, hx⟩ := stAt_eq m c t
  have e : ∀ y : Vec Ideal S512x128 .f32, (k0_pay8 (F := Ideal) y (ix2 a i) : EReal) = y (ix2 a i) * ((Real.log 2 : ℝ) : EReal) := fun y => by
    open_payloads; pointwise; rfl
  refine (e _).trans ?_
  rw [hx, stepAt_eq, point_dk]
  unfold dkT dkA
  simp only [grad_block, block_q]
  rw [← sum_tok]
  rfl

theorem dv_block (a : Fin 512) (i : Fin 128) : (stAt m c t.val t.isLt).1.2 (ix2 a i) = dvA m c (hd t) (tok (kb t) a) i := by
  obtain ⟨x, hx⟩ := stAt_eq m c t
  rw [hx, stepAt_eq, point_dv]
  unfold dvT dvA
  simp only [prob_block, block_o]
  rw [← sum_tok]
  rfl

end Blocks

/-- A block of keys' part of a query's gradient. -/
def dqPart (h : Fin 8) (Q : Fin 16384) (i : Fin 128) (j : Fin 32) : EReal :=
  ∑ a : Fin 512, kS m c h (tok j a) i * gradA m c h Q (tok j a)

theorem dq_part (t : Fin cfg0.N) (i : Fin 128) (b : Fin 512) (r : Fin 32) :
    dqT (iblk m c 0 t) (iblk m c 1 t) (iblk m c 2 t) (iblk m c 3 t) (iblk m c 4 t) (iblk m c 5 t) (iblk m c 6 t) (kb t) i b r
      = dqPart m c (hd t) (tok r b) i (kb t) := by
  unfold dqT dqPart kS
  simp only [grad_block, block_kT]

/-- After a head's point the query gradients hold the blocks of keys so far. -/
theorem dq_upto (r : Fin 32) (i : Fin 128) (b : Fin 512) : ∀ (n : ℕ) (hn : n < cfg0.N),
    (stAt m c n hn).2 (ix4 0 r i b) = ∑ j ∈ Finset.range (n % 32 + 1), dqPart m c (hd ⟨n, hn⟩) (tok r b) i (blk j) := by
  intro n
  induction n with
  | zero =>
    intro hn
    refine (congrFun (congrArg Prod.snd (stAt_first m c ⟨0, hn⟩ rfl (k0_pay42 (F := Ideal)))) _).trans ?_
    rw [stepAt_eq, point_dq, dq_part]
    refine (congrArg (· + _) ((congrFun (if_pos rfl) _).trans (start_zero r i b))).trans ?_
    rw [zero_add, show 0 % 32 + 1 = 1 from rfl, Finset.sum_range_one]
    rfl
  | succ n ih =>
    intro hn
    by_cases h : (n + 1) % 32 = 0
    · refine (congrFun (congrArg Prod.snd (stAt_first m c ⟨n + 1, hn⟩ h (k0_pay42 (F := Ideal)))) _).trans ?_
      rw [stepAt_eq, point_dq, dq_part]
      refine (congrArg (· + _) ((congrFun (if_pos h) _).trans (start_zero r i b))).trans ?_
      rw [zero_add, h, zero_add, Finset.sum_range_one]
      exact congrArg _ (Fin.ext h)
    · refine (congrFun (congrArg Prod.snd (stAt_next m c ⟨n + 1, hn⟩ h)) _).trans ?_
      rw [stepAt_eq, point_dq, dq_part]
      refine (congrArg (· + _) ((congrFun (if_neg h) _).trans (ih (Nat.lt_of_succ_lt hn)))).trans ?_
      have e1 : (n + 1) % 32 = n % 32 + 1 := by omega
      have e2 : (n + 1) / 32 = n / 32 := by omega
      rw [e1, Finset.sum_range_succ _ (n % 32 + 1), show hd ⟨n, Nat.lt_of_succ_lt hn⟩ = hd ⟨n + 1, hn⟩ from Fin.ext e2.symm]
      exact congrArg (_ + dqPart m c _ _ i ·) (Fin.ext (by show (n + 1) % 32 = (n % 32 + 1) % 32; omega))

theorem dq_block (t : Fin cfg0.N) (ht : t.val % 32 = 31) (r : Fin 32) (i : Fin 128) (b : Fin 512) :
    (stAt m c t.val t.isLt).2 (ix4 0 r i b) = dqA m c (hd t) (tok r b) i := by
  rw [dq_upto, ht, Finset.sum_range]
  unfold dqA dqPart
  rw [← sum_tok]
  exact Finset.sum_congr rfl fun j _ => Finset.sum_congr rfl fun a _ => by
    rw [show blk j.val = j from Fin.ext (blk_val j.isLt)]

/-! ### The arrays -/

/-- A packed column's head and slot. -/
def headOf (n : Fin 1024) : Fin 8 := ⟨n.val / 128, by omega⟩
def slotOf (n : Fin 1024) : Fin 128 := ⟨n.val % 128, Nat.mod_lt _ (by decide)⟩

def dkArr (y : S16384x1024.Idx) : EReal := dkA m c (headOf (y 1)) (y 0) (slotOf (y 1))
def dvArr (y : S16384x1024.Idx) : EReal := dvA m c (headOf (y 1)) (y 0) (slotOf (y 1))
def dqArr (y : S8x32x128x512.Idx) : EReal := dqA m c (y 0) (tok (y 1) (y 3)) (y 2)

theorem headOf_col (h : Fin 8) (i : Fin 128) : headOf (col h i) = h := Fin.ext (by show (128 * h.val + i.val) / 128 = h.val; omega)
theorem slotOf_col (h : Fin 8) (i : Fin 128) : slotOf (col h i) = i := Fin.ext (by show (128 * h.val + i.val) % 128 = i.val; omega)

theorem emb_7 (t : Fin cfg0.N) (a : Fin 512) (i : Fin 128) : (win0_7.blk t).view.emb (ix2 a i) = ix2 (tok (kb t) a) (col (hd t) i) := by
  blk_ext [idx t, tok, kb, hd, col]
theorem emb_8 (t : Fin cfg0.N) (a : Fin 512) (i : Fin 128) : (win0_8.blk t).view.emb (ix2 a i) = ix2 (tok (kb t) a) (col (hd t) i) := by
  blk_ext [idx t, tok, kb, hd, col]
theorem emb_9 (t : Fin cfg0.N) (r : Fin 32) (i : Fin 128) (b : Fin 512) : (win0_9.blk t).view.emb (ix4 0 r i b) = ix4 (hd t) r i b := by
  blk_ext [idx t, hd]

theorem dkArr_at (h : Fin 8) (K : Fin 16384) (i : Fin 128) : dkArr m c (ix2 K (col h i)) = dkA m c h K i := by
  show dkA m c (headOf (col h i)) K (slotOf (col h i)) = _; rw [headOf_col, slotOf_col]
theorem dvArr_at (h : Fin 8) (K : Fin 16384) (i : Fin 128) : dvArr m c (ix2 K (col h i)) = dvA m c h K i := by
  show dvA m c (headOf (col h i)) K (slotOf (col h i)) = _; rw [headOf_col, slotOf_col]

theorem dqArr_at (h : Fin 8) (r : Fin 32) (i : Fin 128) (b : Fin 512) : dqArr m c (ix4 h r i b) = dqA m c h (tok r b) i := rfl

theorem dk_final : (dats m 0 c).arrAt 7 cfg0.N = dkArr m c := by
  refine (dats m 0 c).arrAt_eq_of_covers 7 _ (by decide +kernel) fun t hf y => ?_
  blk_simp
  obtain ⟨a, i, rfl⟩ : ∃ (a : Fin 512) (i : Fin 128), y = ix2 a i := ⟨y 0, y 1, eq_ix2 y⟩
  exact (congrFun (after0_7 m c t) _).trans ((dk_block m c t a i).trans ((dkArr_at m c _ _ _).symm.trans (congrArg (dkArr m c) (emb_7 t a i).symm)))

theorem dv_final : (dats m 0 c).arrAt 8 cfg0.N = dvArr m c := by
  refine (dats m 0 c).arrAt_eq_of_covers 8 _ (by decide +kernel) fun t hf y => ?_
  blk_simp
  obtain ⟨a, i, rfl⟩ : ∃ (a : Fin 512) (i : Fin 128), y = ix2 a i := ⟨y 0, y 1, eq_ix2 y⟩
  exact (congrFun (after0_8 m c t) _).trans ((dv_block m c t a i).trans ((dvArr_at m c _ _ _).symm.trans (congrArg (dvArr m c) (emb_8 t a i).symm)))

theorem dq_final : (dats m 0 c).arrAt 9 cfg0.N = dqArr m c := by
  refine (dats m 0 c).arrAt_eq_of_covers 9 _ (by decide +kernel) fun t hf y => ?_
  blk_simp
  obtain ⟨r, i, b, rfl⟩ : ∃ (r : Fin 32) (i : Fin 128) (b : Fin 512), y = ix4 0 r i b :=
    ⟨y 1, y 2, y 3, (eq_ix4 y).trans (by rw [show y 0 = (0 : Fin 1) from Fin.fin_one_eq_zero _])⟩
  exact (congrFun (after0_9 m c t) _).trans ((dq_block m c t ((flush0_9 t).mp hf) r i b).trans ((dqArr_at m c _ r i b).symm.trans (congrArg (dqArr m c) (emb_9 t r i b).symm)))

/-! ### The host's lines after the call -/

def dqRes (x : FVec Ideal S8x32x128x512 .f32) : FVec Ideal S16384x8x96 .f32 :=
  mulf (shapeCast S16384x8x96 (shapeCast S16384x768 (extractStridedSlice S16384x8x96 ![0, 0, 0]
      (shapeCast S16384x8x128 (shapeCast S16384x1024 (transpose S32x512x8x128 [1, 3, 0, 2] x transposes_S8x32x128x512_S32x512x8x128_1_3_0_2)
        shapeCasts_S32x512x8x128_S16384x1024) shapeCasts_S16384x1024_S16384x8x128) slices_S16384x8x128_S16384x8x96_0_0_0)
      shapeCasts_S16384x8x96_S16384x768) shapeCasts_S16384x768_S16384x8x96)
    (broadcastInDim S16384x8x96 ![] bcast_S_S16384x8x96 (constant S_ .f32 0x3DD105EC#32))
def dkRes (x : FVec Ideal S16384x1024 .f32) : FVec Ideal S16384x8x96 .f32 :=
  shapeCast S16384x8x96 (shapeCast S16384x768 (extractStridedSlice S16384x8x96 ![0, 0, 0]
      (shapeCast S16384x8x128 x shapeCasts_S16384x1024_S16384x8x128) slices_S16384x8x128_S16384x8x96_0_0_0)
      shapeCasts_S16384x8x96_S16384x768) shapeCasts_S16384x768_S16384x8x96
def dvRes (x : FVec Ideal S16384x1024 .f32) : FVec Ideal S16384x8x64 .f32 :=
  shapeCast S16384x8x64 (shapeCast S16384x512 (extractStridedSlice S16384x8x64 ![0, 0, 0]
      (shapeCast S16384x8x128 x shapeCasts_S16384x1024_S16384x8x128) slices_S16384x8x128_S16384x8x64_0_0_0)
      shapeCasts_S16384x8x64_S16384x512) shapeCasts_S16384x512_S16384x8x64

def widen {n : ℕ} (h : n ≤ 128) (i : Fin n) : Fin 128 := ⟨i.val, i.isLt.trans_le h⟩

theorem dqRes_at (x : FVec Ideal S8x32x128x512 .f32) (r : Fin 32) (b : Fin 512) (h : Fin 8) (i : Fin 96) :
    dqRes x (ix3 (tok r b) h i) = x (ix4 h r (widen (by decide) i) b) * Ideal.ofBits .f32 0x3DD105EC#32 := by
  unfold dqRes
  pointwise
  have e1 : (tok r b).val / 512 = r.val := by show (512 * r.val + b.val) / 512 = r.val; omega
  have e2 : (tok r b).val % 512 = b.val := by show (512 * r.val + b.val) % 512 = b.val; omega
  simp only [e1, e2]
  rfl
theorem dkRes_at (x : FVec Ideal S16384x1024 .f32) (K : Fin 16384) (h : Fin 8) (i : Fin 96) :
    dkRes x (ix3 K h i) = x (ix2 K (col h (widen (by decide) i))) := by
  unfold dkRes
  pointwise
  exact congrArg x (congrArg (ix2 K) (Fin.ext (by show h.val * 128 + i.val = 128 * h.val + i.val; omega)))
theorem dvRes_at (x : FVec Ideal S16384x1024 .f32) (K : Fin 16384) (h : Fin 8) (i : Fin 64) :
    dvRes x (ix3 K h i) = x (ix2 K (col h (widen (by decide) i))) := by
  unfold dvRes
  pointwise
  exact congrArg x (congrArg (ix2 K) (Fin.ext (by show h.val * 128 + i.val = 128 * h.val + i.val; omega)))

theorem dq_out : Pipeline.afterTail₀ cfgs (dats m) 0 (V0 m) [hostOps1] c main_v85 = dqRes (dqArr m c) := by
  have e := (Pipeline.withArrays_arr spec0 launch0.win.arr_inj c (V0 m c) (fun w => (dats m 0 c).arrAt w cfg0.N) 9).trans (dq_final m c)
  unfold Pipeline.afterTail₀
  simp only [List.flatten_cons, List.flatten_nil, List.append_nil]
  generalize V0 m c = z at e
  after_results
  rw [show Pipeline.withArrays (cfgs 0).spec c z (fun w => (dats m 0 c).arrAt w (cfgs 0).N) (Proc.tc.devRef main_v77_2) = _ from e]
  rfl
theorem dk_out : Pipeline.afterTail₀ cfgs (dats m) 0 (V0 m) [hostOps1] c main_v89 = dkRes (dkArr m c) := by
  have e := (Pipeline.withArrays_arr spec0 launch0.win.arr_inj c (V0 m c) (fun w => (dats m 0 c).arrAt w cfg0.N) 7).trans (dk_final m c)
  unfold Pipeline.afterTail₀
  simp only [List.flatten_cons, List.flatten_nil, List.append_nil]
  generalize V0 m c = z at e
  after_results
  rw [show Pipeline.withArrays (cfgs 0).spec c z (fun w => (dats m 0 c).arrAt w (cfgs 0).N) (Proc.tc.devRef main_v77_0) = _ from e]
  rfl
theorem dv_out : Pipeline.afterTail₀ cfgs (dats m) 0 (V0 m) [hostOps1] c main_v93 = dvRes (dvArr m c) := by
  have e := (Pipeline.withArrays_arr spec0 launch0.win.arr_inj c (V0 m c) (fun w => (dats m 0 c).arrAt w cfg0.N) 8).trans (dv_final m c)
  unfold Pipeline.afterTail₀
  simp only [List.flatten_cons, List.flatten_nil, List.append_nil]
  generalize V0 m c = z at e
  after_results
  rw [show Pipeline.withArrays (cfgs 0).spec c z (fun w => (dats m 0 c).arrAt w (cfgs 0).N) (Proc.tc.devRef main_v77_1) = _ from e]
  rfl

/-- The run, read. -/
theorem run : θ_run defs (onTc (τ := τ) (main (F := Ideal))) ⟨m, fun _ => 0, ρ⟩ fun r => ∀ c : Dev nD,
      r.2.mem ((c : Thread nD τ).loc main_v85) = dqRes (dqArr m c)
      ∧ r.2.mem ((c : Thread nD τ).loc main_v89) = dkRes (dkArr m c)
      ∧ r.2.mem ((c : Thread nD τ).loc main_v93) = dvRes (dvArr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h.1 c).2 main_v85 (by decide) |>.trans (dq_out m c), (h.1 c).2 main_v89 (by decide) |>.trans (dk_out m c),
      (h.1 c).2 main_v93 (by decide) |>.trans (dv_out m c),
      (h.1 c).2 main_arg0 (by decide) |>.trans (W_main_arg0 m (dats m) c),
      (h.1 c).2 main_arg1 (by decide) |>.trans (W_main_arg1 m (dats m) c),
      (h.1 c).2 main_arg2 (by decide) |>.trans (W_main_arg2 m (dats m) c),
      (h.1 c).2 main_arg3 (by decide) |>.trans (W_main_arg3 m (dats m) c)⟩)
    (run_quiescent m ρ)

end Cert.AttnIdeal.Value

end
-- ==== Proof.AttnMath.lean ====
/- The attention gradient's arithmetic: over real queries, keys, values and cotangents the softmax's pieces are real, and the
   kernel's powers of two are the same probabilities as the reference's shifted exponentials. -/
module

public import proofs.«01_k».proof.Proof.Reals
public import proofs.«01_k».proof.Proof.Consts
public import Mathlib.Analysis.SpecialFunctions.Pow.Real
public import Mathlib.Data.Finset.Fold

@[expose] public section

set_option maxRecDepth 16384

noncomputable section

namespace Cert.AttnMath

open Idealize.ShloMosaic Cert.Reals

/-- The scores' scale, `1 / √96` rounded. -/
def scale : ℝ := 13698540 / 134217728

theorem scale_word : Ideal.ofBits .f32 0x3DD105EC#32 = (scale : EReal) := by
  unfold scale
  simp [Ideal.ofBits, Ideal.ieee, -EReal.coe_mul]; norm_num

/-- A finite sum of reals. -/
theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_dot {ι : Type} (s : Finset ι) (f g : ι → ℝ) : ∑ i ∈ s, (f i : EReal) * (g i : EReal) = ((∑ i ∈ s, f i * g i : ℝ) : EReal) := by
  rw [← coe_sum]
  exact Finset.sum_congr rfl fun i _ => (EReal.coe_mul _ _).symm

theorem div_real (a : ℝ) {b : ℝ} (hb : b ≠ 0) : Ideal.div (a : EReal) (b : EReal) = ((a / b : ℝ) : EReal) := by
  rw [Ideal.div_coe hb, ← EReal.coe_mul, mul_one_div]

variable (a b : Fin 16384 → Fin 96 → ℝ) (w g : Fin 16384 → Fin 64 → ℝ)

/-- One head's scores, weights, their sum, probabilities. -/
def score (Q K : Fin 16384) : ℝ := (∑ i, a Q i * b K i) * scale
def weight (Q K : Fin 16384) : ℝ := if K.val ≤ Q.val then Real.exp (score a b Q K) else 0
def total (Q : Fin 16384) : ℝ := ∑ K, weight a b Q K
def soft (Q K : Fin 16384) : ℝ := weight a b Q K / total a b Q

/-- The probabilities' gradients, their mean under the probabilities, the scores' gradients. -/
def probGrad (Q K : Fin 16384) : ℝ := ∑ d, w K d * g Q d
def mean (Q : Fin 16384) : ℝ := ∑ K, soft a b Q K * probGrad w g Q K
def scoreGrad (Q K : Fin 16384) : ℝ := soft a b Q K * (probGrad w g Q K - mean a b w g Q)

/-- The three gradients. -/
def dq (Q : Fin 16384) (i : Fin 96) : ℝ := ∑ K, scoreGrad a b w g Q K * scale * b K i
def dk (K : Fin 16384) (i : Fin 96) : ℝ := ∑ Q, scoreGrad a b w g Q K * scale * a Q i
def dv (K : Fin 16384) (d : Fin 64) : ℝ := ∑ Q, soft a b Q K * g Q d

/-- The masked score. -/
def masked (Q K : Fin 16384) : EReal := if K.val ≤ Q.val then (score a b Q K : EReal) else ⊥

theorem weight_nonneg (Q K : Fin 16384) : 0 ≤ weight a b Q K := by
  unfold weight; split
  · exact (Real.exp_pos _).le
  · exact le_rfl

theorem total_pos (Q : Fin 16384) : 0 < total a b Q :=
  Finset.sum_pos' (fun K _ => weight_nonneg a b Q K) ⟨Q, Finset.mem_univ _, by unfold weight; rw [if_pos le_rfl]; exact Real.exp_pos _⟩

/-- The largest masked score is real. -/
theorem max_real (Q : Fin 16384) : ∃ μ : ℝ, (Finset.univ.fold max ⊥ fun K => masked a b Q K) = (μ : EReal) := by
  have h1 : (Finset.univ.fold max ⊥ fun K => masked a b Q K) < ⊤ :=
    (Finset.fold_max_lt _).mpr ⟨bot_lt_top, fun K _ => by
      unfold masked; split
      · exact EReal.coe_lt_top _
      · exact bot_lt_top⟩
  have h2 : ⊥ < (Finset.univ.fold max ⊥ fun K => masked a b Q K) :=
    (Finset.lt_fold_max _).mpr (.inr ⟨Q, Finset.mem_univ _, by unfold masked; rw [if_pos le_rfl]; exact EReal.bot_lt_coe _⟩)
  exact ⟨_, (EReal.coe_toReal h1.ne h2.ne').symm⟩

/-- The exponential of a shifted score. -/
theorem exp_shift (Q K : Fin 16384) (μ : ℝ) : Ideal.exp (masked a b Q K - (μ : EReal)) = ((weight a b Q K * Real.exp (-μ) : ℝ) : EReal) := by
  unfold masked weight
  split
  · rw [← EReal.coe_sub, ← Real.exp_add]; rfl
  · rw [EReal.bot_sub, zero_mul]; rfl

theorem sum_shift (Q : Fin 16384) (μ : ℝ) :
    (∑ K, Ideal.exp (masked a b Q K - (μ : EReal))) = ((total a b Q * Real.exp (-μ) : ℝ) : EReal) := by
  simp only [exp_shift]
  rw [coe_sum, total, Finset.sum_mul]

theorem shifted_pos (Q : Fin 16384) (μ : ℝ) : 0 < total a b Q * Real.exp (-μ) := mul_pos (total_pos a b Q) (Real.exp_pos _)

theorem soft_shift (Q K : Fin 16384) (μ : ℝ) :
    weight a b Q K * Real.exp (-μ) / (total a b Q * Real.exp (-μ)) = soft a b Q K := by
  rw [soft, mul_div_mul_right _ _ (Real.exp_pos _).ne']

/-- The softmax, shifted by anything real. -/
theorem soft_eq (Q K : Fin 16384) (μ : ℝ) :
    Ideal.div ((weight a b Q K * Real.exp (-μ) : ℝ) : EReal) ((total a b Q * Real.exp (-μ) : ℝ) : EReal) = (soft a b Q K : EReal) := by
  rw [div_real _ (shifted_pos a b Q μ).ne', soft_shift]

/-- The saved logarithm. -/
theorem lse_eq (Q : Fin 16384) (μ : ℝ) :
    Ideal.div ((μ : EReal) + Ideal.log ((total a b Q * Real.exp (-μ) : ℝ) : EReal)) ((Real.log 2 : ℝ) : EReal)
      = ((Real.log (total a b Q) / Real.log 2 : ℝ) : EReal) := by
  have hl : Real.log 2 ≠ 0 := (Real.log_pos (by norm_num)).ne'
  rw [show Ideal.log ((total a b Q * Real.exp (-μ) : ℝ) : EReal) = ((Real.log (total a b Q * Real.exp (-μ)) : ℝ) : EReal) from
    if_neg (not_le.mpr (shifted_pos a b Q μ)), ← EReal.coe_add, div_real _ hl,
    Real.log_mul (total_pos a b Q).ne' (Real.exp_pos _).ne', Real.log_exp]
  congr 2
  ring

/-- The kernel's probability from the logarithm to base two. -/
theorem pow_eq (s l : ℝ) (hl : 0 < l) :
    Ideal.exp2 (((s / Real.log 2 : ℝ) : EReal) - ((Real.log l / Real.log 2 : ℝ) : EReal)) = ((Real.exp s / l : ℝ) : EReal) := by
  have h2 : Real.log 2 ≠ 0 := (Real.log_pos (by norm_num)).ne'
  rw [← EReal.coe_sub, Ideal.exp2_coe]
  congr 1
  show (2 : ℝ) ^ (s / Real.log 2 - Real.log l / Real.log 2) = _
  rw [Real.rpow_def_of_pos (by norm_num), ← sub_div, mul_div_cancel₀ _ h2, Real.exp_sub, Real.exp_log hl]

/-- The saved product of output and cotangent is the mean. -/
theorem mean_eq (Q : Fin 16384) : (∑ d, g Q d * ∑ K, w K d * soft a b Q K) = mean a b w g Q := by
  unfold mean probGrad
  simp only [Finset.mul_sum]
  rw [Finset.sum_comm]
  exact Finset.sum_congr rfl fun K _ => Finset.sum_congr rfl fun d _ => by ring

/-- A sum over a head's slots, those beyond its columns being zero. -/
theorem sum_slots (n k : ℕ) (f : Fin n → EReal) : (∑ i : Fin (n + k), if h : i.val < n then f ⟨i.val, h⟩ else 0) = ∑ i, f i := by
  rw [Fin.sum_univ_add]
  have e : ∀ i : Fin k, (if h : (Fin.natAdd n i).val < n then f ⟨(Fin.natAdd n i).val, h⟩ else 0) = 0 := fun i =>
    dif_neg (by show ¬ n + i.val < n; omega)
  rw [Finset.sum_congr rfl fun i _ => e i, Finset.sum_const_zero, add_zero]
  exact Finset.sum_congr rfl fun i _ => dif_pos (show (Fin.castAdd k i).val < n from i.isLt)

theorem sum_slots96 (f : Fin 96 → EReal) : (∑ i : Fin 128, if h : i.val < 96 then f ⟨i.val, h⟩ else 0) = ∑ i, f i := sum_slots 96 32 f
theorem sum_slots64 (f : Fin 64 → EReal) : (∑ i : Fin 128, if h : i.val < 64 then f ⟨i.val, h⟩ else 0) = ∑ i, f i := sum_slots 64 64 f

theorem log_two_ne : Real.log 2 ≠ 0 := (Real.log_pos (by norm_num)).ne'

/-- The kernel's scaled query. -/
theorem scaled_eq (x : ℝ) : Ideal.div ((x : EReal) * (scale : EReal)) ((Real.log 2 : ℝ) : EReal) = ((x * scale / Real.log 2 : ℝ) : EReal) := by
  rw [← EReal.coe_mul, div_real _ log_two_ne]

theorem kernel_score (Q K : Fin 16384) :
    (∑ i, (b K i : EReal) * Ideal.div ((a Q i : EReal) * (scale : EReal)) ((Real.log 2 : ℝ) : EReal)) = ((score a b Q K / Real.log 2 : ℝ) : EReal) := by
  simp only [scaled_eq]
  rw [coe_dot]
  refine congrArg Real.toEReal ?_
  rw [score, Finset.sum_mul, Finset.sum_div]
  exact Finset.sum_congr rfl fun i _ => by ring

/-- The kernel's probability. -/
theorem kernel_soft (Q K : Fin 16384) :
    (if K.val ≤ Q.val then Ideal.exp2 (((score a b Q K / Real.log 2 : ℝ) : EReal) - ((Real.log (total a b Q) / Real.log 2 : ℝ) : EReal)) else 0)
      = (soft a b Q K : EReal) := by
  unfold soft weight
  split
  · exact pow_eq _ _ (total_pos a b Q)
  · rw [zero_div, EReal.coe_zero]

theorem kernel_grad (Q K : Fin 16384) :
    (soft a b Q K : EReal) * ((∑ d, (w K d : EReal) * (g Q d : EReal)) - (mean a b w g Q : EReal)) = (scoreGrad a b w g Q K : EReal) := by
  rw [coe_dot, ← EReal.coe_sub, ← EReal.coe_mul]; rfl

theorem kernel_mean (Q : Fin 16384) :
    (∑ d, (g Q d : EReal) * ∑ K, (w K d : EReal) * (soft a b Q K : EReal)) = (mean a b w g Q : EReal) := by
  simp only [coe_dot]
  rw [mean_eq]

theorem kernel_dk (K : Fin 16384) (i : Fin 96) :
    (∑ Q, (scoreGrad a b w g Q K : EReal) * Ideal.div ((a Q i : EReal) * (scale : EReal)) ((Real.log 2 : ℝ) : EReal)) * ((Real.log 2 : ℝ) : EReal)
      = (dk a b w g K i : EReal) := by
  simp only [scaled_eq]
  rw [coe_dot, ← EReal.coe_mul]
  refine congrArg Real.toEReal ?_
  rw [dk, Finset.sum_mul]
  refine Finset.sum_congr rfl fun Q _ => ?_
  have h := log_two_ne
  field_simp

theorem kernel_dq (Q : Fin 16384) (i : Fin 96) :
    (∑ K, (b K i : EReal) * (scoreGrad a b w g Q K : EReal)) * (scale : EReal) = (dq a b w g Q i : EReal) := by
  rw [coe_dot, ← EReal.coe_mul]
  refine congrArg Real.toEReal ?_
  rw [dq, Finset.sum_mul]
  exact Finset.sum_congr rfl fun K _ => by ring

theorem kernel_dv (K : Fin 16384) (d : Fin 64) : (∑ Q, (soft a b Q K : EReal) * (g Q d : EReal)) = (dv a b g K d : EReal) := coe_dot _ _ _

/-- The reference's gradient of a score, through the quotient's two gradients. -/
theorem reference_grad (Q K : Fin 16384) (μ : ℝ) (x y : EReal)
    (hx : x = Ideal.div (probGrad w g Q K : EReal) ((total a b Q * Real.exp (-μ) : ℝ) : EReal))
    (hy : y = ∑ K, (probGrad w g Q K : EReal)
        * Ideal.div 1 (((total a b Q * Real.exp (-μ) : ℝ) : EReal) * ((total a b Q * Real.exp (-μ) : ℝ) : EReal))
        * ((weight a b Q K * Real.exp (-μ) : ℝ) : EReal)) :
    (x + -y) * ((weight a b Q K * Real.exp (-μ) : ℝ) : EReal) = (scoreGrad a b w g Q K : EReal) := by
  have hp := (shifted_pos a b Q μ).ne'
  have hyy : y = ((mean a b w g Q / (total a b Q * Real.exp (-μ)) : ℝ) : EReal) := by
    rw [hy, ← EReal.coe_mul, ← EReal.coe_one, div_real _ (mul_ne_zero hp hp)]
    simp only [← EReal.coe_mul]
    rw [coe_sum]
    refine congrArg Real.toEReal ?_
    rw [mean, Finset.sum_div]
    refine Finset.sum_congr rfl fun K _ => ?_
    rw [← soft_shift a b Q K μ]
    field_simp
  rw [hx, hyy, div_real _ hp, ← EReal.coe_neg, ← EReal.coe_add, ← EReal.coe_mul]
  refine congrArg Real.toEReal ?_
  rw [scoreGrad, ← soft_shift a b Q K μ]
  field_simp
  ring

/-- A masked score's gradient is zero. -/
theorem scoreGrad_masked {Q K : Fin 16384} (h : ¬ K.val ≤ Q.val) : scoreGrad a b w g Q K = 0 := by
  rw [scoreGrad, soft, weight, if_neg h, zero_div, zero_mul]

theorem reference_dq (Q : Fin 16384) (i : Fin 96) :
    (∑ K, (scoreGrad a b w g Q K : EReal) * (scale : EReal) * (b K i : EReal)) = (dq a b w g Q i : EReal) := by
  simp only [← EReal.coe_mul]; rw [coe_sum]; rfl
theorem reference_dk (K : Fin 16384) (i : Fin 96) :
    (∑ Q, (scoreGrad a b w g Q K : EReal) * (scale : EReal) * (a Q i : EReal)) = (dk a b w g K i : EReal) := by
  simp only [← EReal.coe_mul]; rw [coe_sum]; rfl
theorem reference_dv (K : Fin 16384) (d : Fin 64) : (∑ Q, (g Q d : EReal) * (soft a b Q K : EReal)) = (dv a b g K d : EReal) := by
  rw [← kernel_dv]; exact Finset.sum_congr rfl fun Q _ => mul_comm _ _

end Cert.AttnMath

end
-- ==== Proof.AttnReal.lean ====
/- The attention's host values over real arguments. -/
module

public import proofs.«01_k».proof.Proof.AttnHost
public import proofs.«01_k».proof.Proof.AttnMath

@[expose] public section

set_option maxRecDepth 16384

noncomputable section

namespace Cert.AttnReal

open Idealize.ShloMosaic Idealize.ShloMosaic.TcCoe Cert.Reals Cert.AttnMath
open Cert.AttnIdeal Cert.AttnIdeal.Value

/-- A product of two slots, both zero beyond the columns. -/
theorem slot_mul {n : ℕ} (i : Fin 128) (f g : Fin n → EReal) :
    (if hi : i.val < n then f ⟨i.val, hi⟩ else 0) * (if hi : i.val < n then g ⟨i.val, hi⟩ else 0) = if hi : i.val < n then f ⟨i.val, hi⟩ * g ⟨i.val, hi⟩ else 0 := by
  split
  · rfl
  · exact mul_zero _

theorem slot_sum96 (f g : Fin 96 → EReal) :
    ∑ i : Fin 128, (if hi : i.val < 96 then f ⟨i.val, hi⟩ else 0) * (if hi : i.val < 96 then g ⟨i.val, hi⟩ else 0) = ∑ i, f i * g i :=
  (Finset.sum_congr rfl fun i _ => slot_mul i f g).trans (sum_slots96 fun i => f i * g i)

theorem slot_sum64 (f g : Fin 64 → EReal) :
    ∑ i : Fin 128, (if hi : i.val < 64 then f ⟨i.val, hi⟩ else 0) * (if hi : i.val < 64 then g ⟨i.val, hi⟩ else 0) = ∑ i, f i * g i :=
  (Finset.sum_congr rfl fun i _ => slot_mul i f g).trans (sum_slots64 fun i => f i * g i)

/-- One head of an array, as reals. -/
def head96 (x : FVec Ideal S16384x8x96 .f32) (h : Fin 8) (Q : Fin 16384) (i : Fin 96) : ℝ := (x (ix3 Q h i)).toReal
def head64 (x : FVec Ideal S16384x8x64 .f32) (h : Fin 8) (Q : Fin 16384) (i : Fin 64) : ℝ := (x (ix3 Q h i)).toReal

theorem coe_toReal {x : EReal} (h : IsReal x) : x = (x.toReal : EReal) := by
  obtain ⟨r, rfl⟩ := h; rfl

variable {q k : FVec Ideal S16384x8x96 .f32} {v d : FVec Ideal S16384x8x64 .f32}
  (hq : ∀ i, IsReal (q i)) (hk : ∀ i, IsReal (k i)) (hv : ∀ i, IsReal (v i)) (hd : ∀ i, IsReal (d i)) (h : Fin 8) (Q K : Fin 16384)

theorem head96_eq {x : FVec Ideal S16384x8x96 .f32} (hx : ∀ i, IsReal (x i)) (i : Fin 96) : x (ix3 Q h i) = (head96 x h Q i : EReal) :=
  coe_toReal (hx _)
theorem head64_eq {x : FVec Ideal S16384x8x64 .f32} (hx : ∀ i, IsReal (x i)) (i : Fin 64) : x (ix3 Q h i) = (head64 x h Q i : EReal) :=
  coe_toReal (hx _)

include hq hk in
theorem scoreV_real : scoreV q k (ix3 h Q K) = masked (head96 q h) (head96 k h) Q K := by
  rw [scoreV_at, scale_word]
  unfold masked
  refine if_congr Iff.rfl ?_ rfl
  simp only [head96_eq h Q hq, head96_eq h K hk]
  rw [coe_dot, ← EReal.coe_mul]; rfl

include hq hk in
theorem maxV_real : ∃ μ : ℝ, maxV (scoreV q k) (ix2 h Q) = (μ : EReal) := by
  obtain ⟨μ, e⟩ := max_real (head96 q h) (head96 k h) Q
  refine ⟨μ, ?_⟩
  rw [maxV_at, ← e]
  simp only [scoreV_real hq hk h Q]

include hq hk in
theorem expV_real {μ : ℝ} (e : maxV (scoreV q k) (ix2 h Q) = (μ : EReal)) :
    expV (scoreV q k) (maxV (scoreV q k)) (ix3 h Q K) = ((weight (head96 q h) (head96 k h) Q K * Real.exp (-μ) : ℝ) : EReal) := by
  rw [expV_at, e, scoreV_real hq hk, exp_shift]

include hq hk in
theorem sumV_real {μ : ℝ} (e : maxV (scoreV q k) (ix2 h Q) = (μ : EReal)) :
    sumV (expV (scoreV q k) (maxV (scoreV q k))) (ix2 h Q) = ((total (head96 q h) (head96 k h) Q * Real.exp (-μ) : ℝ) : EReal) := by
  rw [sumV_at]
  simp only [expV_real hq hk h Q _ e]
  rw [coe_sum, total, Finset.sum_mul]

include hq hk in
theorem lseV_real : lseV (scoreV q k) (ix2 h Q) = ((Real.log (total (head96 q h) (head96 k h) Q) / Real.log 2 : ℝ) : EReal) := by
  obtain ⟨μ, e⟩ := maxV_real hq hk h Q
  unfold lseV
  rw [lseOf_at, e, sumV_real hq hk h Q e, lse_eq]

include hq hk in
theorem softV_real : softV (scoreV q k) (ix3 h Q K) = (soft (head96 q h) (head96 k h) Q K : EReal) := by
  obtain ⟨μ, e⟩ := maxV_real hq hk h Q
  unfold softV
  rw [fromBot_eq, normV_at, expV_real hq hk h Q K e, sumV_real hq hk h Q e, soft_eq]

include hq hk hv hd in
theorem deltaV_real : deltaV (scoreV q k) v d (ix2 h Q) = (mean (head96 q h) (head96 k h) (head64 v h) (head64 d h) Q : EReal) := by
  unfold deltaV
  rw [deltaOf_at]
  simp only [outOf_at, softV_real hq hk, head64_eq h _ hv, head64_eq h Q hd]
  exact kernel_mean _ _ _ _ Q

end Cert.AttnReal

end
-- ==== Proof.AttnRefRead.lean ====
/- The reference derivative of the attention, read at an index: the softmax's gradient goes through its quotient. -/
module

public import proofs.«01_k».proof.Proof.AttnHost
public import proofs.«01_k».proof.Proof.AttnMath
public import proofs.«01_k».proof.Proof.Gen.AttnRefIdeal.Read
public import Idealize.ShloMosaic.Lib.Pipeline.ValueKit

@[expose] public section

set_option maxRecDepth 16384

noncomputable section

namespace Cert.AttnRefIdeal.Read

open Cert.AttnRefIdeal Cert.AttnRefIdeal.Gen
open Idealize.ShloMosaic Idealize.ShloMosaic.TcCoe Idealize.ShloMosaic.Tactic Idealize.SL.Sem
open Cert.AttnIdeal.Value (scoreV maxV fromBot expV sumV softV)

/-- A query's value, as a column, at each of its keys. -/
def col1 (x : FVec Ideal S8x16384 .f32) : FVec Ideal S8x16384x1 .f32 := broadcastInDim S8x16384x1 ![0, 1] bcast_S8x16384_S8x16384x1_0_1 x
def overKeys (x : FVec Ideal S8x16384x1 .f32) : FVec Ideal S8x16384x16384 .f32 :=
  broadcastInDim S8x16384x16384 ![0, 1, 2] bcast_S8x16384x1_S8x16384x16384_0_1_2 x

/-- The gradient's part through the quotient's denominator. -/
def innerV (e : FVec Ideal S8x16384x16384 .f32) (l : FVec Ideal S8x16384 .f32) (g : FVec Ideal S8x16384x16384 .f32) : FVec Ideal S8x16384 .f32 :=
  Host.reduceAdd (mulf (mulf g (overKeys (Host.divf (broadcastInDim S8x16384x1 ![] bcast_S_S8x16384x1 (constant S_ .f32 0x3F800000#32)) (mulf (col1 l) (col1 l))))) e)
    (constant S_ .f32 0x00000000#32) reducesTo_S8x16384x16384_S8x16384_d2 h_S_
def negV (x : FVec Ideal S8x16384 .f32) : FVec Ideal S8x16384 .f32 :=
  Host.reduceAdd (Host.negf (shapeCast S8x16384x1 x shapeCasts_S8x16384_S8x16384x1)) (constant S_ .f32 0x00000000#32) reducesTo_S8x16384x1_S8x16384_d2 h_S_

/-- The exponentials' gradient times them: the masked scores' gradient. -/
def preV (e : FVec Ideal S8x16384x16384 .f32) (l n : FVec Ideal S8x16384 .f32) (g : FVec Ideal S8x16384x16384 .f32) : FVec Ideal S8x16384x16384 .f32 :=
  mulf (addf (Host.divf g (overKeys (col1 l))) (broadcastInDim S8x16384x16384 ![0, 1] bcast_S8x16384_S8x16384x16384_0_1 n)) e

def scaledV (d : FVec Ideal S8x16384x16384 .f32) : FVec Ideal S8x16384x16384 .f32 :=
  mulf (select (broadcastInDim S8x16384x16384 ![0, 1, 2] bcast_S1x16384x16384_S8x16384x16384_0_1_2
      (cmpi .sle
        (broadcastInDim S1x16384x16384 ![0, 1, 2] bcast_S1x1x16384_S1x16384x16384_0_1_2
          (broadcastInDim S1x1x16384 ![2] bcast_S16384_S1x1x16384_2 (iotaInDim S16384 32 0)))
        (broadcastInDim S1x16384x16384 ![0, 1, 2] bcast_S1x16384x1_S1x16384x16384_0_1_2
          (broadcastInDim S1x16384x1 ![1] bcast_S16384_S1x16384x1_1 (iotaInDim S16384 32 0))))) d
      (broadcastInDim S8x16384x16384 ![] bcast_S_S8x16384x16384 (constant S_ .f32 0x00000000#32)))
    (broadcastInDim S8x16384x16384 ![] bcast_S_S8x16384x16384 (constant S_ .f32 0x3DD105EC#32))

def probGradV (v d : FVec Ideal S16384x8x64 .f32) : FVec Ideal S8x16384x16384 .f32 :=
  Host.dotGeneral dot_S8x64x16384_S16384x8x64_S8x16384x16384_1_2_2_0_0_1 none (transpose S8x64x16384 [1, 2, 0] d transposes_S16384x8x64_S8x64x16384_1_2_0) v
def dvV (p : FVec Ideal S8x16384x16384 .f32) (d : FVec Ideal S16384x8x64 .f32) : FVec Ideal S16384x8x64 .f32 :=
  transpose S16384x8x64 [2, 0, 1] (Host.dotGeneral dot_S8x64x16384_S8x16384x16384_S8x64x16384_2_1_1_2_0_0 none
    (transpose S8x64x16384 [1, 2, 0] d transposes_S16384x8x64_S8x64x16384_1_2_0) p) transposes_S8x64x16384_S16384x8x64_2_0_1
def dkV (s : FVec Ideal S8x16384x16384 .f32) (q : FVec Ideal S16384x8x96 .f32) : FVec Ideal S16384x8x96 .f32 :=
  transpose S16384x8x96 [1, 0, 2] (Host.dotGeneral dot_S8x16384x16384_S16384x8x96_S8x16384x96_1_0_2_2_0_1 none s q) transposes_S8x16384x96_S16384x8x96_1_0_2
def dqV (s : FVec Ideal S8x16384x16384 .f32) (k : FVec Ideal S16384x8x96 .f32) : FVec Ideal S16384x8x96 .f32 :=
  transpose S16384x8x96 [1, 0, 2] (Host.dotGeneral dot_S8x16384x16384_S16384x8x96_S8x16384x96_2_0_1_2_0_1 none s k) transposes_S8x16384x96_S16384x8x96_1_0_2

variable (h : Fin 8) (Q K : Fin 16384)

theorem innerV_at (e : FVec Ideal S8x16384x16384 .f32) (l : FVec Ideal S8x16384 .f32) (g : FVec Ideal S8x16384x16384 .f32) :
    innerV e l g (ix2 h Q) = ∑ K : Fin 16384, g (ix3 h Q K) * Ideal.div 1 (l (ix2 h Q) * l (ix2 h Q)) * e (ix3 h Q K) := by
  unfold innerV overKeys col1
  pointwise

theorem negV_at (x : FVec Ideal S8x16384 .f32) : negV x (ix2 h Q) = -x (ix2 h Q) := by
  unfold negV
  pointwise
  exact (Finset.sum_const _).trans (one_nsmul _)

theorem preV_at (e : FVec Ideal S8x16384x16384 .f32) (l n : FVec Ideal S8x16384 .f32) (g : FVec Ideal S8x16384x16384 .f32) :
    preV e l n g (ix3 h Q K) = (Ideal.div (g (ix3 h Q K)) (l (ix2 h Q)) + n (ix2 h Q)) * e (ix3 h Q K) := by
  unfold preV overKeys col1
  pointwise

theorem scaledV_at (d : FVec Ideal S8x16384x16384 .f32) :
    scaledV d (ix3 h Q K) = (if K.val ≤ Q.val then d (ix3 h Q K) else 0) * (AttnMath.scale : EReal) := by
  unfold scaledV
  pointwise
  rw [AttnMath.scale_word]
  refine (Cert.AttnIdeal.Value.causal K Q _ _).trans ?_
  split
  · rfl
  · rw [zero_mul]

theorem probGradV_at (v d : FVec Ideal S16384x8x64 .f32) :
    probGradV v d (ix3 h Q K) = ∑ e : Fin 64, d (ix3 Q h e) * v (ix3 K h e) := by
  unfold probGradV
  pointwise
theorem dvV_at (p : FVec Ideal S8x16384x16384 .f32) (d : FVec Ideal S16384x8x64 .f32) (e : Fin 64) :
    dvV p d (ix3 K h e) = ∑ Q : Fin 16384, d (ix3 Q h e) * p (ix3 h Q K) := by
  unfold dvV
  pointwise
theorem dkV_at (s : FVec Ideal S8x16384x16384 .f32) (q : FVec Ideal S16384x8x96 .f32) (i : Fin 96) :
    dkV s q (ix3 K h i) = ∑ Q : Fin 16384, s (ix3 h Q K) * q (ix3 Q h i) := by
  unfold dkV
  pointwise
theorem dqV_at (s : FVec Ideal S8x16384x16384 .f32) (k : FVec Ideal S16384x8x96 .f32) (i : Fin 96) :
    dqV s k (ix3 Q h i) = ∑ K : Fin 16384, s (ix3 h Q K) * k (ix3 K h i) := by
  unfold dqV
  pointwise

variable (x0 x1 : FVec Ideal S16384x8x96 .f32) (x2 x3 : FVec Ideal S16384x8x64 .f32)

/-- The reference's exponentials, sums, probabilities. -/
abbrev eV : FVec Ideal S8x16384x16384 .f32 := expV (scoreV x0 x1) (fromBot (maxV (scoreV x0 x1)))
abbrev lV : FVec Ideal S8x16384 .f32 := sumV (eV x0 x1)

theorem v9_eq : val_main_v9_0 (F := Ideal) x0 x1 = scoreV x0 x1 := rfl
theorem v17_eq : val_main_v17 (F := Ideal) x0 x1 = fromBot (maxV (scoreV x0 x1)) := by
  unfold val_main_v17 val_main_v10; rw [v9_eq]; rfl
theorem v30_eq : val_main_v30 (F := Ideal) x0 x1 = eV x0 x1 := by
  unfold val_main_v30 val_main_v29 val_main_v28 val_main_v27; rw [v9_eq, v17_eq]; rfl
theorem v31_eq : val_main_v31 (F := Ideal) x0 x1 = lV x0 x1 := by unfold val_main_v31; rw [v30_eq]; rfl
theorem v34_eq : val_main_v34 (F := Ideal) x0 x1 = softV (scoreV x0 x1) := by
  unfold val_main_v34 val_main_v33 val_main_v32; rw [v30_eq, v31_eq]; rfl
theorem v41_eq : val_main_v41 (F := Ideal) x2 x3 = probGradV x2 x3 := rfl
theorem v47_eq : val_main_v47 (F := Ideal) x0 x1 x2 x3 = innerV (eV x0 x1) (lV x0 x1) (probGradV x2 x3) := by
  unfold val_main_v47 val_main_v46 val_main_v45 val_main_v44 val_main_v37 val_main_v35 val_main_v32; rw [v30_eq, v31_eq, v41_eq]; rfl
theorem v52_eq : val_main_v52 (F := Ideal) x0 x1 x2 x3 = negV (innerV (eV x0 x1) (lV x0 x1) (probGradV x2 x3)) := by
  unfold val_main_v52 val_main_v49 val_main_v48; rw [v47_eq]; rfl
theorem v55_eq : val_main_v55 (F := Ideal) x0 x1 x2 x3
    = preV (eV x0 x1) (lV x0 x1) (negV (innerV (eV x0 x1) (lV x0 x1) (probGradV x2 x3))) (probGradV x2 x3) := by
  unfold val_main_v55 val_main_v54 val_main_v53 val_main_v51 val_main_v50 val_main_v32; rw [v30_eq, v31_eq, v41_eq, v52_eq]; rfl
theorem v58_eq : val_main_v58 (F := Ideal) x0 x1 x2 x3
    = scaledV (preV (eV x0 x1) (lV x0 x1) (negV (innerV (eV x0 x1) (lV x0 x1) (probGradV x2 x3))) (probGradV x2 x3)) := by
  unfold val_main_v58 val_main_v56; rw [v55_eq]; rfl
theorem v62_eq : val_main_v62 (F := Ideal) x0 x1 x2 x3 = dqV (val_main_v58 (F := Ideal) x0 x1 x2 x3) x1 := rfl
theorem v60_eq : val_main_v60 (F := Ideal) x0 x1 x2 x3 = dkV (val_main_v58 (F := Ideal) x0 x1 x2 x3) x0 := rfl
theorem v43_eq : val_main_v43 (F := Ideal) x0 x1 x3 = dvV (softV (scoreV x0 x1)) x3 := by
  unfold val_main_v43 val_main_v42; rw [v34_eq]; rfl

end Cert.AttnRefIdeal.Read

end
-- ==== Proof.AttnClaim.lean ====
/- The attention's gradients: the blockwise kernel against the derivative. -/
module

public import proofs.«01_k».proof.Defs
public import proofs.«01_k».proof.Proof.AttnArrays
public import proofs.«01_k».proof.Proof.AttnReal
public import proofs.«01_k».proof.Proof.AttnRefRead
public import proofs.«01_k».proof.Proof.Gen.AttnRefIdeal.Run
public import proofs.«01_k».proof.Proof.Gen.Pre_attn_finite

@[expose] public section

set_option maxRecDepth 16384

noncomputable section

namespace Cert.AttnClaim

open Idealize.ShloMosaic Idealize.ShloMosaic.TcCoe Idealize.SL.Sem
open Cert.Reals Cert.AttnMath Cert.AttnReal Cert.AttnIdeal Cert.AttnIdeal.Value

/-! ### The reference -/

section Reference

variable {q k : FVec Ideal S16384x8x96 .f32} {v d : FVec Ideal S16384x8x64 .f32}
  (hq : ∀ i, IsReal (q i)) (hk : ∀ i, IsReal (k i)) (hv : ∀ i, IsReal (v i)) (hd : ∀ i, IsReal (d i)) (h : Fin 8) (Q K : Fin 16384)

theorem probGrad_real (hv : ∀ i, IsReal (v i)) (hd : ∀ i, IsReal (d i)) :
    AttnRefIdeal.Read.probGradV v d (ix3 h Q K) = (probGrad (head64 v h) (head64 d h) Q K : EReal) := by
  rw [AttnRefIdeal.Read.probGradV_at]
  simp only [head64_eq h K hv, head64_eq h Q hd]
  rw [coe_dot]
  exact congrArg Real.toEReal (Finset.sum_congr rfl fun _ _ => mul_comm _ _)

include hq hk hv hd

theorem reference_score :
    AttnRefIdeal.Read.val_main_v58 (F := Ideal) q k v d (ix3 h Q K)
      = (scoreGrad (head96 q h) (head96 k h) (head64 v h) (head64 d h) Q K : EReal) * (scale : EReal) := by
  obtain ⟨μ, e⟩ := maxV_real hq hk h Q
  have eE : ∀ K, AttnRefIdeal.Read.eV q k (ix3 h Q K) = ((weight (head96 q h) (head96 k h) Q K * Real.exp (-μ) : ℝ) : EReal) := fun K => by
    unfold AttnRefIdeal.Read.eV; rw [fromBot_eq]; exact expV_real hq hk h Q K e
  have eL : AttnRefIdeal.Read.lV q k (ix2 h Q) = ((total (head96 q h) (head96 k h) Q * Real.exp (-μ) : ℝ) : EReal) := by
    unfold AttnRefIdeal.Read.lV AttnRefIdeal.Read.eV; rw [fromBot_eq]; exact sumV_real hq hk h Q e
  rw [AttnRefIdeal.Read.v58_eq, AttnRefIdeal.Read.scaledV_at]
  refine congrArg (· * (scale : EReal)) ?_
  split
  · rw [AttnRefIdeal.Read.preV_at, AttnRefIdeal.Read.negV_at, AttnRefIdeal.Read.innerV_at, eE]
    refine reference_grad _ _ _ _ Q K μ _ _ ?_ ?_
    · rw [probGrad_real h Q K hv hd, eL]
    · rw [eL]
      exact Finset.sum_congr rfl fun K _ => by rw [probGrad_real h Q K hv hd, eE]
  · rename_i hn
    rw [scoreGrad_masked _ _ _ _ hn, EReal.coe_zero]

theorem reference_dq_at (i : Fin 96) :
    AttnRefIdeal.Read.val_main_v62 (F := Ideal) q k v d (ix3 Q h i) = (dq (head96 q h) (head96 k h) (head64 v h) (head64 d h) Q i : EReal) := by
  rw [AttnRefIdeal.Read.v62_eq, AttnRefIdeal.Read.dqV_at]
  simp only [reference_score hq hk hv hd, head96_eq h _ hk]
  exact reference_dq _ _ _ _ Q i

theorem reference_dk_at (i : Fin 96) :
    AttnRefIdeal.Read.val_main_v60 (F := Ideal) q k v d (ix3 K h i) = (dk (head96 q h) (head96 k h) (head64 v h) (head64 d h) K i : EReal) := by
  rw [AttnRefIdeal.Read.v60_eq, AttnRefIdeal.Read.dkV_at]
  simp only [reference_score hq hk hv hd, head96_eq h _ hq]
  exact reference_dk _ _ _ _ K i

omit hv in
theorem reference_dv_at (e : Fin 64) :
    AttnRefIdeal.Read.val_main_v43 (F := Ideal) q k d (ix3 K h e) = (dv (head96 q h) (head96 k h) (head64 d h) K e : EReal) := by
  rw [AttnRefIdeal.Read.v43_eq, AttnRefIdeal.Read.dvV_at]
  simp only [softV_real hq hk, head64_eq h _ hd]
  exact reference_dv _ _ _ K e

end Reference

/-! ### The kernel -/

variable (m : (ℓ : Loc nD τ sig) → Buf (Elt Ideal) ℓ)

section Finite
variable (hp : Cert.Pre_AttnIdeal_attn_finite m) (c : Dev nD)
include hp

theorem q_real (i : S16384x8x96.Idx) : IsReal (qA m c i) := .of_test _ (congrFun (hp c).1 i)
theorem k_real (i : S16384x8x96.Idx) : IsReal (kA m c i) := .of_test _ (congrFun (hp c).2.1 i)
theorem v_real (i : S16384x8x64.Idx) : IsReal (vA m c i) := .of_test _ (congrFun (hp c).2.2.1 i)
theorem o_real (i : S16384x8x64.Idx) : IsReal (oA m c i) := .of_test _ (congrFun (hp c).2.2.2 i)

variable (h : Fin 8) (Q K : Fin 16384)

theorem prob_real : probA m c h Q K = (soft (head96 (qA m c) h) (head96 (kA m c) h) Q K : EReal) := by
  unfold probA kS qS
  rw [lseV_real (q_real m hp c) (k_real m hp c)]
  simp only [slots96_at]
  rw [slot_sum96 (fun i => kA m c (ix3 K h i)) (fun i => scaledV (qA m c) (ix3 Q h i))]
  simp only [scaledV_at, scale_word, head96_eq h K (k_real m hp c), head96_eq h Q (q_real m hp c)]
  rw [kernel_score, kernel_soft]

theorem grad_real : gradA m c h Q K
    = (scoreGrad (head96 (qA m c) h) (head96 (kA m c) h) (head64 (vA m c) h) (head64 (oA m c) h) Q K : EReal) := by
  unfold gradA vS oS
  rw [prob_real m hp c, deltaV_real (q_real m hp c) (k_real m hp c) (v_real m hp c) (o_real m hp c)]
  simp only [slots64_at]
  rw [slot_sum64 (fun i => vA m c (ix3 K h i)) (fun i => oA m c (ix3 Q h i))]
  simp only [head64_eq h K (v_real m hp c), head64_eq h Q (o_real m hp c)]
  exact kernel_grad _ _ _ _ Q K

theorem dq_real (i : Fin 96) : dqA m c h Q (widen (by decide) i) * Ideal.ofBits .f32 0x3DD105EC#32
    = (dq (head96 (qA m c) h) (head96 (kA m c) h) (head64 (vA m c) h) (head64 (oA m c) h) Q i : EReal) := by
  have e : ∀ K, kS m c h K (widen (by decide) i) = (head96 (kA m c) h K i : EReal) := fun K => by
    unfold kS; rw [slots96_at]; exact (dif_pos i.isLt).trans (head96_eq h K (k_real m hp c) i)
  unfold dqA
  rw [scale_word]
  simp only [e, grad_real m hp c]
  exact kernel_dq _ _ _ _ Q i

theorem dk_real (i : Fin 96) : dkA m c h K (widen (by decide) i)
    = (dk (head96 (qA m c) h) (head96 (kA m c) h) (head64 (vA m c) h) (head64 (oA m c) h) K i : EReal) := by
  have e : ∀ Q, qS m c h Q (widen (by decide) i) = Ideal.div ((head96 (qA m c) h Q i : EReal) * (scale : EReal)) ((Real.log 2 : ℝ) : EReal) := fun Q => by
    unfold qS; rw [slots96_at]
    refine (dif_pos i.isLt).trans ((scaledV_at _ Q h i).trans ?_)
    rw [scale_word, head96_eq h Q (q_real m hp c) i]
  unfold dkA
  simp only [e, grad_real m hp c]
  exact kernel_dk _ _ _ _ K i

theorem dv_real (i : Fin 64) : dvA m c h K (widen (by decide) i)
    = (dv (head96 (qA m c) h) (head96 (kA m c) h) (head64 (oA m c) h) K i : EReal) := by
  have e : ∀ Q, oS m c h Q (widen (by decide) i) = (head64 (oA m c) h Q i : EReal) := fun Q => by
    unfold oS; rw [slots64_at]; exact (dif_pos i.isLt).trans (head64_eq h Q (o_real m hp c) i)
  unfold dvA
  simp only [e, prob_real m hp c]
  exact kernel_dv _ _ _ K i

theorem dq_out_eq (y : S16384x8x96.Idx) : dqRes (dqArr m c) y = AttnRefIdeal.Read.val_main_v62 (F := Ideal) (qA m c) (kA m c) (vA m c) (oA m c) y := by
  obtain ⟨Q, h, i, rfl⟩ : ∃ Q h i, y = ix3 Q h i := ⟨y 0, y 1, y 2, eq_ix3 y⟩
  obtain ⟨r, b, rfl⟩ : ∃ r b, Q = tok r b :=
    ⟨⟨Q.val / 512, by omega⟩, ⟨Q.val % 512, Nat.mod_lt _ (by decide)⟩, Fin.ext (by show Q.val = 512 * (Q.val / 512) + Q.val % 512; omega)⟩
  rw [dqRes_at, dqArr_at, dq_real m hp c, reference_dq_at (q_real m hp c) (k_real m hp c) (v_real m hp c) (o_real m hp c)]

theorem dk_out_eq (y : S16384x8x96.Idx) : dkRes (dkArr m c) y = AttnRefIdeal.Read.val_main_v60 (F := Ideal) (qA m c) (kA m c) (vA m c) (oA m c) y := by
  obtain ⟨K, h, i, rfl⟩ : ∃ K h i, y = ix3 K h i := ⟨y 0, y 1, y 2, eq_ix3 y⟩
  rw [dkRes_at, dkArr_at, dk_real m hp c, reference_dk_at (q_real m hp c) (k_real m hp c) (v_real m hp c) (o_real m hp c)]

theorem dv_out_eq (y : S16384x8x64.Idx) : dvRes (dvArr m c) y = AttnRefIdeal.Read.val_main_v43 (F := Ideal) (qA m c) (kA m c) (oA m c) y := by
  obtain ⟨K, h, i, rfl⟩ : ∃ K h i, y = ix3 K h i := ⟨y 0, y 1, y 2, eq_ix3 y⟩
  rw [dvRes_at, dvArr_at, dv_real m hp c, reference_dv_at (q_real m hp c) (k_real m hp c) (o_real m hp c)]

end Finite

/-- The named constant's exact value. -/
theorem preserves : Cert.preserves_Attn_AttnIdeal :=
  IdealRules.named_const.statement Cert.AttnIdeal.κ "ln_2" .f32 0x3F317218#32 ((Real.log 2 : ℝ) : EReal) rfl

/-- The claim of the attention pair. -/
theorem algebraic : Cert.algebraic_AttnIdeal_AttnRefIdeal_pre_attn_finite := by
  intro m g m' g' hp hm
  refine ⟨_, _, _, Cert.AttnIdeal.Value.run m g, (θ_run _ _ _).mono (fun r h => ?_) (Cert.AttnRefIdeal.Value.run m' g')⟩
  intro c
  obtain ⟨h0, h1, h2, hk⟩ := h c
  obtain ⟨e0, e1, e2, e3⟩ := hm c
  refine ⟨h0.trans ?_, h1.trans ?_, h2.trans ?_, hk⟩
  · rw [AttnRefIdeal.Read.val_main_v62_eq, e0, e1, e2, e3]
    exact funext fun i => (dq_out_eq m hp c i).symm
  · rw [AttnRefIdeal.Read.val_main_v60_eq, e0, e1, e2, e3]
    exact funext fun i => (dk_out_eq m hp c i).symm
  · rw [AttnRefIdeal.Read.val_main_v43_eq, e0, e1, e3]
    exact funext fun i => (dv_out_eq m hp c i).symm

end Cert.AttnClaim

end
-- ==== Proof.DeltaValue.lean ====
/- What the attention's row-sum call leaves: per head and query the product of the output with its cotangent. -/
module

public import proofs.«01_k».proof.Proof.AttnReal
public import proofs.«01_k».proof.Proof.Gen.DeltaIdeal.Value
public import Idealize.ShloMosaic.Lib.Pipeline.ValueKit
public import Idealize.ShloMosaic.Lib.StableHlo.RunRead

@[expose] public section

set_option maxRecDepth 16384

noncomputable section

namespace Cert.DeltaIdeal.Value

open Cert.DeltaIdeal Cert.DeltaIdeal.Gen
open Cert.AttnReal (slot_sum64)
open Cert.AttnIdeal.Value (scoreV softV outOf deltaV deltaOf slots64 slots64_at deltaOf_at col)
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

abbrev qA (c : Dev nD) : FVec Ideal S16384x8x96 .f32 := m ((c : Thread nD τ).loc main_arg0)
abbrev kA (c : Dev nD) : FVec Ideal S16384x8x96 .f32 := m ((c : Thread nD τ).loc main_arg1)
abbrev vA (c : Dev nD) : FVec Ideal S16384x8x64 .f32 := m ((c : Thread nD τ).loc main_arg2)
abbrev oA (c : Dev nD) : FVec Ideal S16384x8x64 .f32 := m ((c : Thread nD τ).loc main_arg3)

theorem V_out (c : Dev nD) : (V m c main_v27 : S16384x1024.Idx → EReal) = slots64 (outOf (softV (scoreV (qA m c) (kA m c))) (vA m c)) := by
  unfold V
  simp only [hostOps0, hostOps0_1, hostOps0_2, hostOps0_3, hostOps0_4, hostOps0_5, hostOps0_6, List.flatten_cons, List.flatten_nil,
    List.append_nil, List.cons_append, List.nil_append]
  after_reads_simp
  rfl

theorem V_do (c : Dev nD) : (V m c main_v32 : S16384x1024.Idx → EReal) = slots64 (oA m c) := by
  unfold V
  simp only [hostOps0, hostOps0_1, hostOps0_2, hostOps0_3, hostOps0_4, hostOps0_5, hostOps0_6, List.flatten_cons, List.flatten_nil,
    List.append_nil, List.cons_append, List.nil_append]
  after_reads_simp
  rfl

theorem idx (t : Fin cfg0.N) : win0_0.index t = ![t.val, 0] ∧ win0_1.index t = ![t.val, 0] ∧ win0_2.index t = ![0, t.val, 0, 0] := by
  revert t; decide +kernel

/-- The token at row `p` of block `t`. -/
def tok (t : Fin 32) (p : Fin 512) : Fin 16384 := ⟨512 * t.val + p.val, by omega⟩
def pt (t : Fin cfg0.N) : Fin 32 := t

theorem block_out (c : Dev nD) (t : Fin cfg0.N) (p : Fin 512) (l : Fin 1024) :
    iblk m c 0 t (ix2 p l) = slots64 (outOf (softV (scoreV (qA m c) (kA m c))) (vA m c)) (ix2 (tok (pt t) p) l) := by
  rw [← V_out]
  blk_ext! [iblk, idx t, tok, pt]

theorem block_do (c : Dev nD) (t : Fin cfg0.N) (p : Fin 512) (l : Fin 1024) :
    iblk m c 1 t (ix2 p l) = slots64 (oA m c) (ix2 (tok (pt t) p) l) := by
  rw [← V_do]
  blk_ext! [iblk, idx t, tok, pt]

theorem out_at (x0 x1 : Vec Ideal S512x1024 .bf16) (y : S8x1x1x512.Idx) :
    out0_2 x0 x1 y = ∑ e : Fin 128, x1 (ix2 (y 3) (col (y 0) e)) * x0 (ix2 (y 3) (col (y 0) e)) := by
  idx_vars y
  unfold out0_2
  canon_tiles x h
  all_goals
    open_payloads
    pointwise
    obtain rfl : y3 = x 3 := Fin.ext h3
    have e0 : y0.val = _ := h0
    refine Finset.sum_congr rfl fun e _ => ?_
    refine congrArg₂ (· * ·) (congrArg x1 (congrArg (ix2 _) (Fin.ext ?_))) (congrArg x0 (congrArg (ix2 _) (Fin.ext ?_))) <;>
      (show _ = 128 * y0.val + e.val; try dsimp only; omega)

theorem out_row (x0 x1 : Vec Ideal S512x1024 .bf16) (h : Fin 8) (b : Fin 512) :
    out0_2 x0 x1 (ix4 h (0 : Fin 1) (0 : Fin 1) b) = ∑ e : Fin 128, x1 (ix2 b (col h e)) * x0 (ix2 b (col h e)) := out_at x0 x1 _

/-- The result: per head and query, the output's product with its cotangent. -/
def rowSums (c : Dev nD) (i : S8x32x1x512.Idx) : EReal :=
  deltaV (scoreV (qA m c) (kA m c)) (vA m c) (oA m c) (ix2 (i 0) (tok (i 1) (i 3)))

theorem row_tok (c : Dev nD) (t : Fin cfg0.N) (h : Fin 8) (b : Fin 512) :
    out0_2 (iblk m c 0 t) (iblk m c 1 t) (ix4 h (0 : Fin 1) (0 : Fin 1) b) = rowSums m c (ix4 h (pt t) (0 : Fin 1) b) := by
  refine (out_row _ _ h b).trans ((Finset.sum_congr rfl fun e _ =>
    congrArg₂ (fun a b : EReal => a * b) (block_do m c t b (col h e)) (block_out m c t b (col h e))).trans ?_)
  simp only [slots64_at]
  rw [slot_sum64 (fun e => oA m c (ix3 (tok (pt t) b) h e)) (fun e => outOf (softV (scoreV (qA m c) (kA m c))) (vA m c) (ix3 (tok (pt t) b) h e))]
  exact (deltaOf_at _ _ _ _).symm

theorem emb_2 (t : Fin cfg0.N) (h : Fin 8) (b : Fin 512) :
    (win0_2.blk t).view.emb (ix4 h (0 : Fin 1) (0 : Fin 1) b) = (ix4 h (pt t) (0 : Fin 1) b : S8x32x1x512.Idx) := by
  blk_ext [idx t, pt]

theorem final (c : Dev nD) : (dats m 0 c).arrAt 2 cfg0.N = rowSums m c := by
  refine (dats m 0 c).arrAt_eq_of_covers 2 _ (by decide +kernel) fun t hf y => ?_
  obtain ⟨h, b, rfl⟩ : ∃ (h : Fin 8) (b : Fin 512), y = ix4 h (0 : Fin 1) (0 : Fin 1) b :=
    ⟨y 0, y 3, (eq_ix4 y).trans (by rw [show y 1 = (0 : Fin 1) from Fin.fin_one_eq_zero _, show y 2 = (0 : Fin 1) from Fin.fin_one_eq_zero _])⟩
  blk_simp
  exact (congrFun (after0_2 m c t) _).trans ((row_tok m c t h b).trans (congrArg (rowSums m c) (emb_2 t h b).symm))

end Cert.DeltaIdeal.Value

end
-- ==== Proof.DeltaClaim.lean ====
/- The attention's row sums: the kernel's against the derivative's. -/
module

public import proofs.«01_k».proof.Defs
public import proofs.«01_k».proof.Proof.DeltaValue
public import proofs.«01_k».proof.Proof.Gen.DeltaRefIdeal.Run
public import proofs.«01_k».proof.Proof.Gen.DeltaRefIdeal.Read
public import proofs.«01_k».proof.Proof.Gen.Pre_attn_finite

@[expose] public section

set_option maxRecDepth 16384

noncomputable section

namespace Cert.DeltaClaim

open Idealize.ShloMosaic Idealize.ShloMosaic.TcCoe Idealize.ShloMosaic.Tactic Idealize.SL.Sem
open Cert.Reals Cert.AttnMath Cert.AttnReal Cert.DeltaIdeal Cert.DeltaIdeal.Value
open Cert.AttnIdeal.Value (scoreV softV deltaV)

/-! ### The reference -/

section Read

open Cert.DeltaRefIdeal.Read Cert.DeltaRefIdeal.Gen Cert.DeltaRefIdeal
open Cert.AttnIdeal.Value (maxV fromBot expV)

/-- The probabilities' cotangent weighted with the probabilities, and its sums over the keys. -/
def sumsV (w : FVec Ideal DeltaRefIdeal.S8x16384x16384 .f32) : FVec Ideal DeltaRefIdeal.S8x16384 .f32 :=
  Host.reduceAdd w (constant DeltaRefIdeal.S_ .f32 0x00000000#32) reducesTo_S8x16384x16384_S8x16384_d2 h_S_
def meanV (g p : FVec Ideal DeltaRefIdeal.S8x16384x16384 .f32) : FVec Ideal DeltaRefIdeal.S8x32x1x512 .f32 :=
  shapeCast DeltaRefIdeal.S8x32x1x512 (sumsV (mulf g p)) shapeCasts_S8x16384_S8x32x1x512

theorem sumsV_at (w : FVec Ideal DeltaRefIdeal.S8x16384x16384 .f32) (h : Fin 8) (Q : Fin 16384) :
    sumsV w (ix2 h Q) = ∑ K : Fin 16384, w (ix3 h Q K) := by
  unfold sumsV
  pointwise

theorem gradV_at (v d : FVec Ideal DeltaRefIdeal.S16384x8x64 .f32) (h : Fin 8) (Q K : Fin 16384) :
    val_main_v24 (F := Ideal) v d (ix3 h Q K) = ∑ e : Fin 64, d (ix3 Q h e) * v (ix3 K h e) := by
  unfold val_main_v24 val_main_v23
  pointwise

theorem meanV_at (g p : FVec Ideal DeltaRefIdeal.S8x16384x16384 .f32) (h : Fin 8) (r : Fin 32) (b : Fin 512) :
    meanV g p (ix4 h r (0 : Fin 1) b) = ∑ K : Fin 16384, g (ix3 h (tok r b) K) * p (ix3 h (tok r b) K) := by
  have e : meanV g p (ix4 h r (0 : Fin 1) b) = sumsV (mulf g p) (ix2 h (tok r b)) := by
    unfold meanV
    generalize sumsV (mulf g p) = x
    refine (shapeCast_apply x _ _ (ix2 h (tok r b)) ?_)
    rw [Shape.rowMajor_val_two, Shape.rowMajor_val_four]
    show h.val * 16384 + (512 * r.val + b.val) = ((h.val * 32 + r.val) * 1 + 0) * 512 + b.val
    omega
  rw [e, sumsV_at]
  rfl

theorem v9_eq (q k : FVec Ideal DeltaRefIdeal.S16384x8x96 .f32) : val_main_v9 (F := Ideal) q k = scoreV q k := rfl
theorem v12_eq (q k : FVec Ideal DeltaRefIdeal.S16384x8x96 .f32) : val_main_v12 (F := Ideal) q k = fromBot (maxV (scoreV q k)) := by
  unfold val_main_v12 val_main_v10; rw [v9_eq]; rfl
theorem v16_eq (q k : FVec Ideal DeltaRefIdeal.S16384x8x96 .f32) :
    val_main_v16 (F := Ideal) q k = expV (scoreV q k) (fromBot (maxV (scoreV q k))) := by
  unfold val_main_v16 val_main_v15 val_main_v14 val_main_v13; rw [v9_eq, v12_eq]; rfl
theorem v20_eq (q k : FVec Ideal DeltaRefIdeal.S16384x8x96 .f32) : val_main_v20 (F := Ideal) q k = softV (scoreV q k) := by
  unfold val_main_v20 val_main_v19 val_main_v18 val_main_v17; rw [v16_eq]; rfl
theorem v27_eq (q k : FVec Ideal DeltaRefIdeal.S16384x8x96 .f32) (v d : FVec Ideal DeltaRefIdeal.S16384x8x64 .f32) :
    val_main_v27 (F := Ideal) q k v d = meanV (val_main_v24 (F := Ideal) v d) (softV (scoreV q k)) := by
  unfold val_main_v27 val_main_v26 val_main_v25; rw [v20_eq]; rfl

end Read

/-! ### The two agree -/

theorem swap (s : ℝ) (f g : Fin 64 → ℝ) : s * ∑ e, f e * g e = (∑ e, g e * f e) * s := by
  rw [mul_comm]
  exact congrArg (fun x => x * s) (Finset.sum_congr rfl fun _ _ => mul_comm _ _)

theorem sums_eq (q k : FVec Ideal S16384x8x96 .f32) (v o : FVec Ideal S16384x8x64 .f32) (hq : ∀ i, IsReal (q i))
    (hk : ∀ i, IsReal (k i)) (hv : ∀ i, IsReal (v i)) (ho : ∀ i, IsReal (o i)) (h : Fin 8) (Q : Fin 16384) :
    deltaV (scoreV q k) v o (ix2 h Q) =
      ∑ K : Fin 16384, DeltaRefIdeal.Read.val_main_v24 (F := Ideal) v o (ix3 h Q K) * softV (scoreV q k) (ix3 h Q K) := by
  refine (deltaV_real hq hk hv ho h Q).trans ?_
  rw [mean, ← coe_sum]
  refine Finset.sum_congr rfl fun K _ => ?_
  rw [softV_real hq hk h Q K, gradV_at]
  simp only [head64_eq h _ hv, head64_eq h _ ho]
  rw [coe_dot, ← EReal.coe_mul, probGrad]
  exact congrArg Real.toEReal (swap _ _ _)

variable (m : (ℓ : Loc nD τ sig) → Buf (Elt Ideal) ℓ) (hp : Cert.Pre_DeltaIdeal_attn_finite m) (c : Dev nD)
include hp

theorem q_real (i : S16384x8x96.Idx) : IsReal (qA m c i) := .of_test _ (congrFun (hp c).1 i)
theorem k_real (i : S16384x8x96.Idx) : IsReal (kA m c i) := .of_test _ (congrFun (hp c).2.1 i)
theorem v_real (i : S16384x8x64.Idx) : IsReal (vA m c i) := .of_test _ (congrFun (hp c).2.2.1 i)
theorem o_real (i : S16384x8x64.Idx) : IsReal (oA m c i) := .of_test _ (congrFun (hp c).2.2.2 i)

theorem out_at (h : Fin 8) (r : Fin 32) (b : Fin 512) :
    deltaV (scoreV (qA m c) (kA m c)) (vA m c) (oA m c) (ix2 h (tok r b)) =
      DeltaRefIdeal.Read.val_main_v27 (F := Ideal) (qA m c) (kA m c) (vA m c) (oA m c) (ix4 h r (0 : Fin 1) b) := by
  refine (sums_eq _ _ _ _ (q_real m hp c) (k_real m hp c) (v_real m hp c) (o_real m hp c) h (tok r b)).trans ?_
  rw [v27_eq, meanV_at]

theorem out_eq (y : DeltaIdeal.S8x32x1x512.Idx) :
    rowSums m c y = DeltaRefIdeal.Read.val_main_v27 (F := Ideal) (qA m c) (kA m c) (vA m c) (oA m c) y := by
  have e : y = ix4 (y 0) (y 1) (0 : Fin 1) (y 3) :=
    (eq_ix4 y).trans (by rw [show y 2 = (0 : Fin 1) from Fin.fin_one_eq_zero _]; rfl)
  exact (out_at m hp c (y 0) (y 1) (y 3)).trans (congrArg _ e.symm)

omit hp
/-- The claim of the row sums' pair. -/
theorem algebraic : Cert.algebraic_DeltaIdeal_DeltaRefIdeal_pre_attn_finite := by
  intro m g m' g' hp hm
  refine ⟨_, run_blocks m g, (θ_run _ _ _).mono (fun r h => ?_) (Cert.DeltaRefIdeal.Value.run m' g')⟩
  intro c
  obtain ⟨h0, hk⟩ := h c
  obtain ⟨e0, e1, e2, e3⟩ := hm c
  refine ⟨h0.trans ?_, hk⟩
  rw [DeltaRefIdeal.Read.val_main_v27_eq, e0, e1, e2, e3]
  exact (funext fun i => (out_eq m hp c i).symm).trans (final m c).symm

end Cert.DeltaClaim

end
-- ==== Proof.ConvRows.lean ====
/- The gated convolution's gradient, one token's row at a time: the functions both the kernel's blocks and the
   reference's arrays are read as. -/
module

public import proofs.«01_k».proof.Proof.FfnRows

@[expose] public section

noncomputable section

namespace Cert.ConvRows

open Idealize.ShloMosaic Cert.FfnRows

/-- The columns of the projection: the outer gate, the inner gate and the convolved branch. -/
def gateB (z : Fin 3072 → EReal) (d : Fin 1024) : EReal := z ⟨d.val, by omega⟩
def gateC (z : Fin 3072 → EReal) (d : Fin 1024) : EReal := z ⟨1024 + d.val, by omega⟩
def branch (z : Fin 3072 → EReal) (d : Fin 1024) : EReal := z ⟨2048 + d.val, by omega⟩

/-- The convolution's input. -/
def inner (z : Fin 3072 → EReal) (d : Fin 1024) : EReal := gateC z d * branch z d

/-- A sequence of 16384 tokens, moved `k` tokens later, zero before its start. -/
def later (k : ℕ) (u : Fin 16384 → EReal) (r : Fin 16384) : EReal := if h : k ≤ r.val then u ⟨r.val - k, by omega⟩ else 0

/-- The same, moved `k` tokens earlier, zero past its end. -/
def earlier (k : ℕ) (u : Fin 16384 → EReal) (r : Fin 16384) : EReal := if h : r.val + k < 16384 then u ⟨r.val + k, h⟩ else 0

/-- The causal convolution of width 3 of the tokens' inner rows. -/
def conv (w : Fin 3 → Fin 1024 → EReal) (z : Fin 16384 → Fin 3072 → EReal) (r : Fin 16384) (d : Fin 1024) : EReal :=
  w 0 d * later 2 (fun r => inner (z r) d) r + w 1 d * later 1 (fun r => inner (z r) d) r + w 2 d * inner (z r) d

/-- The cotangent of the gated convolution, and of the convolution. -/
def dgated (dy : Fin 1024 → EReal) (wt : Fin 1024 → Fin 1024 → EReal) (d : Fin 1024) : EReal := ∑ e, dy e * wt e d
def dconv (dy : Fin 16384 → Fin 1024 → EReal) (wt : Fin 1024 → Fin 1024 → EReal) (z : Fin 16384 → Fin 3072 → EReal)
    (r : Fin 16384) (d : Fin 1024) : EReal := dgated (dy r) wt d * gateB (z r) d

/-- The cotangent of the convolution's input. -/
def dinner (w : Fin 3 → Fin 1024 → EReal) (dc : Fin 16384 → Fin 1024 → EReal) (r : Fin 16384) (d : Fin 1024) : EReal :=
  w 2 d * dc r d + w 1 d * earlier 1 (fun r => dc r d) r + w 0 d * earlier 2 (fun r => dc r d) r

/-- Three blocks of columns side by side. -/
def thirds (a b c : Fin 1024 → EReal) (j : Fin 3072) : EReal :=
  if h : j.val < 1024 then a ⟨j.val, h⟩ else if h' : j.val < 2048 then b ⟨j.val - 1024, by omega⟩ else c ⟨j.val - 2048, by omega⟩

end Cert.ConvRows

end
-- ==== Proof.ConvPays.lean ====
/- What the gated convolution's backward call computes from the blocks of a grid point: each payload read at an index,
   over any blocks that hold the rows of a sequence. -/
module

public import proofs.«01_k».proof.Proof.Consts
public import proofs.«01_k».proof.Proof.ConvRows
public import proofs.«01_k».proof.Proof.Gen.ConvIdeal.Frame
public import Idealize.ShloMosaic.Lib.Pipeline.ValueKit

@[expose] public section

set_option maxRecDepth 16384

noncomputable section

namespace Cert.ConvIdeal.Value

open Cert.ConvIdeal Cert.ConvIdeal.Gen Cert.FfnRows Cert.ConvRows
open Idealize.ShloMosaic Idealize.ShloMosaic.TcCoe Idealize.ShloMosaic.Tactic Idealize.SL.Sem

/-- Row `p` of a block or array. -/
abbrev row {a b : ℕ} (x : (⟨2, ![a, b]⟩ : Shape).Idx → EReal) (p : Fin a) (l : Fin b) : EReal := x (ix2 p l)

/-- The token at row `p` of grid point `n`. -/
def tok (n : Fin 64) (p : Fin 256) : Fin 16384 := ⟨256 * n.val + p.val, by omega⟩

/-- The blocks hold the rows of the sequences: the tile's own, the 16 before it, the 16 after it, and the weights. -/
structure Holds (n : Fin 64) (z : Fin 16384 → Fin 3072 → EReal) (dy : Fin 16384 → Fin 1024 → EReal)
    (w : Fin 3 → Fin 1024 → EReal) (wt : Fin 1024 → Fin 1024 → EReal)
    (DY : Vec Ideal S256x1024 .f32) (DYN : Vec Ideal S16x1024 .f32) (Z : Vec Ideal S256x3072 .bf16)
    (ZP : Vec Ideal S16x3072 .bf16) (BN : Vec Ideal S16x1024 .bf16) (WO : Vec Ideal S1024x1024 .bf16)
    (W0 W1 W2 : Vec Ideal S1x1024 .f32) : Prop where
  dys : ∀ p l, DY (ix2 p l) = dy (tok n p) l
  zs : ∀ p j, Z (ix2 p j) = z (tok n p) j
  prev : ∀ (p : Fin 16) j (h : 0 < n.val), ZP (ix2 p j) = z ⟨256 * n.val - 16 + p.val, by omega⟩ j
  nextDy : ∀ (p : Fin 16) l (h : n.val < 63), DYN (ix2 p l) = dy ⟨256 * n.val + 256 + p.val, by omega⟩ l
  nextB : ∀ (p : Fin 16) l (h : n.val < 63), BN (ix2 p l) = gateB (z ⟨256 * n.val + 256 + p.val, by omega⟩) l
  wo : ∀ e d, WO (ix2 e d) = wt e d
  w0 : ∀ d, W0 (ix2 0 d) = w 0 d
  w1 : ∀ d, W1 (ix2 0 d) = w 1 d
  w2 : ∀ d, W2 (ix2 0 d) = w 2 d

theorem at_first (n : Fin 64) : Scalar.cmpi .eq (BitVec.ofNat 32 n.val) 0#32 = if n.val = 0 then 1#1 else 0#1 := by
  revert n; decide +kernel
theorem at_last (n : Fin 64) : Scalar.cmpi .eq (BitVec.ofNat 32 n.val) 63#32 = if n.val = 63 then 1#1 else 0#1 := by
  revert n; decide +kernel

section

variable {n : Fin 64} {z : Fin 16384 → Fin 3072 → EReal} {dy : Fin 16384 → Fin 1024 → EReal}
  {w : Fin 3 → Fin 1024 → EReal} {wt : Fin 1024 → Fin 1024 → EReal}
  {DY : Vec Ideal S256x1024 .f32} {DYN : Vec Ideal S16x1024 .f32} {Z : Vec Ideal S256x3072 .bf16}
  {ZP : Vec Ideal S16x3072 .bf16} {BN : Vec Ideal S16x1024 .bf16} {WO : Vec Ideal S1024x1024 .bf16}
  {W0 W1 W2 : Vec Ideal S1x1024 .f32}

theorem pay5_row (p : Fin 256) (d : Fin 1024) : k0_pay5 Z (ix2 p d) = gateB (row Z p) d := by
  open_payloads; pointwise; rfl
theorem pay6_row (p : Fin 256) (d : Fin 1024) : k0_pay6 Z (ix2 p d) = gateC (row Z p) d := by
  open_payloads; pointwise; rfl
theorem pay7_row (p : Fin 256) (d : Fin 1024) : k0_pay7 Z (ix2 p d) = branch (row Z p) d := by
  open_payloads; pointwise; rfl
theorem pay8_row (p : Fin 256) (d : Fin 1024) : k0_pay8 Z (ix2 p d) = inner (row Z p) d := by
  open_payloads; pointwise; rfl

theorem pay9_low (i : grid0.Coords) (q : Fin 272) (d : Fin 1024) (h : q.val < 16) :
    k0_pay9 i Z ZP (ix2 q d) = Scalar.select (Scalar.cmpi .eq (BitVec.ofNat 32 (i 0).val) 0#32) (0 : EReal) (inner (row ZP ⟨q.val, h⟩) d) := by
  unfold k0_pay9
  pointwise
  rw [dif_pos h]
  rfl

theorem pay9_high (i : grid0.Coords) (q : Fin 272) (d : Fin 1024) (h : ¬q.val < 16) :
    k0_pay9 i Z ZP (ix2 q d) = inner (row Z ⟨q.val - 16, by omega⟩) d := by
  unfold k0_pay9
  pointwise
  rw [dif_neg h]
  exact pay8_row _ _

theorem pay10_row (i : grid0.Coords) (p : Fin 256) (d : Fin 1024) :
    k0_pay10 i Z ZP (ix2 p d) = k0_pay9 i Z ZP (ix2 (⟨15 + p.val, by omega⟩ : Fin 272) d) := by
  unfold k0_pay10
  generalize k0_pay9 i Z ZP = x
  pointwise
  exact congrArg (fun q => x (ix2 q d)) (Fin.ext (by show (16 + p.val + 272 - 1) % 272 = 15 + p.val; omega))

theorem pay11_row (i : grid0.Coords) (p : Fin 256) (d : Fin 1024) :
    k0_pay11 i Z ZP (ix2 p d) = k0_pay9 i Z ZP (ix2 (⟨14 + p.val, by omega⟩ : Fin 272) d) := by
  unfold k0_pay11
  generalize k0_pay9 i Z ZP = x
  pointwise
  exact congrArg (fun q => x (ix2 q d)) (Fin.ext (by show (16 + p.val + 272 - 2) % 272 = 14 + p.val; omega))

theorem pay12_row (u l1 l2 : FVec Ideal S256x1024 .f32) (p : Fin 256) (d : Fin 1024) :
    k0_pay12 u l1 l2 W0 W1 W2 (ix2 p d) = W0 (ix2 0 d) * l2 (ix2 p d) + W1 (ix2 0 d) * l1 (ix2 p d) + W2 (ix2 0 d) * u (ix2 p d) := by
  unfold k0_pay12
  pointwise

theorem pay13_row (b u l1 l2 : FVec Ideal S256x1024 .f32) (p : Fin 256) (d : Fin 1024) :
    k0_pay13 b u l1 l2 W0 W1 W2 (ix2 p d) = b (ix2 p d) * k0_pay12 u l1 l2 W0 W1 W2 (ix2 p d) := by
  unfold k0_pay13
  pointwise

theorem pay14_row (p : Fin 256) (d : Fin 1024) : k0_pay14 DY WO (ix2 p d) = dgated (row DY p) (row WO) d := by
  unfold k0_pay14
  pointwise
  rfl

theorem pay15_row (b : FVec Ideal S256x1024 .f32) (p : Fin 256) (d : Fin 1024) :
    k0_pay15 b DY WO (ix2 p d) = dgated (row DY p) (row WO) d * b (ix2 p d) := by
  unfold k0_pay15
  pointwise
  rw [pay14_row]

theorem pay16_low (a : BitVec 32) (b : FVec Ideal S256x1024 .f32) (q : Fin 272) (d : Fin 1024) (h : q.val < 256) :
    k0_pay16 a b DY WO DYN WO BN (ix2 q d) = k0_pay15 b DY WO (ix2 ⟨q.val, h⟩ d) := by
  unfold k0_pay16
  pointwise
  rw [dif_pos h]

theorem pay16_high (a : BitVec 32) (b : FVec Ideal S256x1024 .f32) (q : Fin 272) (d : Fin 1024) (h : ¬q.val < 256) :
    k0_pay16 a b DY WO DYN WO BN (ix2 q d) = Scalar.select (Scalar.cmpi .eq a 63#32) (0 : EReal)
      (dgated (row DYN ⟨q.val - 256, by omega⟩) (row WO) d * BN (ix2 ⟨q.val - 256, by omega⟩ d)) := by
  unfold k0_pay16
  pointwise
  rw [dif_neg h]
  rfl

theorem pay17_row (x58 : FVec Ideal S256x1024 .f32) (x : FVec Ideal S272x1024 .f32) (p : Fin 256) (d : Fin 1024) :
    k0_pay17 x58 x W2 W1 W0 (ix2 p d) = W2 (ix2 0 d) * x58 (ix2 p d) + W1 (ix2 0 d) * x (ix2 (⟨p.val + 1, by omega⟩ : Fin 272) d)
      + W0 (ix2 0 d) * x (ix2 (⟨p.val + 2, by omega⟩ : Fin 272) d) := by
  unfold k0_pay17
  pointwise
  have e1 : (p.val + 272 - 271) % 272 = p.val + 1 := by omega
  have e2 : (p.val + 272 - 270) % 272 = p.val + 2 := by omega
  simp only [e1, e2]

theorem pay24_row (C B T DG DI : FVec Ideal S256x1024 .f32) (p : Fin 256) (j : Fin 3072) :
    k0_pay24 C B T DG DI (ix2 p j) = thirds (fun d => DG (ix2 p d) * T (ix2 p d)) (fun d => DI (ix2 p d) * B (ix2 p d))
      (fun d => DI (ix2 p d) * C (ix2 p d)) j := by
  unfold k0_pay24
  pointwise
  unfold thirds
  by_cases h : j.val < 1024
  · rw [dif_pos h, dif_pos h]
  · rw [dif_neg h, dif_neg h]
    by_cases h' : j.val < 2048
    · rw [dif_pos h', dif_pos (by omega)]
    · rw [dif_neg h', dif_neg (by omega)]
      have e : j.val - 1024 - 1024 = j.val - 2048 := by omega
      simp only [e]

theorem pay25_row (C B T DG DI : FVec Ideal S256x1024 .f32) (WI : Vec Ideal S3072x1024 .bf16) (p : Fin 256) (l : Fin 1024) :
    k0_pay25 C B T DG DI WI (ix2 p l) = ∑ j : Fin 3072, k0_pay24 C B T DG DI (ix2 p j) * WI (ix2 j l) := by
  unfold k0_pay25
  generalize k0_pay24 C B T DG DI = x
  pointwise

theorem pay2_row (X : Vec Ideal S256x1024 .f32) (p : Fin 256) (l : Fin 1024) : k0_pay2 X (ix2 p l) = xhat (row X p) l := by
  open_payloads; pointwise; simp only [Words.inv1024]; rfl

theorem pay3_row (X : Vec Ideal S256x1024 .f32) (G : Vec Ideal S1x1024 .f32) (p : Fin 256) (l : Fin 1024) :
    k0_pay3 X G (ix2 p l) = xhat (row X p) l * G (ix2 0 l) := by
  unfold k0_pay3
  pointwise
  rw [pay2_row]

theorem pay26_row (X : Vec Ideal S256x1024 .f32) (C B T DG DI : FVec Ideal S256x1024 .f32) (WI : Vec Ideal S3072x1024 .bf16) (l : Fin 1024) :
    k0_pay26 (k0_pay2 X) C B T DG DI WI (ix2 0 l) = ∑ p : Fin 256, k0_pay25 C B T DG DI WI (ix2 p l) * xhat (row X p) l := by
  unfold k0_pay26
  generalize k0_pay25 C B T DG DI WI = x
  pointwise
  simp only [pay2_row]

theorem pay27_row (X : Vec Ideal S256x1024 .f32) (C B T DG DI : FVec Ideal S256x1024 .f32) (WI : Vec Ideal S3072x1024 .bf16)
    (b : Vec Ideal S1x1024 .f32) (l : Fin 1024) :
    k0_pay27 (k0_pay2 X) C B T DG DI WI b (ix2 0 l) = b (ix2 0 l) + k0_pay26 (k0_pay2 X) C B T DG DI WI (ix2 0 l) := by
  unfold k0_pay27
  pointwise

theorem pay28_row (X DY : Vec Ideal S256x1024 .f32) (C B T DG DI : FVec Ideal S256x1024 .f32) (WI : Vec Ideal S3072x1024 .bf16)
    (G : Vec Ideal S1x1024 .f32) (p : Fin 256) (l : Fin 1024) :
    k0_pay28 (k0_pay1 X) (k0_pay2 X) C B T DG DI WI DY G (ix2 p l)
      = dinput (row X p) (row DY p) (row G 0) (fun l => k0_pay25 C B T DG DI WI (ix2 p l)) l := by
  unfold k0_pay28
  generalize k0_pay25 C B T DG DI WI = x
  open_payloads
  pointwise
  simp only [Words.inv1024]
  rfl

theorem pay18_row (l a : FVec Ideal S256x1024 .f32) (d : Fin 1024) : k0_pay18 l a (ix2 0 d) = ∑ p : Fin 256, a (ix2 p d) * l (ix2 p d) := by
  unfold k0_pay18
  pointwise
theorem pay20_row (l a : FVec Ideal S256x1024 .f32) (d : Fin 1024) : k0_pay20 l a (ix2 0 d) = ∑ p : Fin 256, a (ix2 p d) * l (ix2 p d) := by
  unfold k0_pay20
  pointwise
theorem pay22_row (l a : FVec Ideal S256x1024 .f32) (d : Fin 1024) : k0_pay22 l a (ix2 0 d) = ∑ p : Fin 256, a (ix2 p d) * l (ix2 p d) := by
  unfold k0_pay22
  pointwise
theorem pay19_row (l a : FVec Ideal S256x1024 .f32) (b : Vec Ideal S1x1024 .f32) (d : Fin 1024) :
    k0_pay19 l a b (ix2 0 d) = b (ix2 0 d) + k0_pay18 l a (ix2 0 d) := by
  unfold k0_pay19
  pointwise
theorem pay21_row (l a : FVec Ideal S256x1024 .f32) (b : Vec Ideal S1x1024 .f32) (d : Fin 1024) :
    k0_pay21 l a b (ix2 0 d) = b (ix2 0 d) + k0_pay20 l a (ix2 0 d) := by
  unfold k0_pay21
  pointwise
theorem pay23_row (a : FVec Ideal S1x1024 .f32) (b : Vec Ideal S1x1024 .f32) (d : Fin 1024) :
    k0_pay23 a b (ix2 0 d) = b (ix2 0 d) + a (ix2 0 d) := by
  unfold k0_pay23
  pointwise

/-! ### Over the rows of a sequence -/

variable (H : Holds n z dy w wt DY DYN Z ZP BN WO W0 W1 W2)
include H

theorem rowZ (p : Fin 256) : row Z p = z (tok n p) := funext (H.zs p)
theorem rowDY (p : Fin 256) : row DY p = dy (tok n p) := funext (H.dys p)
theorem rowWO : row WO = wt := funext fun e => funext fun d => H.wo e d

theorem gateB_blk (p : Fin 256) (d : Fin 1024) : k0_pay5 Z (ix2 p d) = gateB (z (tok n p)) d := by rw [pay5_row, rowZ H]
theorem gateC_blk (p : Fin 256) (d : Fin 1024) : k0_pay6 Z (ix2 p d) = gateC (z (tok n p)) d := by rw [pay6_row, rowZ H]
theorem branch_blk (p : Fin 256) (d : Fin 1024) : k0_pay7 Z (ix2 p d) = branch (z (tok n p)) d := by rw [pay7_row, rowZ H]
theorem inner_blk (p : Fin 256) (d : Fin 1024) : k0_pay8 Z (ix2 p d) = inner (z (tok n p)) d := by rw [pay8_row, rowZ H]
theorem dgated_blk (p : Fin 256) (d : Fin 1024) : k0_pay14 DY WO (ix2 p d) = dgated (dy (tok n p)) wt d := by
  rw [pay14_row, rowDY H, rowWO H]
theorem dconv_blk (p : Fin 256) (d : Fin 1024) : k0_pay15 (k0_pay5 Z) DY WO (ix2 p d) = dconv dy wt z (tok n p) d := by
  rw [pay15_row, rowDY H, rowWO H, gateB_blk H]
  rfl

/-- The tile's inner rows with the 16 before them, zero before the sequence's start. -/
theorem before_blk (i : grid0.Coords) (hi : (i 0).val = n.val) (q : Fin 272) (d : Fin 1024) :
    k0_pay9 i Z ZP (ix2 q d) = if h : 16 ≤ 256 * n.val + q.val then inner (z ⟨256 * n.val + q.val - 16, by omega⟩) d else 0 := by
  by_cases h : q.val < 16
  · rw [pay9_low i q d h, hi, at_first]
    by_cases h0 : n.val = 0
    · rw [if_pos h0, dif_neg (by omega)]
      rfl
    · rw [if_neg h0, dif_pos (by omega)]
      show inner (row ZP ⟨q.val, h⟩) d = _
      rw [show row ZP ⟨q.val, h⟩ = z ⟨256 * n.val - 16 + q.val, by omega⟩ from funext fun j => H.prev ⟨q.val, h⟩ j (by omega)]
      congr 2
      exact Fin.ext (by show 256 * n.val - 16 + q.val = 256 * n.val + q.val - 16; omega)
  · rw [pay9_high i q d h, dif_pos (by omega), rowZ H]
    congr 2
    exact Fin.ext (by show 256 * n.val + (q.val - 16) = 256 * n.val + q.val - 16; omega)

theorem lag1_blk (i : grid0.Coords) (hi : (i 0).val = n.val) (p : Fin 256) (d : Fin 1024) :
    k0_pay10 i Z ZP (ix2 p d) = later 1 (fun r => inner (z r) d) (tok n p) := by
  rw [pay10_row, before_blk H i hi]
  unfold later tok
  by_cases h : 1 ≤ 256 * n.val + p.val
  · rw [dif_pos h, dif_pos (by show 16 ≤ 256 * n.val + (15 + p.val); omega)]
    congr 2
    exact Fin.ext (by show 256 * n.val + (15 + p.val) - 16 = 256 * n.val + p.val - 1; omega)
  · rw [dif_neg h, dif_neg (by show ¬16 ≤ 256 * n.val + (15 + p.val); omega)]

theorem lag2_blk (i : grid0.Coords) (hi : (i 0).val = n.val) (p : Fin 256) (d : Fin 1024) :
    k0_pay11 i Z ZP (ix2 p d) = later 2 (fun r => inner (z r) d) (tok n p) := by
  rw [pay11_row, before_blk H i hi]
  unfold later tok
  by_cases h : 2 ≤ 256 * n.val + p.val
  · rw [dif_pos h, dif_pos (by show 16 ≤ 256 * n.val + (14 + p.val); omega)]
    congr 2
    exact Fin.ext (by show 256 * n.val + (14 + p.val) - 16 = 256 * n.val + p.val - 2; omega)
  · rw [dif_neg h, dif_neg (by show ¬16 ≤ 256 * n.val + (14 + p.val); omega)]

theorem conv_blk (i : grid0.Coords) (hi : (i 0).val = n.val) (p : Fin 256) (d : Fin 1024) :
    k0_pay12 (k0_pay8 Z) (k0_pay10 i Z ZP) (k0_pay11 i Z ZP) W0 W1 W2 (ix2 p d) = conv w z (tok n p) d := by
  rw [pay12_row, lag1_blk H i hi, lag2_blk H i hi, inner_blk H, H.w0, H.w1, H.w2]
  rfl

/-- The tile's convolution cotangents with the 16 after them, zero past the sequence's end. -/
theorem after_blk (q : Fin 272) (d : Fin 1024) :
    k0_pay16 (BitVec.ofNat 32 n.val) (k0_pay5 Z) DY WO DYN WO BN (ix2 q d)
      = if h : 256 * n.val + q.val < 16384 then dconv dy wt z ⟨256 * n.val + q.val, h⟩ d else 0 := by
  by_cases h : q.val < 256
  · rw [pay16_low _ _ q d h, dif_pos (by omega), dconv_blk H]
    rfl
  · rw [pay16_high _ _ q d h, at_last]
    by_cases h0 : n.val = 63
    · rw [if_pos h0, dif_neg (by omega)]
      rfl
    · rw [if_neg h0, dif_pos (by omega)]
      have hn : n.val < 63 := by omega
      show dgated (row DYN ⟨q.val - 256, by omega⟩) (row WO) d * BN (ix2 ⟨q.val - 256, by omega⟩ d) = _
      rw [H.nextB _ d hn, rowWO H, show row DYN ⟨q.val - 256, by omega⟩ = dy ⟨256 * n.val + 256 + (q.val - 256), by omega⟩
        from funext fun l => H.nextDy ⟨q.val - 256, by omega⟩ l hn]
      have e : (⟨256 * n.val + 256 + (q.val - 256), by omega⟩ : Fin 16384) = ⟨256 * n.val + q.val, by omega⟩ :=
        Fin.ext (by show 256 * n.val + 256 + (q.val - 256) = 256 * n.val + q.val; omega)
      show dgated (dy _) wt d * gateB (z _) d = _
      rw [e]
      rfl

theorem dinner_blk (p : Fin 256) (d : Fin 1024) :
    k0_pay17 (k0_pay15 (k0_pay5 Z) DY WO) (k0_pay16 (BitVec.ofNat 32 n.val) (k0_pay5 Z) DY WO DYN WO BN) W2 W1 W0 (ix2 p d)
      = dinner w (dconv dy wt z) (tok n p) d := by
  rw [pay17_row, dconv_blk H, after_blk H, after_blk H, H.w0, H.w1, H.w2]
  rfl

/-- The projection's cotangent. -/
theorem dz_blk (i : grid0.Coords) (hi : (i 0).val = n.val) (p : Fin 256) (j : Fin 3072) :
    k0_pay24 (k0_pay6 Z) (k0_pay7 Z) (k0_pay12 (k0_pay8 Z) (k0_pay10 i Z ZP) (k0_pay11 i Z ZP) W0 W1 W2) (k0_pay14 DY WO)
        (k0_pay17 (k0_pay15 (k0_pay5 Z) DY WO) (k0_pay16 (BitVec.ofNat 32 n.val) (k0_pay5 Z) DY WO DYN WO BN) W2 W1 W0) (ix2 p j)
      = thirds (fun d => dgated (dy (tok n p)) wt d * conv w z (tok n p) d)
          (fun d => dinner w (dconv dy wt z) (tok n p) d * branch (z (tok n p)) d)
          (fun d => dinner w (dconv dy wt z) (tok n p) d * gateC (z (tok n p)) d) j := by
  rw [pay24_row]
  simp only [dgated_blk H, conv_blk H i hi, dinner_blk H, branch_blk H, gateC_blk H]

end

end Cert.ConvIdeal.Value

end
-- ==== Proof.ConvBlocks.lean ====
/- The blocks of the gated convolution's backward call, read from the argument arrays. -/
module

public import proofs.«01_k».proof.Proof.ConvPays
public import proofs.«01_k».proof.Proof.Gen.ConvIdeal.Value
public import Idealize.ShloMosaic.Lib.Pipeline.ValueKit

@[expose] public section

set_option maxRecDepth 16384

noncomputable section

namespace Cert.ConvIdeal.Value

open Cert.ConvIdeal Cert.ConvIdeal.Gen Cert.FfnRows Cert.ConvRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- The arguments: the activation, the scale, the weights in, the taps, the weights out, the cotangent. -/
abbrev xA (c : Dev nD) : S16384x1024.Idx → EReal := m ((c : Thread nD τ).loc main_arg0)
abbrev gA (c : Dev nD) : S1024.Idx → EReal := m ((c : Thread nD τ).loc main_arg1)
abbrev wiA (c : Dev nD) : S1024x3072.Idx → EReal := m ((c : Thread nD τ).loc main_arg2)
abbrev cwA (c : Dev nD) : S3x1024.Idx → EReal := m ((c : Thread nD τ).loc main_arg3)
abbrev woA (c : Dev nD) : S1024x1024.Idx → EReal := m ((c : Thread nD τ).loc main_arg4)
abbrev dyA (c : Dev nD) : S16384x1024.Idx → EReal := m ((c : Thread nD τ).loc main_arg5)

/-- The projected rows, the taps and the transposed output weights. -/
def zT (c : Dev nD) (r : Fin 16384) (j : Fin 3072) : EReal :=
  ∑ k : Fin 1024, xhat (row (xA m c) r) k * gA m c (ix1 k) * wiA m c (ix2 k j)
def wT (c : Dev nD) (j : Fin 3) (d : Fin 1024) : EReal := cwA m c (ix2 j d)
def oT (c : Dev nD) (e d : Fin 1024) : EReal := woA m c (ix2 d e)

def pt (t : Fin cfg0.N) : Fin 64 := t

theorem idx (t : Fin cfg0.N) : win0_0.index t = ![t.val, 0] ∧ win0_1.index t = ![t.val, 0] ∧ win0_3.index t = ![t.val, 0]
    ∧ win0_6.index t = ![0, 0] ∧ win0_7.index t = ![0, 0] ∧ win0_8.index t = ![0, 0] ∧ win0_9.index t = ![0, 0]
    ∧ win0_10.index t = ![t.val, 0] ∧ win0_11.index t = ![t.val, 0] ∧ win0_12.index t = ![t.val, 0] ∧ win0_13.index t = ![t.val, 0]
    ∧ win0_14.index t = ![0, 0] ∧ win0_15.index t = ![0, 0] := by
  revert t; decide +kernel

theorem idx_next (t : Fin cfg0.N) (h : t.val < 63) : win0_2.index t = ![16 * t.val + 16, 0] ∧ win0_5.index t = ![16 * t.val + 16, 0] := by
  revert t; decide +kernel

theorem idx_prev (t : Fin cfg0.N) (h : 0 < t.val) : win0_4.index t = ![16 * t.val - 1, 0] := by
  revert t; decide +kernel

theorem block_x (c : Dev nD) (t : Fin cfg0.N) (p : Fin 256) (l : Fin 1024) :
    iblk m c 0 t (ix2 p l) = xA m c (ix2 (tok (pt t) p) l) := by
  blk_ext! [iblk, V, idx t, tok, pt]

theorem block_dy (c : Dev nD) (t : Fin cfg0.N) (p : Fin 256) (l : Fin 1024) :
    iblk m c 1 t (ix2 p l) = dyA m c (ix2 (tok (pt t) p) l) := by
  blk_ext! [iblk, V, idx t, tok, pt]

theorem block_dyNext (c : Dev nD) (t : Fin cfg0.N) (h : t.val < 63) (p : Fin 16) (l : Fin 1024) :
    iblk m c 2 t (ix2 p l) = dyA m c (ix2 (⟨256 * t.val + 256 + p.val, by omega⟩ : Fin 16384) l) := by
  blk_ext! [iblk, V, idx_next t h]

theorem block_g (c : Dev nD) (t : Fin cfg0.N) (l : Fin 1024) :
    iblk m c 6 t (ix2 0 l) = gA m c (ix1 l) := by
  blk_ext! [iblk, V, idx t]

theorem block_wiT (c : Dev nD) (t : Fin cfg0.N) (j : Fin 3072) (l : Fin 1024) :
    iblk m c 7 t (ix2 j l) = wiA m c (ix2 l j) := by
  blk_ext! [iblk, V, idx t]

theorem block_cw (c : Dev nD) (t : Fin cfg0.N) (j : Fin 3) (l : Fin 1024) :
    iblk m c 8 t (ix2 j l) = wT m c j l := by
  unfold wT
  blk_ext! [iblk, V, idx t]

theorem block_woT (c : Dev nD) (t : Fin cfg0.N) (e d : Fin 1024) :
    iblk m c 9 t (ix2 e d) = oT m c e d := by
  unfold oT
  blk_ext! [iblk, V, idx t]

/-- The saved projection, as the host computes it. -/
theorem V_z (c : Dev nD) (r : Fin 16384) (j : Fin 3072) :
    (V m c main_v14 : S16384x3072.Idx → EReal) (ix2 r j) = zT m c r j := by
  unfold V
  entry_read
  pointwise
  simp only [Words.n1024, Ideal.div_coe (show (1024 : ℝ) ≠ 0 by norm_num)]
  rfl

theorem block_z (c : Dev nD) (t : Fin cfg0.N) (p : Fin 256) (j : Fin 3072) :
    iblk m c 3 t (ix2 p j) = zT m c (tok (pt t) p) j := by
  rw [← V_z]
  blk_ext! [iblk, idx t, tok, pt]

theorem block_zPrev (c : Dev nD) (t : Fin cfg0.N) (h : 0 < t.val) (p : Fin 16) (j : Fin 3072) :
    iblk m c 4 t (ix2 p j) = zT m c (⟨256 * t.val - 16 + p.val, by have : t.val < 64 := t.isLt; omega⟩ : Fin 16384) j := by
  rw [← V_z]
  blk_ext! [iblk, idx_prev t h]

theorem block_zNext (c : Dev nD) (t : Fin cfg0.N) (h : t.val < 63) (p : Fin 16) (j : Fin 3072) :
    iblk m c 5 t (ix2 p j) = zT m c (⟨256 * t.val + 256 + p.val, by omega⟩ : Fin 16384) j := by
  rw [← V_z]
  blk_ext! [iblk, idx_next t h]

end Cert.ConvIdeal.Value

end
-- ==== Proof.ConvKernel.lean ====
/- What the gated convolution's backward call stores at a grid point, read at an index. -/
module

public import proofs.«01_k».proof.Proof.ConvBlocks

@[expose] public section

set_option maxRecDepth 16384

noncomputable section

namespace Cert.ConvIdeal.Value

open Cert.ConvIdeal Cert.ConvIdeal.Gen Cert.FfnRows Cert.ConvRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Every grid point is in one of the two cases. -/
theorem point_cases (t : Fin cfg0.N) : (t.val % 64 = 0 ∧ ¬1 ≤ t.val) ∨ (¬t.val % 64 = 0 ∧ 1 ≤ t.val) := by
  have h : t.val < 64 := t.isLt
  omega

/-- A load of one row of a three-row buffer, and of the first columns of the rows after a tile. -/
theorem ld_row0 (x : Vec Ideal S3x1024 .f32) (inb) (d : Fin 1024) :
    View.ld x (Rect.unit (s := S3x1024) ![0, 0] ![1, 1024] inb) (ix2 0 d) = x (ix2 0 d) := by
  refine congrArg x (funext fun a => Fin.ext ?_)
  refine (Rect.idx_unit_val _ _ _ _ _).trans ?_
  fin_cases a <;> exact Nat.zero_add _
theorem ld_row1 (x : Vec Ideal S3x1024 .f32) (inb) (d : Fin 1024) :
    View.ld x (Rect.unit (s := S3x1024) ![1, 0] ![1, 1024] inb) (ix2 0 d) = x (ix2 1 d) := by
  refine congrArg x (funext fun a => Fin.ext ?_)
  refine (Rect.idx_unit_val _ _ _ _ _).trans ?_
  fin_cases a
  · rfl
  · exact Nat.zero_add _
theorem ld_row2 (x : Vec Ideal S3x1024 .f32) (inb) (d : Fin 1024) :
    View.ld x (Rect.unit (s := S3x1024) ![2, 0] ![1, 1024] inb) (ix2 0 d) = x (ix2 2 d) := by
  refine congrArg x (funext fun a => Fin.ext ?_)
  refine (Rect.idx_unit_val _ _ _ _ _).trans ?_
  fin_cases a
  · rfl
  · exact Nat.zero_add _
theorem ld_gate (x : Vec Ideal S16x3072 .bf16) (inb) (p : Fin 16) (d : Fin 1024) :
    View.ld x (Rect.unit (s := S16x3072) ![0, 0] ![16, 1024] inb) (ix2 p d) = gateB (row x p) d := by
  refine congrArg x (funext fun a => Fin.ext ?_)
  refine (Rect.idx_unit_val _ _ _ _ _).trans ?_
  fin_cases a <;> exact Nat.zero_add _

theorem coords_val (t : Fin cfg0.N) : ((grid0.coords t) 0).val = (pt t).val := by
  revert t; decide +kernel

/-- The blocks of a grid point hold the rows of the arrays. -/
theorem holds (c : Dev nD) (t : Fin cfg0.N) :
    Holds (pt t) (zT m c) (row (dyA m c)) (wT m c) (oT m c) (iblk m c 1 t) (iblk m c 2 t) (iblk m c 3 t) (iblk m c 4 t)
      (View.ld (iblk m c 5 t) (Rect.unit (s := S16x3072) ![0, 0] ![16, 1024] inb_S16x3072_S16x1024_0_0)) (iblk m c 9 t)
      (View.ld (iblk m c 8 t) (Rect.unit (s := S3x1024) ![0, 0] ![1, 1024] inb_S3x1024_S1x1024_0_0))
      (View.ld (iblk m c 8 t) (Rect.unit (s := S3x1024) ![1, 0] ![1, 1024] inb_S3x1024_S1x1024_1_0))
      (View.ld (iblk m c 8 t) (Rect.unit (s := S3x1024) ![2, 0] ![1, 1024] inb_S3x1024_S1x1024_2_0)) where
  dys := block_dy m c t
  zs := block_z m c t
  prev := fun p j h => block_zPrev m c t h p j
  nextDy := fun p l h => block_dyNext m c t h p l
  nextB := fun p l h => (ld_gate (iblk m c 5 t) _ p l).trans (block_zNext m c t h p _)
  wo := block_woT m c t
  w0 := fun d => (ld_row0 (iblk m c 8 t) _ d).trans (block_cw m c t 0 d)
  w1 := fun d => (ld_row1 (iblk m c 8 t) _ d).trans (block_cw m c t 1 d)
  w2 := fun d => (ld_row2 (iblk m c 8 t) _ d).trans (block_cw m c t 2 d)

/-- The cotangent of the projection, and of the normalised row. -/
def dzT (c : Dev nD) (r : Fin 16384) : Fin 3072 → EReal :=
  thirds (fun d => dgated (row (dyA m c) r) (oT m c) d * conv (wT m c) (zT m c) r d)
    (fun d => dinner (wT m c) (dconv (row (dyA m c)) (oT m c) (zT m c)) r d * branch (zT m c r) d)
    (fun d => dinner (wT m c) (dconv (row (dyA m c)) (oT m c) (zT m c)) r d * gateC (zT m c r) d)
def dnT (c : Dev nD) (r : Fin 16384) (l : Fin 1024) : EReal := ∑ j : Fin 3072, dzT m c r j * wiA m c (ix2 l j)

/-- What the six results hold. -/
def dxOut (c : Dev nD) (i : S16384x1024.Idx) : EReal :=
  dinput (row (xA m c) (i 0)) (row (dyA m c) (i 0)) (fun l => gA m c (ix1 l)) (dnT m c (i 0)) (i 1)
def hnOut (c : Dev nD) (i : S16384x1024.Idx) : EReal := xhat (row (xA m c) (i 0)) (i 1) * gA m c (ix1 (i 1))
def dzOut (c : Dev nD) (i : S16384x3072.Idx) : EReal := dzT m c (i 0) (i 1)
def vOut (c : Dev nD) (i : S16384x1024.Idx) : EReal := gateB (zT m c (i 0)) (i 1) * conv (wT m c) (zT m c) (i 0) (i 1)
def dcwAt (c : Dev nD) (r : Fin 16384) (y : S3x1024.Idx) : EReal :=
  dconv (row (dyA m c)) (oT m c) (zT m c) r (y 1)
    * (![later 2 (fun r => inner (zT m c r) (y 1)), later 1 (fun r => inner (zT m c r) (y 1)), fun r => inner (zT m c r) (y 1)] (y 0)) r
def dcwOut (c : Dev nD) (y : S3x1024.Idx) : EReal := ∑ r : Fin 16384, dcwAt m c r y
def dgAt (c : Dev nD) (r : Fin 16384) (y : S1x1024.Idx) : EReal := dnT m c r (y 1) * xhat (row (xA m c) r) (y 1)
def dgOut (c : Dev nD) (y : S1x1024.Idx) : EReal := ∑ r : Fin 16384, dgAt m c r y

/-- What a grid point adds to the two running sums. -/
def dcwTerm (c : Dev nD) (t : Fin cfg0.N) (y : S3x1024.Idx) : EReal := ∑ p : Fin 256, dcwAt m c (tok (pt t) p) y
def dgTerm (c : Dev nD) (t : Fin cfg0.N) (y : S1x1024.Idx) : EReal := ∑ p : Fin 256, dgAt m c (tok (pt t) p) y

theorem row_x (c : Dev nD) (t : Fin cfg0.N) (p : Fin 256) : row (iblk m c 0 t) p = row (xA m c) (tok (pt t) p) :=
  funext (block_x m c t p)
theorem row_dy (c : Dev nD) (t : Fin cfg0.N) (p : Fin 256) : row (iblk m c 1 t) p = row (dyA m c) (tok (pt t) p) :=
  funext (block_dy m c t p)
theorem row_g (c : Dev nD) (t : Fin cfg0.N) : row (iblk m c 6 t) 0 = fun l => gA m c (ix1 l) :=
  funext (block_g m c t)

theorem hn_tok (c : Dev nD) (t : Fin cfg0.N) (y : S256x1024.Idx) :
    (outsAt0 m c t.val t.isLt).2.1 y = hnOut m c (ix2 (tok (pt t) (y 0)) (y 1)) := by
  idx_vars y
  have e : k0_pay3 (iblk m c 0 t) (iblk m c 6 t) (ix2 y0 y1) = hnOut m c (ix2 (tok (pt t) y0) y1) :=
    (pay3_row _ _ y0 y1).trans (congrArg₂ (· * ·) (congrFun (congrArg xhat (row_x m c t y0)) y1) (block_g m c t y1))
  rcases point_cases t with ⟨h, h'⟩ | ⟨h, h'⟩
  · rw [outsAt0_A m c t h h' h h' h h' h h']
    frame_out
    exact e
  · rw [outsAt0_B m c t h h' h h' h h' h h']
    frame_out
    exact e

section

variable {n : Fin 64} {z : Fin 16384 → Fin 3072 → EReal} {dy : Fin 16384 → Fin 1024 → EReal}
  {w : Fin 3 → Fin 1024 → EReal} {wt : Fin 1024 → Fin 1024 → EReal}
  {DY : Vec Ideal S256x1024 .f32} {DYN : Vec Ideal S16x1024 .f32} {Z : Vec Ideal S256x3072 .bf16}
  {ZP : Vec Ideal S16x3072 .bf16} {BN : Vec Ideal S16x1024 .bf16} {WO : Vec Ideal S1024x1024 .bf16}
  {W0 W1 W2 : Vec Ideal S1x1024 .f32}

/-- The projection's cotangent of a tile, at the tile's coordinates. -/
theorem dz_coords (H : Holds n z dy w wt DY DYN Z ZP BN WO W0 W1 W2) (i : grid0.Coords) (hi : (i 0).val = n.val)
    (p : Fin 256) (j : Fin 3072) :
    k0_pay24 (k0_pay6 Z) (k0_pay7 Z) (k0_pay12 (k0_pay8 Z) (k0_pay10 i Z ZP) (k0_pay11 i Z ZP) W0 W1 W2) (k0_pay14 DY WO)
        (k0_pay17 (k0_pay15 (k0_pay5 Z) DY WO) (k0_pay16 (BitVec.ofNat 32 (i 0).val) (k0_pay5 Z) DY WO DYN WO BN) W2 W1 W0) (ix2 p j)
      = thirds (fun d => dgated (dy (tok n p)) wt d * conv w z (tok n p) d)
          (fun d => dinner w (dconv dy wt z) (tok n p) d * branch (z (tok n p)) d)
          (fun d => dinner w (dconv dy wt z) (tok n p) d * gateC (z (tok n p)) d) j := by
  rw [hi]
  exact dz_blk H i hi p j

end

theorem dz_tok (c : Dev nD) (t : Fin cfg0.N) (y : S256x3072.Idx) :
    (outsAt0 m c t.val t.isLt).2.2.1 y = dzOut m c (ix2 (tok (pt t) (y 0)) (y 1)) := by
  idx_vars y
  rcases point_cases t with ⟨h, h'⟩ | ⟨h, h'⟩
  · rw [outsAt0_A m c t h h' h h' h h' h h']
    frame_out
    exact dz_coords (holds m c t) (grid0.coords t) (coords_val t) y0 y1
  · rw [outsAt0_B m c t h h' h h' h h' h h']
    frame_out
    exact dz_coords (holds m c t) (grid0.coords t) (coords_val t) y0 y1

theorem v_tok (c : Dev nD) (t : Fin cfg0.N) (y : S256x1024.Idx) :
    (outsAt0 m c t.val t.isLt).2.2.2.1 y = vOut m c (ix2 (tok (pt t) (y 0)) (y 1)) := by
  idx_vars y
  rcases point_cases t with ⟨h, h'⟩ | ⟨h, h'⟩
  · rw [outsAt0_A m c t h h' h h' h h' h h']
    frame_out
    refine (pay13_row _ _ _ _ y0 y1).trans ?_
    exact congrArg₂ (· * ·) (gateB_blk (holds m c t) y0 y1) (conv_blk (holds m c t) (grid0.coords t) (coords_val t) y0 y1)
  · rw [outsAt0_B m c t h h' h h' h h' h h']
    frame_out
    refine (pay13_row _ _ _ _ y0 y1).trans ?_
    exact congrArg₂ (· * ·) (gateB_blk (holds m c t) y0 y1) (conv_blk (holds m c t) (grid0.coords t) (coords_val t) y0 y1)

/-- The cotangent of the normalised row, of any arrays that hold the projection's cotangent and its weights. -/
theorem dn_blk (c : Dev nD) (t : Fin cfg0.N) (C B T DG DI : FVec Ideal S256x1024 .f32) (WI : Vec Ideal S3072x1024 .bf16)
    (hz : ∀ p j, k0_pay24 C B T DG DI (ix2 p j) = dzT m c (tok (pt t) p) j) (hw : ∀ j l, WI (ix2 j l) = wiA m c (ix2 l j))
    (p : Fin 256) (l : Fin 1024) : k0_pay25 C B T DG DI WI (ix2 p l) = dnT m c (tok (pt t) p) l := by
  rw [pay25_row]
  simp only [hz, hw]
  rfl

theorem dx_blk (c : Dev nD) (t : Fin cfg0.N) (X DY : Vec Ideal S256x1024 .f32) (G : Vec Ideal S1x1024 .f32)
    (C B T DG DI : FVec Ideal S256x1024 .f32) (WI : Vec Ideal S3072x1024 .bf16)
    (hx : ∀ p, row X p = row (xA m c) (tok (pt t) p)) (hy : ∀ p, row DY p = row (dyA m c) (tok (pt t) p))
    (hg : row G 0 = fun l => gA m c (ix1 l))
    (hz : ∀ p j, k0_pay24 C B T DG DI (ix2 p j) = dzT m c (tok (pt t) p) j) (hw : ∀ j l, WI (ix2 j l) = wiA m c (ix2 l j))
    (p : Fin 256) (l : Fin 1024) :
    k0_pay28 (k0_pay1 X) (k0_pay2 X) C B T DG DI WI DY G (ix2 p l) = dxOut m c (ix2 (tok (pt t) p) l) := by
  rw [pay28_row, hx, hy, hg]
  simp only [dn_blk m c t C B T DG DI WI hz hw]
  rfl

theorem dg_blk (c : Dev nD) (t : Fin cfg0.N) (X : Vec Ideal S256x1024 .f32) (C B T DG DI : FVec Ideal S256x1024 .f32)
    (WI : Vec Ideal S3072x1024 .bf16) (hx : ∀ p, row X p = row (xA m c) (tok (pt t) p))
    (hz : ∀ p j, k0_pay24 C B T DG DI (ix2 p j) = dzT m c (tok (pt t) p) j) (hw : ∀ j l, WI (ix2 j l) = wiA m c (ix2 l j))
    (l : Fin 1024) : k0_pay26 (k0_pay2 X) C B T DG DI WI (ix2 0 l) = dgTerm m c t (ix2 0 l) := by
  rw [pay26_row]
  simp only [dn_blk m c t C B T DG DI WI hz hw, hx]
  rfl

theorem dx_tok (c : Dev nD) (t : Fin cfg0.N) (y : S256x1024.Idx) :
    (outsAt0 m c t.val t.isLt).1 y = dxOut m c (ix2 (tok (pt t) (y 0)) (y 1)) := by
  idx_vars y
  rcases point_cases t with ⟨h, h'⟩ | ⟨h, h'⟩
  · rw [outsAt0_A m c t h h' h h' h h' h h']
    frame_out
    exact dx_blk m c t _ _ _ _ _ _ _ _ _ (row_x m c t) (row_dy m c t) (row_g m c t)
      (dz_coords (holds m c t) (grid0.coords t) (coords_val t)) (block_wiT m c t) y0 y1
  · rw [outsAt0_B m c t h h' h h' h h' h h']
    frame_out
    exact dx_blk m c t _ _ _ _ _ _ _ _ _ (row_x m c t) (row_dy m c t) (row_g m c t)
      (dz_coords (holds m c t) (grid0.coords t) (coords_val t)) (block_wiT m c t) y0 y1

theorem dg_first (c : Dev nD) (t : Fin cfg0.N) (h : t.val % 64 = 0) (y : S1x1024.Idx) :
    (outsAt0 m c t.val t.isLt).2.2.2.2.2 y = dgTerm m c t y := by
  idx_vars y
  obtain rfl : y0 = 0 := Subsingleton.elim _ _
  have h' : ¬1 ≤ t.val := by have : t.val < 64 := t.isLt; omega
  rw [outsAt0_A m c t h h' h h' h h' h h']
  frame_out
  exact dg_blk m c t _ _ _ _ _ _ _ (row_x m c t) (dz_coords (holds m c t) (grid0.coords t) (coords_val t)) (block_wiT m c t) y1

theorem dg_next (c : Dev nD) (t : Fin cfg0.N) (h : ¬t.val % 64 = 0) (y : S1x1024.Idx) :
    (outsAt0 m c t.val t.isLt).2.2.2.2.2 y
      = (outsAt0 m c (t.val - 1) (Nat.lt_of_le_of_lt (Nat.sub_le _ _) t.isLt)).2.2.2.2.2 y + dgTerm m c t y := by
  idx_vars y
  obtain rfl : y0 = 0 := Subsingleton.elim _ _
  have h' : 1 ≤ t.val := by omega
  rw [outsAt0_B m c t h h' h h' h h' h h']
  frame_out
  refine (pay27_row _ _ _ _ _ _ _ _ _).trans ?_
  exact congrArg (_ + ·) (dg_blk m c t _ _ _ _ _ _ _ (row_x m c t)
    (dz_coords (holds m c t) (grid0.coords t) (coords_val t)) (block_wiT m c t) y1)

/-- The three rows a grid point adds to the taps' gradient. -/
theorem dcw0_blk (c : Dev nD) (t : Fin cfg0.N) (d : Fin 1024) :
    k0_pay18 (k0_pay11 (grid0.coords t) (iblk m c 3 t) (iblk m c 4 t)) (k0_pay15 (k0_pay5 (iblk m c 3 t)) (iblk m c 1 t) (iblk m c 9 t)) (ix2 0 d)
      = dcwTerm m c t (ix2 0 d) :=
  (pay18_row _ _ d).trans (Finset.sum_congr rfl fun p _ =>
    congrArg₂ (· * ·) (dconv_blk (holds m c t) p d) (lag2_blk (holds m c t) (grid0.coords t) (coords_val t) p d))
theorem dcw1_blk (c : Dev nD) (t : Fin cfg0.N) (d : Fin 1024) :
    k0_pay20 (k0_pay10 (grid0.coords t) (iblk m c 3 t) (iblk m c 4 t)) (k0_pay15 (k0_pay5 (iblk m c 3 t)) (iblk m c 1 t) (iblk m c 9 t)) (ix2 0 d)
      = dcwTerm m c t (ix2 1 d) :=
  (pay20_row _ _ d).trans (Finset.sum_congr rfl fun p _ =>
    congrArg₂ (· * ·) (dconv_blk (holds m c t) p d) (lag1_blk (holds m c t) (grid0.coords t) (coords_val t) p d))
theorem dcw2_blk (c : Dev nD) (t : Fin cfg0.N) (d : Fin 1024) :
    k0_pay22 (k0_pay8 (iblk m c 3 t)) (k0_pay15 (k0_pay5 (iblk m c 3 t)) (iblk m c 1 t) (iblk m c 9 t)) (ix2 0 d)
      = dcwTerm m c t (ix2 2 d) :=
  (pay22_row _ _ d).trans (Finset.sum_congr rfl fun p _ =>
    congrArg₂ (· * ·) (dconv_blk (holds m c t) p d) (inner_blk (holds m c t) p d))

/-- An index of a one-row block is its column. -/
theorem row_idx (x : S1x1024.Idx) (d : Fin 1024) (h : d.val = (x 1).val) : x = ix2 0 d :=
  (eq_ix2 x).trans (congrArg₂ ix2 (Fin.fin_one_eq_zero (x 0)) (Fin.ext h.symm))

theorem dcw_first (c : Dev nD) (t : Fin cfg0.N) (h : t.val % 64 = 0) (y : S3x1024.Idx) :
    (outsAt0 m c t.val t.isLt).2.2.2.2.1 y = dcwTerm m c t y := by
  idx_vars y
  have h' : ¬1 ≤ t.val := by have : t.val < 64 := t.isLt; omega
  rw [outsAt0_A m c t h h' h h' h h' h h']
  frame_out
  canon_tiles x h
  · obtain rfl : y0 = 2 := Fin.ext (show y0.val = 2 from h0.trans (by omega))
    obtain rfl := row_idx x y1 h1
    exact dcw2_blk m c t y1
  · obtain rfl : y0 = 1 := Fin.ext (show y0.val = 1 from h0.trans (by omega))
    obtain rfl := row_idx x y1 h1
    exact dcw1_blk m c t y1
  · obtain rfl : y0 = 0 := Fin.ext (show y0.val = 0 from h0.trans (by omega))
    obtain rfl := row_idx x y1 h1
    exact dcw0_blk m c t y1

theorem dcw_next (c : Dev nD) (t : Fin cfg0.N) (h : ¬t.val % 64 = 0) (y : S3x1024.Idx) :
    (outsAt0 m c t.val t.isLt).2.2.2.2.1 y
      = (outsAt0 m c (t.val - 1) (Nat.lt_of_le_of_lt (Nat.sub_le _ _) t.isLt)).2.2.2.2.1 y + dcwTerm m c t y := by
  idx_vars y
  have h' : 1 ≤ t.val := by omega
  rw [outsAt0_B m c t h h' h h' h h' h h']
  frame_out
  generalize (outsAt0 m c (t.val - 1) (Nat.lt_of_le_of_lt (Nat.sub_le _ _) t.isLt)).2.2.2.2.1 = a
  canon_tiles x h
  · obtain rfl : y0 = 2 := Fin.ext (show y0.val = 2 from h0.trans (by omega))
    obtain rfl := row_idx x y1 h1
    exact (pay23_row _ _ y1).trans (congrArg₂ (· + ·) (ld_row2 a _ y1) (dcw2_blk m c t y1))
  · obtain rfl : y0 = 1 := Fin.ext (show y0.val = 1 from h0.trans (by omega))
    obtain rfl := row_idx x y1 h1
    exact (pay21_row _ _ _ y1).trans (congrArg₂ (· + ·) (ld_row1 a _ y1) (dcw1_blk m c t y1))
  · obtain rfl : y0 = 0 := Fin.ext (show y0.val = 0 from h0.trans (by omega))
    obtain rfl := row_idx x y1 h1
    exact (pay19_row _ _ _ y1).trans (congrArg₂ (· + ·) (ld_row0 a _ y1) (dcw0_blk m c t y1))

end Cert.ConvIdeal.Value

end
-- ==== Proof.ConvArrays.lean ====
/- The result arrays of the gated convolution's backward call. -/
module

public import proofs.«01_k».proof.Proof.ConvKernel

@[expose] public section

set_option maxRecDepth 16384

noncomputable section

namespace Cert.ConvIdeal.Value

open Cert.ConvIdeal Cert.ConvIdeal.Gen Cert.FfnRows Cert.ConvRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

theorem emb_10 (t : Fin cfg0.N) (y : S256x1024.Idx) : (win0_10.blk t).view.emb y = ix2 (tok (pt t) (y 0)) (y 1) := by
  blk_ext [idx t, tok, pt]

theorem dx_final (c : Dev nD) : (dats m 0 c).arrAt 10 cfg0.N = dxOut m c := by
  refine (dats m 0 c).arrAt_eq_of_covers 10 _ (by decide +kernel) fun t hf y => ?_
  blk_simp
  exact (congrFun (after0_10 m c t) y).trans ((dx_tok m c t y).trans (congrArg (dxOut m c) (emb_10 t y).symm))

theorem emb_11 (t : Fin cfg0.N) (y : S256x1024.Idx) : (win0_11.blk t).view.emb y = ix2 (tok (pt t) (y 0)) (y 1) := by
  blk_ext [idx t, tok, pt]

theorem hn_final (c : Dev nD) : (dats m 0 c).arrAt 11 cfg0.N = hnOut m c := by
  refine (dats m 0 c).arrAt_eq_of_covers 11 _ (by decide +kernel) fun t hf y => ?_
  blk_simp
  exact (congrFun (after0_11 m c t) y).trans ((hn_tok m c t y).trans (congrArg (hnOut m c) (emb_11 t y).symm))

theorem emb_12 (t : Fin cfg0.N) (y : S256x3072.Idx) : (win0_12.blk t).view.emb y = ix2 (tok (pt t) (y 0)) (y 1) := by
  blk_ext [idx t, tok, pt]

theorem dz_final (c : Dev nD) : (dats m 0 c).arrAt 12 cfg0.N = dzOut m c := by
  refine (dats m 0 c).arrAt_eq_of_covers 12 _ (by decide +kernel) fun t hf y => ?_
  blk_simp
  exact (congrFun (after0_12 m c t) y).trans ((dz_tok m c t y).trans (congrArg (dzOut m c) (emb_12 t y).symm))

theorem emb_13 (t : Fin cfg0.N) (y : S256x1024.Idx) : (win0_13.blk t).view.emb y = ix2 (tok (pt t) (y 0)) (y 1) := by
  blk_ext [idx t, tok, pt]

theorem v_final (c : Dev nD) : (dats m 0 c).arrAt 13 cfg0.N = vOut m c := by
  refine (dats m 0 c).arrAt_eq_of_covers 13 _ (by decide +kernel) fun t hf y => ?_
  blk_simp
  exact (congrFun (after0_13 m c t) y).trans ((v_tok m c t y).trans (congrArg (vOut m c) (emb_13 t y).symm))

/-- A sum over the grid's points and the rows of each is a sum over the tokens. -/
theorem sum_tok (f : Fin 16384 → EReal) : ∑ t : Fin cfg0.N, ∑ p : Fin 256, f (tok (pt t) p) = ∑ r : Fin 16384, f r := by
  refine Eq.trans ?_ (Fin.sum_mul_add_fin 64 256 f)
  refine Finset.sum_congr rfl fun t _ => Finset.sum_congr rfl fun p _ => ?_
  have e : tok (pt t) p = ⟨t.val * 256 + p.val, Fin.mul_add_lt_of_eq_mul (by rfl) t p⟩ :=
    Fin.ext (show 256 * t.val + p.val = t.val * 256 + p.val by omega)
  rw [e]

/-- The last grid point. -/
def tLast : Fin cfg0.N := ⟨63, by decide⟩
theorem tLast_val : tLast.val + 1 = cfg0.N := rfl

theorem dcw_last (c : Dev nD) (t : Fin cfg0.N) (ht : t.val + 1 = cfg0.N) (y : S3x1024.Idx) :
    (outsAt0 m c t.val t.isLt).2.2.2.2.1 y = dcwOut m c y :=
  (Pipeline.eq_sum_fin_of_reset_step_last (fun n h => (outsAt0 m c n h).2.2.2.2.1 y) 64 0
    (fun t => dcwTerm m c t y) (fun t h => (dcw_first m c t h y).trans (zero_add _).symm)
    (fun t h => dcw_next m c t h y) (le_refl _) t ht).trans ((zero_add _).trans (sum_tok fun r => dcwAt m c r y))

theorem dcw_final (c : Dev nD) : (dats m 0 c).arrAt 14 cfg0.N = dcwOut m c := by
  refine (dats m 0 c).arrAt_eq_of_after_last 14 tLast (by decide +kernel) _ fun j => ?_
  blk_simp
  exact (congrFun (after0_14 m c tLast) j).trans (dcw_last m c tLast tLast_val j)

theorem dg_last (c : Dev nD) (t : Fin cfg0.N) (ht : t.val + 1 = cfg0.N) (y : S1x1024.Idx) :
    (outsAt0 m c t.val t.isLt).2.2.2.2.2 y = dgOut m c y :=
  (Pipeline.eq_sum_fin_of_reset_step_last (fun n h => (outsAt0 m c n h).2.2.2.2.2 y) 64 0
    (fun t => dgTerm m c t y) (fun t h => (dg_first m c t h y).trans (zero_add _).symm)
    (fun t h => dg_next m c t h y) (le_refl _) t ht).trans ((zero_add _).trans (sum_tok fun r => dgAt m c r y))

theorem dg_final (c : Dev nD) : (dats m 0 c).arrAt 15 cfg0.N = dgOut m c := by
  refine (dats m 0 c).arrAt_eq_of_after_last 15 tLast (by decide +kernel) _ fun j => ?_
  blk_simp
  exact (congrFun (after0_15 m c tLast) j).trans (dg_last m c tLast tLast_val j)

/-- The run, read: the six results and the arguments. -/
theorem run_read : θ_run defs (onTc (τ := τ) (main (F := Ideal))) ⟨m, fun _ => 0, ρ⟩ fun r => ∀ c : Dev nD,
      r.2.mem ((c : Thread nD τ).loc main_v20_0) = dxOut m c
      ∧ r.2.mem ((c : Thread nD τ).loc main_v20_1) = hnOut m c
      ∧ r.2.mem ((c : Thread nD τ).loc main_v20_2) = dzOut m c
      ∧ r.2.mem ((c : Thread nD τ).loc main_v20_3) = vOut m c
      ∧ r.2.mem ((c : Thread nD τ).loc main_v20_4) = dcwOut m c
      ∧ r.2.mem ((c : Thread nD τ).loc main_v20_5) = dgOut m c
      ∧ r.2.mem ((c : Thread nD τ).loc main_arg0) = xA m c
      ∧ r.2.mem ((c : Thread nD τ).loc main_arg1) = gA m c
      ∧ r.2.mem ((c : Thread nD τ).loc main_arg2) = wiA m c
      ∧ r.2.mem ((c : Thread nD τ).loc main_arg3) = cwA m c
      ∧ r.2.mem ((c : Thread nD τ).loc main_arg4) = woA m c
      ∧ r.2.mem ((c : Thread nD τ).loc main_arg5) = dyA m c :=
  (θ_run defs _ _).mono (fun r h c => by
    obtain ⟨h0, h1, h2, h3, h4, h5, hk⟩ := h c
    exact ⟨h0.trans (dx_final m c), h1.trans (hn_final m c), h2.trans (dz_final m c), h3.trans (v_final m c),
      h4.trans (dcw_final m c), h5.trans (dg_final m c), hk⟩)
    (run_blocks m ρ)

end Cert.ConvIdeal.Value

end
-- ==== Proof.ConvRefRead.lean ====
/- The reference derivative of the gated convolution, read at an index. -/
module

public import proofs.«01_k».proof.Proof.ConvRows
public import proofs.«01_k».proof.Proof.FfnMath
public import proofs.«01_k».proof.Proof.Consts
public import proofs.«01_k».proof.Proof.Gen.ConvRefIdeal.Read
public import Idealize.ShloMosaic.Lib.Pipeline.ValueKit

@[expose] public section

set_option maxRecDepth 16384

noncomputable section

namespace Cert.ConvRefIdeal.Read

open Cert.ConvRefIdeal Cert.ConvRefIdeal.Gen Cert.FfnRows Cert.ConvRows
open Idealize.ShloMosaic Idealize.ShloMosaic.TcCoe Idealize.ShloMosaic.Tactic Idealize.SL.Sem

variable (x0 : S16384x1024.Idx → EReal) (x1 : S1024.Idx → EReal) (x2 : S1024x3072.Idx → EReal)
  (x3 : S3x1024.Idx → EReal) (x4 : S1024x1024.Idx → EReal) (x5 : S16384x1024.Idx → EReal)

/-- Row `p` of an array. -/
abbrev row {a b : ℕ} (x : (⟨2, ![a, b]⟩ : Shape).Idx → EReal) (p : Fin a) (l : Fin b) : EReal := x (ix2 p l)

theorem n1024_div (a : EReal) : Ideal.div a (Ideal.ofBits .f32 0x44800000#32) = a * ((1 / 1024 : ℝ) : EReal) := by
  rw [Words.n1024, Ideal.div_coe (by norm_num)]

theorem rinv_at (r : Fin 16384) : val_main_v7 (F := Ideal) x0 (ix2 r 0) = rinv (row x0 r) := by
  unfold val_main_v7 val_main_v6 val_main_v5 val_main_v4 val_main_v3 val_main_v2 val_main_v1 val_main_v0 val_main_cst val_main_cst_0 val_main_cst_1
  pointwise
  simp only [n1024_div]
  rfl

theorem xhat_at (r : Fin 16384) (l : Fin 1024) : val_main_v12 (F := Ideal) x0 (ix2 r l) = xhat (row x0 r) l := by
  unfold val_main_v12 val_main_v11
  pointwise
  rw [rinv_at]
  rfl

theorem n_at (r : Fin 16384) (l : Fin 1024) : val_main_v15 (F := Ideal) x0 x1 (ix2 r l) = xhat (row x0 r) l * x1 (ix1 l) := by
  unfold val_main_v15 val_main_v14 val_main_v13
  pointwise
  rw [xhat_at]

/-- The projected rows, the taps and the transposed output weights. -/
def zT (r : Fin 16384) (j : Fin 3072) : EReal := ∑ k : Fin 1024, xhat (row x0 r) k * x1 (ix1 k) * x2 (ix2 k j)
def wT (j : Fin 3) (d : Fin 1024) : EReal := x3 (ix2 j d)
def oT (e d : Fin 1024) : EReal := x4 (ix2 d e)

theorem z_at (r : Fin 16384) (j : Fin 3072) : val_main_v16 (F := Ideal) x0 x1 x2 (ix2 r j) = zT x0 x1 x2 r j := by
  unfold val_main_v16
  pointwise
  simp only [n_at]
  rfl

theorem gateB_at (r : Fin 16384) (d : Fin 1024) : val_main_v17 (F := Ideal) x0 x1 x2 (ix2 r d) = gateB (zT x0 x1 x2 r) d := by
  unfold val_main_v17
  pointwise
  rw [z_at]
  rfl

theorem gateC_at (r : Fin 16384) (d : Fin 1024) : val_main_v18 (F := Ideal) x0 x1 x2 (ix2 r d) = gateC (zT x0 x1 x2 r) d := by
  unfold val_main_v18
  pointwise
  rw [z_at]
  rfl

theorem branch_at (r : Fin 16384) (d : Fin 1024) : val_main_v19 (F := Ideal) x0 x1 x2 (ix2 r d) = branch (zT x0 x1 x2 r) d := by
  unfold val_main_v19
  pointwise
  rw [z_at]
  rfl

theorem inner_at (r : Fin 16384) (d : Fin 1024) : val_main_v20 (F := Ideal) x0 x1 x2 (ix2 r d) = inner (zT x0 x1 x2 r) d := by
  unfold val_main_v20
  pointwise
  rw [gateC_at, branch_at]
  rfl

theorem lag2_at (r : Fin 16384) (d : Fin 1024) :
    val_main_v26 (F := Ideal) x0 x1 x2 (ix2 r d) = later 2 (fun r => inner (zT x0 x1 x2 r) d) r := by
  unfold val_main_v26 val_main_v22 val_main_v21 val_main_cst_3
  have e := fun r => inner_at x0 x1 x2 r d
  generalize val_main_v20 (F := Ideal) x0 x1 x2 = u at e ⊢
  pointwise
  unfold later
  by_cases h : r.val < 2
  · rw [dif_pos h, dif_neg (by omega)]
  · rw [dif_neg h, dif_pos (by omega), e]

theorem lag1_at (r : Fin 16384) (d : Fin 1024) :
    val_main_v32 (F := Ideal) x0 x1 x2 (ix2 r d) = later 1 (fun r => inner (zT x0 x1 x2 r) d) r := by
  unfold val_main_v32 val_main_v22 val_main_v21 val_main_cst_3
  have e := fun r => inner_at x0 x1 x2 r d
  generalize val_main_v20 (F := Ideal) x0 x1 x2 = u at e ⊢
  pointwise
  unfold later
  by_cases h : 1 ≤ r.val
  · rw [dif_pos h, dif_neg (by omega), e]
    have q : 1 + r.val - 2 = r.val - 1 := by omega
    simp only [q]
  · rw [dif_neg h, dif_pos (by omega)]

theorem lag0_at (r : Fin 16384) (d : Fin 1024) : val_main_v39 (F := Ideal) x0 x1 x2 (ix2 r d) = inner (zT x0 x1 x2 r) d := by
  unfold val_main_v39 val_main_v22 val_main_v21 val_main_cst_3
  have e := fun r => inner_at x0 x1 x2 r d
  generalize val_main_v20 (F := Ideal) x0 x1 x2 = u at e ⊢
  pointwise
  exact e r

theorem conv_at (r : Fin 16384) (d : Fin 1024) :
    val_main_v43 (F := Ideal) x0 x1 x2 x3 (ix2 r d) = conv (wT x3) (zT x0 x1 x2) r d := by
  unfold val_main_v43 val_main_v42 val_main_v41 val_main_v40 val_main_v38 val_main_v37 val_main_v36 val_main_v35 val_main_v34
    val_main_v33 val_main_v31 val_main_v30 val_main_v29 val_main_v28 val_main_v27 val_main_v25 val_main_v24
  pointwise
  rw [lag0_at, lag1_at, lag2_at]
  rfl

theorem dgated_at (r : Fin 16384) (d : Fin 1024) :
    val_main_v48 (F := Ideal) x4 x5 (ix2 r d) = dgated (row x5 r) (oT x4) d := by
  unfold val_main_v48 val_main_v47
  pointwise
  rfl

theorem dconv_at (r : Fin 16384) (d : Fin 1024) :
    val_main_v49 (F := Ideal) x0 x1 x2 x4 x5 (ix2 r d) = dconv (row x5) (oT x4) (zT x0 x1 x2) r d := by
  unfold val_main_v49
  pointwise
  rw [gateB_at, dgated_at]
  exact mul_comm _ _

/-- The taps broadcast over the tokens. -/
theorem tap2_at (r : Fin 16384) (d : Fin 1024) : val_main_v51 (F := Ideal) x3 (ix2 r d) = wT x3 2 d := by
  unfold val_main_v51 val_main_v40 val_main_v38 val_main_v37
  pointwise
  rfl
theorem tap1_at (r : Fin 16384) (d : Fin 1024) : val_main_v60 (F := Ideal) x3 (ix2 r d) = wT x3 1 d := by
  unfold val_main_v60 val_main_v33 val_main_v31 val_main_v30
  pointwise
  rfl
theorem tap0_at (r : Fin 16384) (d : Fin 1024) : val_main_v71 (F := Ideal) x3 (ix2 r d) = wT x3 0 d := by
  unfold val_main_v71 val_main_v27 val_main_v25 val_main_v24
  pointwise
  rfl

theorem dinner_at (r : Fin 16384) (d : Fin 1024) :
    val_main_v83 (F := Ideal) x0 x1 x2 x3 x4 x5 (ix2 r d)
      = dinner (wT x3) (dconv (row x5) (oT x4) (zT x0 x1 x2)) r d := by
  unfold val_main_v83 val_main_v78 val_main_v67 val_main_v57 val_main_v66 val_main_v77 val_main_v52 val_main_v61 val_main_v72
    val_main_cst_7 val_main_cst_11 val_main_cst_15
  have e := fun r => dconv_at x0 x1 x2 x4 x5 r d
  have t0 := fun r => tap0_at x3 r d
  have t1 := fun r => tap1_at x3 r d
  have t2 := fun r => tap2_at x3 r d
  generalize val_main_v49 (F := Ideal) x0 x1 x2 x4 x5 = u at e ⊢
  generalize val_main_v51 (F := Ideal) x3 = y2 at t2 ⊢
  generalize val_main_v60 (F := Ideal) x3 = y1 at t1 ⊢
  generalize val_main_v71 (F := Ideal) x3 = y0 at t0 ⊢
  pointwise
  simp only [e, t0, t1, t2]
  unfold dinner earlier
  have eN : ∀ (a b : ℕ) (ha : a < 16384) (hb : b < 16384), a = b →
      dconv (row x5) (oT x4) (zT x0 x1 x2) ⟨a, ha⟩ d = dconv (row x5) (oT x4) (zT x0 x1 x2) ⟨b, hb⟩ d := by
    rintro a b ha hb rfl; rfl
  by_cases h1 : r.val + 1 < 16384
  · rw [dif_pos (show 1 ≤ 2 + r.val ∧ 2 + r.val - 1 < 16384 by omega), dif_pos h1, eN (2 + r.val - 1) (r.val + 1) (by omega) h1 (by omega)]
    by_cases h2 : r.val + 2 < 16384
    · rw [dif_pos (show 2 + r.val < 16384 by omega), dif_pos h2, eN (2 + r.val) (r.val + 2) (by omega) h2 (by omega)]
    · rw [dif_neg (show ¬2 + r.val < 16384 by omega), dif_neg h2, mul_zero]
  · rw [dif_neg (show ¬(1 ≤ 2 + r.val ∧ 2 + r.val - 1 < 16384) by omega), dif_neg h1,
      dif_neg (show ¬2 + r.val < 16384 by omega), dif_neg (show ¬r.val + 2 < 16384 by omega), mul_zero, mul_zero]

/-- The cotangent of the projection, and of the normalised row. -/
def dzT (r : Fin 16384) : Fin 3072 → EReal :=
  thirds (fun d => dgated (row x5 r) (oT x4) d * conv (wT x3) (zT x0 x1 x2) r d)
    (fun d => dinner (wT x3) (dconv (row x5) (oT x4) (zT x0 x1 x2)) r d * branch (zT x0 x1 x2 r) d)
    (fun d => dinner (wT x3) (dconv (row x5) (oT x4) (zT x0 x1 x2)) r d * gateC (zT x0 x1 x2 r) d)
def dnT (r : Fin 16384) (l : Fin 1024) : EReal := ∑ j : Fin 3072, dzT x0 x1 x2 x3 x4 x5 r j * x2 (ix2 l j)

theorem dz_at (r : Fin 16384) (j : Fin 3072) :
    val_main_v86 (F := Ideal) x0 x1 x2 x3 x4 x5 (ix2 r j) = dzT x0 x1 x2 x3 x4 x5 r j := by
  have e1 : ∀ d, val_main_v50 (F := Ideal) x0 x1 x2 x3 x4 x5 (ix2 r d) = dgated (row x5 r) (oT x4) d * conv (wT x3) (zT x0 x1 x2) r d := fun d => by
    unfold val_main_v50; pointwise; rw [dgated_at, conv_at]
  have e2 : ∀ d, val_main_v85 (F := Ideal) x0 x1 x2 x3 x4 x5 (ix2 r d) = dinner (wT x3) (dconv (row x5) (oT x4) (zT x0 x1 x2)) r d * branch (zT x0 x1 x2 r) d := fun d => by
    unfold val_main_v85; pointwise; rw [dinner_at, branch_at]
  have e3 : ∀ d, val_main_v84 (F := Ideal) x0 x1 x2 x3 x4 x5 (ix2 r d) = dinner (wT x3) (dconv (row x5) (oT x4) (zT x0 x1 x2)) r d * gateC (zT x0 x1 x2 r) d := fun d => by
    unfold val_main_v84; pointwise; rw [dinner_at, gateC_at]; exact mul_comm _ _
  unfold val_main_v86
  generalize val_main_v50 (F := Ideal) x0 x1 x2 x3 x4 x5 = a at e1 ⊢
  generalize val_main_v84 (F := Ideal) x0 x1 x2 x3 x4 x5 = b at e3 ⊢
  generalize val_main_v85 (F := Ideal) x0 x1 x2 x3 x4 x5 = y at e2 ⊢
  pointwise
  unfold dzT thirds
  by_cases h : j.val < 1024
  · rw [dif_pos h, dif_pos h, e1]
  · rw [dif_neg h, dif_neg h]
    by_cases h' : j.val < 2048
    · rw [dif_pos (show j.val - 1024 < 1024 by omega), dif_pos h', e2]
    · rw [dif_neg (show ¬j.val - 1024 < 1024 by omega), dif_neg h', e3]
      have q : j.val - 1024 - 1024 = j.val - 2048 := by omega
      simp only [q]

theorem dn_at (r : Fin 16384) (l : Fin 1024) :
    val_main_v87 (F := Ideal) x0 x1 x2 x3 x4 x5 (ix2 r l) = dnT x0 x1 x2 x3 x4 x5 r l := by
  unfold val_main_v87
  pointwise
  simp only [dz_at]
  rfl

theorem dg_at (l : Fin 1024) : val_main_v201 (F := Ideal) x0 x1 x2 x3 x4 x5 (ix2 0 l)
    = ∑ r : Fin 16384, xhat (row x0 r) l * dnT x0 x1 x2 x3 x4 x5 r l := by
  unfold val_main_v201 val_main_v93 val_main_v90 val_main_v89 val_main_v88 val_main_cst_17 val_main_cst_18
  pointwise
  simp only [xhat_at, dn_at, Finset.univ_unique, Finset.sum_singleton]

/-- The mean square plus the offset. -/
theorem vplus_at (r : Fin 16384) : val_main_v6 (F := Ideal) x0 (ix2 r 0) = FfnMath.vplus (row x0 r) := by
  unfold val_main_v6 val_main_v5 val_main_v4 val_main_v3 val_main_v2 val_main_v1 val_main_v0 val_main_cst val_main_cst_0 val_main_cst_1
  pointwise
  simp only [n1024_div]
  rfl

theorem dx_at (r : Fin 16384) (l : Fin 1024) : val_main_v108 (F := Ideal) x0 x1 x2 x3 x4 x5 (ix2 r l)
    = x5 (ix2 r l) + dnT x0 x1 x2 x3 x4 x5 r l * x1 (ix1 l) * rinv (row x0 r)
      + x0 (ix2 r l) * FfnMath.through (row x0 r) (fun k => dnT x0 x1 x2 x3 x4 x5 r k * x1 (ix1 k))
      + FfnMath.through (row x0 r) (fun k => dnT x0 x1 x2 x3 x4 x5 r k * x1 (ix1 k)) * x0 (ix2 r l) := by
  unfold val_main_v108 val_main_v107 val_main_v106 val_main_v105 val_main_v104 val_main_v103 val_main_v102 val_main_v101 val_main_v100
    val_main_v99 val_main_v98 val_main_v97 val_main_v96 val_main_v95 val_main_v94 val_main_v92 val_main_v91 val_main_v13 val_main_v10
    val_main_v9 val_main_v8 val_main_cst_2 val_main_cst_19 val_main_cst_20 val_main_cst_21
  pointwise
  simp only [dn_at, rinv_at, n1024_div, Finset.univ_unique, Finset.sum_singleton, Fin.default_eq_zero, vplus_at]
  rfl

/-- The taps' gradient. -/
theorem dcw_at (j : Fin 3) (d : Fin 1024) : val_main_v81 (F := Ideal) x0 x1 x2 x4 x5 (ix2 j d)
    = ∑ r : Fin 16384, dconv (row x5) (oT x4) (zT x0 x1 x2) r d
        * (![later 2 (fun r => inner (zT x0 x1 x2 r) d), later 1 (fun r => inner (zT x0 x1 x2 r) d), fun r => inner (zT x0 x1 x2 r) d] j) r := by
  have e2 : val_main_v56 (F := Ideal) x0 x1 x2 x4 x5 (ix1 d) = ∑ r : Fin 16384, dconv (row x5) (oT x4) (zT x0 x1 x2) r d * inner (zT x0 x1 x2 r) d := by
    unfold val_main_v56 val_main_v55 val_main_v54 val_main_v53 val_main_cst_5 val_main_cst_6
    pointwise
    simp only [dconv_at, lag0_at, Finset.univ_unique, Finset.sum_singleton]
  have e1 : val_main_v65 (F := Ideal) x0 x1 x2 x4 x5 (ix1 d) = ∑ r : Fin 16384, dconv (row x5) (oT x4) (zT x0 x1 x2) r d * later 1 (fun r => inner (zT x0 x1 x2 r) d) r := by
    unfold val_main_v65 val_main_v64 val_main_v63 val_main_v62 val_main_cst_9 val_main_cst_10
    pointwise
    simp only [dconv_at, lag1_at, Finset.univ_unique, Finset.sum_singleton]
  have e0 : val_main_v76 (F := Ideal) x0 x1 x2 x4 x5 (ix1 d) = ∑ r : Fin 16384, dconv (row x5) (oT x4) (zT x0 x1 x2) r d * later 2 (fun r => inner (zT x0 x1 x2 r) d) r := by
    unfold val_main_v76 val_main_v75 val_main_v74 val_main_v73 val_main_cst_13 val_main_cst_14
    pointwise
    simp only [dconv_at, lag2_at, Finset.univ_unique, Finset.sum_singleton]
  unfold val_main_v81 val_main_v80 val_main_v79 val_main_v70 val_main_v69 val_main_v68 val_main_v59 val_main_v58 val_main_cst_8 val_main_cst_12 val_main_cst_16
  generalize val_main_v56 (F := Ideal) x0 x1 x2 x4 x5 = a2 at e2 ⊢
  generalize val_main_v65 (F := Ideal) x0 x1 x2 x4 x5 = a1 at e1 ⊢
  generalize val_main_v76 (F := Ideal) x0 x1 x2 x4 x5 = a0 at e0 ⊢
  fin_cases j <;> pointwise
  · exact e0
  · exact e1
  · exact e2

/-! The forward values the derivative recomputes are the same. -/

theorem v121_eq : val_main_v121 (F := Ideal) x0 x1 = val_main_v15 x0 x1 := rfl
theorem v122_eq : val_main_v122 (F := Ideal) x0 x1 x2 = val_main_v16 x0 x1 x2 := by
  unfold val_main_v122 val_main_v16; rw [v121_eq]
theorem v128_eq : val_main_v128 (F := Ideal) x0 x1 x2 = val_main_v22 x0 x1 x2 := by
  unfold val_main_v128 val_main_v126 val_main_v125 val_main_v124; rw [v122_eq]; rfl
theorem v149_eq : val_main_v149 (F := Ideal) x0 x1 x2 x3 = val_main_v43 x0 x1 x2 x3 := by
  unfold val_main_v149 val_main_v148 val_main_v145 val_main_v142 val_main_v141 val_main_v138 val_main_v135 val_main_v132; rw [v128_eq]; rfl
theorem v152_eq : val_main_v152 (F := Ideal) x4 x5 = val_main_v48 x4 x5 := by
  unfold val_main_v152 val_main_v48 val_main_v47
  rw [shapeCast_id]
theorem v153_eq : val_main_v153 (F := Ideal) x0 x1 x2 x4 x5 = val_main_v49 x0 x1 x2 x4 x5 := by
  unfold val_main_v153 val_main_v123; rw [v122_eq, v152_eq]; rfl
theorem v154_eq : val_main_v154 (F := Ideal) x0 x1 x2 x3 x4 x5 = val_main_v50 x0 x1 x2 x3 x4 x5 := by
  unfold val_main_v154; rw [v149_eq, v152_eq]; rfl
theorem v167_eq : val_main_v167 (F := Ideal) x0 x1 x2 x3 x4 x5 = val_main_v83 x0 x1 x2 x3 x4 x5 := by
  unfold val_main_v167 val_main_v165 val_main_v164 val_main_v163 val_main_v161 val_main_v160 val_main_v159 val_main_v157 val_main_v156; rw [v153_eq]; rfl
theorem v170_eq : val_main_v170 (F := Ideal) x0 x1 x2 x3 x4 x5 = val_main_v86 x0 x1 x2 x3 x4 x5 := by
  unfold val_main_v170 val_main_v169 val_main_v168 val_main_v125 val_main_v124; rw [v154_eq, v167_eq, v122_eq]; rfl

theorem hn_at (r : Fin 16384) (l : Fin 1024) : val_main_v171 (F := Ideal) x0 x1 (ix2 r l) = xhat (row x0 r) l * x1 (ix1 l) := by
  unfold val_main_v171
  rw [v121_eq]
  pointwise
  exact n_at x0 x1 r l

theorem dzb_at (r : Fin 16384) (j : Fin 3072) :
    val_main_v172 (F := Ideal) x0 x1 x2 x3 x4 x5 (ix2 r j) = dzT x0 x1 x2 x3 x4 x5 r j := by
  unfold val_main_v172
  rw [v170_eq]
  pointwise
  exact dz_at x0 x1 x2 x3 x4 x5 r j

theorem v178_eq : val_main_v178 (F := Ideal) x0 x1 x2 = val_main_v22 x0 x1 x2 := by
  unfold val_main_v178 val_main_v176 val_main_v175 val_main_v174; rw [v122_eq]; rfl
theorem v198_eq : val_main_v198 (F := Ideal) x0 x1 x2 x3 = val_main_v43 x0 x1 x2 x3 := by
  unfold val_main_v198 val_main_v197 val_main_v194 val_main_v191 val_main_v190 val_main_v187 val_main_v184 val_main_v181; rw [v178_eq]; rfl

theorem v199_eq : val_main_v199 (F := Ideal) x0 x1 x2 x3 = val_main_v44 x0 x1 x2 x3 := by
  unfold val_main_v199 val_main_v173
  rw [v198_eq, v122_eq]
  rfl

theorem v_at (r : Fin 16384) (d : Fin 1024) :
    val_main_v200 (F := Ideal) x0 x1 x2 x3 (ix2 r d) = gateB (zT x0 x1 x2 r) d * conv (wT x3) (zT x0 x1 x2) r d := by
  unfold val_main_v200
  rw [v199_eq]
  unfold val_main_v44
  pointwise
  rw [gateB_at, conv_at]

end Cert.ConvRefIdeal.Read

end
-- ==== Proof.ConvClaim.lean ====
/- The gated convolution: the kernel's results against the derivative's. -/
module

public import proofs.«01_k».proof.Defs
public import proofs.«01_k».proof.Proof.ConvArrays
public import proofs.«01_k».proof.Proof.ConvRefRead
public import proofs.«01_k».proof.Proof.Gen.ConvRefIdeal.Run

@[expose] public section

set_option maxRecDepth 16384

noncomputable section

namespace Cert.ConvClaim

open Idealize.ShloMosaic Idealize.ShloMosaic.TcCoe Idealize.SL.Sem
open Cert.FfnRows Cert.ConvRows Cert.ConvIdeal Cert.ConvIdeal.Value

variable (m : (ℓ : Loc nD τ sig) → Buf (Elt Ideal) ℓ) (c : Dev nD)

theorem dx_eq (i : S16384x1024.Idx) :
    dxOut m c i = ConvRefIdeal.Read.val_main_v108 (F := Ideal) (xA m c) (gA m c) (wiA m c) (cwA m c) (woA m c) (dyA m c) i := by
  obtain ⟨r, l, rfl⟩ : ∃ r l, i = ix2 r l := ⟨i 0, i 1, eq_ix2 i⟩
  rw [ConvRefIdeal.Read.dx_at]
  exact FfnMath.norm_grad (row (xA m c) r) (row (dyA m c) r) (fun l => gA m c (ix1 l)) (dnT m c r) l

theorem hn_eq (i : S16384x1024.Idx) : hnOut m c i = ConvRefIdeal.Read.val_main_v171 (F := Ideal) (xA m c) (gA m c) i := by
  obtain ⟨r, l, rfl⟩ : ∃ r l, i = ix2 r l := ⟨i 0, i 1, eq_ix2 i⟩
  rw [ConvRefIdeal.Read.hn_at]
  rfl

theorem dz_eq (i : S16384x3072.Idx) :
    dzOut m c i = ConvRefIdeal.Read.val_main_v172 (F := Ideal) (xA m c) (gA m c) (wiA m c) (cwA m c) (woA m c) (dyA m c) i := by
  obtain ⟨r, l, rfl⟩ : ∃ r l, i = ix2 r l := ⟨i 0, i 1, eq_ix2 i⟩
  rw [ConvRefIdeal.Read.dzb_at]
  rfl

theorem v_eq (i : S16384x1024.Idx) :
    vOut m c i = ConvRefIdeal.Read.val_main_v200 (F := Ideal) (xA m c) (gA m c) (wiA m c) (cwA m c) i := by
  obtain ⟨r, l, rfl⟩ : ∃ r l, i = ix2 r l := ⟨i 0, i 1, eq_ix2 i⟩
  rw [ConvRefIdeal.Read.v_at]
  rfl

theorem dcw_eq (i : S3x1024.Idx) :
    dcwOut m c i = ConvRefIdeal.Read.val_main_v81 (F := Ideal) (xA m c) (gA m c) (wiA m c) (woA m c) (dyA m c) i := by
  obtain ⟨j, l, rfl⟩ : ∃ j l, i = ix2 j l := ⟨i 0, i 1, eq_ix2 i⟩
  rw [ConvRefIdeal.Read.dcw_at]
  rfl

theorem dg_eq (i : S1x1024.Idx) :
    dgOut m c i = ConvRefIdeal.Read.val_main_v201 (F := Ideal) (xA m c) (gA m c) (wiA m c) (cwA m c) (woA m c) (dyA m c) i := by
  obtain ⟨l, rfl⟩ : ∃ l, i = ix2 0 l := ⟨i 1, (eq_ix2 i).trans (by rw [show i 0 = (0 : Fin 1) from Fin.fin_one_eq_zero _])⟩
  rw [ConvRefIdeal.Read.dg_at]
  exact Finset.sum_congr rfl fun r _ => mul_comm _ _

/-- The claim of the gated convolution's pair. -/
theorem algebraic : Cert.algebraic_ConvIdeal_ConvRefIdeal := by
  intro m g m' g' _ hm
  refine ⟨_, _, _, _, _, _, run_read m g, (θ_run _ _ _).mono (fun r h => ?_) (Cert.ConvRefIdeal.Value.run m' g')⟩
  intro c
  obtain ⟨h0, h1, h2, h3, h4, h5, hk⟩ := h c
  obtain ⟨e0, e1, e2, e3, e4, e5⟩ := hm c
  refine ⟨h0.trans ?_, h1.trans ?_, h2.trans ?_, h3.trans ?_, h4.trans ?_, h5.trans ?_, hk⟩
  · refine (ConvRefIdeal.Read.val_main_v108_eq _).trans ?_
    show ConvRefIdeal.Read.val_main_v108 (F := Ideal) (m' ((c : Thread ConvRefIdeal.nD ConvRefIdeal.τ).loc ConvRefIdeal.main_arg0)) (m' ((c : Thread ConvRefIdeal.nD ConvRefIdeal.τ).loc ConvRefIdeal.main_arg1)) (m' ((c : Thread ConvRefIdeal.nD ConvRefIdeal.τ).loc ConvRefIdeal.main_arg2)) (m' ((c : Thread ConvRefIdeal.nD ConvRefIdeal.τ).loc ConvRefIdeal.main_arg3)) (m' ((c : Thread ConvRefIdeal.nD ConvRefIdeal.τ).loc ConvRefIdeal.main_arg4)) (m' ((c : Thread ConvRefIdeal.nD ConvRefIdeal.τ).loc ConvRefIdeal.main_arg5)) = _
    rw [e0, e1, e2, e3, e4, e5]
    exact funext fun i => (dx_eq m c i).symm
  · refine (ConvRefIdeal.Read.val_main_v171_eq _).trans ?_
    show ConvRefIdeal.Read.val_main_v171 (F := Ideal) (m' ((c : Thread ConvRefIdeal.nD ConvRefIdeal.τ).loc ConvRefIdeal.main_arg0)) (m' ((c : Thread ConvRefIdeal.nD ConvRefIdeal.τ).loc ConvRefIdeal.main_arg1)) = _
    rw [e0, e1]
    exact funext fun i => (hn_eq m c i).symm
  · refine (ConvRefIdeal.Read.val_main_v172_eq _).trans ?_
    show ConvRefIdeal.Read.val_main_v172 (F := Ideal) (m' ((c : Thread ConvRefIdeal.nD ConvRefIdeal.τ).loc ConvRefIdeal.main_arg0)) (m' ((c : Thread ConvRefIdeal.nD ConvRefIdeal.τ).loc ConvRefIdeal.main_arg1)) (m' ((c : Thread ConvRefIdeal.nD ConvRefIdeal.τ).loc ConvRefIdeal.main_arg2)) (m' ((c : Thread ConvRefIdeal.nD ConvRefIdeal.τ).loc ConvRefIdeal.main_arg3)) (m' ((c : Thread ConvRefIdeal.nD ConvRefIdeal.τ).loc ConvRefIdeal.main_arg4)) (m' ((c : Thread ConvRefIdeal.nD ConvRefIdeal.τ).loc ConvRefIdeal.main_arg5)) = _
    rw [e0, e1, e2, e3, e4, e5]
    exact funext fun i => (dz_eq m c i).symm
  · refine (ConvRefIdeal.Read.val_main_v200_eq _).trans ?_
    show ConvRefIdeal.Read.val_main_v200 (F := Ideal) (m' ((c : Thread ConvRefIdeal.nD ConvRefIdeal.τ).loc ConvRefIdeal.main_arg0)) (m' ((c : Thread ConvRefIdeal.nD ConvRefIdeal.τ).loc ConvRefIdeal.main_arg1)) (m' ((c : Thread ConvRefIdeal.nD ConvRefIdeal.τ).loc ConvRefIdeal.main_arg2)) (m' ((c : Thread ConvRefIdeal.nD ConvRefIdeal.τ).loc ConvRefIdeal.main_arg3)) = _
    rw [e0, e1, e2, e3]
    exact funext fun i => (v_eq m c i).symm
  · refine (ConvRefIdeal.Read.val_main_v81_eq _).trans ?_
    show ConvRefIdeal.Read.val_main_v81 (F := Ideal) (m' ((c : Thread ConvRefIdeal.nD ConvRefIdeal.τ).loc ConvRefIdeal.main_arg0)) (m' ((c : Thread ConvRefIdeal.nD ConvRefIdeal.τ).loc ConvRefIdeal.main_arg1)) (m' ((c : Thread ConvRefIdeal.nD ConvRefIdeal.τ).loc ConvRefIdeal.main_arg2)) (m' ((c : Thread ConvRefIdeal.nD ConvRefIdeal.τ).loc ConvRefIdeal.main_arg4)) (m' ((c : Thread ConvRefIdeal.nD ConvRefIdeal.τ).loc ConvRefIdeal.main_arg5)) = _
    rw [e0, e1, e2, e4, e5]
    exact funext fun i => (dcw_eq m c i).symm
  · refine (ConvRefIdeal.Read.val_main_v201_eq _).trans ?_
    show ConvRefIdeal.Read.val_main_v201 (F := Ideal) (m' ((c : Thread ConvRefIdeal.nD ConvRefIdeal.τ).loc ConvRefIdeal.main_arg0)) (m' ((c : Thread ConvRefIdeal.nD ConvRefIdeal.τ).loc ConvRefIdeal.main_arg1)) (m' ((c : Thread ConvRefIdeal.nD ConvRefIdeal.τ).loc ConvRefIdeal.main_arg2)) (m' ((c : Thread ConvRefIdeal.nD ConvRefIdeal.τ).loc ConvRefIdeal.main_arg3)) (m' ((c : Thread ConvRefIdeal.nD ConvRefIdeal.τ).loc ConvRefIdeal.main_arg4)) (m' ((c : Thread ConvRefIdeal.nD ConvRefIdeal.τ).loc ConvRefIdeal.main_arg5)) = _
    rw [e0, e1, e2, e3, e4, e5]
    exact funext fun i => (dg_eq m c i).symm

end Cert.ConvClaim

end
-- ==== Proof.FfnFwdValue.lean ====
/- The feed-forward layer's forward call: what each grid point stores, and the arrays it leaves. -/
module

public import proofs.«01_k».proof.Proof.FfnRows
public import proofs.«01_k».proof.Proof.Consts
public import proofs.«01_k».proof.Proof.Gen.FfnFwdIdeal.Value
public import Idealize.ShloMosaic.Lib.Pipeline.ValueKit

@[expose] public section

set_option maxRecDepth 16384

noncomputable section

namespace Cert.FfnFwdIdeal.Value

open Cert.FfnFwdIdeal Cert.FfnFwdIdeal.Gen Cert.FfnRows
open Idealize.ShloMosaic Idealize.ShloMosaic.TcCoe Idealize.ShloMosaic.Tactic Idealize.SL.Sem
open Idealize.ShloMosaic.Pipeline (Dat Cfg Window)

variable (m : (ℓ : Loc nD τ sig) → Buf (Elt Ideal) ℓ) (ρ : Dev nD → PrngReg)

/-- Row `p` of a block or array. -/
abbrev row {a b : ℕ} (x : (⟨2, ![a, b]⟩ : Shape).Idx → EReal) (p : Fin a) (l : Fin b) : EReal := x (ix2 p l)

/-- A projection of a normalised, scaled row. -/
def prj (x g : Fin 1024 → EReal) (w : Fin 1024 → Fin 2816 → EReal) (f : Fin 2816) : EReal := ∑ k, xhat x k * g k * w k f

theorem g_at (c : Dev nD) (t : Fin cfg0.N) (y : S512x2816.Idx) :
    (outsAt0 m c t).2.1 y = prj (row (iblk m c 0 t) (y 0)) (row (iblk m c 1 t) 0) (row (iblk m c 2 t)) (y 1) := by
  idx_vars y
  unfold outsAt0
  frame_out
  canon_tiles x h
  all_goals (open_payloads; pointwise; simp only [Words.inv1024]; obtain rfl := Fin.ext h0; obtain ⟨b, hb⟩ := y1; obtain rfl : b = _ := h1; rfl)

theorem u_at (c : Dev nD) (t : Fin cfg0.N) (y : S512x2816.Idx) :
    (outsAt0 m c t).2.2 y = prj (row (iblk m c 0 t) (y 0)) (row (iblk m c 1 t) 0) (row (iblk m c 3 t)) (y 1) := by
  idx_vars y
  unfold outsAt0
  frame_out
  canon_tiles x h
  all_goals (open_payloads; pointwise; simp only [Words.inv1024]; obtain rfl := Fin.ext h0; obtain ⟨b, hb⟩ := y1; obtain rfl : b = _ := h1; rfl)

theorem readCov_whole {κ : Kind} {sp : Space} (v : View sig κ sp S512x2816 .bf16)
    (L : List (View.Piece (Elt Ideal) S512x2816 .bf16)) (inb) :
    v.readCov L (Rect.unit (s := S512x2816) ![0, 0] ![512, 2816] inb).toLoadRect = View.canon L := by
  rw [View.readCov_eq_canon']
  funext j
  refine congrArg _ (funext fun d => Fin.ext ?_)
  refine (Rect.idx_unit_val _ _ _ _ _).trans ?_
  fin_cases d <;> exact Nat.zero_add _

theorem y_pay (x : Vec Ideal S512x1024 .f32) (h : Vec Ideal S512x2816 .bf16) (wd : FVec Ideal S2816x1024 .bf16) (p : Fin 512) (l : Fin 1024)
    (a : Fin 2816 → EReal) (e : ∀ f, h (ix2 p f) = a f) :
    k0_pay3 x h wd (ix2 p l) = row x p l + ((1 / 2 : ℝ) : EReal) * ∑ f : Fin 2816, a f * row wd f l := by
  open_payloads
  pointwise
  simp only [Words.half, e]

set_option maxHeartbeats 2000000 in
theorem y_at (c : Dev nD) (t : Fin cfg0.N) (y : S512x1024.Idx) :
    (outsAt0 m c t).1 y = row (iblk m c 0 t) (y 0) (y 1) + ((1 / 2 : ℝ) : EReal) * ∑ f : Fin 2816,
      hid (prj (row (iblk m c 0 t) (y 0)) (row (iblk m c 1 t) 0) (row (iblk m c 2 t)))
        (prj (row (iblk m c 0 t) (y 0)) (row (iblk m c 1 t) 0) (row (iblk m c 3 t))) f * row (iblk m c 4 t) f (y 1) := by
  idx_vars y
  unfold outsAt0
  frame_out
  rw [readCov_whole]
  refine y_pay _ _ _ y0 y1 _ fun f => ?_
  canon_tiles x h
  all_goals (open_payloads; pointwise; simp only [Words.inv1024]; obtain rfl := Fin.ext h0; obtain ⟨b, hb⟩ := f; obtain rfl : b = _ := h1; rfl)

/-- The arguments: the activation, the scale, the gate's, the other projection's and the output's weights. -/
abbrev xA (c : Dev nD) : S16384x1024.Idx → EReal := m ((c : Thread nD τ).loc main_arg0)
abbrev gA (c : Dev nD) : S1024.Idx → EReal := m ((c : Thread nD τ).loc main_arg1)
abbrev wgA (c : Dev nD) : S1024x2816.Idx → EReal := m ((c : Thread nD τ).loc main_arg2)
abbrev wuA (c : Dev nD) : S1024x2816.Idx → EReal := m ((c : Thread nD τ).loc main_arg3)
abbrev wdA (c : Dev nD) : S2816x1024.Idx → EReal := m ((c : Thread nD τ).loc main_arg4)

/-- What the three results hold. -/
def gT (c : Dev nD) (r : Fin 16384) : Fin 2816 → EReal := prj (row (xA m c) r) (fun k => gA m c (ix1 k)) (row (wgA m c))
def uT (c : Dev nD) (r : Fin 16384) : Fin 2816 → EReal := prj (row (xA m c) r) (fun k => gA m c (ix1 k)) (row (wuA m c))
def gOut (c : Dev nD) (i : S16384x2816.Idx) : EReal := gT m c (i 0) (i 1)
def uOut (c : Dev nD) (i : S16384x2816.Idx) : EReal := uT m c (i 0) (i 1)
def yOut (c : Dev nD) (i : S16384x1024.Idx) : EReal :=
  row (xA m c) (i 0) (i 1) + ((1 / 2 : ℝ) : EReal) * ∑ f : Fin 2816, hid (gT m c (i 0)) (uT m c (i 0)) f * row (wdA m c) f (i 1)

def pt (t : Fin cfg0.N) : Fin 32 := t

/-- Token `p` of tile `n`. -/
def tok (n : Fin 32) (p : Fin 512) : Fin 16384 := ⟨512 * n.val + p.val, by omega⟩

theorem idx (t : Fin cfg0.N) : win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] := by
  revert t; decide +kernel

theorem block_x (c : Dev nD) (t : Fin cfg0.N) (p : Fin 512) (l : Fin 1024) : iblk m c 0 t (ix2 p l) = xA m c (ix2 (tok (pt t) p) l) := by
  blk_ext! [iblk, V, idx t, tok, pt]
theorem block_g (c : Dev nD) (t : Fin cfg0.N) (l : Fin 1024) : iblk m c 1 t (ix2 0 l) = gA m c (ix1 l) := by
  blk_ext! [iblk, V, idx t]
theorem block_wg (c : Dev nD) (t : Fin cfg0.N) (k : Fin 1024) (f : Fin 2816) : iblk m c 2 t (ix2 k f) = wgA m c (ix2 k f) := by
  blk_ext! [iblk, V, idx t]
theorem block_wu (c : Dev nD) (t : Fin cfg0.N) (k : Fin 1024) (f : Fin 2816) : iblk m c 3 t (ix2 k f) = wuA m c (ix2 k f) := by
  blk_ext! [iblk, V, idx t]
theorem block_wd (c : Dev nD) (t : Fin cfg0.N) (f : Fin 2816) (l : Fin 1024) : iblk m c 4 t (ix2 f l) = wdA m c (ix2 f l) := by
  blk_ext! [iblk, V, idx t]

theorem row_x (c : Dev nD) (t : Fin cfg0.N) (p : Fin 512) : row (iblk m c 0 t) p = row (xA m c) (tok (pt t) p) := funext (block_x m c t p)
theorem row_g (c : Dev nD) (t : Fin cfg0.N) : row (iblk m c 1 t) 0 = fun k => gA m c (ix1 k) := funext (block_g m c t)
theorem row_wg (c : Dev nD) (t : Fin cfg0.N) : row (iblk m c 2 t) = row (wgA m c) := funext fun k => funext (block_wg m c t k)
theorem row_wu (c : Dev nD) (t : Fin cfg0.N) : row (iblk m c 3 t) = row (wuA m c) := funext fun k => funext (block_wu m c t k)
theorem row_wd (c : Dev nD) (t : Fin cfg0.N) : row (iblk m c 4 t) = row (wdA m c) := funext fun f => funext (block_wd m c t f)

theorem prj_of {x x' g g' : Fin 1024 → EReal} {w w' : Fin 1024 → Fin 2816 → EReal} (hx : x = x') (hg : g = g') (hw : w = w') :
    prj x g w = prj x' g' w' := by rw [hx, hg, hw]
theorem y_of {a a' : EReal} {x y x' y' : Fin 2816 → EReal} {w w' : Fin 2816 → Fin 1024 → EReal} (l : Fin 1024)
    (ha : a = a') (hx : x = x') (hy : y = y') (hw : w = w') :
    a + ((1 / 2 : ℝ) : EReal) * ∑ f, hid x y f * w f l = a' + ((1 / 2 : ℝ) : EReal) * ∑ f, hid x' y' f * w' f l := by rw [ha, hx, hy, hw]

theorem g_row (c : Dev nD) (t : Fin cfg0.N) (p : Fin 512) :
    prj (row (iblk m c 0 t) p) (row (iblk m c 1 t) 0) (row (iblk m c 2 t)) = gT m c (tok (pt t) p) :=
  prj_of (row_x m c t p) (row_g m c t) (row_wg m c t)
theorem u_row (c : Dev nD) (t : Fin cfg0.N) (p : Fin 512) :
    prj (row (iblk m c 0 t) p) (row (iblk m c 1 t) 0) (row (iblk m c 3 t)) = uT m c (tok (pt t) p) :=
  prj_of (row_x m c t p) (row_g m c t) (row_wu m c t)

theorem y_tok (c : Dev nD) (t : Fin cfg0.N) (y : S512x1024.Idx) : (outsAt0 m c t).1 y = yOut m c (ix2 (tok (pt t) (y 0)) (y 1)) :=
  (y_at m c t y).trans (y_of (y 1) (block_x m c t (y 0) (y 1)) (g_row m c t (y 0)) (u_row m c t (y 0)) (row_wd m c t))
theorem g_tok (c : Dev nD) (t : Fin cfg0.N) (y : S512x2816.Idx) : (outsAt0 m c t).2.1 y = gOut m c (ix2 (tok (pt t) (y 0)) (y 1)) :=
  (g_at m c t y).trans (congrFun (g_row m c t (y 0)) (y 1))
theorem u_tok (c : Dev nD) (t : Fin cfg0.N) (y : S512x2816.Idx) : (outsAt0 m c t).2.2 y = uOut m c (ix2 (tok (pt t) (y 0)) (y 1)) :=
  (u_at m c t y).trans (congrFun (u_row m c t (y 0)) (y 1))

theorem emb_5 (t : Fin cfg0.N) (y : S512x1024.Idx) : (win0_5.blk t).view.emb y = ix2 (tok (pt t) (y 0)) (y 1) := by
  blk_ext [idx t, tok, pt]
theorem emb_6 (t : Fin cfg0.N) (y : S512x2816.Idx) : (win0_6.blk t).view.emb y = ix2 (tok (pt t) (y 0)) (y 1) := by
  blk_ext [idx t, tok, pt]
theorem emb_7 (t : Fin cfg0.N) (y : S512x2816.Idx) : (win0_7.blk t).view.emb y = ix2 (tok (pt t) (y 0)) (y 1) := by
  blk_ext [idx t, tok, pt]

theorem y_final (c : Dev nD) : (dats m 0 c).arrAt 5 cfg0.N = yOut m c := by
  refine (dats m 0 c).arrAt_eq_of_covers 5 _ (by decide +kernel) fun t hf y => ?_
  blk_simp
  exact (congrFun (after0_5 m c t) y).trans ((y_tok m c t y).trans (congrArg (yOut m c) (emb_5 t y).symm))
theorem g_final (c : Dev nD) : (dats m 0 c).arrAt 6 cfg0.N = gOut m c := by
  refine (dats m 0 c).arrAt_eq_of_covers 6 _ (by decide +kernel) fun t hf y => ?_
  blk_simp
  exact (congrFun (after0_6 m c t) y).trans ((g_tok m c t y).trans (congrArg (gOut m c) (emb_6 t y).symm))
theorem u_final (c : Dev nD) : (dats m 0 c).arrAt 7 cfg0.N = uOut m c := by
  refine (dats m 0 c).arrAt_eq_of_covers 7 _ (by decide +kernel) fun t hf y => ?_
  blk_simp
  exact (congrFun (after0_7 m c t) y).trans ((u_tok m c t y).trans (congrArg (uOut m c) (emb_7 t y).symm))

/-- The run, read: the three results and the arguments. -/
theorem run_read : θ_run defs (onTc (τ := τ) (main (F := Ideal))) ⟨m, fun _ => 0, ρ⟩ fun r => ∀ c : Dev nD,
      r.2.mem ((c : Thread nD τ).loc main_v4_0) = yOut m c
      ∧ r.2.mem ((c : Thread nD τ).loc main_v4_1) = gOut m c
      ∧ r.2.mem ((c : Thread nD τ).loc main_v4_2) = uOut m c
      ∧ r.2.mem ((c : Thread nD τ).loc main_arg0) = xA m c
      ∧ r.2.mem ((c : Thread nD τ).loc main_arg1) = gA m c
      ∧ r.2.mem ((c : Thread nD τ).loc main_arg2) = wgA m c
      ∧ r.2.mem ((c : Thread nD τ).loc main_arg3) = wuA m c
      ∧ r.2.mem ((c : Thread nD τ).loc main_arg4) = wdA m c :=
  (θ_run defs _ _).mono (fun r h c => by
    obtain ⟨h0, h1, h2, hk⟩ := h c
    exact ⟨h0.trans (y_final m c), h1.trans (g_final m c), h2.trans (u_final m c), hk⟩)
    (run_blocks m ρ)

end Cert.FfnFwdIdeal.Value

end
-- ==== Proof.FfnFwdRefRead.lean ====
/- The reference forward call of the feed-forward layer, read at an index. -/
module

public import proofs.«01_k».proof.Proof.FfnRows
public import proofs.«01_k».proof.Proof.Consts
public import proofs.«01_k».proof.Proof.Gen.FfnFwdRefIdeal.Read
public import Idealize.ShloMosaic.Lib.Pipeline.ValueKit

@[expose] public section

set_option maxRecDepth 16384

noncomputable section

namespace Cert.FfnFwdRefIdeal.Read

open Cert.FfnFwdRefIdeal Cert.FfnFwdRefIdeal.Gen Cert.FfnRows
open Idealize.ShloMosaic Idealize.ShloMosaic.TcCoe Idealize.ShloMosaic.Tactic Idealize.SL.Sem

variable (x0 : S16384x1024.Idx → EReal) (x1 : S1024.Idx → EReal) (x2 x3 : S1024x2816.Idx → EReal) (x4 : S2816x1024.Idx → EReal)

/-- Row `p` of an array. -/
abbrev row {a b : ℕ} (x : (⟨2, ![a, b]⟩ : Shape).Idx → EReal) (p : Fin a) (l : Fin b) : EReal := x (ix2 p l)

theorem n1024_div (a : EReal) : Ideal.div a (Ideal.ofBits .f32 0x44800000#32) = a * ((1 / 1024 : ℝ) : EReal) := by
  rw [Words.n1024, Ideal.div_coe (by norm_num)]

theorem rinv_at (r : Fin 16384) : val_main_v7 (F := Ideal) x0 (ix2 r 0) = rinv (row x0 r) := by
  unfold val_main_v7 val_main_v6 val_main_v5 val_main_v4 val_main_v3 val_main_v2 val_main_v1 val_main_v0 val_main_cst val_main_cst_0 val_main_cst_1
  pointwise
  simp only [n1024_div]
  rfl

theorem xhat_at (r : Fin 16384) (l : Fin 1024) : val_main_v9 (F := Ideal) x0 (ix2 r l) = xhat (row x0 r) l := by
  unfold val_main_v9 val_main_v8
  pointwise
  rw [rinv_at]
  rfl

theorem n_at (r : Fin 16384) (l : Fin 1024) : val_main_v12 (F := Ideal) x0 x1 (ix2 r l) = xhat (row x0 r) l * x1 (ix1 l) := by
  unfold val_main_v12 val_main_v11 val_main_v10
  pointwise
  rw [xhat_at]

/-- A projection of the normalised, scaled rows. -/
def prjT (w : S1024x2816.Idx → EReal) (r : Fin 16384) (f : Fin 2816) : EReal := ∑ k : Fin 1024, xhat (row x0 r) k * x1 (ix1 k) * w (ix2 k f)

theorem gate_at (r : Fin 16384) (f : Fin 2816) : val_main_v26 (F := Ideal) x0 x1 x2 (ix2 r f) = prjT x0 x1 x2 r f := by
  have e : val_main_v25 (F := Ideal) x0 x1 = val_main_v12 x0 x1 := rfl
  unfold val_main_v26
  rw [e]
  pointwise
  simp only [n_at]
  rfl

theorem up_at (r : Fin 16384) (f : Fin 2816) : val_main_v27 (F := Ideal) x0 x1 x3 (ix2 r f) = prjT x0 x1 x3 r f := by
  have e : val_main_v25 (F := Ideal) x0 x1 = val_main_v12 x0 x1 := rfl
  unfold val_main_v27
  rw [e]
  pointwise
  simp only [n_at]
  rfl

theorem hid_at (r : Fin 16384) (f : Fin 2816) :
    val_main_v29 (F := Ideal) x0 x1 x2 x3 (ix2 r f) = hid (prjT x0 x1 x2 r) (prjT x0 x1 x3 r) f := by
  unfold val_main_v29 val_main_v28 val_main_call0_v5 val_main_call0_v4 val_main_call0_cst_0 val_main_call0_v3 val_main_call0_v2 val_main_call0_cst val_main_call0_v1 val_main_call0_v0
  pointwise
  rw [gate_at, up_at]
  rfl

theorem y_at (r : Fin 16384) (l : Fin 1024) :
    val_main_v33 (F := Ideal) x0 x1 x2 x3 x4 (ix2 r l)
      = x0 (ix2 r l) + ((1 / 2 : ℝ) : EReal) * ∑ f : Fin 2816, hid (prjT x0 x1 x2 r) (prjT x0 x1 x3 r) f * x4 (ix2 f l) := by
  have e := hid_at x0 x1 x2 x3 r
  unfold val_main_v33 val_main_v32 val_main_v31 val_main_cst_5 val_main_v30
  generalize val_main_v29 (F := Ideal) x0 x1 x2 x3 = u at e ⊢
  pointwise
  simp only [e, Words.half]

theorem gateb_at (r : Fin 16384) (f : Fin 2816) : val_main_v35 (F := Ideal) x0 x1 x2 (ix2 r f) = prjT x0 x1 x2 r f := by
  unfold val_main_v35 val_main_v34
  pointwise
  simp only [n_at]
  rfl

theorem upb_at (r : Fin 16384) (f : Fin 2816) : val_main_v37 (F := Ideal) x0 x1 x3 (ix2 r f) = prjT x0 x1 x3 r f := by
  unfold val_main_v37 val_main_v36
  pointwise
  simp only [n_at]
  rfl

end Cert.FfnFwdRefIdeal.Read

end
-- ==== Proof.FfnFwdClaim.lean ====
/- The feed-forward layer's forward call: the kernel's results against the reference's. -/
module

public import proofs.«01_k».proof.Defs
public import proofs.«01_k».proof.Proof.FfnFwdValue
public import proofs.«01_k».proof.Proof.FfnFwdRefRead
public import proofs.«01_k».proof.Proof.Gen.FfnFwdRefIdeal.Run

@[expose] public section

set_option maxRecDepth 16384

noncomputable section

namespace Cert.FfnFwdClaim

open Idealize.ShloMosaic Idealize.ShloMosaic.TcCoe Idealize.SL.Sem
open Cert.FfnFwdIdeal Cert.FfnFwdIdeal.Value

variable (m : (ℓ : Loc nD τ sig) → Buf (Elt Ideal) ℓ) (c : Dev nD)

theorem y_eq (i : S16384x1024.Idx) :
    yOut m c i = FfnFwdRefIdeal.Read.val_main_v33 (F := Ideal) (xA m c) (gA m c) (wgA m c) (wuA m c) (wdA m c) i := by
  obtain ⟨r, l, rfl⟩ : ∃ r l, i = ix2 r l := ⟨i 0, i 1, eq_ix2 i⟩
  rw [FfnFwdRefIdeal.Read.y_at]
  rfl

theorem g_eq (i : S16384x2816.Idx) : gOut m c i = FfnFwdRefIdeal.Read.val_main_v35 (F := Ideal) (xA m c) (gA m c) (wgA m c) i := by
  obtain ⟨r, f, rfl⟩ : ∃ r f, i = ix2 r f := ⟨i 0, i 1, eq_ix2 i⟩
  rw [FfnFwdRefIdeal.Read.gateb_at]
  rfl

theorem u_eq (i : S16384x2816.Idx) : uOut m c i = FfnFwdRefIdeal.Read.val_main_v37 (F := Ideal) (xA m c) (gA m c) (wuA m c) i := by
  obtain ⟨r, f, rfl⟩ : ∃ r f, i = ix2 r f := ⟨i 0, i 1, eq_ix2 i⟩
  rw [FfnFwdRefIdeal.Read.upb_at]
  rfl

/-- The claim of the forward call's pair. -/
theorem algebraic : Cert.algebraic_FfnFwdIdeal_FfnFwdRefIdeal := by
  intro m g m' g' _ hm
  refine ⟨_, _, _, run_read m g, (θ_run _ _ _).mono (fun r h => ?_) (Cert.FfnFwdRefIdeal.Value.run m' g')⟩
  intro c
  obtain ⟨h0, h1, h2, hk⟩ := h c
  obtain ⟨e0, e1, e2, e3, e4⟩ := hm c
  refine ⟨h0.trans ?_, h1.trans ?_, h2.trans ?_, hk⟩
  · refine (FfnFwdRefIdeal.Read.val_main_v33_eq _ _ _ _ _).trans ?_
    show FfnFwdRefIdeal.Read.val_main_v33 (F := Ideal) (m' ((c : Thread FfnFwdRefIdeal.nD FfnFwdRefIdeal.τ).loc FfnFwdRefIdeal.main_arg0)) (m' ((c : Thread FfnFwdRefIdeal.nD FfnFwdRefIdeal.τ).loc FfnFwdRefIdeal.main_arg1)) (m' ((c : Thread FfnFwdRefIdeal.nD FfnFwdRefIdeal.τ).loc FfnFwdRefIdeal.main_arg2)) (m' ((c : Thread FfnFwdRefIdeal.nD FfnFwdRefIdeal.τ).loc FfnFwdRefIdeal.main_arg3)) (m' ((c : Thread FfnFwdRefIdeal.nD FfnFwdRefIdeal.τ).loc FfnFwdRefIdeal.main_arg4)) = _
    rw [e0, e1, e2, e3, e4]
    exact funext fun i => (y_eq m c i).symm
  · refine (FfnFwdRefIdeal.Read.val_main_v35_eq _ _ _).trans ?_
    show FfnFwdRefIdeal.Read.val_main_v35 (F := Ideal) (m' ((c : Thread FfnFwdRefIdeal.nD FfnFwdRefIdeal.τ).loc FfnFwdRefIdeal.main_arg0)) (m' ((c : Thread FfnFwdRefIdeal.nD FfnFwdRefIdeal.τ).loc FfnFwdRefIdeal.main_arg1)) (m' ((c : Thread FfnFwdRefIdeal.nD FfnFwdRefIdeal.τ).loc FfnFwdRefIdeal.main_arg2)) = _
    rw [e0, e1, e2]
    exact funext fun i => (g_eq m c i).symm
  · refine (FfnFwdRefIdeal.Read.val_main_v37_eq _ _ _).trans ?_
    show FfnFwdRefIdeal.Read.val_main_v37 (F := Ideal) (m' ((c : Thread FfnFwdRefIdeal.nD FfnFwdRefIdeal.τ).loc FfnFwdRefIdeal.main_arg0)) (m' ((c : Thread FfnFwdRefIdeal.nD FfnFwdRefIdeal.τ).loc FfnFwdRefIdeal.main_arg1)) (m' ((c : Thread FfnFwdRefIdeal.nD FfnFwdRefIdeal.τ).loc FfnFwdRefIdeal.main_arg3)) = _
    rw [e0, e1, e3]
    exact funext fun i => (u_eq m c i).symm

end Cert.FfnFwdClaim

end
-- ==== Proof.ConvFwdValue.lean ====
/- The gated convolution's forward call: what each grid point stores, and the arrays it leaves. -/
module

public import proofs.«01_k».proof.Proof.ConvKernel
public import proofs.«01_k».proof.Proof.Gen.ConvFwdIdeal.Value
public import Idealize.ShloMosaic.Lib.Pipeline.ValueKit

@[expose] public section

set_option maxRecDepth 16384

noncomputable section

namespace Cert.ConvFwdIdeal.Value

open Cert.ConvFwdIdeal Cert.ConvFwdIdeal.Gen Cert.FfnRows Cert.ConvRows
open Cert.ConvIdeal.Value (row tok at_first)
open Idealize.ShloMosaic Idealize.ShloMosaic.TcCoe Idealize.ShloMosaic.Tactic Idealize.SL.Sem
open Idealize.ShloMosaic.Pipeline (Dat Cfg Window)

/-- The inner rows of the 16 tokens before a tile, zero before the sequence's start. -/
def halo (a : BitVec 32) (HP : FVec Ideal S16x1024 .bf16) (W : FVec Ideal S1024x2048 .bf16) : FVec Ideal S16x1024 .f32 :=
  mulf (mulf
    (extractStridedSlice S16x1024 ![0, 0] (matmul dot_S16x1024_S1024x2048_S16x2048_1_0_0_1_n_n none HP (shapeCast S1024x2048 W shapeCasts_S1024x2048_S1024x2048) (constant S16x2048 .f32 0x00000000#32)) slices_S16x2048_o0_0_S16x1024)
    (extractStridedSlice S16x1024 ![0, 1024] (matmul dot_S16x1024_S1024x2048_S16x2048_1_0_0_1_n_n none HP (shapeCast S1024x2048 W shapeCasts_S1024x2048_S1024x2048) (constant S16x2048 .f32 0x00000000#32)) slices_S16x2048_o0_1024_S16x1024))
    (broadcast S16x1024 (Scalar.select (Scalar.cmpi .eq a 0#32) (Scalar.ofBits .f32 0x00000000#32) (Scalar.ofBits .f32 0x3F800000#32)))

/-- The tile's inner rows, alone and with the 16 before them. -/
def own (Z : FVec Ideal S256x3072 .f32) : FVec Ideal S256x1024 .f32 :=
  mulf (extractStridedSlice S256x1024 ![0, 1024] Z slices_S256x3072_o0_1024_S256x1024) (extractStridedSlice S256x1024 ![0, 2048] Z slices_S256x3072_o0_2048_S256x1024)
def ext (u : FVec Ideal S16x1024 .f32) (v : FVec Ideal S256x1024 .f32) : FVec Ideal S272x1024 .f32 :=
  concatenate S272x1024 0 [⟨S16x1024, u⟩, ⟨S256x1024, v⟩] concatenates_S16x1024_S256x1024_S272x1024_d0

/-- The tile's convolution. -/
def taps (e : FVec Ideal S272x1024 .f32) (u : FVec Ideal S256x1024 .f32) (W0 W1 W2 : Vec Ideal S1x1024 .f32) : FVec Ideal S256x1024 .f32 :=
  addf (addf (mulf (broadcastTo S256x1024 W0 broadcasts_S1x1024_S256x1024) (extractStridedSlice S256x1024 ![16, 0] (dynamicRotate 0 2#32 none e rotates_S272x1024_d0) slices_S272x1024_o16_0_S256x1024))
    (mulf (broadcastTo S256x1024 W1 broadcasts_S1x1024_S256x1024) (extractStridedSlice S256x1024 ![16, 0] (dynamicRotate 0 1#32 none e rotates_S272x1024_d0) slices_S272x1024_o16_0_S256x1024)))
    (mulf (broadcastTo S256x1024 W2 broadcasts_S1x1024_S256x1024) u)

def out (X : Vec Ideal S256x1024 .f32) (Z : FVec Ideal S256x3072 .f32) (c : FVec Ideal S256x1024 .f32) (WO : FVec Ideal S1024x1024 .bf16) : FVec Ideal S256x1024 .f32 :=
  addf X (matmul dot_S256x1024_S1024x1024_S256x1024_1_0_0_1_n_n none
    (truncf .bf16 (mulf (extractStridedSlice S256x1024 ![0, 0] Z slices_S256x3072_o0_0_S256x1024) c) bitsLt_bf16_f32)
    (shapeCast S1024x1024 WO shapeCasts_S1024x1024_S1024x1024) (constant S256x1024 .f32 0x00000000#32))

section

variable {X : Vec Ideal S256x1024 .f32} {Z : FVec Ideal S256x3072 .f32} {HP : FVec Ideal S16x1024 .bf16}
  {W : FVec Ideal S1024x2048 .bf16} {W0 W1 W2 : Vec Ideal S1x1024 .f32} {WO : FVec Ideal S1024x1024 .bf16}

theorem pay1_eq (a : BitVec 32) : k0_pay1 a X Z HP W W0 W1 W2 WO = out X Z (taps (ext (halo a HP W) (own Z)) (own Z) W0 W1 W2) WO := rfl

theorem halo_row (a : BitVec 32) (q : Fin 16) (d : Fin 1024) :
    halo a HP W (ix2 q d) = (∑ k : Fin 1024, HP (ix2 q k) * W (ix2 k ⟨d.val, by omega⟩)) * (∑ k : Fin 1024, HP (ix2 q k) * W (ix2 k ⟨1024 + d.val, by omega⟩))
      * Scalar.select (Scalar.cmpi .eq a 0#32) 0 1 := by
  unfold halo
  pointwise

theorem own_row (p : Fin 256) (d : Fin 1024) : own Z (ix2 p d) = inner (row Z p) d := by
  unfold own
  pointwise
  rfl

theorem ext_low (u : FVec Ideal S16x1024 .f32) (v : FVec Ideal S256x1024 .f32) (q : Fin 272) (d : Fin 1024) (h : q.val < 16) :
    ext u v (ix2 q d) = u (ix2 ⟨q.val, h⟩ d) := by
  unfold ext
  pointwise
  rw [dif_pos h]
theorem ext_high (u : FVec Ideal S16x1024 .f32) (v : FVec Ideal S256x1024 .f32) (q : Fin 272) (d : Fin 1024) (h : ¬q.val < 16) :
    ext u v (ix2 q d) = v (ix2 ⟨q.val - 16, by omega⟩ d) := by
  unfold ext
  pointwise
  rw [dif_neg h]

theorem taps_row (e : FVec Ideal S272x1024 .f32) (u : FVec Ideal S256x1024 .f32) (p : Fin 256) (d : Fin 1024) :
    taps e u W0 W1 W2 (ix2 p d) = W0 (ix2 0 d) * e (ix2 (⟨14 + p.val, by omega⟩ : Fin 272) d)
      + W1 (ix2 0 d) * e (ix2 (⟨15 + p.val, by omega⟩ : Fin 272) d) + W2 (ix2 0 d) * u (ix2 p d) := by
  unfold taps
  pointwise
  have e2 : (16 + p.val + 272 - 2) % 272 = 14 + p.val := by omega
  have e1 : (16 + p.val + 272 - 1) % 272 = 15 + p.val := by omega
  simp only [e1, e2]

theorem out_row (c : FVec Ideal S256x1024 .f32) (p : Fin 256) (l : Fin 1024) :
    out X Z c WO (ix2 p l) = X (ix2 p l) + ∑ d : Fin 1024, gateB (row Z p) d * c (ix2 p d) * WO (ix2 d l) := by
  unfold out
  pointwise
  rfl

variable {n : Fin 64} {z : Fin 16384 → Fin 3072 → EReal} {w : Fin 3 → Fin 1024 → EReal}

/-- The tile's output, from the rows its blocks hold. -/
theorem y_blk (hz : ∀ p j, Z (ix2 p j) = z (tok n p) j)
    (hp : ∀ (q : Fin 16) (j : Fin 2048) (h : 0 < n.val), ∑ k : Fin 1024, HP (ix2 q k) * W (ix2 k j) = z ⟨256 * n.val - 16 + q.val, by omega⟩ ⟨1024 + j.val, by omega⟩)
    (h0 : ∀ d, W0 (ix2 0 d) = w 0 d) (h1 : ∀ d, W1 (ix2 0 d) = w 1 d) (h2 : ∀ d, W2 (ix2 0 d) = w 2 d) (p : Fin 256) (l : Fin 1024) :
    k0_pay1 (BitVec.ofNat 32 n.val) X Z HP W W0 W1 W2 WO (ix2 p l)
      = X (ix2 p l) + ∑ d : Fin 1024, gateB (z (tok n p)) d * conv w z (tok n p) d * WO (ix2 d l) := by
  have rz : ∀ p, row Z p = z (tok n p) := fun p => funext (hz p)
  have eh : ∀ q d, halo (BitVec.ofNat 32 n.val) HP W (ix2 q d) = if h : 0 < n.val then inner (z ⟨256 * n.val - 16 + q.val, by omega⟩) d else 0 := fun q d => by
    rw [halo_row, at_first]
    by_cases h : 0 < n.val
    · rw [dif_pos h, if_neg (by omega), hp q _ h, hp q _ h]
      have q2 : 1024 + (1024 + d.val) = 2048 + d.val := by omega
      simp only [q2]
      exact mul_one _
    · rw [dif_neg h, if_pos (by omega)]
      exact mul_zero _
  have ee : ∀ (q : Fin 272) d, ext (halo (BitVec.ofNat 32 n.val) HP W) (own Z) (ix2 q d)
      = if h : 16 ≤ 256 * n.val + q.val then inner (z ⟨256 * n.val + q.val - 16, by omega⟩) d else 0 := fun q d => by
    by_cases h : q.val < 16
    · rw [ext_low _ _ _ _ h, eh]
      by_cases h' : 0 < n.val
      · rw [dif_pos h', dif_pos (by omega)]
        have q2 : 256 * n.val - 16 + q.val = 256 * n.val + q.val - 16 := by omega
        simp only [q2]
      · rw [dif_neg h', dif_neg (by omega)]
    · rw [ext_high _ _ _ _ h, own_row, rz, dif_pos (by omega)]
      have q2 : tok n ⟨q.val - 16, by omega⟩ = ⟨256 * n.val + q.val - 16, by omega⟩ := Fin.ext (by show 256 * n.val + (q.val - 16) = 256 * n.val + q.val - 16; omega)
      rw [q2]
  have ec : ∀ d, taps (ext (halo (BitVec.ofNat 32 n.val) HP W) (own Z)) (own Z) W0 W1 W2 (ix2 p d) = conv w z (tok n p) d := fun d => by
    rw [taps_row, ee, ee, own_row, rz, h0, h1, h2]
    unfold conv
    have l2 : (if h : 16 ≤ 256 * n.val + (14 + p.val) then inner (z ⟨256 * n.val + (14 + p.val) - 16, by omega⟩) d else 0) = later 2 (fun r => inner (z r) d) (tok n p) := by
      unfold later tok
      by_cases h : 2 ≤ 256 * n.val + p.val
      · rw [dif_pos h, dif_pos (by omega)]
        have q2 : 256 * n.val + (14 + p.val) - 16 = 256 * n.val + p.val - 2 := by omega
        simp only [q2]
      · rw [dif_neg h, dif_neg (by omega)]
    have l1 : (if h : 16 ≤ 256 * n.val + (15 + p.val) then inner (z ⟨256 * n.val + (15 + p.val) - 16, by omega⟩) d else 0) = later 1 (fun r => inner (z r) d) (tok n p) := by
      unfold later tok
      by_cases h : 1 ≤ 256 * n.val + p.val
      · rw [dif_pos h, dif_pos (by omega)]
        have q2 : 256 * n.val + (15 + p.val) - 16 = 256 * n.val + p.val - 1 := by omega
        simp only [q2]
      · rw [dif_neg h, dif_neg (by omega)]
    exact congrArg₂ (· + ·) (congrArg₂ (· + ·) (congrArg (w 0 d * ·) l2) (congrArg (w 1 d * ·) l1)) rfl
  rw [pay1_eq, out_row, rz]
  simp only [ec]

theorem pay2_row (X : Vec Ideal S256x1024 .f32) (G : Vec Ideal S1x1024 .f32) (WI : Vec Ideal S1024x3072 .bf16) (p : Fin 256) (j : Fin 3072) :
    k0_pay2 X G WI (ix2 p j) = ∑ k : Fin 1024, xhat (row X p) k * G (ix2 0 k) * WI (ix2 k j) := by
  open_payloads
  pointwise
  simp only [Words.inv1024]
  rfl
theorem pay3_row (X : Vec Ideal S256x1024 .f32) (G : Vec Ideal S1x1024 .f32) (WI : Vec Ideal S1024x3072 .bf16) (p : Fin 256) (j : Fin 3072) :
    k0_pay3 X G WI (ix2 p j) = ∑ k : Fin 1024, xhat (row X p) k * G (ix2 0 k) * WI (ix2 k j) := by
  unfold k0_pay3
  pointwise
  exact pay2_row X G WI p j
theorem pay4_row (XP : Vec Ideal S16x1024 .f32) (G : Vec Ideal S1x1024 .f32) (q : Fin 16) (k : Fin 1024) :
    k0_pay4 XP G (ix2 q k) = xhat (row XP q) k * G (ix2 0 k) := by
  open_payloads
  pointwise
  simp only [Words.inv1024]
  rfl

end

variable (m : (ℓ : Loc nD τ sig) → Buf (Elt Ideal) ℓ) (ρ : Dev nD → PrngReg)

/-- The arguments: the activation, the scale, the weights in, the taps, the weights out. -/
abbrev xA (c : Dev nD) : S16384x1024.Idx → EReal := m ((c : Thread nD τ).loc main_arg0)
abbrev gA (c : Dev nD) : S1024.Idx → EReal := m ((c : Thread nD τ).loc main_arg1)
abbrev wiA (c : Dev nD) : S1024x3072.Idx → EReal := m ((c : Thread nD τ).loc main_arg2)
abbrev cwA (c : Dev nD) : S3x1024.Idx → EReal := m ((c : Thread nD τ).loc main_arg3)
abbrev woA (c : Dev nD) : S1024x1024.Idx → EReal := m ((c : Thread nD τ).loc main_arg4)

/-- The projected rows and the taps. -/
def zT (c : Dev nD) (r : Fin 16384) (j : Fin 3072) : EReal :=
  ∑ k : Fin 1024, xhat (row (xA m c) r) k * gA m c (ix1 k) * wiA m c (ix2 k j)
def wT (c : Dev nD) (j : Fin 3) (d : Fin 1024) : EReal := cwA m c (ix2 j d)

/-- What the two results hold. -/
def yOut (c : Dev nD) (i : S16384x1024.Idx) : EReal :=
  xA m c (ix2 (i 0) (i 1)) + ∑ d : Fin 1024, gateB (zT m c (i 0)) d * conv (wT m c) (zT m c) (i 0) d * woA m c (ix2 d (i 1))
def zOut (c : Dev nD) (i : S16384x3072.Idx) : EReal := zT m c (i 0) (i 1)

def pt (t : Fin cfg0.N) : Fin 64 := t

theorem idx (t : Fin cfg0.N) : win0_0.index t = ![t.val, 0] ∧ win0_2.index t = ![0, 0] ∧ win0_3.index t = ![0, 0]
    ∧ win0_4.index t = ![0, 0] ∧ win0_5.index t = ![0, 0] ∧ win0_6.index t = ![t.val, 0] ∧ win0_7.index t = ![t.val, 0] := by
  revert t; decide +kernel

theorem idx_prev (t : Fin cfg0.N) (h : 0 < t.val) : win0_1.index t = ![16 * t.val - 1, 0] := by
  revert t; decide +kernel

theorem coords_val (t : Fin cfg0.N) : ((grid0.coords t) 0).val = (pt t).val := by
  revert t; decide +kernel

theorem block_x (c : Dev nD) (t : Fin cfg0.N) (p : Fin 256) (l : Fin 1024) :
    iblk m c 0 t (ix2 p l) = xA m c (ix2 (tok (pt t) p) l) := by
  blk_ext! [iblk, V, idx t, tok, pt]

theorem block_prev (c : Dev nD) (t : Fin cfg0.N) (h : 0 < t.val) (p : Fin 16) (l : Fin 1024) :
    iblk m c 1 t (ix2 p l) = xA m c (ix2 (⟨256 * t.val - 16 + p.val, by have : t.val < 64 := t.isLt; omega⟩ : Fin 16384) l) := by
  blk_ext! [iblk, V, idx_prev t h]

theorem block_g (c : Dev nD) (t : Fin cfg0.N) (l : Fin 1024) : iblk m c 2 t (ix2 0 l) = gA m c (ix1 l) := by
  blk_ext! [iblk, V, idx t]

theorem block_wi (c : Dev nD) (t : Fin cfg0.N) (k : Fin 1024) (j : Fin 3072) : iblk m c 3 t (ix2 k j) = wiA m c (ix2 k j) := by
  blk_ext! [iblk, V, idx t]

theorem block_cw (c : Dev nD) (t : Fin cfg0.N) (j : Fin 3) (l : Fin 1024) : iblk m c 4 t (ix2 j l) = wT m c j l := by
  unfold wT
  blk_ext! [iblk, V, idx t]

theorem block_wo (c : Dev nD) (t : Fin cfg0.N) (d l : Fin 1024) : iblk m c 5 t (ix2 d l) = woA m c (ix2 d l) := by
  blk_ext! [iblk, V, idx t]

theorem z_row (x : Vec Ideal S256x1024 .f32) (g : Vec Ideal S1x1024 .f32) (wi : FVec Ideal S1024x3072 .bf16) (c : Dev nD) (n : Fin 64)
    (hx : ∀ p l, x (ix2 p l) = xA m c (ix2 (tok n p) l)) (hg : ∀ l, g (ix2 0 l) = gA m c (ix1 l)) (hw : ∀ k j, wi (ix2 k j) = wiA m c (ix2 k j))
    (p : Fin 256) (j : Fin 3072) : ∑ k : Fin 1024, xhat (row x p) k * g (ix2 0 k) * wi (ix2 k j) = zT m c (tok n p) j := by
  have e : row x p = row (xA m c) (tok n p) := funext (hx p)
  unfold zT
  simp only [e, hg, hw]

theorem z_pt (c : Dev nD) (t : Fin cfg0.N) (p : Fin 256) (j : Fin 3072) :
    k0_pay3 (iblk m c 0 t) (iblk m c 2 t) (iblk m c 3 t) (ix2 p j) = zT m c (tok (pt t) p) j :=
  (pay3_row _ _ _ p j).trans (z_row m _ _ _ c (pt t) (block_x m c t) (block_g m c t) (block_wi m c t) p j)

theorem z_tok (c : Dev nD) (t : Fin cfg0.N) (y : S256x3072.Idx) :
    out0_7 (grid0.coords t) (iblk m c 0 t) (iblk m c 1 t) (iblk m c 2 t) (iblk m c 3 t) (iblk m c 4 t) (iblk m c 5 t) y
      = zOut m c (ix2 (tok (pt t) (y 0)) (y 1)) := by
  idx_vars y
  unfold out0_7
  frame_out
  exact z_pt m c t y0 y1

theorem y_coords {X : Vec Ideal S256x1024 .f32} {Z : FVec Ideal S256x3072 .f32} {HP : FVec Ideal S16x1024 .bf16}
    {W : FVec Ideal S1024x2048 .bf16} {W0 W1 W2 : Vec Ideal S1x1024 .f32} {WO : FVec Ideal S1024x1024 .bf16}
    {n : Fin 64} {z : Fin 16384 → Fin 3072 → EReal} {w : Fin 3 → Fin 1024 → EReal} {x wo : _ → EReal} (i : grid0.Coords) (hi : (i 0).val = n.val)
    (hz : ∀ p j, Z (ix2 p j) = z (tok n p) j)
    (hp : ∀ (q : Fin 16) (j : Fin 2048) (h : 0 < n.val), ∑ k : Fin 1024, HP (ix2 q k) * W (ix2 k j) = z ⟨256 * n.val - 16 + q.val, by omega⟩ ⟨1024 + j.val, by omega⟩)
    (h0 : ∀ d, W0 (ix2 0 d) = w 0 d) (h1 : ∀ d, W1 (ix2 0 d) = w 1 d) (h2 : ∀ d, W2 (ix2 0 d) = w 2 d) (p : Fin 256) (l : Fin 1024)
    (hx : X (ix2 p l) = x (ix2 (tok n p) l)) (ho : ∀ d, WO (ix2 d l) = wo (ix2 d l)) :
    k0_pay1 (BitVec.ofNat 32 (i 0).val) X Z HP W W0 W1 W2 WO (ix2 p l)
      = x (ix2 (tok n p) l) + ∑ d : Fin 1024, gateB (z (tok n p)) d * conv w z (tok n p) d * wo (ix2 d l) := by
  rw [hi, y_blk hz hp h0 h1 h2, hx]
  simp only [ho]

theorem halo_z (x : Vec Ideal S16x1024 .f32) (g : Vec Ideal S1x1024 .f32) (wi : FVec Ideal S1024x3072 .bf16) (c : Dev nD) (inb) (q : Fin 16) (r : Fin 16384)
    (hx : ∀ l, x (ix2 q l) = xA m c (ix2 r l)) (hg : ∀ l, g (ix2 0 l) = gA m c (ix1 l)) (hw : ∀ k j, wi (ix2 k j) = wiA m c (ix2 k j)) (j : Fin 2048) :
    ∑ k : Fin 1024, k0_pay4 x g (ix2 q k) * View.ld (Val := Elt Ideal) (e' := .bf16) wi (Rect.unit (s := S1024x3072) ![0, 1024] S1024x2048.size inb) (ix2 k j) = zT m c r ⟨1024 + j.val, by omega⟩ := by
  have e : row x q = row (xA m c) r := funext hx
  unfold zT
  refine Finset.sum_congr rfl fun k _ => ?_
  rw [pay4_row, e, hg]
  refine congrArg (_ * ·) ((congrArg wi ?_).trans (hw k _))
  idx_ext

theorem y_tok (c : Dev nD) (t : Fin cfg0.N) (y : S256x1024.Idx) :
    out0_6 (grid0.coords t) (iblk m c 0 t) (iblk m c 1 t) (iblk m c 2 t) (iblk m c 3 t) (iblk m c 4 t) (iblk m c 5 t) y
      = yOut m c (ix2 (tok (pt t) (y 0)) (y 1)) := by
  idx_vars y
  unfold out0_6
  frame_out
  exact y_coords (grid0.coords t) (coords_val t)
    (fun p j => (pay2_row _ _ _ p j).trans (z_row m _ _ _ c (pt t) (block_x m c t) (block_g m c t) (block_wi m c t) p j))
    (fun q j h => halo_z m (iblk m c 1 t) (iblk m c 2 t) (iblk m c 3 t) c _ q _ (block_prev m c t h q) (block_g m c t) (block_wi m c t) j)
    (fun d => (Cert.ConvIdeal.Value.ld_row0 (iblk m c 4 t) _ d).trans (block_cw m c t 0 d))
    (fun d => (Cert.ConvIdeal.Value.ld_row1 (iblk m c 4 t) _ d).trans (block_cw m c t 1 d))
    (fun d => (Cert.ConvIdeal.Value.ld_row2 (iblk m c 4 t) _ d).trans (block_cw m c t 2 d)) y0 y1
    (block_x m c t y0 y1) (fun d => block_wo m c t d y1)

theorem emb_6 (t : Fin cfg0.N) (y : S256x1024.Idx) : (win0_6.blk t).view.emb y = ix2 (tok (pt t) (y 0)) (y 1) := by
  blk_ext [idx t, tok, pt]

theorem y_final (c : Dev nD) : (dats m 0 c).arrAt 6 cfg0.N = yOut m c := by
  refine (dats m 0 c).arrAt_eq_of_covers 6 _ (by decide +kernel) fun t hf y => ?_
  blk_simp
  exact (congrFun (after0_6 m c t) y).trans ((y_tok m c t y).trans (congrArg (yOut m c) (emb_6 t y).symm))

theorem emb_7 (t : Fin cfg0.N) (y : S256x3072.Idx) : (win0_7.blk t).view.emb y = ix2 (tok (pt t) (y 0)) (y 1) := by
  blk_ext [idx t, tok, pt]

theorem z_final (c : Dev nD) : (dats m 0 c).arrAt 7 cfg0.N = zOut m c := by
  refine (dats m 0 c).arrAt_eq_of_covers 7 _ (by decide +kernel) fun t hf y => ?_
  blk_simp
  exact (congrFun (after0_7 m c t) y).trans ((z_tok m c t y).trans (congrArg (zOut m c) (emb_7 t y).symm))

/-- The run, read: the two results and the arguments. -/
theorem run_read : θ_run defs (onTc (τ := τ) (main (F := Ideal))) ⟨m, fun _ => 0, ρ⟩ fun r => ∀ c : Dev nD,
      r.2.mem ((c : Thread nD τ).loc main_v3_0) = yOut m c
      ∧ r.2.mem ((c : Thread nD τ).loc main_v3_1) = zOut m c
      ∧ r.2.mem ((c : Thread nD τ).loc main_arg0) = xA m c
      ∧ r.2.mem ((c : Thread nD τ).loc main_arg1) = gA m c
      ∧ r.2.mem ((c : Thread nD τ).loc main_arg2) = wiA m c
      ∧ r.2.mem ((c : Thread nD τ).loc main_arg3) = cwA m c
      ∧ r.2.mem ((c : Thread nD τ).loc main_arg4) = woA m c :=
  (θ_run defs _ _).mono (fun r h c => by
    obtain ⟨h0, h1, hk⟩ := h c
    exact ⟨h0.trans (y_final m c), h1.trans (z_final m c), hk⟩)
    (run_blocks m ρ)

end Cert.ConvFwdIdeal.Value

end
-- ==== Proof.ConvFwdRefRead.lean ====
/- The reference forward call of the gated convolution, read at an index. -/
module

public import proofs.«01_k».proof.Proof.ConvRows
public import proofs.«01_k».proof.Proof.Consts
public import proofs.«01_k».proof.Proof.Gen.ConvFwdRefIdeal.Read
public import Idealize.ShloMosaic.Lib.Pipeline.ValueKit

@[expose] public section

set_option maxRecDepth 16384

noncomputable section

namespace Cert.ConvFwdRefIdeal.Read

open Cert.ConvFwdRefIdeal Cert.ConvFwdRefIdeal.Gen Cert.FfnRows Cert.ConvRows
open Idealize.ShloMosaic Idealize.ShloMosaic.TcCoe Idealize.ShloMosaic.Tactic Idealize.SL.Sem

variable (x0 : S16384x1024.Idx → EReal) (x1 : S1024.Idx → EReal) (x2 : S1024x3072.Idx → EReal)
  (x3 : S3x1024.Idx → EReal) (x4 : S1024x1024.Idx → EReal)

/-- Row `p` of an array. -/
abbrev row {a b : ℕ} (x : (⟨2, ![a, b]⟩ : Shape).Idx → EReal) (p : Fin a) (l : Fin b) : EReal := x (ix2 p l)

theorem n1024_div (a : EReal) : Ideal.div a (Ideal.ofBits .f32 0x44800000#32) = a * ((1 / 1024 : ℝ) : EReal) := by
  rw [Words.n1024, Ideal.div_coe (by norm_num)]

theorem rinv_at (r : Fin 16384) : val_main_v7 (F := Ideal) x0 (ix2 r 0) = rinv (row x0 r) := by
  unfold val_main_v7 val_main_v6 val_main_v5 val_main_v4 val_main_v3 val_main_v2 val_main_v1 val_main_v0 val_main_cst val_main_cst_0 val_main_cst_1
  pointwise
  simp only [n1024_div]
  rfl

theorem xhat_at (r : Fin 16384) (l : Fin 1024) : val_main_v9 (F := Ideal) x0 (ix2 r l) = xhat (row x0 r) l := by
  unfold val_main_v9 val_main_v8
  pointwise
  rw [rinv_at]
  rfl

theorem n_at (r : Fin 16384) (l : Fin 1024) : val_main_v12 (F := Ideal) x0 x1 (ix2 r l) = xhat (row x0 r) l * x1 (ix1 l) := by
  unfold val_main_v12 val_main_v11 val_main_v10
  pointwise
  rw [xhat_at]

/-- The projected rows and the taps. -/
def zT (r : Fin 16384) (j : Fin 3072) : EReal := ∑ k : Fin 1024, xhat (row x0 r) k * x1 (ix1 k) * x2 (ix2 k j)
def wT (j : Fin 3) (d : Fin 1024) : EReal := x3 (ix2 j d)

theorem z_at (r : Fin 16384) (j : Fin 3072) : val_main_v13 (F := Ideal) x0 x1 x2 (ix2 r j) = zT x0 x1 x2 r j := by
  unfold val_main_v13
  pointwise
  simp only [n_at]
  rfl

theorem gateB_at (r : Fin 16384) (d : Fin 1024) : val_main_v14 (F := Ideal) x0 x1 x2 (ix2 r d) = gateB (zT x0 x1 x2 r) d := by
  unfold val_main_v14
  pointwise
  rw [z_at]
  rfl

theorem gateC_at (r : Fin 16384) (d : Fin 1024) : val_main_v15 (F := Ideal) x0 x1 x2 (ix2 r d) = gateC (zT x0 x1 x2 r) d := by
  unfold val_main_v15
  pointwise
  rw [z_at]
  rfl

theorem branch_at (r : Fin 16384) (d : Fin 1024) : val_main_v16 (F := Ideal) x0 x1 x2 (ix2 r d) = branch (zT x0 x1 x2 r) d := by
  unfold val_main_v16
  pointwise
  rw [z_at]
  rfl

theorem inner_at (r : Fin 16384) (d : Fin 1024) : val_main_v17 (F := Ideal) x0 x1 x2 (ix2 r d) = inner (zT x0 x1 x2 r) d := by
  unfold val_main_v17
  pointwise
  rw [gateC_at, branch_at]
  rfl

theorem lag2_at (r : Fin 16384) (d : Fin 1024) :
    val_main_v22 (F := Ideal) x0 x1 x2 (ix2 r d) = later 2 (fun r => inner (zT x0 x1 x2 r) d) r := by
  unfold val_main_v22 val_main_v19 val_main_v18 val_main_cst_2
  have e := fun r => inner_at x0 x1 x2 r d
  generalize val_main_v17 (F := Ideal) x0 x1 x2 = u at e ⊢
  pointwise
  unfold later
  by_cases h : r.val < 2
  · rw [dif_pos h, dif_neg (by omega)]
  · rw [dif_neg h, dif_pos (by omega), e]

theorem lag1_at (r : Fin 16384) (d : Fin 1024) :
    val_main_v28 (F := Ideal) x0 x1 x2 (ix2 r d) = later 1 (fun r => inner (zT x0 x1 x2 r) d) r := by
  unfold val_main_v28 val_main_v19 val_main_v18 val_main_cst_2
  have e := fun r => inner_at x0 x1 x2 r d
  generalize val_main_v17 (F := Ideal) x0 x1 x2 = u at e ⊢
  pointwise
  unfold later
  by_cases h : 1 ≤ r.val
  · rw [dif_pos h, dif_neg (by omega), e]
    have q : 1 + r.val - 2 = r.val - 1 := by omega
    simp only [q]
  · rw [dif_neg h, dif_pos (by omega)]

theorem lag0_at (r : Fin 16384) (d : Fin 1024) : val_main_v35 (F := Ideal) x0 x1 x2 (ix2 r d) = inner (zT x0 x1 x2 r) d := by
  unfold val_main_v35 val_main_v19 val_main_v18 val_main_cst_2
  have e := fun r => inner_at x0 x1 x2 r d
  generalize val_main_v17 (F := Ideal) x0 x1 x2 = u at e ⊢
  pointwise
  exact e r

theorem conv_at (r : Fin 16384) (d : Fin 1024) :
    val_main_v39 (F := Ideal) x0 x1 x2 x3 (ix2 r d) = conv (wT x3) (zT x0 x1 x2) r d := by
  unfold val_main_v39 val_main_v38 val_main_v37 val_main_v36 val_main_v34 val_main_v33 val_main_v32 val_main_v31 val_main_v30
    val_main_v29 val_main_v27 val_main_v26 val_main_v25 val_main_v24 val_main_v23 val_main_v21 val_main_v20
  pointwise
  rw [lag0_at, lag1_at, lag2_at]
  rfl

theorem y_at (r : Fin 16384) (l : Fin 1024) :
    val_main_v42 (F := Ideal) x0 x1 x2 x3 x4 (ix2 r l)
      = x0 (ix2 r l) + ∑ d : Fin 1024, gateB (zT x0 x1 x2 r) d * conv (wT x3) (zT x0 x1 x2) r d * x4 (ix2 d l) := by
  have e : ∀ d, val_main_v40 (F := Ideal) x0 x1 x2 x3 (ix2 r d) = gateB (zT x0 x1 x2 r) d * conv (wT x3) (zT x0 x1 x2) r d := fun d => by
    unfold val_main_v40; pointwise; rw [gateB_at, conv_at]
  unfold val_main_v42 val_main_v41
  generalize val_main_v40 (F := Ideal) x0 x1 x2 x3 = u at e ⊢
  pointwise
  simp only [e]

/-- The second result takes the projection anew. -/
theorem zb_at (r : Fin 16384) (j : Fin 3072) : val_main_v57 (F := Ideal) x0 x1 x2 (ix2 r j) = zT x0 x1 x2 r j := by
  have e : val_main_v56 (F := Ideal) x0 x1 x2 = val_main_v13 x0 x1 x2 := rfl
  unfold val_main_v57
  rw [e]
  pointwise
  exact z_at x0 x1 x2 r j

end Cert.ConvFwdRefIdeal.Read

end
-- ==== Proof.ConvFwdClaim.lean ====
/- The gated convolution's forward call: the kernel's results against the reference's. -/
module

public import proofs.«01_k».proof.Defs
public import proofs.«01_k».proof.Proof.ConvFwdValue
public import proofs.«01_k».proof.Proof.ConvFwdRefRead
public import proofs.«01_k».proof.Proof.Gen.ConvFwdRefIdeal.Run

@[expose] public section

set_option maxRecDepth 16384

noncomputable section

namespace Cert.ConvFwdClaim

open Idealize.ShloMosaic Idealize.ShloMosaic.TcCoe Idealize.SL.Sem
open Cert.ConvFwdIdeal Cert.ConvFwdIdeal.Value

variable (m : (ℓ : Loc nD τ sig) → Buf (Elt Ideal) ℓ) (c : Dev nD)

theorem y_eq (i : S16384x1024.Idx) :
    yOut m c i = ConvFwdRefIdeal.Read.val_main_v42 (F := Ideal) (xA m c) (gA m c) (wiA m c) (cwA m c) (woA m c) i := by
  obtain ⟨r, l, rfl⟩ : ∃ r l, i = ix2 r l := ⟨i 0, i 1, eq_ix2 i⟩
  rw [ConvFwdRefIdeal.Read.y_at]
  rfl

theorem z_eq (i : S16384x3072.Idx) : zOut m c i = ConvFwdRefIdeal.Read.val_main_v57 (F := Ideal) (xA m c) (gA m c) (wiA m c) i := by
  obtain ⟨r, j, rfl⟩ : ∃ r j, i = ix2 r j := ⟨i 0, i 1, eq_ix2 i⟩
  rw [ConvFwdRefIdeal.Read.zb_at]
  rfl

/-- The claim of the forward call's pair. -/
theorem algebraic : Cert.algebraic_ConvFwdIdeal_ConvFwdRefIdeal := by
  intro m g m' g' _ hm
  refine ⟨_, _, run_read m g, (θ_run _ _ _).mono (fun r h => ?_) (Cert.ConvFwdRefIdeal.Value.run m' g')⟩
  intro c
  obtain ⟨h0, h1, hk⟩ := h c
  obtain ⟨e0, e1, e2, e3, e4⟩ := hm c
  refine ⟨h0.trans ?_, h1.trans ?_, hk⟩
  · refine (ConvFwdRefIdeal.Read.val_main_v42_eq _ _).trans ?_
    show ConvFwdRefIdeal.Read.val_main_v42 (F := Ideal) (m' ((c : Thread ConvFwdRefIdeal.nD ConvFwdRefIdeal.τ).loc ConvFwdRefIdeal.main_arg0)) (m' ((c : Thread ConvFwdRefIdeal.nD ConvFwdRefIdeal.τ).loc ConvFwdRefIdeal.main_arg1)) (m' ((c : Thread ConvFwdRefIdeal.nD ConvFwdRefIdeal.τ).loc ConvFwdRefIdeal.main_arg2)) (m' ((c : Thread ConvFwdRefIdeal.nD ConvFwdRefIdeal.τ).loc ConvFwdRefIdeal.main_arg3)) (m' ((c : Thread ConvFwdRefIdeal.nD ConvFwdRefIdeal.τ).loc ConvFwdRefIdeal.main_arg4)) = _
    rw [e0, e1, e2, e3, e4]
    exact funext fun i => (y_eq m c i).symm
  · refine (ConvFwdRefIdeal.Read.val_main_v57_eq _ _ _).trans ?_
    show ConvFwdRefIdeal.Read.val_main_v57 (F := Ideal) (m' ((c : Thread ConvFwdRefIdeal.nD ConvFwdRefIdeal.τ).loc ConvFwdRefIdeal.main_arg0)) (m' ((c : Thread ConvFwdRefIdeal.nD ConvFwdRefIdeal.τ).loc ConvFwdRefIdeal.main_arg1)) (m' ((c : Thread ConvFwdRefIdeal.nD ConvFwdRefIdeal.τ).loc ConvFwdRefIdeal.main_arg2)) = _
    rw [e0, e1, e2]
    exact funext fun i => (z_eq m c i).symm

end Cert.ConvFwdClaim

end
-- ==== Proof.lean ====
module

public import proofs.«01_k».proof.Defs
public import proofs.«01_k».proof.Proof.Gen.Loss.Frame
public import proofs.«01_k».proof.Proof.Gen.LossIdeal.Frame
public import proofs.«01_k».proof.Proof.Gen.LossRefIdeal
public import proofs.«01_k».proof.Proof.Gen.LossRefIdeal.Run
public import proofs.«01_k».proof.Proof.LossClaim
public import proofs.«01_k».proof.Proof.Gen.Ffn.Frame
public import proofs.«01_k».proof.Proof.Gen.FfnIdeal.Frame
public import proofs.«01_k».proof.Proof.Gen.FfnRefIdeal
public import proofs.«01_k».proof.Proof.Gen.FfnRefIdeal.Run
public import proofs.«01_k».proof.Proof.FfnClaim
public import proofs.«01_k».proof.Proof.Gen.Pre_ffn_finite
public import proofs.«01_k».proof.Proof.AttnFrame
public import proofs.«01_k».proof.Proof.Gen.AttnRefIdeal
public import proofs.«01_k».proof.Proof.Gen.AttnRefIdeal.Run
public import proofs.«01_k».proof.Proof.AttnClaim
public import proofs.«01_k».proof.Proof.Gen.Pre_attn_finite
public import proofs.«01_k».proof.Proof.Gen.Delta.Frame
public import proofs.«01_k».proof.Proof.Gen.DeltaIdeal.Frame
public import proofs.«01_k».proof.Proof.Gen.DeltaRefIdeal
public import proofs.«01_k».proof.Proof.Gen.DeltaRefIdeal.Run
public import proofs.«01_k».proof.Proof.DeltaClaim
public import proofs.«01_k».proof.Proof.Gen.Conv.Frame
public import proofs.«01_k».proof.Proof.Gen.ConvIdeal.Frame
public import proofs.«01_k».proof.Proof.Gen.ConvRefIdeal
public import proofs.«01_k».proof.Proof.Gen.ConvRefIdeal.Run
public import proofs.«01_k».proof.Proof.ConvClaim
public import proofs.«01_k».proof.Proof.Gen.FfnFwd.Frame
public import proofs.«01_k».proof.Proof.Gen.FfnFwdIdeal.Frame
public import proofs.«01_k».proof.Proof.Gen.FfnFwdRefIdeal
public import proofs.«01_k».proof.Proof.Gen.FfnFwdRefIdeal.Run
public import proofs.«01_k».proof.Proof.FfnFwdClaim
public import proofs.«01_k».proof.Proof.Gen.ConvFwd.Frame
public import proofs.«01_k».proof.Proof.Gen.ConvFwdIdeal.Frame
public import proofs.«01_k».proof.Proof.Gen.ConvFwdRefIdeal
public import proofs.«01_k».proof.Proof.Gen.ConvFwdRefIdeal.Run
public import proofs.«01_k».proof.Proof.ConvFwdClaim
public import Idealize.ShloMosaic.Adequacy
public import Idealize.ShloMosaic.Init

@[expose] public section

noncomputable section

namespace Cert.Proof

open Idealize.ShloMosaic Idealize.SL.Sem

/-- The frame of the reference, from its run. -/
theorem frame_LossRefIdeal : Cert.quiescent_LossRefIdeal := fun m ρ _ =>
  (θ_run Cert.LossRefIdeal.defs _ _).mono (fun r h => ⟨fun c => (h c).2.2,
    sem_eq_zero_of_no_sems (by decide) r.2⟩) (Cert.LossRefIdeal.Value.run (F := Ideal) m ρ)

/-- The frame of the reference, from its run. -/
theorem frame_FfnRefIdeal : Cert.quiescent_FfnRefIdeal := fun m ρ _ =>
  (θ_run Cert.FfnRefIdeal.defs _ _).mono (fun r h => ⟨fun c => (h c).2.2.2.2.2.2.2,
    sem_eq_zero_of_no_sems (by decide) r.2⟩) (Cert.FfnRefIdeal.Value.run (F := Ideal) m ρ)

/-- The frame of the reference, from its run. -/
theorem frame_AttnRefIdeal : Cert.quiescent_AttnRefIdeal := fun m ρ _ =>
  (θ_run Cert.AttnRefIdeal.defs _ _).mono (fun r h => ⟨fun c => (h c).2.2.2,
    sem_eq_zero_of_no_sems (by decide) r.2⟩) (Cert.AttnRefIdeal.Value.run (F := Ideal) m ρ)

/-- The frame of the reference, from its run. -/
theorem frame_DeltaRefIdeal : Cert.quiescent_DeltaRefIdeal := fun m ρ _ =>
  (θ_run Cert.DeltaRefIdeal.defs _ _).mono (fun r h => ⟨fun c => (h c).2,
    sem_eq_zero_of_no_sems (by decide) r.2⟩) (Cert.DeltaRefIdeal.Value.run (F := Ideal) m ρ)

/-- The frame of the reference, from its run. -/
theorem frame_ConvRefIdeal : Cert.quiescent_ConvRefIdeal := fun m ρ _ =>
  (θ_run Cert.ConvRefIdeal.defs _ _).mono (fun r h => ⟨fun c => (h c).2.2.2.2.2.2,
    sem_eq_zero_of_no_sems (by decide) r.2⟩) (Cert.ConvRefIdeal.Value.run (F := Ideal) m ρ)

/-- The frame of the reference, from its run. -/
theorem frame_FfnFwdRefIdeal : Cert.quiescent_FfnFwdRefIdeal := fun m ρ _ =>
  (θ_run Cert.FfnFwdRefIdeal.defs _ _).mono (fun r h => ⟨fun c => (h c).2.2.2,
    sem_eq_zero_of_no_sems (by decide) r.2⟩) (Cert.FfnFwdRefIdeal.Value.run (F := Ideal) m ρ)

/-- The frame of the reference, from its run. -/
theorem frame_ConvFwdRefIdeal : Cert.quiescent_ConvFwdRefIdeal := fun m ρ _ =>
  (θ_run Cert.ConvFwdRefIdeal.defs _ _).mono (fun r h => ⟨fun c => (h c).2.2,
    sem_eq_zero_of_no_sems (by decide) r.2⟩) (Cert.ConvFwdRefIdeal.Value.run (F := Ideal) m ρ)

theorem claim : Cert.Claim :=
  ⟨Cert.Loss.Gen.facts, Cert.LossIdeal.Gen.facts, Cert.LossRefIdeal.Gen.facts, Cert.Ffn.Gen.facts, Cert.FfnIdeal.Gen.facts, Cert.FfnRefIdeal.Gen.facts, Cert.Attn.Gen.facts, Cert.AttnIdeal.Gen.facts, Cert.AttnRefIdeal.Gen.facts, Cert.Delta.Gen.facts, Cert.DeltaIdeal.Gen.facts, Cert.DeltaRefIdeal.Gen.facts, Cert.Conv.Gen.facts, Cert.ConvIdeal.Gen.facts, Cert.ConvRefIdeal.Gen.facts, Cert.FfnFwd.Gen.facts, Cert.FfnFwdIdeal.Gen.facts, Cert.FfnFwdRefIdeal.Gen.facts, Cert.ConvFwd.Gen.facts, Cert.ConvFwdIdeal.Gen.facts, Cert.ConvFwdRefIdeal.Gen.facts, Cert.Pre_ffn_finite.Gen.facts, Cert.Pre_attn_finite.Gen.facts,
    fun m ρ _ => Cert.Loss.Gen.frame m ρ,
    fun m ρ _ => Cert.LossIdeal.Gen.frame m ρ,
    frame_LossRefIdeal,
    fun m ρ _ => Cert.Ffn.Gen.frame m ρ,
    fun m ρ _ => Cert.FfnIdeal.Gen.frame m ρ,
    fun m ρ _ => Cert.FfnIdeal.Gen.frame m ρ,
    frame_FfnRefIdeal,
    fun m ρ _ => frame_FfnRefIdeal m ρ trivial,
    Cert.AttnFrame.frame_kernel,
    Cert.AttnFrame.frame_ideal,
    fun m ρ _ => Cert.AttnFrame.frame_ideal m ρ trivial,
    frame_AttnRefIdeal,
    fun m ρ _ => frame_AttnRefIdeal m ρ trivial,
    fun m ρ _ => Cert.Delta.Gen.frame m ρ,
    fun m ρ _ => Cert.DeltaIdeal.Gen.frame m ρ,
    fun m ρ _ => Cert.DeltaIdeal.Gen.frame m ρ,
    frame_DeltaRefIdeal,
    fun m ρ _ => frame_DeltaRefIdeal m ρ trivial,
    fun m ρ _ => Cert.Conv.Gen.frame m ρ,
    fun m ρ _ => Cert.ConvIdeal.Gen.frame m ρ,
    frame_ConvRefIdeal,
    fun m ρ _ => Cert.FfnFwd.Gen.frame m ρ,
    fun m ρ _ => Cert.FfnFwdIdeal.Gen.frame m ρ,
    frame_FfnFwdRefIdeal,
    fun m ρ _ => Cert.ConvFwd.Gen.frame m ρ,
    fun m ρ _ => Cert.ConvFwdIdeal.Gen.frame m ρ,
    frame_ConvFwdRefIdeal,
    trivial,
    Cert.LossClaim.algebraic,
    trivial,
    Cert.FfnClaim.algebraic,
    Cert.AttnClaim.preserves,
    Cert.AttnClaim.algebraic,
    trivial,
    Cert.DeltaClaim.algebraic,
    trivial,
    Cert.ConvClaim.algebraic,
    trivial,
    Cert.FfnFwdClaim.algebraic,
    trivial,
    Cert.ConvFwdClaim.algebraic⟩

end Cert.Proof

end
